-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_Ffn [hPre_pre_ffn : Cert.Pre_pre_ffn.Facts] (m : (ℓ : Loc Cert.Ffn.nD Cert.Ffn.τ Cert.Ffn.sig) → Buf (Elt Bits) ℓ) : Prop :=
  ∀ c : Dev Cert.Ffn.nD,
    (Cert.Pre_pre_ffn.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5))) = (fun _ => 1#1)

def Pre_FfnIdeal [hPre_pre_ffn : Cert.Pre_pre_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_pre_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnRefIdeal [hPre_pre_ffn : Cert.Pre_pre_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_pre_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_InProj [hPre_pre_in : Cert.Pre_pre_in.Facts] (m : (ℓ : Loc Cert.InProj.nD Cert.InProj.τ Cert.InProj.sig) → Buf (Elt Bits) ℓ) : Prop :=
  ∀ c : Dev Cert.InProj.nD,
    (Cert.Pre_pre_in.fn (F := Bits) (m ((c.tc : Thread Cert.InProj.nD Cert.InProj.τ).loc Cert.InProj.main_arg0)) (m ((c.tc : Thread Cert.InProj.nD Cert.InProj.τ).loc Cert.InProj.main_arg1)) (m ((c.tc : Thread Cert.InProj.nD Cert.InProj.τ).loc Cert.InProj.main_arg2)) (m ((c.tc : Thread Cert.InProj.nD Cert.InProj.τ).loc Cert.InProj.main_arg3))) = (fun _ => 1#1)

def Pre_InProjIdeal [hPre_pre_in : Cert.Pre_pre_in.Facts] (m : (ℓ : Loc Cert.InProjIdeal.nD Cert.InProjIdeal.τ Cert.InProjIdeal.sig) → Buf (Elt Ideal) ℓ) : Prop :=
  ∀ c : Dev Cert.InProjIdeal.nD,
    (Cert.Pre_pre_in.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3))) = (fun _ => 1#1)

def Pre_InProjRefIdeal [hPre_pre_in : Cert.Pre_pre_in.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_pre_in.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3))) = (fun _ => 1#1)

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Post [hPre_pre_post : Cert.Pre_pre_post.Facts] (m : (ℓ : Loc Cert.Post.nD Cert.Post.τ Cert.Post.sig) → Buf (Elt Bits) ℓ) : Prop :=
  ∀ c : Dev Cert.Post.nD,
    (Cert.Pre_pre_post.fn (F := Bits) (m ((c.tc : Thread Cert.Post.nD Cert.Post.τ).loc Cert.Post.main_arg0)) (m ((c.tc : Thread Cert.Post.nD Cert.Post.τ).loc Cert.Post.main_arg1)) (m ((c.tc : Thread Cert.Post.nD Cert.Post.τ).loc Cert.Post.main_arg2)) (m ((c.tc : Thread Cert.Post.nD Cert.Post.τ).loc Cert.Post.main_arg3)) (m ((c.tc : Thread Cert.Post.nD Cert.Post.τ).loc Cert.Post.main_arg4)) (m ((c.tc : Thread Cert.Post.nD Cert.Post.τ).loc Cert.Post.main_arg5)) (m ((c.tc : Thread Cert.Post.nD Cert.Post.τ).loc Cert.Post.main_arg6)) (m ((c.tc : Thread Cert.Post.nD Cert.Post.τ).loc Cert.Post.main_arg7)) (m ((c.tc : Thread Cert.Post.nD Cert.Post.τ).loc Cert.Post.main_arg8)) (m ((c.tc : Thread Cert.Post.nD Cert.Post.τ).loc Cert.Post.main_arg9))) = (fun _ => 1#1)

def Pre_PostIdeal [hPre_pre_post : Cert.Pre_pre_post.Facts] (m : (ℓ : Loc Cert.PostIdeal.nD Cert.PostIdeal.τ Cert.PostIdeal.sig) → Buf (Elt Ideal) ℓ) : Prop :=
  ∀ c : Dev Cert.PostIdeal.nD,
    (Cert.Pre_pre_post.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9))) = (fun _ => 1#1)

def Pre_PostRefIdeal [hPre_pre_post : Cert.Pre_pre_post.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_pre_post.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_Ffn [hFfn : Cert.Ffn.Facts] [hPre_pre_ffn : Cert.Pre_pre_ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] [hPre_pre_ffn : Cert.Pre_pre_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] [hPre_pre_ffn : Cert.Pre_pre_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_InProj [hInProj : Cert.InProj.Facts] [hPre_pre_in : Cert.Pre_pre_in.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] [hPre_pre_in : Cert.Pre_pre_in.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] [hPre_pre_in : Cert.Pre_pre_in.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3)
      ∧ r.2.mem ((c.tc : Thread Cert.MemKv.nD Cert.MemKv.τ).loc Cert.MemKv.main_arg4) = m ((c.tc : Thread Cert.MemKv.nD Cert.MemKv.τ).loc Cert.MemKv.main_arg4))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3)
      ∧ r.2.mem ((c.tc : Thread Cert.MemKvIdeal.nD Cert.MemKvIdeal.τ).loc Cert.MemKvIdeal.main_arg4) = m ((c.tc : Thread Cert.MemKvIdeal.nD Cert.MemKvIdeal.τ).loc Cert.MemKvIdeal.main_arg4))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3)
      ∧ r.2.mem ((c.tc : Thread Cert.MemKvRefIdeal.nD Cert.MemKvRefIdeal.τ).loc Cert.MemKvRefIdeal.main_arg4) = m ((c.tc : Thread Cert.MemKvRefIdeal.nD Cert.MemKvRefIdeal.τ).loc Cert.MemKvRefIdeal.main_arg4))
      ∧ r.2.sem = fun _ => 0)

def quiescent_Post [hPost : Cert.Post.Facts] [hPre_pre_post : Cert.Pre_pre_post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9))
      ∧ r.2.sem = fun _ => 0)

def quiescent_PostIdeal [hPostIdeal : Cert.PostIdeal.Facts] [hPre_pre_post : Cert.Pre_pre_post.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ r.2.sem = fun _ => 0)

def quiescent_PostRefIdeal [hPostRefIdeal : Cert.PostRefIdeal.Facts] [hPre_pre_post : Cert.Pre_pre_post.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9))
      ∧ r.2.sem = fun _ => 0)

def preserves_Kernel_KernelIdeal : Prop :=
  IdealRules.named_const.Statement Cert.KernelIdeal.κ "mask" .f32 0xF149F2CA#32 ⊥

def preserves_Ffn_FfnIdeal : Prop :=
  True

def algebraic_FfnIdeal_FfnRefIdeal [hFfnIdeal : Cert.FfnIdeal.Facts] [hFfnRefIdeal : Cert.FfnRefIdeal.Facts] [hPre_pre_ffn : Cert.Pre_pre_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v54) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_InProj_InProjIdeal : Prop :=
  True

def algebraic_InProjIdeal_InProjRefIdeal [hInProjIdeal : Cert.InProjIdeal.Facts] [hInProjRefIdeal : Cert.InProjRefIdeal.Facts] [hPre_pre_in : Cert.Pre_pre_in.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v9_0)) (v1 : (c : Dev Cert.InProjIdeal.nD) → Buf (Elt Ideal) ((c.tc : Thread Cert.InProjIdeal.nD Cert.InProjIdeal.τ).loc Cert.InProjIdeal.main_v9_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v9_0) = v0 c
          ∧ r.2.mem ((c.tc : Thread Cert.InProjIdeal.nD Cert.InProjIdeal.τ).loc Cert.InProjIdeal.main_v9_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v31) = v0 c
          ∧ r.2.mem ((c.tc : Thread Cert.InProjRefIdeal.nD Cert.InProjRefIdeal.τ).loc Cert.InProjRefIdeal.main_v32) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)
      ∧ m' ((c.tc : Thread Cert.MemKvRefIdeal.nD Cert.MemKvRefIdeal.τ).loc Cert.MemKvRefIdeal.main_arg4) = m ((c.tc : Thread Cert.MemKvIdeal.nD Cert.MemKvIdeal.τ).loc Cert.MemKvIdeal.main_arg4)) →
    ∃ (v0 : (c : Dev Cert.MemKvIdeal.nD) → Buf (Elt Ideal) ((c.tc : Thread Cert.MemKvIdeal.nD Cert.MemKvIdeal.τ).loc Cert.MemKvIdeal.main_v4_0)) (v1 : (c : Dev Cert.MemKvIdeal.nD) → Buf (Elt Ideal) ((c.tc : Thread Cert.MemKvIdeal.nD Cert.MemKvIdeal.τ).loc Cert.MemKvIdeal.main_v4_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v4_0) = v0 c
          ∧ r.2.mem ((c.tc : Thread Cert.MemKvIdeal.nD Cert.MemKvIdeal.τ).loc Cert.MemKvIdeal.main_v4_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3)
          ∧ r.2.mem ((c.tc : Thread Cert.MemKvIdeal.nD Cert.MemKvIdeal.τ).loc Cert.MemKvIdeal.main_arg4) = m ((c.tc : Thread Cert.MemKvIdeal.nD Cert.MemKvIdeal.τ).loc Cert.MemKvIdeal.main_arg4))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v32) = v0 c
          ∧ r.2.mem ((c.tc : Thread Cert.MemKvRefIdeal.nD Cert.MemKvRefIdeal.τ).loc Cert.MemKvRefIdeal.main_v33) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3)
          ∧ r.2.mem ((c.tc : Thread Cert.MemKvRefIdeal.nD Cert.MemKvRefIdeal.τ).loc Cert.MemKvRefIdeal.main_arg4) = m' ((c.tc : Thread Cert.MemKvRefIdeal.nD Cert.MemKvRefIdeal.τ).loc Cert.MemKvRefIdeal.main_arg4))

def preserves_Post_PostIdeal : Prop :=
  True

def algebraic_PostIdeal_PostRefIdeal [hPostIdeal : Cert.PostIdeal.Facts] [hPostRefIdeal : Cert.PostRefIdeal.Facts] [hPre_pre_post : Cert.Pre_pre_post.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)) →
    ∃ (v0 : (c : Dev Cert.PostIdeal.nD) → Buf (Elt Ideal) ((c.tc : Thread Cert.PostIdeal.nD Cert.PostIdeal.τ).loc Cert.PostIdeal.main_v13)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v13) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v91) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9))

def Claim : Prop :=
  ∃ (hKernel : Cert.Kernel.Facts) (hKernelIdeal : Cert.KernelIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hMemKv : Cert.MemKv.Facts) (hMemKvIdeal : Cert.MemKvIdeal.Facts) (hMemKvRefIdeal : Cert.MemKvRefIdeal.Facts) (hPost : Cert.Post.Facts) (hPostIdeal : Cert.PostIdeal.Facts) (hPostRefIdeal : Cert.PostRefIdeal.Facts) (hPre_pre : Cert.Pre_pre.Facts) (hPre_pre_ffn : Cert.Pre_pre_ffn.Facts) (hPre_pre_in : Cert.Pre_pre_in.Facts) (hPre_pre_post : Cert.Pre_pre_post.Facts),
    quiescent_Kernel (hKernel := hKernel) (hPre_pre := hPre_pre)
    ∧ quiescent_KernelIdeal (hKernelIdeal := hKernelIdeal) (hPre_pre := hPre_pre)
    ∧ quiescent_Ffn (hFfn := hFfn) (hPre_pre_ffn := hPre_pre_ffn)
    ∧ quiescent_FfnIdeal (hFfnIdeal := hFfnIdeal) (hPre_pre_ffn := hPre_pre_ffn)
    ∧ quiescent_FfnRefIdeal (hFfnRefIdeal := hFfnRefIdeal) (hPre_pre_ffn := hPre_pre_ffn)
    ∧ quiescent_InProj (hInProj := hInProj) (hPre_pre_in := hPre_pre_in)
    ∧ quiescent_InProjIdeal (hInProjIdeal := hInProjIdeal) (hPre_pre_in := hPre_pre_in)
    ∧ quiescent_InProjRefIdeal (hInProjRefIdeal := hInProjRefIdeal) (hPre_pre_in := hPre_pre_in)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Post (hPost := hPost) (hPre_pre_post := hPre_pre_post)
    ∧ quiescent_PostIdeal (hPostIdeal := hPostIdeal) (hPre_pre_post := hPre_pre_post)
    ∧ quiescent_PostRefIdeal (hPostRefIdeal := hPostRefIdeal) (hPre_pre_post := hPre_pre_post)
    ∧ preserves_Kernel_KernelIdeal
    ∧ preserves_Ffn_FfnIdeal
    ∧ algebraic_FfnIdeal_FfnRefIdeal (hFfnIdeal := hFfnIdeal) (hFfnRefIdeal := hFfnRefIdeal) (hPre_pre_ffn := hPre_pre_ffn)
    ∧ preserves_InProj_InProjIdeal
    ∧ algebraic_InProjIdeal_InProjRefIdeal (hInProjIdeal := hInProjIdeal) (hInProjRefIdeal := hInProjRefIdeal) (hPre_pre_in := hPre_pre_in)
    ∧ preserves_MemKv_MemKvIdeal
    ∧ algebraic_MemKvIdeal_MemKvRefIdeal (hMemKvIdeal := hMemKvIdeal) (hMemKvRefIdeal := hMemKvRefIdeal)
    ∧ preserves_Post_PostIdeal
    ∧ algebraic_PostIdeal_PostRefIdeal (hPostIdeal := hPostIdeal) (hPostRefIdeal := hPostRefIdeal) (hPre_pre_post := hPre_pre_post)
-- ==== Pre_pre.lean ====
abbrev S2x8192x4x2x64 : Shape := ⟨5, ![2, 8192, 4, 2, 64]⟩
abbrev S2x8192x4x128 : Shape := ⟨4, ![2, 8192, 4, 128]⟩
abbrev S1 : Shape := ⟨1, ![1]⟩
abbrev S4x4x64 : Shape := ⟨3, ![4, 4, 64]⟩
abbrev S4x128 : Shape := ⟨2, ![4, 128]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S2x8192x4x2x64 .f32) (main_arg1 : FVec F S2x8192x4x2x64 .f32) (main_arg2 : FVec F S2x8192x4x128 .f32) (main_arg3 : IVec S1 32) (main_arg4 : FVec F S4x4x64 .f32) (main_arg5 : FVec F S4x128 .f32) : IVec S1 1 :=
  let main_c : IVec S_ 32 := constantI S_ 32 0#32
  let main_v0 : IVec S1 32 := broadcastInDim S1 ![] bcast_S_S1 main_c
  let main_v1 : IVec S1 1 := cmpi .sge main_arg3 main_v0
  let main_c_0 : IVec S_ 32 := constantI S_ 32 4#32
  let main_v2 : IVec S1 32 := broadcastInDim S1 ![] bcast_S_S1 main_c_0
  let main_v3 : IVec S1 1 := cmpi .slt main_arg3 main_v2
  let main_v4 : IVec S1 1 := andi main_v1 main_v3
  main_v4
-- ==== Pre_pre_ffn.lean ====
abbrev S2x8192x2048 : Shape := ⟨3, ![2, 8192, 2048]⟩
abbrev S1 : Shape := ⟨1, ![1]⟩
abbrev S4x2048 : Shape := ⟨2, ![4, 2048]⟩
abbrev S4x2048x11264 : Shape := ⟨3, ![4, 2048, 11264]⟩
abbrev S4x5632x2048 : Shape := ⟨3, ![4, 5632, 2048]⟩
abbrev S2048 : Shape := ⟨1, ![2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S2x8192x2048 .f32) (main_arg1 : IVec S1 32) (main_arg2 : FVec F S4x2048 .f32) (main_arg3 : FVec F S4x2048x11264 .f32) (main_arg4 : FVec F S4x5632x2048 .f32) (main_arg5 : FVec F S2048 .f32) : IVec S1 1 :=
  let main_c : IVec S_ 32 := constantI S_ 32 0#32
  let main_v0 : IVec S1 32 := broadcastInDim S1 ![] bcast_S_S1 main_c
  let main_v1 : IVec S1 1 := cmpi .sge main_arg1 main_v0
  let main_c_0 : IVec S_ 32 := constantI S_ 32 4#32
  let main_v2 : IVec S1 32 := broadcastInDim S1 ![] bcast_S_S1 main_c_0
  let main_v3 : IVec S1 1 := cmpi .slt main_arg1 main_v2
  let main_v4 : IVec S1 1 := andi main_v1 main_v3
  main_v4
-- ==== Pre_pre_in.lean ====
abbrev S2x8192x2048 : Shape := ⟨3, ![2, 8192, 2048]⟩
abbrev S1 : Shape := ⟨1, ![1]⟩
abbrev S4x2048 : Shape := ⟨2, ![4, 2048]⟩
abbrev S4x2048x7692 : Shape := ⟨3, ![4, 2048, 7692]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S2x8192x2048 .f32) (main_arg1 : IVec S1 32) (main_arg2 : FVec F S4x2048 .f32) (main_arg3 : FVec F S4x2048x7692 .f32) : IVec S1 1 :=
  let main_c : IVec S_ 32 := constantI S_ 32 0#32
  let main_v0 : IVec S1 32 := broadcastInDim S1 ![] bcast_S_S1 main_c
  let main_v1 : IVec S1 1 := cmpi .sge main_arg1 main_v0
  let main_c_0 : IVec S_ 32 := constantI S_ 32 4#32
  let main_v2 : IVec S1 32 := broadcastInDim S1 ![] bcast_S_S1 main_c_0
  let main_v3 : IVec S1 1 := cmpi .slt main_arg1 main_v2
  let main_v4 : IVec S1 1 := andi main_v1 main_v3
  main_v4
-- ==== Pre_pre_post.lean ====
abbrev S2x8192x2048 : Shape := ⟨3, ![2, 8192, 2048]⟩
abbrev S1 : Shape := ⟨1, ![1]⟩
abbrev S4x2048x2048 : Shape := ⟨3, ![4, 2048, 2048]⟩
abbrev S4x2048 : Shape := ⟨2, ![4, 2048]⟩
abbrev S4x2048x512 : Shape := ⟨3, ![4, 2048, 512]⟩
abbrev S4x128 : Shape := ⟨2, ![4, 128]⟩
abbrev S4x2x256x4x128 : Shape := ⟨5, ![4, 2, 256, 4, 128]⟩
abbrev S4x512x2048 : Shape := ⟨3, ![4, 512, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S2x8192x2048 .f32) (main_arg1 : FVec F S2x8192x2048 .f32) (main_arg2 : IVec S1 32) (main_arg3 : FVec F S4x2048x2048 .f32) (main_arg4 : FVec F S4x2048 .f32) (main_arg5 : FVec F S4x2048x512 .f32) (main_arg6 : FVec F S4x128 .f32) (main_arg7 : FVec F S4x2x256x4x128 .f32) (main_arg8 : FVec F S4x2x256x4x128 .f32) (main_arg9 : FVec F S4x512x2048 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 4#32
  let main_v2 : IVec S1 32 := broadcastInDim S1 ![] bcast_S_S1 main_c_0
  let main_v3 : IVec S1 1 := cmpi .slt main_arg2 main_v2
  let main_v4 : IVec S1 1 := andi main_v1 main_v3
  main_v4
-- ==== Kernel.lean ====
abbrev S2x8192x4x2x64 : Shape := ⟨5, ![2, 8192, 4, 2, 64]⟩
abbrev S2x8192x4x128 : Shape := ⟨4, ![2, 8192, 4, 128]⟩
abbrev S1 : Shape := ⟨1, ![1]⟩
abbrev S4x4x64 : Shape := ⟨3, ![4, 4, 64]⟩
abbrev S4x128 : Shape := ⟨2, ![4, 128]⟩
abbrev S4 : Shape := ⟨1, ![4]⟩
abbrev S16384x4x128 : Shape := ⟨3, ![16384, 4, 128]⟩
abbrev S_ : Shape := ⟨0, ![]⟩
abbrev S32x512x4x128 : Shape := ⟨4, ![32, 512, 4, 128]⟩
abbrev S4x32x128x512 : Shape := ⟨4, ![4, 32, 128, 512]⟩
abbrev S16384x128 : Shape := ⟨2, ![16384, 128]⟩
abbrev S16384x1x128 : Shape := ⟨3, ![16384, 1, 128]⟩
abbrev S1x4x1 : Shape := ⟨3, ![1, 4, 1]⟩
abbrev S16384x4x256 : Shape := ⟨3, ![16384, 4, 256]⟩
abbrev S16384x1024 : Shape := ⟨2, ![16384, 1024]⟩
abbrev S4x128x1 : Shape := ⟨3, ![4, 128, 1]⟩
abbrev S16384x512 : Shape := ⟨2, ![16384, 512]⟩
abbrev S1x1x128x512 : Shape := ⟨4, ![1, 1, 128, 512]⟩
abbrev S8192x256 : Shape := ⟨2, ![8192, 256]⟩
abbrev S1x16x128x512 : Shape := ⟨4, ![1, 16, 128, 512]⟩
abbrev S1x4x64 : Shape := ⟨3, ![1, 4, 64]⟩
abbrev S1x128x1 : Shape := ⟨3, ![1, 128, 1]⟩
abbrev S512x128 : Shape := ⟨2, ![512, 128]⟩
abbrev S1x1024 : Shape := ⟨2, ![1, 1024]⟩
abbrev S144x1024 : Shape := ⟨2, ![144, 1024]⟩
abbrev S512x1024 : Shape := ⟨2, ![512, 1024]⟩
abbrev S1x1 : Shape := ⟨2, ![1, 1]⟩
abbrev S128x512 : Shape := ⟨2, ![128, 512]⟩
abbrev S128x1024 : Shape := ⟨2, ![128, 1024]⟩
abbrev S256x1024 : Shape := ⟨2, ![256, 1024]⟩
abbrev S16x512 : Shape := ⟨2, ![16, 512]⟩
abbrev S512x256 : Shape := ⟨2, ![512, 256]⟩
abbrev S1024 : Shape := ⟨1, ![1024]⟩
abbrev S144x512 : Shape := ⟨2, ![144, 512]⟩
abbrev S4x64 : Shape := ⟨2, ![4, 64]⟩
abbrev S1x64 : Shape := ⟨2, ![1, 64]⟩
abbrev S512 : Shape := ⟨1, ![512]⟩
abbrev S1x512 : Shape := ⟨2, ![1, 512]⟩
abbrev S128x1 : Shape := ⟨2, ![128, 1]⟩

abbrev nBuf : Space → Nat
  | .hbm => 60
  | .vmem => 15
  | .smem => 1
  | _ => 0

abbrev bufTy : (tb : Table) → Fin (tcTables nBuf tb) → BufTy
  | .hbm, ⟨0, _⟩ => ⟨S2x8192x4x2x64, .f32⟩
  | .hbm, ⟨1, _⟩ => ⟨S2x8192x4x2x64, .f32⟩
  | .hbm, ⟨2, _⟩ => ⟨S2x8192x4x128, .f32⟩
  | .hbm, ⟨3, _⟩ => ⟨S4x4x64, .f32⟩
  | .hbm, ⟨4, _⟩ => ⟨S4x128, .f32⟩
  | .hbm, ⟨5, _⟩ => ⟨S4, .f32⟩
  | .hbm, ⟨6, _⟩ => ⟨S16384x4x128, .f32⟩
  | .hbm, ⟨7, _⟩ => ⟨S_, .f32⟩
  | .hbm, ⟨8, _⟩ => ⟨S16384x4x128, .f32⟩
  | .hbm, ⟨9, _⟩ => ⟨S16384x4x128, .f32⟩
  | .hbm, ⟨10, _⟩ => ⟨S32x512x4x128, .f32⟩
  | .hbm, ⟨11, _⟩ => ⟨S4x32x128x512, .f32⟩
  | .hbm, ⟨12, _⟩ => ⟨S4x32x128x512, .bf16⟩
  | .hbm, ⟨13, _⟩ => ⟨S32x512x4x128, .f32⟩
  | .hbm, ⟨14, _⟩ => ⟨S4x32x128x512, .f32⟩
  | .hbm, ⟨15, _⟩ => ⟨S4x32x128x512, .bf16⟩
  | .hbm, ⟨16, _⟩ => ⟨S16384x128, .i32⟩
  | .hbm, ⟨17, _⟩ => ⟨S_, .i32⟩
  | .hbm, ⟨18, _⟩ => ⟨S16384x128, .i32⟩
  | .hbm, ⟨19, _⟩ => ⟨S16384x128, .i32⟩
  | .hbm, ⟨20, _⟩ => ⟨S16384x128, .i32⟩
  | .hbm, ⟨21, _⟩ => ⟨S_, .i32⟩
  | .hbm, ⟨22, _⟩ => ⟨S16384x128, .i32⟩
  | .hbm, ⟨23, _⟩ => ⟨S16384x128, .i32⟩
  | .hbm, ⟨24, _⟩ => ⟨S16384x128, .f32⟩
  | .hbm, ⟨25, _⟩ => ⟨S_, .f32⟩
  | .hbm, ⟨26, _⟩ => ⟨S16384x128, .f32⟩
  | .hbm, ⟨27, _⟩ => ⟨S16384x128, .f32⟩
  | .hbm, ⟨28, _⟩ => ⟨S_, .i32⟩
  | .hbm, ⟨29, _⟩ => ⟨S16384x128, .i32⟩
  | .hbm, ⟨30, _⟩ => ⟨S16384x128, .i32⟩
  | .hbm, ⟨31, _⟩ => ⟨S16384x128, .f32⟩
  | .hbm, ⟨32, _⟩ => ⟨S_, .i32⟩
  | .hbm, ⟨33, _⟩ => ⟨S16384x128, .i32⟩
  | .hbm, ⟨34, _⟩ => ⟨S16384x128, .i1⟩
  | .hbm, ⟨35, _⟩ => ⟨S_, .i32⟩
  | .hbm, ⟨36, _⟩ => ⟨S16384x128, .i32⟩
  | .hbm, ⟨37, _⟩ => ⟨S16384x128, .i1⟩
  | .hbm, ⟨38, _⟩ => ⟨S_, .i32⟩
  | .hbm, ⟨39, _⟩ => ⟨S16384x128, .i32⟩
  | .hbm, ⟨40, _⟩ => ⟨S16384x128, .i1⟩
  | .hbm, ⟨41, _⟩ => ⟨S_, .f32⟩
  | .hbm, ⟨42, _⟩ => ⟨S_, .f32⟩
  | .hbm, ⟨43, _⟩ => ⟨S16384x128, .f32⟩
  | .hbm, ⟨44, _⟩ => ⟨S16384x128, .f32⟩
  | .hbm, ⟨45, _⟩ => ⟨S16384x128, .f32⟩
  | .hbm, ⟨46, _⟩ => ⟨S16384x128, .f32⟩
  | .hbm, ⟨47, _⟩ => ⟨S16384x128, .f32⟩
  | .hbm, ⟨48, _⟩ => ⟨S16384x128, .f32⟩
  | .hbm, ⟨49, _⟩ => ⟨S16384x1x128, .f32⟩
  | .hbm, ⟨50, _⟩ => ⟨S1x4x1, .f32⟩
  | .hbm, ⟨51, _⟩ => ⟨S16384x4x128, .f32⟩
  | .hbm, ⟨52, _⟩ => ⟨S16384x4x128, .f32⟩
  | .hbm, ⟨53, _⟩ => ⟨S16384x4x128, .f32⟩
  | .hbm, ⟨54, _⟩ => ⟨S16384x4x128, .f32⟩
  | .hbm, ⟨55, _⟩ => ⟨S16384x4x256, .f32⟩
  | .hbm, ⟨56, _⟩ => ⟨S16384x4x256, .bf16⟩
  | .hbm, ⟨57, _⟩ => ⟨S16384x1024, .bf16⟩
  | .hbm, ⟨58, _⟩ => ⟨S4x128x1, .f32⟩
  | .hbm, ⟨59, _⟩ => ⟨S16384x512, .bf16⟩
  | .local _ .vmem, ⟨0, _⟩ => ⟨S1x1x128x512, .bf16⟩
  | .local _ .vmem, ⟨1, _⟩ => ⟨S1x1x128x512, .bf16⟩
  | .local _ .vmem, ⟨2, _⟩ => ⟨S8192x256, .bf16⟩
  | .local _ .vmem, ⟨3, _⟩ => ⟨S8192x256, .bf16⟩
  | .local _ .vmem, ⟨4, _⟩ => ⟨S1x16x128x512, .bf16⟩
  | .local _ .vmem, ⟨5, _⟩ => ⟨S1x16x128x512, .bf16⟩
  | .local _ .vmem, ⟨6, _⟩ => ⟨S1x4x64, .f32⟩
  | .local _ .vmem, ⟨7, _⟩ => ⟨S1x128x1, .f32⟩
  | .local _ .vmem, ⟨8, _⟩ => ⟨S512x128, .bf16⟩
  | .local _ .vmem, ⟨9, _⟩ => ⟨S512x128, .bf16⟩
  | .local _ .vmem, ⟨10, _⟩ => ⟨S1x1024, .f32⟩
  | .local _ .vmem, ⟨11, _⟩ => ⟨S144x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .smem, ⟨0, _⟩ => ⟨S1, .i32⟩
  | _, _ => ⟨S2x8192x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_c_5 : Ref sig .tc := ⟨.hbm, 35, rfl⟩
abbrev main_v23 : Ref sig .tc := ⟨.hbm, 36, rfl⟩
abbrev main_v24 : Ref sig .tc := ⟨.hbm, 37, rfl⟩
abbrev main_c_6 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_cst_8 : Ref sig .tc := ⟨.hbm, 42, rfl⟩
abbrev main_call0_v0 : Ref sig .tc := ⟨.hbm, 43, rfl⟩
abbrev main_call0_v1 : Ref sig .tc := ⟨.hbm, 44, rfl⟩
abbrev main_v27 : Ref sig .tc := ⟨.hbm, 45, rfl⟩
abbrev main_call1_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 4, 16], ![false, false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_mult1 : BitVec 32 :=
  let c0_i32_17 : BitVec 32 := 0#32
  c0_i32_17
@[reducible] def k0_t1_loop (i : grid0.Coords) : Scf.Loop 32 :=
  let c0_i32_24 : BitVec 32 := 0#32
  let arg2 : BitVec 32 := BitVec.ofNat 32 (i 2).val
  let c1_i32_22 : BitVec 32 := 1#32
  let v53 : BitVec 32 := Scalar.shrsi arg2 c1_i32_22
  let v54 : BitVec 32 := Scalar.subi v53 c0_i32_24
  let c1_i32_25 : BitVec 32 := 1#32
  let v56 : BitVec 32 := Scalar.divsi v54 c1_i32_25
  let v57 : BitVec 32 := Scalar.muli v56 c1_i32_25
  let v58 : BitVec 32 := Scalar.addi c0_i32_24 v57
  let c1_i32_26 : BitVec 32 := 1#32
  ⟨c0_i32_24, v58, c1_i32_26⟩
def k0_mult2 (i : grid0.Coords) (k0_t1 : Fin (k0_t1_loop i).trips) : BitVec 32 :=
  let c2_i32_54 : BitVec 32 := 2#32
  let c0_i32_24 : BitVec 32 := 0#32
  let c1_i32_26 : BitVec 32 := 1#32
  let arg15 : BitVec 32 := Scf.iv c0_i32_24 c1_i32_26 k0_t1
  let v124 : BitVec 32 := Scalar.muli c2_i32_54 arg15
  let c1_i32_55 : BitVec 32 := 1#32
  let v125 : BitVec 32 := Scalar.addi v124 c1_i32_55
  let c512_i32_56 : BitVec 32 := 512#32
  let v126 : BitVec 32 := Scalar.muli v125 c512_i32_56
  v126
def k0_off1 (i : grid0.Coords) (k0_t1 : Fin (k0_t1_loop i).trips) (c1_i32_55 : BitVec 32) : Fin 2 → Nat :=
  let c2_i32_54 : BitVec 32 := 2#32
  let c0_i32_24 : BitVec 32 := 0#32
  let c1_i32_26 : BitVec 32 := 1#32
  let arg15 : BitVec 32 := Scf.iv c0_i32_24 c1_i32_26 k0_t1
  let v124 : BitVec 32 := Scalar.muli c2_i32_54 arg15
  let v125 : BitVec 32 := Scalar.addi v124 c1_i32_55
  let c512_i32_56 : BitVec 32 := 512#32
  let v126 : BitVec 32 := Scalar.muli v125 c512_i32_56
  let v127 : BitVec 32 := v126
  let v128 : Index := Scalar.indexCast v127
  let c0_57 : Index := 0#32
  ![v128.toNat, 0]
def k0_off2 (i : grid0.Coords) (k0_t1 : Fin (k0_t1_loop i).trips) : Fin 4 → Nat :=
  let c0_66 : Index := 0#32
  let c2_i32_54 : BitVec 32 := 2#32
  let c0_i32_24 : BitVec 32 := 0#32
  let c1_i32_26 : BitVec 32 := 1#32
  let arg15 : BitVec 32 := Scf.iv c0_i32_24 c1_i32_26 k0_t1
  let v124 : BitVec 32 := Scalar.muli c2_i32_54 arg15
  let v146 : Index := Scalar.indexCast v124
  let c0_67 : Index := 0#32
  let c0_68 : Index := 0#32
  ![0, v146.toNat, 0, 0]
def k0_mult3 (i : grid0.Coords) (k0_t1 : Fin (k0_t1_loop i).trips) : BitVec 32 :=
  let c2_i32_54 : BitVec 32 := 2#32
  let c0_i32_24 : BitVec 32 := 0#32
  let c1_i32_26 : BitVec 32 := 1#32
  let arg15 : BitVec 32 := Scf.iv c0_i32_24 c1_i32_26 k0_t1
  let v124 : BitVec 32 := Scalar.muli c2_i32_54 arg15
  let c2_i32_76 : BitVec 32 := 2#32
  let v161 : BitVec 32 := Scalar.addi v124 c2_i32_76
  let c512_i32_77 : BitVec 32 := 512#32
  let v162 : BitVec 32 := Scalar.muli v161 c512_i32_77
  v162
def k0_off3 (i : grid0.Coords) (k0_t1 : Fin (k0_t1_loop i).trips) : Fin 4 → Nat :=
  let c0_88 : Index := 0#32
  let c2_i32_54 : BitVec 32 := 2#32
  let c0_i32_24 : BitVec 32 := 0#32
  let c1_i32_26 : BitVec 32 := 1#32
  let arg15 : BitVec 32 := Scf.iv c0_i32_24 c1_i32_26 k0_t1
  let v124 : BitVec 32 := Scalar.muli c2_i32_54 arg15
  let c1_i32_84 : BitVec 32 := 1#32
  let v172 : BitVec 32 := Scalar.addi v124 c1_i32_84
  let v183 : Index := Scalar.indexCast v172
  let c0_89 : Index := 0#32
  let c0_90 : Index := 0#32
  ![0, v183.toNat, 0, 0]
@[reducible] def k0_t2_loop (i : grid0.Coords) : Scf.Loop 32 :=
  let c0_i32_24 : BitVec 32 := 0#32
  let arg2 : BitVec 32 := BitVec.ofNat 32 (i 2).val
  let c1_i32_22 : BitVec 32 := 1#32
  let v53 : BitVec 32 := Scalar.shrsi arg2 c1_i32_22
  let v54 : BitVec 32 := Scalar.subi v53 c0_i32_24
  let c1_i32_25 : BitVec 32 := 1#32
  let v56 : BitVec 32 := Scalar.divsi v54 c1_i32_25
  let v57 : BitVec 32 := Scalar.muli v56 c1_i32_25
  let v58 : BitVec 32 := Scalar.addi c0_i32_24 v57
  let v55 : BitVec 32 := Scalar.addi c0_i32_24 v54
  let c1_i32_27 : BitVec 32 := 1#32
  ⟨v58, v55, c1_i32_27⟩
def k0_mult4 (i : grid0.Coords) (k0_t2 : Fin (k0_t2_loop i).trips) : BitVec 32 :=
  let c2_i32_54 : BitVec 32 := 2#32
  let c0_i32_24 : BitVec 32 := 0#32
  let arg2 : BitVec 32 := BitVec.ofNat 32 (i 2).val
  let c1_i32_22 : BitVec 32 := 1#32
  let v53 : BitVec 32 := Scalar.shrsi arg2 c1_i32_22
  let v54 : BitVec 32 := Scalar.subi v53 c0_i32_24
  let c1_i32_25 : BitVec 32 := 1#32
  let v56 : BitVec 32 := Scalar.divsi v54 c1_i32_25
  let v57 : BitVec 32 := Scalar.muli v56 c1_i32_25
  let v58 : BitVec 32 := Scalar.addi c0_i32_24 v57
  let c1_i32_27 : BitVec 32 := 1#32
  let arg15 : BitVec 32 := Scf.iv v58 c1_i32_27 k0_t2
  let v124 : BitVec 32 := Scalar.muli c2_i32_54 arg15
  let c1_i32_55 : BitVec 32 := 1#32
  let v125 : BitVec 32 := Scalar.addi v124 c1_i32_55
  let c512_i32_56 : BitVec 32 := 512#32
  let v126 : BitVec 32 := Scalar.muli v125 c512_i32_56
  v126
def k0_off4 (i : grid0.Coords) (k0_t2 : Fin (k0_t2_loop i).trips) (c1_i32_55 : BitVec 32) : Fin 2 → Nat :=
  let c2_i32_54 : BitVec 32 := 2#32
  let c0_i32_24 : BitVec 32 := 0#32
  let arg2 : BitVec 32 := BitVec.ofNat 32 (i 2).val
  let c1_i32_22 : BitVec 32 := 1#32
  let v53 : BitVec 32 := Scalar.shrsi arg2 c1_i32_22
  let v54 : BitVec 32 := Scalar.subi v53 c0_i32_24
  let c1_i32_25 : BitVec 32 := 1#32
  let v56 : BitVec 32 := Scalar.divsi v54 c1_i32_25
  let v57 : BitVec 32 := Scalar.muli v56 c1_i32_25
  let v58 : BitVec 32 := Scalar.addi c0_i32_24 v57
  let c1_i32_27 : BitVec 32 := 1#32
  let arg15 : BitVec 32 := Scf.iv v58 c1_i32_27 k0_t2
  let v124 : BitVec 32 := Scalar.muli c2_i32_54 arg15
  let v125 : BitVec 32 := Scalar.addi v124 c1_i32_55
  let c512_i32_56 : BitVec 32 := 512#32
  let v126 : BitVec 32 := Scalar.muli v125 c512_i32_56
  let v127 : BitVec 32 := v126
  let v128 : Index := Scalar.indexCast v127
  let c0_57 : Index := 0#32
  ![v128.toNat, 0]
def k0_off5 (i : grid0.Coords) (k0_t2 : Fin (k0_t2_loop i).trips) : Fin 4 → Nat :=
  let c0_66 : Index := 0#32
  let c2_i32_54 : BitVec 32 := 2#32
  let c0_i32_24 : BitVec 32 := 0#32
  let arg2 : BitVec 32 := BitVec.ofNat 32 (i 2).val
  let c1_i32_22 : BitVec 32 := 1#32
  let v53 : BitVec 32 := Scalar.shrsi arg2 c1_i32_22
  let v54 : BitVec 32 := Scalar.subi v53 c0_i32_24
  let c1_i32_25 : BitVec 32 := 1#32
  let v56 : BitVec 32 := Scalar.divsi v54 c1_i32_25
  let v57 : BitVec 32 := Scalar.muli v56 c1_i32_25
  let v58 : BitVec 32 := Scalar.addi c0_i32_24 v57
  let c1_i32_27 : BitVec 32 := 1#32
  let arg15 : BitVec 32 := Scf.iv v58 c1_i32_27 k0_t2
  let v124 : BitVec 32 := Scalar.muli c2_i32_54 arg15
  let v146 : Index := Scalar.indexCast v124
  let c0_67 : Index := 0#32
  let c0_68 : Index := 0#32
  ![0, v146.toNat, 0, 0]
def k0_mult5 (i : grid0.Coords) (k0_t2 : Fin (k0_t2_loop i).trips) : BitVec 32 :=
  let c2_i32_54 : BitVec 32 := 2#32
  let c0_i32_24 : BitVec 32 := 0#32
  let arg2 : BitVec 32 := BitVec.ofNat 32 (i 2).val
  let c1_i32_22 : BitVec 32 := 1#32
  let v53 : BitVec 32 := Scalar.shrsi arg2 c1_i32_22
  let v54 : BitVec 32 := Scalar.subi v53 c0_i32_24
  let c1_i32_25 : BitVec 32 := 1#32
  let v56 : BitVec 32 := Scalar.divsi v54 c1_i32_25
  let v57 : BitVec 32 := Scalar.muli v56 c1_i32_25
  let v58 : BitVec 32 := Scalar.addi c0_i32_24 v57
  let c1_i32_27 : BitVec 32 := 1#32
  let arg15 : BitVec 32 := Scf.iv v58 c1_i32_27 k0_t2
  let v124 : BitVec 32 := Scalar.muli c2_i32_54 arg15
  let c2_i32_76 : BitVec 32 := 2#32
  let v161 : BitVec 32 := Scalar.addi v124 c2_i32_76
  let c512_i32_77 : BitVec 32 := 512#32
  let v162 : BitVec 32 := Scalar.muli v161 c512_i32_77
  v162
def k0_off6 (i : grid0.Coords) (k0_t2 : Fin (k0_t2_loop i).trips) : Fin 4 → Nat :=
  let c0_88 : Index := 0#32
  let c2_i32_54 : BitVec 32 := 2#32
  let c0_i32_24 : BitVec 32 := 0#32
  let arg2 : BitVec 32 := BitVec.ofNat 32 (i 2).val
  let c1_i32_22 : BitVec 32 := 1#32
  let v53 : BitVec 32 := Scalar.shrsi arg2 c1_i32_22
  let v54 : BitVec 32 := Scalar.subi v53 c0_i32_24
  let c1_i32_25 : BitVec 32 := 1#32
  let v56 : BitVec 32 := Scalar.divsi v54 c1_i32_25
  let v57 : BitVec 32 := Scalar.muli v56 c1_i32_25
  let v58 : BitVec 32 := Scalar.addi c0_i32_24 v57
  let c1_i32_27 : BitVec 32 := 1#32
  let arg15 : BitVec 32 := Scf.iv v58 c1_i32_27 k0_t2
  let v124 : BitVec 32 := Scalar.muli c2_i32_54 arg15
  let c1_i32_84 : BitVec 32 := 1#32
  let v172 : BitVec 32 := Scalar.addi v124 c1_i32_84
  let v183 : Index := Scalar.indexCast v172
  let c0_89 : Index := 0#32
  let c0_90 : Index := 0#32
  ![0, v183.toNat, 0, 0]
def k0_cond2 (i : grid0.Coords) : BitVec 1 :=
  let arg2 : BitVec 32 := BitVec.ofNat 32 (i 2).val
  let c1_i32_28 : BitVec 32 := 1#32
  let v59 : BitVec 32 := Scalar.andi arg2 c1_i32_28
  let c1_i32_29 : BitVec 32 := 1#32
  let v60 : BitVec 1 := Scalar.cmpi .eq v59 c1_i32_29
  let v61 : BitVec 32 := Scalar.extui v60
  let c0_i32_30 : BitVec 32 := 0#32
  let v62 : BitVec 1 := Scalar.cmpi .ne v61 c0_i32_30
  v62

def k0_mult6 (i : grid0.Coords) : BitVec 32 :=
  let arg2 : BitVec 32 := BitVec.ofNat 32 (i 2).val
  let c512_i32_54 : BitVec 32 := 512#32
  let v124 : BitVec 32 := Scalar.muli arg2 c512_i32_54
  v124
def k0_off7 (i : grid0.Coords) : Fin 2 → Nat :=
  let arg2 : BitVec 32 := BitVec.ofNat 32 (i 2).val
  let c512_i32_54 : BitVec 32 := 512#32
  let v124 : BitVec 32 := Scalar.muli arg2 c512_i32_54
  let v125 : BitVec 32 := v124
  let v126 : Index := Scalar.indexCast v125
  let c0_55 : Index := 0#32
  ![v126.toNat, 0]
def k0_off8 (i : grid0.Coords) : Fin 4 → Nat :=
  let c0_65 : Index := 0#32
  let arg2 : BitVec 32 := BitVec.ofNat 32 (i 2).val
  let c1_i32_61 : BitVec 32 := 1#32
  let v134 : BitVec 32 := Scalar.subi arg2 c1_i32_61
  let v145 : Index := Scalar.indexCast v134
  let c0_66 : Index := 0#32
  let c0_67 : Index := 0#32
  ![0, v145.toNat, 0, 0]
def k0_off9 (i : grid0.Coords) : Fin 4 → Nat :=
  let c0_82 : Index := 0#32
  let arg2 : BitVec 32 := BitVec.ofNat 32 (i 2).val
  let v173 : Index := Scalar.indexCast arg2
  let c0_83 : Index := 0#32
  let c0_84 : Index := 0#32
  ![0, v173.toNat, 0, 0]
def k0_cond3 (i : grid0.Coords) : BitVec 1 :=
  let arg2 : BitVec 32 := BitVec.ofNat 32 (i 2).val
  let c1_i32_31 : BitVec 32 := 1#32
  let v63 : BitVec 32 := Scalar.andi arg2 c1_i32_31
  let c0_i32_32 : BitVec 32 := 0#32
  let v64 : BitVec 1 := Scalar.cmpi .eq v63 c0_i32_32
  let v65 : BitVec 32 := Scalar.extui v64
  let c0_i32_33 : BitVec 32 := 0#32
  let v66 : BitVec 1 := Scalar.cmpi .ne v65 c0_i32_33
  v66

def k0_off10 (i : grid0.Coords) : Fin 4 → Nat :=
  let c0_61 : Index := 0#32
  let arg2 : BitVec 32 := BitVec.ofNat 32 (i 2).val
  let v137 : Index := Scalar.indexCast arg2
  let c0_62 : Index := 0#32
  let c0_63 : Index := 0#32
  ![0, v137.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  let c0_i32_1 : BitVec 32 := 0#32
  ![arg1.toNat, v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S1x1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== Ffn.lean ====
abbrev S2x8192x2048 : Shape := ⟨3, ![2, 8192, 2048]⟩
abbrev S1 : Shape := ⟨1, ![1]⟩
abbrev S4x2048 : Shape := ⟨2, ![4, 2048]⟩
abbrev S4x2048x11264 : Shape := ⟨3, ![4, 2048, 11264]⟩
abbrev S4x5632x2048 : Shape := ⟨3, ![4, 5632, 2048]⟩
abbrev S2048 : Shape := ⟨1, ![2048]⟩
abbrev S16384x2048 : Shape := ⟨2, ![16384, 2048]⟩
abbrev S4x1x2048 : Shape := ⟨3, ![4, 1, 2048]⟩
abbrev S1x2048 : Shape := ⟨2, ![1, 2048]⟩
abbrev S1024x2048 : Shape := ⟨2, ![1024, 2048]⟩
abbrev S1x1x2048 : Shape := ⟨3, ![1, 1, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 11
  | .vmem => 13
  | .smem => 1
  | _ => 0

abbrev bufTy : (tb : Table) → Fin (tcTables nBuf tb) → BufTy
  | .hbm, ⟨0, _⟩ => ⟨S2x8192x2048, .f32⟩
  | .hbm, ⟨1, _⟩ => ⟨S4x2048, .f32⟩
  | .hbm, ⟨2, _⟩ => ⟨S4x2048x11264, .f32⟩
  | .hbm, ⟨3, _⟩ => ⟨S4x5632x2048, .f32⟩
  | .hbm, ⟨4, _⟩ => ⟨S2048, .f32⟩
  | .hbm, ⟨5, _⟩ => ⟨S16384x2048, .f32⟩
  | .hbm, ⟨6, _⟩ => ⟨S4x1x2048, .f32⟩
  | .hbm, ⟨7, _⟩ => ⟨S4x2048x11264, .bf16⟩
  | .hbm, ⟨8, _⟩ => ⟨S4x5632x2048, .bf16⟩
  | .hbm, ⟨9, _⟩ => ⟨S1x2048, .f32⟩
  | .hbm, ⟨10, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | .local _ .smem, ⟨0, _⟩ => ⟨S1, .i32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c11_i32 : BitVec 32 := 11#32
  let v1 : BitVec 32 := Scalar.addi arg1 c11_i32
  let c0_i32 : BitVec 32 := 0#32
  let c0_i32_0 : BitVec 32 := 0#32
  ![v0.toNat, c0_i32.toNat, v1.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S2x8192x2048 : Shape := ⟨3, ![2, 8192, 2048]⟩
abbrev S1 : Shape := ⟨1, ![1]⟩
abbrev S4x2048 : Shape := ⟨2, ![4, 2048]⟩
abbrev S4x2048x11264 : Shape := ⟨3, ![4, 2048, 11264]⟩
abbrev S4x5632x2048 : Shape := ⟨3, ![4, 5632, 2048]⟩
abbrev S2048 : Shape := ⟨1, ![2048]⟩
abbrev S_ : Shape := ⟨0, ![]⟩
abbrev S1x2048 : Shape := ⟨2, ![1, 2048]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S2x8192 : Shape := ⟨2, ![2, 8192]⟩
abbrev S2x8192x1 : Shape := ⟨3, ![2, 8192, 1]⟩
abbrev S1x1x2048 : Shape := ⟨3, ![1, 1, 2048]⟩
abbrev S2x8192x11264 : Shape := ⟨3, ![2, 8192, 11264]⟩
abbrev S2x8192x5632 : Shape := ⟨3, ![2, 8192, 5632]⟩
abbrev S16384x2048 : Shape := ⟨2, ![16384, 2048]⟩

abbrev nBuf : Space → Nat
  | .hbm => 87
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1, .i32⟩
  | .hbm, ⟨2, _⟩ => ⟨S4x2048, .f32⟩
  | .hbm, ⟨3, _⟩ => ⟨S4x2048x11264, .f32⟩
  | .hbm, ⟨4, _⟩ => ⟨S4x5632x2048, .f32⟩
  | .hbm, ⟨5, _⟩ => ⟨S2048, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S1x2048, .f32⟩
  | .hbm, ⟨14, _⟩ => ⟨S2048, .f32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1x2048x11264, .f32⟩
  | .hbm, ⟨24, _⟩ => ⟨S2048x11264, .f32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1x5632x2048, .f32⟩
  | .hbm, ⟨34, _⟩ => ⟨S5632x2048, .f32⟩
  | .hbm, ⟨35, _⟩ => ⟨S2x8192x2048, .f32⟩
  | .hbm, ⟨36, _⟩ => ⟨S_, .f32⟩
  | .hbm, ⟨37, _⟩ => ⟨S2x8192, .f32⟩
  | .hbm, ⟨38, _⟩ => ⟨S2x8192x1, .f32⟩
  | .hbm, ⟨39, _⟩ => ⟨S_, .f32⟩
  | .hbm, ⟨40, _⟩ => ⟨S2x8192x1, .f32⟩
  | .hbm, ⟨41, _⟩ => ⟨S2x8192x1, .f32⟩
  | .hbm, ⟨42, _⟩ => ⟨S_, .f32⟩
  | .hbm, ⟨43, _⟩ => ⟨S2x8192x1, .f32⟩
  | .hbm, ⟨44, _⟩ => ⟨S2x8192x1, .f32⟩
  | .hbm, ⟨45, _⟩ => ⟨S2x8192x1, .f32⟩
  | .hbm, ⟨46, _⟩ => ⟨S2x8192x2048, .f32⟩
  | .hbm, ⟨47, _⟩ => ⟨S2x8192x2048, .f32⟩
  | .hbm, ⟨48, _⟩ => ⟨S1x1x2048, .f32⟩
  | .hbm, ⟨49, _⟩ => ⟨S2x8192x2048, .f32⟩
  | .hbm, ⟨50, _⟩ => ⟨S2x8192x2048, .f32⟩
  | .hbm, ⟨51, _⟩ => ⟨S2x8192x11264, .f32⟩
  | .hbm, ⟨52, _⟩ => ⟨S2x8192x5632, .f32⟩
  | .hbm, ⟨53, _⟩ => ⟨S2x8192x5632, .f32⟩
  | .hbm, ⟨54, _⟩ => ⟨S2x8192x5632, .f32⟩
  | .hbm, ⟨55, _⟩ => ⟨S2x8192x5632, .f32⟩
  | .hbm, ⟨56, _⟩ => ⟨S_, .f32⟩
  | .hbm, ⟨57, _⟩ => ⟨S2x8192x5632, .f32⟩
  | .hbm, ⟨58, _⟩ => ⟨S2x8192x5632, .f32⟩
  | .hbm, ⟨59, _⟩ => ⟨S_, .f32⟩
  | .hbm, ⟨60, _⟩ => ⟨S2x8192x5632, .f32⟩
  | .hbm, ⟨61, _⟩ => ⟨S2x8192x5632, .f32⟩
  | .hbm, ⟨62, _⟩ => ⟨S2x8192x5632, .f32⟩
  | .hbm, ⟨63, _⟩ => ⟨S2x8192x5632, .f32⟩
  | .hbm, ⟨64, _⟩ => ⟨S2x8192x2048, .f32⟩
  | .hbm, ⟨65, _⟩ => ⟨S2x8192x2048, .f32⟩
  | .hbm, ⟨66, _⟩ => ⟨S_, .i32⟩
  | .hbm, ⟨67, _⟩ => ⟨S_, .i32⟩
  | .hbm, ⟨68, _⟩ => ⟨S_, .i1⟩
  | .hbm, ⟨69, _⟩ => ⟨S2x8192x2048, .f32⟩
  | .hbm, ⟨70, _⟩ => ⟨S_, .f32⟩
  | .hbm, ⟨71, _⟩ => ⟨S2x8192, .f32⟩
  | .hbm, ⟨72, _⟩ => ⟨S2x8192x1, .f32⟩
  | .hbm, ⟨73, _⟩ => ⟨S_, .f32⟩
  | .hbm, ⟨74, _⟩ => ⟨S2x8192x1, .f32⟩
  | .hbm, ⟨75, _⟩ => ⟨S2x8192x1, .f32⟩
  | .hbm, ⟨76, _⟩ => ⟨S_, .f32⟩
  | .hbm, ⟨77, _⟩ => ⟨S2x8192x1, .f32⟩
  | .hbm, ⟨78, _⟩ => ⟨S2x8192x1, .f32⟩
  | .hbm, ⟨79, _⟩ => ⟨S2x8192x1, .f32⟩
  | .hbm, ⟨80, _⟩ => ⟨S2x8192x2048, .f32⟩
  | .hbm, ⟨81, _⟩ => ⟨S2x8192x2048, .f32⟩
  | .hbm, ⟨82, _⟩ => ⟨S1x1x2048, .f32⟩
  | .hbm, ⟨83, _⟩ => ⟨S2x8192x2048, .f32⟩
  | .hbm, ⟨84, _⟩ => ⟨S2x8192x2048, .f32⟩
  | .hbm, ⟨85, _⟩ => ⟨S2x8192x2048, .f32⟩
  | .hbm, ⟨86, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_c_3 : Ref sig .tc := ⟨.hbm, 18, rfl⟩
abbrev main_v8 : Ref sig .tc := ⟨.hbm, 19, rfl⟩
abbrev main_v9 : Ref sig .tc := ⟨.hbm, 20, rfl⟩
abbrev main_c_4 : Ref sig .tc := ⟨.hbm, 21, rfl⟩
abbrev main_c_5 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_6 : Ref sig .tc := ⟨.hbm, 26, rfl⟩
abbrev main_v13 : Ref sig .tc := ⟨.hbm, 27, rfl⟩
abbrev main_c_7 : Ref sig .tc := ⟨.hbm, 28, rfl⟩
abbrev main_v14 : Ref sig .tc := ⟨.hbm, 29, rfl⟩
abbrev main_v15 : Ref sig .tc := ⟨.hbm, 30, rfl⟩
abbrev main_c_8 : Ref sig .tc := ⟨.hbm, 31, rfl⟩
abbrev main_c_9 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst : Ref sig .tc := ⟨.hbm, 36, rfl⟩
abbrev main_v19 : Ref sig .tc := ⟨.hbm, 37, rfl⟩
abbrev main_v20 : Ref sig .tc := ⟨.hbm, 38, rfl⟩
abbrev main_cst_10 : Ref sig .tc := ⟨.hbm, 39, rfl⟩
abbrev main_v21 : Ref sig .tc := ⟨.hbm, 40, rfl⟩
abbrev main_v22 : Ref sig .tc := ⟨.hbm, 41, rfl⟩
abbrev main_cst_11 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_12 : Ref sig .tc := ⟨.hbm, 67, rfl⟩
abbrev main_v39 : Ref sig .tc := ⟨.hbm, 68, rfl⟩
abbrev main_v40 : Ref sig .tc := ⟨.hbm, 69, rfl⟩
abbrev main_cst_13 : Ref sig .tc := ⟨.hbm, 70, rfl⟩
abbrev main_v41 : Ref sig .tc := ⟨.hbm, 71, rfl⟩
abbrev main_v42 : Ref sig .tc := ⟨.hbm, 72, rfl⟩
abbrev main_cst_14 : Ref sig .tc := ⟨.hbm, 73, rfl⟩
abbrev main_v43 : Ref sig .tc := ⟨.hbm, 74, rfl⟩
abbrev main_v44 : Ref sig .tc := ⟨.hbm, 75, rfl⟩
abbrev main_cst_15 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩

abbrev nD : Nat := 1
abbrev τ : Topo := Topo.v7x

variable {F : FTy → Type} [FloatOps F]
-- ==== InProj.lean ====
abbrev S2x8192x2048 : Shape := ⟨3, ![2, 8192, 2048]⟩
abbrev S1 : Shape := ⟨1, ![1]⟩
abbrev S4x2048 : Shape := ⟨2, ![4, 2048]⟩
abbrev S4x2048x7692 : Shape := ⟨3, ![4, 2048, 7692]⟩
abbrev S4x2048x3072 : Shape := ⟨3, ![4, 2048, 3072]⟩
abbrev S4x2048x4608 : Shape := ⟨3, ![4, 2048, 4608]⟩
abbrev S4x2048x7680 : Shape := ⟨3, ![4, 2048, 7680]⟩
abbrev S4x2048x12 : Shape := ⟨3, ![4, 2048, 12]⟩
abbrev S_ : Shape := ⟨0, ![]⟩
abbrev S4x2048x128 : Shape := ⟨3, ![4, 2048, 128]⟩
abbrev S16384x2048 : Shape := ⟨2, ![16384, 2048]⟩
abbrev S4x1x2048 : Shape := ⟨3, ![4, 1, 2048]⟩
abbrev S16384x7680 : Shape := ⟨2, ![16384, 7680]⟩
abbrev S16384x128 : Shape := ⟨2, ![16384, 128]⟩
abbrev S1024x2048 : Shape := ⟨2, ![1024, 2048]⟩
abbrev S1x1x2048 : Shape := ⟨3, ![1, 1, 2048]⟩
abbrev S1x2048x1536 : Shape := ⟨3, ![1, 2048, 1536]⟩
abbrev S1x2048x128 : Shape := ⟨3, ![1, 2048, 128]⟩
abbrev S1024x1536 : Shape := ⟨2, ![1024, 1536]⟩
abbrev S1024x128 : Shape := ⟨2, ![1024, 128]⟩
abbrev S1x2048 : Shape := ⟨2, ![1, 2048]⟩
abbrev S1024 : Shape := ⟨1, ![1024]⟩
abbrev S1024x1 : Shape := ⟨2, ![1024, 1]⟩
abbrev S2048x128 : Shape := ⟨2, ![2048, 128]⟩
abbrev S2048x1536 : Shape := ⟨2, ![2048, 1536]⟩

abbrev nBuf : Space → Nat
  | .hbm => 16
  | .vmem => 11
  | .smem => 1
  | _ => 0

abbrev bufTy : (tb : Table) → Fin (tcTables nBuf tb) → BufTy
  | .hbm, ⟨0, _⟩ => ⟨S2x8192x2048, .f32⟩
  | .hbm, ⟨1, _⟩ => ⟨S4x2048, .f32⟩
  | .hbm, ⟨2, _⟩ => ⟨S4x2048x7692, .f32⟩
  | .hbm, ⟨3, _⟩ => ⟨S4x2048x3072, .f32⟩
  | .hbm, ⟨4, _⟩ => ⟨S4x2048x4608, .f32⟩
  | .hbm, ⟨5, _⟩ => ⟨S4x2048x7680, .f32⟩
  | .hbm, ⟨6, _⟩ => ⟨S4x2048x7680, .bf16⟩
  | .hbm, ⟨7, _⟩ => ⟨S4x2048x12, .f32⟩
  | .hbm, ⟨8, _⟩ => ⟨S_, .i32⟩
  | .hbm, ⟨9, _⟩ => ⟨S_, .f32⟩
  | .hbm, ⟨10, _⟩ => ⟨S4x2048x128, .f32⟩
  | .hbm, ⟨11, _⟩ => ⟨S4x2048x128, .bf16⟩
  | .hbm, ⟨12, _⟩ => ⟨S16384x2048, .f32⟩
  | .hbm, ⟨13, _⟩ => ⟨S4x1x2048, .f32⟩
  | .hbm, ⟨14, _⟩ => ⟨S16384x7680, .f32⟩
  | .hbm, ⟨15, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x1536, .bf16⟩
  | .local _ .vmem, ⟨4, _⟩ => ⟨S1x2048x1536, .bf16⟩
  | .local _ .vmem, ⟨5, _⟩ => ⟨S1x2048x128, .bf16⟩
  | .local _ .vmem, ⟨6, _⟩ => ⟨S1024x1536, .f32⟩
  | .local _ .vmem, ⟨7, _⟩ => ⟨S1024x1536, .f32⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | .local _ .smem, ⟨0, _⟩ => ⟨S1, .i32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 5], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InProjRefIdeal.lean ====
abbrev S2x8192x2048 : Shape := ⟨3, ![2, 8192, 2048]⟩
abbrev S1 : Shape := ⟨1, ![1]⟩
abbrev S4x2048 : Shape := ⟨2, ![4, 2048]⟩
abbrev S4x2048x7692 : Shape := ⟨3, ![4, 2048, 7692]⟩
abbrev S_ : Shape := ⟨0, ![]⟩
abbrev S1x2048 : Shape := ⟨2, ![1, 2048]⟩
abbrev S2048 : Shape := ⟨1, ![2048]⟩
abbrev S1x2048x7692 : Shape := ⟨3, ![1, 2048, 7692]⟩
abbrev S2048x7692 : Shape := ⟨2, ![2048, 7692]⟩
abbrev S2x8192 : Shape := ⟨2, ![2, 8192]⟩
abbrev S2x8192x1 : Shape := ⟨3, ![2, 8192, 1]⟩
abbrev S1x1x2048 : Shape := ⟨3, ![1, 1, 2048]⟩
abbrev S2x8192x7692 : Shape := ⟨3, ![2, 8192, 7692]⟩
abbrev S2x8192x3072 : Shape := ⟨3, ![2, 8192, 3072]⟩
abbrev S2x8192x12 : Shape := ⟨3, ![2, 8192, 12]⟩
abbrev S2x8192x4608 : Shape := ⟨3, ![2, 8192, 4608]⟩
abbrev S2x8192x7680 : Shape := ⟨3, ![2, 8192, 7680]⟩
abbrev S2x8192x128 : Shape := ⟨3, ![2, 8192, 128]⟩
abbrev S16384x7680 : Shape := ⟨2, ![16384, 7680]⟩
abbrev S16384x128 : Shape := ⟨2, ![16384, 128]⟩

abbrev nBuf : Space → Nat
  | .hbm => 48
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1, .i32⟩
  | .hbm, ⟨2, _⟩ => ⟨S4x2048, .f32⟩
  | .hbm, ⟨3, _⟩ => ⟨S4x2048x7692, .f32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1x2048, .f32⟩
  | .hbm, ⟨12, _⟩ => ⟨S2048, .f32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1x2048x7692, .f32⟩
  | .hbm, ⟨22, _⟩ => ⟨S2048x7692, .f32⟩
  | .hbm, ⟨23, _⟩ => ⟨S2x8192x2048, .f32⟩
  | .hbm, ⟨24, _⟩ => ⟨S_, .f32⟩
  | .hbm, ⟨25, _⟩ => ⟨S2x8192, .f32⟩
  | .hbm, ⟨26, _⟩ => ⟨S2x8192x1, .f32⟩
  | .hbm, ⟨27, _⟩ => ⟨S_, .f32⟩
  | .hbm, ⟨28, _⟩ => ⟨S2x8192x1, .f32⟩
  | .hbm, ⟨29, _⟩ => ⟨S2x8192x1, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S2x8192x1, .f32⟩
  | .hbm, ⟨34, _⟩ => ⟨S2x8192x2048, .f32⟩
  | .hbm, ⟨35, _⟩ => ⟨S2x8192x2048, .f32⟩
  | .hbm, ⟨36, _⟩ => ⟨S1x1x2048, .f32⟩
  | .hbm, ⟨37, _⟩ => ⟨S2x8192x2048, .f32⟩
  | .hbm, ⟨38, _⟩ => ⟨S2x8192x2048, .f32⟩
  | .hbm, ⟨39, _⟩ => ⟨S2x8192x7692, .f32⟩
  | .hbm, ⟨40, _⟩ => ⟨S2x8192x3072, .f32⟩
  | .hbm, ⟨41, _⟩ => ⟨S2x8192x12, .f32⟩
  | .hbm, ⟨42, _⟩ => ⟨S2x8192x4608, .f32⟩
  | .hbm, ⟨43, _⟩ => ⟨S2x8192x7680, .f32⟩
  | .hbm, ⟨44, _⟩ => ⟨S_, .f32⟩
  | .hbm, ⟨45, _⟩ => ⟨S2x8192x128, .f32⟩
  | .hbm, ⟨46, _⟩ => ⟨S16384x7680, .f32⟩
  | .hbm, ⟨47, _⟩ => ⟨S16384x128, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_c_5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_6 : Ref sig .tc := ⟨.hbm, 27, rfl⟩
abbrev main_v15 : Ref sig .tc := ⟨.hbm, 28, rfl⟩
abbrev main_v16 : Ref sig .tc := ⟨.hbm, 29, rfl⟩
abbrev main_cst_7 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]
-- ==== MemKv.lean ====
abbrev S2x256x2048 : Shape := ⟨3, ![2, 256, 2048]⟩
abbrev S4x2048 : Shape := ⟨2, ![4, 2048]⟩
abbrev S4x2048x512 : Shape := ⟨3, ![4, 2048, 512]⟩
abbrev S4x128 : Shape := ⟨2, ![4, 128]⟩
abbrev S4x1x2048 : Shape := ⟨3, ![4, 1, 2048]⟩
abbrev S4x1x128 : Shape := ⟨3, ![4, 1, 128]⟩
abbrev S8x256x512 : Shape := ⟨3, ![8, 256, 512]⟩
abbrev S1x256x2048 : Shape := ⟨3, ![1, 256, 2048]⟩
abbrev S1x1x2048 : Shape := ⟨3, ![1, 1, 2048]⟩
abbrev S1x2048x512 : Shape := ⟨3, ![1, 2048, 512]⟩
abbrev S1x1x128 : Shape := ⟨3, ![1, 1, 128]⟩
abbrev S1x256x512 : Shape := ⟨3, ![1, 256, 512]⟩
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S256x128 : Shape := ⟨2, ![256, 128]⟩
abbrev S1x128 : Shape := ⟨2, ![1, 128]⟩
abbrev S1x256x128 : Shape := ⟨3, ![1, 256, 128]⟩

abbrev nBuf : Space → Nat
  | .hbm => 11
  | .vmem => 14
  | .smem => 0
  | _ => 0

abbrev bufTy : (tb : Table) → Fin (tcTables nBuf tb) → BufTy
  | .hbm, ⟨0, _⟩ => ⟨S2x256x2048, .f32⟩
  | .hbm, ⟨1, _⟩ => ⟨S4x2048, .f32⟩
  | .hbm, ⟨2, _⟩ => ⟨S4x2048x512, .f32⟩
  | .hbm, ⟨3, _⟩ => ⟨S4x2048x512, .f32⟩
  | .hbm, ⟨4, _⟩ => ⟨S4x128, .f32⟩
  | .hbm, ⟨5, _⟩ => ⟨S4x1x2048, .f32⟩
  | .hbm, ⟨6, _⟩ => ⟨S4x2048x512, .bf16⟩
  | .hbm, ⟨7, _⟩ => ⟨S4x2048x512, .bf16⟩
  | .hbm, ⟨8, _⟩ => ⟨S4x1x128, .f32⟩
  | .hbm, ⟨9, _⟩ => ⟨S8x256x512, .f32⟩
  | .hbm, ⟨10, _⟩ => ⟨S8x256x512, .f32⟩
  | .local _ .vmem, ⟨0, _⟩ => ⟨S1x256x2048, .f32⟩
  | .local _ .vmem, ⟨1, _⟩ => ⟨S1x256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x1x128, .f32⟩
  | .local _ .vmem, ⟨9, _⟩ => ⟨S1x1x128, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MemKvRefIdeal.lean ====
abbrev S2x256x2048 : Shape := ⟨3, ![2, 256, 2048]⟩
abbrev S4x2048 : Shape := ⟨2, ![4, 2048]⟩
abbrev S4x2048x512 : Shape := ⟨3, ![4, 2048, 512]⟩
abbrev S4x128 : Shape := ⟨2, ![4, 128]⟩
abbrev S_ : Shape := ⟨0, ![]⟩
abbrev S2x256 : Shape := ⟨2, ![2, 256]⟩
abbrev S2x256x1 : Shape := ⟨3, ![2, 256, 1]⟩
abbrev S4x1x1x2048 : Shape := ⟨4, ![4, 1, 1, 2048]⟩
abbrev S1x2x256x2048 : Shape := ⟨4, ![1, 2, 256, 2048]⟩
abbrev S4x2x256x2048 : Shape := ⟨4, ![4, 2, 256, 2048]⟩
abbrev S4x2x256x512 : Shape := ⟨4, ![4, 2, 256, 512]⟩
abbrev S4x2x256x4x128 : Shape := ⟨5, ![4, 2, 256, 4, 128]⟩
abbrev S4x2x256x4 : Shape := ⟨4, ![4, 2, 256, 4]⟩
abbrev S4x2x256x4x1 : Shape := ⟨5, ![4, 2, 256, 4, 1]⟩
abbrev S4x1x1x1x128 : Shape := ⟨5, ![4, 1, 1, 1, 128]⟩
abbrev S8x256x512 : Shape := ⟨3, ![8, 256, 512]⟩

abbrev nBuf : Space → Nat
  | .hbm => 45
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S4x2048, .f32⟩
  | .hbm, ⟨2, _⟩ => ⟨S4x2048x512, .f32⟩
  | .hbm, ⟨3, _⟩ => ⟨S4x2048x512, .f32⟩
  | .hbm, ⟨4, _⟩ => ⟨S4x128, .f32⟩
  | .hbm, ⟨5, _⟩ => ⟨S2x256x2048, .f32⟩
  | .hbm, ⟨6, _⟩ => ⟨S_, .f32⟩
  | .hbm, ⟨7, _⟩ => ⟨S2x256, .f32⟩
  | .hbm, ⟨8, _⟩ => ⟨S2x256x1, .f32⟩
  | .hbm, ⟨9, _⟩ => ⟨S_, .f32⟩
  | .hbm, ⟨10, _⟩ => ⟨S2x256x1, .f32⟩
  | .hbm, ⟨11, _⟩ => ⟨S2x256x1, .f32⟩
  | .hbm, ⟨12, _⟩ => ⟨S_, .f32⟩
  | .hbm, ⟨13, _⟩ => ⟨S2x256x1, .f32⟩
  | .hbm, ⟨14, _⟩ => ⟨S2x256x1, .f32⟩
  | .hbm, ⟨15, _⟩ => ⟨S2x256x1, .f32⟩
  | .hbm, ⟨16, _⟩ => ⟨S2x256x2048, .f32⟩
  | .hbm, ⟨17, _⟩ => ⟨S2x256x2048, .f32⟩
  | .hbm, ⟨18, _⟩ => ⟨S4x1x1x2048, .f32⟩
  | .hbm, ⟨19, _⟩ => ⟨S1x2x256x2048, .f32⟩
  | .hbm, ⟨20, _⟩ => ⟨S4x2x256x2048, .f32⟩
  | .hbm, ⟨21, _⟩ => ⟨S4x2x256x2048, .f32⟩
  | .hbm, ⟨22, _⟩ => ⟨S4x2x256x2048, .f32⟩
  | .hbm, ⟨23, _⟩ => ⟨S4x2x256x512, .f32⟩
  | .hbm, ⟨24, _⟩ => ⟨S4x2x256x4x128, .f32⟩
  | .hbm, ⟨25, _⟩ => ⟨S4x2x256x4x128, .f32⟩
  | .hbm, ⟨26, _⟩ => ⟨S_, .f32⟩
  | .hbm, ⟨27, _⟩ => ⟨S4x2x256x4, .f32⟩
  | .hbm, ⟨28, _⟩ => ⟨S4x2x256x4x1, .f32⟩
  | .hbm, ⟨29, _⟩ => ⟨S_, .f32⟩
  | .hbm, ⟨30, _⟩ => ⟨S4x2x256x4x1, .f32⟩
  | .hbm, ⟨31, _⟩ => ⟨S4x2x256x4x1, .f32⟩
  | .hbm, ⟨32, _⟩ => ⟨S_, .f32⟩
  | .hbm, ⟨33, _⟩ => ⟨S4x2x256x4x1, .f32⟩
  | .hbm, ⟨34, _⟩ => ⟨S4x2x256x4x1, .f32⟩
  | .hbm, ⟨35, _⟩ => ⟨S4x2x256x4x1, .f32⟩
  | .hbm, ⟨36, _⟩ => ⟨S4x2x256x4x128, .f32⟩
  | .hbm, ⟨37, _⟩ => ⟨S4x2x256x4x128, .f32⟩
  | .hbm, ⟨38, _⟩ => ⟨S4x1x1x1x128, .f32⟩
  | .hbm, ⟨39, _⟩ => ⟨S4x2x256x4x128, .f32⟩
  | .hbm, ⟨40, _⟩ => ⟨S4x2x256x4x128, .f32⟩
  | .hbm, ⟨41, _⟩ => ⟨S4x2x256x512, .f32⟩
  | .hbm, ⟨42, _⟩ => ⟨S4x2x256x4x128, .f32⟩
  | .hbm, ⟨43, _⟩ => ⟨S8x256x512, .f32⟩
  | .hbm, ⟨44, _⟩ => ⟨S8x256x512, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Post.lean ====
abbrev S2x8192x2048 : Shape := ⟨3, ![2, 8192, 2048]⟩
abbrev S1 : Shape := ⟨1, ![1]⟩
abbrev S4x2048x2048 : Shape := ⟨3, ![4, 2048, 2048]⟩
abbrev S4x2048 : Shape := ⟨2, ![4, 2048]⟩
abbrev S4x2048x512 : Shape := ⟨3, ![4, 2048, 512]⟩
abbrev S4x128 : Shape := ⟨2, ![4, 128]⟩
abbrev S4x2x256x4x128 : Shape := ⟨5, ![4, 2, 256, 4, 128]⟩
abbrev S4x512x2048 : Shape := ⟨3, ![4, 512, 2048]⟩
abbrev S16384x2048 : Shape := ⟨2, ![16384, 2048]⟩
abbrev S16384x768 : Shape := ⟨2, ![16384, 768]⟩
abbrev S16384x512 : Shape := ⟨2, ![16384, 512]⟩
abbrev S4x1x2048 : Shape := ⟨3, ![4, 1, 2048]⟩
abbrev S4x1x128 : Shape := ⟨3, ![4, 1, 128]⟩
abbrev S8x256x512 : Shape := ⟨3, ![8, 256, 512]⟩
abbrev S512x2048 : Shape := ⟨2, ![512, 2048]⟩
abbrev S512x768 : Shape := ⟨2, ![512, 768]⟩
abbrev S512x512 : Shape := ⟨2, ![512, 512]⟩
abbrev S1x2048x2048 : Shape := ⟨3, ![1, 2048, 2048]⟩
abbrev S1x1x2048 : Shape := ⟨3, ![1, 1, 2048]⟩
abbrev S1x2048x512 : Shape := ⟨3, ![1, 2048, 512]⟩
abbrev S1x1x128 : Shape := ⟨3, ![1, 1, 128]⟩
abbrev S1x256x512 : Shape := ⟨3, ![1, 256, 512]⟩
abbrev S1x512x2048 : Shape := ⟨3, ![1, 512, 2048]⟩
abbrev S1x768x2048 : Shape := ⟨3, ![1, 768, 2048]⟩
abbrev S768x2048 : Shape := ⟨2, ![768, 2048]⟩
abbrev S1x2048 : Shape := ⟨2, ![1, 2048]⟩
abbrev S512 : Shape := ⟨1, ![512]⟩
abbrev S512x1 : Shape := ⟨2, ![512, 1]⟩
abbrev S2048x512 : Shape := ⟨2, ![2048, 512]⟩
abbrev S512x128 : Shape := ⟨2, ![512, 128]⟩
abbrev S1x128 : Shape := ⟨2, ![1, 128]⟩
abbrev S1x256x128 : Shape := ⟨3, ![1, 256, 128]⟩
abbrev S256x128 : Shape := ⟨2, ![256, 128]⟩
abbrev S512x256 : Shape := ⟨2, ![512, 256]⟩

abbrev nBuf : Space → Nat
  | .hbm => 23
  | .vmem => 19
  | .smem => 1
  | _ => 0

abbrev bufTy : (tb : Table) → Fin (tcTables nBuf tb) → BufTy
  | .hbm, ⟨0, _⟩ => ⟨S2x8192x2048, .f32⟩
  | .hbm, ⟨1, _⟩ => ⟨S2x8192x2048, .f32⟩
  | .hbm, ⟨2, _⟩ => ⟨S4x2048x2048, .f32⟩
  | .hbm, ⟨3, _⟩ => ⟨S4x2048, .f32⟩
  | .hbm, ⟨4, _⟩ => ⟨S4x2048x512, .f32⟩
  | .hbm, ⟨5, _⟩ => ⟨S4x128, .f32⟩
  | .hbm, ⟨6, _⟩ => ⟨S4x2x256x4x128, .f32⟩
  | .hbm, ⟨7, _⟩ => ⟨S4x2x256x4x128, .f32⟩
  | .hbm, ⟨8, _⟩ => ⟨S4x512x2048, .f32⟩
  | .hbm, ⟨9, _⟩ => ⟨S16384x2048, .f32⟩
  | .hbm, ⟨10, _⟩ => ⟨S16384x2048, .bf16⟩
  | .hbm, ⟨11, _⟩ => ⟨S16384x2048, .f32⟩
  | .hbm, ⟨12, _⟩ => ⟨S16384x768, .bf16⟩
  | .hbm, ⟨13, _⟩ => ⟨S16384x512, .bf16⟩
  | .hbm, ⟨14, _⟩ => ⟨S16384x768, .bf16⟩
  | .hbm, ⟨15, _⟩ => ⟨S4x2048x2048, .bf16⟩
  | .hbm, ⟨16, _⟩ => ⟨S4x1x2048, .f32⟩
  | .hbm, ⟨17, _⟩ => ⟨S4x2048x512, .bf16⟩
  | .hbm, ⟨18, _⟩ => ⟨S4x1x128, .f32⟩
  | .hbm, ⟨19, _⟩ => ⟨S8x256x512, .f32⟩
  | .hbm, ⟨20, _⟩ => ⟨S8x256x512, .f32⟩
  | .hbm, ⟨21, _⟩ => ⟨S4x512x2048, .bf16⟩
  | .hbm, ⟨22, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x768, .bf16⟩
  | .local _ .vmem, ⟨3, _⟩ => ⟨S512x768, .bf16⟩
  | .local _ .vmem, ⟨4, _⟩ => ⟨S512x512, .bf16⟩
  | .local _ .vmem, ⟨5, _⟩ => ⟨S512x512, .bf16⟩
  | .local _ .vmem, ⟨6, _⟩ => ⟨S512x768, .bf16⟩
  | .local _ .vmem, ⟨7, _⟩ => ⟨S512x768, .bf16⟩
  | .local _ .vmem, ⟨8, _⟩ => ⟨S1x2048x2048, .bf16⟩
  | .local _ .vmem, ⟨9, _⟩ => ⟨S1x1x2048, .f32⟩
  | .local _ .vmem, ⟨10, _⟩ => ⟨S1x2048x512, .bf16⟩
  | .local _ .vmem, ⟨11, _⟩ => ⟨S1x1x128, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x512x2048, .bf16⟩
  | .local _ .vmem, ⟨17, _⟩ => ⟨S512x2048, .f32⟩
  | .local _ .vmem, ⟨18, _⟩ => ⟨S512x2048, .f32⟩
  | .local _ .smem, ⟨0, _⟩ => ⟨S1, .i32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_8 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let c16_i32 : BitVec 32 := 16#32
  let v2 : BitVec 32 := Scalar.divsi arg0 c16_i32
  let c0_i32 : BitVec 32 := 0#32
  let v3 : BitVec 1 := Scalar.cmpi .sgt arg0 c0_i32
  let v4 : BitVec 32 := Scalar.extui v3
  let c0_i32_0 : BitVec 32 := 0#32
  let v5 : BitVec 1 := Scalar.cmpi .slt arg0 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi arg0 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.addi v1 v18
  let c0_i32_4 : BitVec 32 := 0#32
  let c0_i32_5 : BitVec 32 := 0#32
  let c0_i32_6 : BitVec 32 := 0#32
  ![v19.toNat, c0_i32_4.toNat, c0_i32_5.toNat]

def cc0_transform_9 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let c16_i32 : BitVec 32 := 16#32
  let v2 : BitVec 32 := Scalar.divsi arg0 c16_i32
  let c0_i32 : BitVec 32 := 0#32
  let v3 : BitVec 1 := Scalar.cmpi .sgt arg0 c0_i32
  let v4 : BitVec 32 := Scalar.extui v3
  let c0_i32_0 : BitVec 32 := 0#32
  let v5 : BitVec 1 := Scalar.cmpi .slt arg0 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi arg0 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.addi v1 v18
  let c0_i32_4 : BitVec 32 := 0#32
  let c0_i32_5 : BitVec 32 := 0#32
  let c0_i32_6 : BitVec 32 := 0#32
  ![v19.toNat, c0_i32_4.toNat, c0_i32_5.toNat]

def cc0_transform_10 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== PostRefIdeal.lean ====
abbrev S2x8192x2048 : Shape := ⟨3, ![2, 8192, 2048]⟩
abbrev S1 : Shape := ⟨1, ![1]⟩
abbrev S4x2048x2048 : Shape := ⟨3, ![4, 2048, 2048]⟩
abbrev S4x2048 : Shape := ⟨2, ![4, 2048]⟩
abbrev S4x2048x512 : Shape := ⟨3, ![4, 2048, 512]⟩
abbrev S4x128 : Shape := ⟨2, ![4, 128]⟩
abbrev S4x2x256x4x128 : Shape := ⟨5, ![4, 2, 256, 4, 128]⟩
abbrev S4x512x2048 : Shape := ⟨3, ![4, 512, 2048]⟩
abbrev S_ : Shape := ⟨0, ![]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S2x8192 : Shape := ⟨2, ![2, 8192]⟩
abbrev S2x8192x1 : Shape := ⟨3, ![2, 8192, 1]⟩
abbrev S1x1x2048 : Shape := ⟨3, ![1, 1, 2048]⟩
abbrev S1x2x256x4x128 : Shape := ⟨5, ![1, 2, 256, 4, 128]⟩
abbrev S2x256x4x128 : Shape := ⟨4, ![2, 256, 4, 128]⟩
abbrev S1x2048x512 : Shape := ⟨3, ![1, 2048, 512]⟩
abbrev S2048x512 : Shape := ⟨2, ![2048, 512]⟩
abbrev S1x128 : Shape := ⟨2, ![1, 128]⟩
abbrev S128 : Shape := ⟨1, ![128]⟩
abbrev S1x512x2048 : Shape := ⟨3, ![1, 512, 2048]⟩
abbrev S512x2048 : Shape := ⟨2, ![512, 2048]⟩
abbrev S2x8192x512 : Shape := ⟨3, ![2, 8192, 512]⟩
abbrev S2x8192x4x128 : Shape := ⟨4, ![2, 8192, 4, 128]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩
abbrev S16384x2048 : Shape := ⟨2, ![16384, 2048]⟩

abbrev nBuf : Space → Nat
  | .hbm => 142
  | .vmem => 0
  | .smem => 0
  | _ => 0

abbrev hbmTy0_0 (i : Nat) : BufTy := match i % 128 with
  | 0 => ⟨S2x8192x2048, .f32⟩
  | 1 => ⟨S2x8192x2048, .f32⟩
  | 2 => ⟨S1, .i32⟩
  | 3 => ⟨S4x2048x2048, .f32⟩
  | 4 => ⟨S4x2048, .f32⟩
  | 5 => ⟨S4x2048x512, .f32⟩
  | 6 => ⟨S4x128, .f32⟩
  | 7 => ⟨S4x2x256x4x128, .f32⟩
  | 8 => ⟨S4x2x256x4x128, .f32⟩
  | 9 => ⟨S4x512x2048, .f32⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i32⟩
  | 18 => ⟨S1x2048x2048, .f32⟩
  | 19 => ⟨S2048x2048, .f32⟩
  | 20 => ⟨S2x8192x2048, .f32⟩
  | 21 => ⟨S2x8192x2048, .f32⟩
  | 22 => ⟨S_, .i32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S1x2048, .f32⟩
  | 30 => ⟨S2048, .f32⟩
  | 31 => ⟨S2x8192x2048, .f32⟩
  | 32 => ⟨S_, .f32⟩
  | 33 => ⟨S2x8192, .f32⟩
  | 34 => ⟨S2x8192x1, .f32⟩
  | 35 => ⟨S_, .f32⟩
  | 36 => ⟨S2x8192x1, .f32⟩
  | 37 => ⟨S2x8192x1, .f32⟩
  | 38 => ⟨S_, .f32⟩
  | 39 => ⟨S2x8192x1, .f32⟩
  | 40 => ⟨S2x8192x1, .f32⟩
  | 41 => ⟨S2x8192x1, .f32⟩
  | 42 => ⟨S2x8192x2048, .f32⟩
  | 43 => ⟨S2x8192x2048, .f32⟩
  | 44 => ⟨S1x1x2048, .f32⟩
  | 45 => ⟨S2x8192x2048, .f32⟩
  | 46 => ⟨S2x8192x2048, .f32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S1x2x256x4x128, .f32⟩
  | 58 => ⟨S2x256x4x128, .f32⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S1x2x256x4x128, .f32⟩
  | 70 => ⟨S2x256x4x128, .f32⟩
  | 71 => ⟨S_, .i32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i32⟩
  | 79 => ⟨S1x2048x512, .f32⟩
  | 80 => ⟨S2048x512, .f32⟩
  | 81 => ⟨S_, .i32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S1x128, .f32⟩
  | 89 => ⟨S128, .f32⟩
  | 90 => ⟨S_, .i32⟩
  | 91 => ⟨S_, .i32⟩
  | 92 => ⟨S_, .i1⟩
  | 93 => ⟨S_, .i32⟩
  | 94 => ⟨S_, .i32⟩
  | 95 => ⟨S_, .i32⟩
  | 96 => ⟨S_, .i32⟩
  | 97 => ⟨S_, .i32⟩
  | 98 => ⟨S1x512x2048, .f32⟩
  | 99 => ⟨S512x2048, .f32⟩
  | 100 => ⟨S2x8192x512, .f32⟩
  | 101 => ⟨S2x8192x4x128, .f32⟩
  | 102 => ⟨S2x8192x4x128, .f32⟩
  | 103 => ⟨S_, .f32⟩
  | 104 => ⟨S2x8192x4, .f32⟩
  | 105 => ⟨S2x8192x4x1, .f32⟩
  | 106 => ⟨S_, .f32⟩
  | 107 => ⟨S2x8192x4x1, .f32⟩
  | 108 => ⟨S2x8192x4x1, .f32⟩
  | 109 => ⟨S_, .f32⟩
  | 110 => ⟨S2x8192x4x1, .f32⟩
  | 111 => ⟨S2x8192x4x1, .f32⟩
  | 112 => ⟨S2x8192x4x1, .f32⟩
  | 113 => ⟨S2x8192x4x128, .f32⟩
  | 114 => ⟨S2x8192x4x128, .f32⟩
  | 115 => ⟨S1x1x1x128, .f32⟩
  | 116 => ⟨S2x8192x4x128, .f32⟩
  | 117 => ⟨S2x8192x4x128, .f32⟩
  | 118 => ⟨S2x4x8192x256, .f32⟩
  | 119 => ⟨S_, .f32⟩
  | 120 => ⟨S2x4x8192x256, .f32⟩
  | 121 => ⟨S2x4x8192x256, .f32⟩
  | 122 => ⟨S_, .f32⟩
  | 123 => ⟨S2x4x8192, .f32⟩
  | 124 => ⟨S_, .f32⟩
  | 125 => ⟨S2x4x8192, .f32⟩
  | 126 => ⟨S2x4x8192, .f32⟩
  | 127 => ⟨S2x4x8192x1, .f32⟩
  | _ => ⟨S2x8192x2048, .f32⟩

abbrev hbmTy0_1 (i : Nat) : BufTy := match i % 128 with
  | 0 => ⟨S2x4x8192x256, .f32⟩
  | 1 => ⟨S2x4x8192x256, .f32⟩
  | 2 => ⟨S2x4x8192x256, .f32⟩
  | 3 => ⟨S_, .f32⟩
  | 4 => ⟨S2x4x8192, .f32⟩
  | 5 => ⟨S2x4x8192x1, .f32⟩
  | 6 => ⟨S2x4x8192x256, .f32⟩
  | 7 => ⟨S2x4x8192x256, .f32⟩
  | 8 => ⟨S2x4x128x8192, .f32⟩
  | 9 => ⟨S2x8192x4x128, .f32⟩
  | 10 => ⟨S2x8192x512, .f32⟩
  | 11 => ⟨S2x8192x2048, .f32⟩
  | 12 => ⟨S2x8192x2048, .f32⟩
  | 13 => ⟨S16384x2048, .f32⟩
  | _ => ⟨S2x8192x2048, .f32⟩

abbrev hbmTy (i : Nat) : BufTy := match i / 128 with
  | 0 => hbmTy0_0 i
  | 1 => hbmTy0_1 i
  | _ => ⟨S2x8192x2048, .f32⟩

abbrev bufTy : (tb : Table) → Fin (tcTables nBuf tb) → BufTy
  | .hbm, ⟨i, _⟩ => hbmTy i
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_c_1 : Ref sig .tc := ⟨.hbm, 16, rfl⟩
abbrev main_c_2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_3 : Ref sig .tc := ⟨.hbm, 23, rfl⟩
abbrev main_v9 : Ref sig .tc := ⟨.hbm, 24, rfl⟩
abbrev main_c_4 : Ref sig .tc := ⟨.hbm, 25, rfl⟩
abbrev main_v10 : Ref sig .tc := ⟨.hbm, 26, rfl⟩
abbrev main_v11 : Ref sig .tc := ⟨.hbm, 27, rfl⟩
abbrev main_c_5 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_cst_6 : Ref sig .tc := ⟨.hbm, 35, rfl⟩
abbrev main_v17 : Ref sig .tc := ⟨.hbm, 36, rfl⟩
abbrev main_v18 : Ref sig .tc := ⟨.hbm, 37, rfl⟩
abbrev main_cst_7 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_8 : Ref sig .tc := ⟨.hbm, 48, rfl⟩
abbrev main_v28 : Ref sig .tc := ⟨.hbm, 49, rfl⟩
abbrev main_c_9 : Ref sig .tc := ⟨.hbm, 50, rfl⟩
abbrev main_v29 : Ref sig .tc := ⟨.hbm, 51, rfl⟩
abbrev main_v30 : Ref sig .tc := ⟨.hbm, 52, rfl⟩
abbrev main_c_10 : Ref sig .tc := ⟨.hbm, 53, rfl⟩
abbrev main_c_11 : Ref sig .tc := ⟨.hbm, 54, rfl⟩
abbrev main_c_12 : Ref sig .tc := ⟨.hbm, 55, rfl⟩
abbrev main_c_13 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_14 : Ref sig .tc := ⟨.hbm, 60, rfl⟩
abbrev main_v34 : Ref sig .tc := ⟨.hbm, 61, rfl⟩
abbrev main_c_15 : Ref sig .tc := ⟨.hbm, 62, rfl⟩
abbrev main_v35 : Ref sig .tc := ⟨.hbm, 63, rfl⟩
abbrev main_v36 : Ref sig .tc := ⟨.hbm, 64, rfl⟩
abbrev main_c_16 : Ref sig .tc := ⟨.hbm, 65, rfl⟩
abbrev main_c_17 : Ref sig .tc := ⟨.hbm, 66, rfl⟩
abbrev main_c_18 : Ref sig .tc := ⟨.hbm, 67, rfl⟩
abbrev main_c_19 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_c_20 : Ref sig .tc := ⟨.hbm, 72, rfl⟩
abbrev main_v40 : Ref sig .tc := ⟨.hbm, 73, rfl⟩
abbrev main_c_21 : Ref sig .tc := ⟨.hbm, 74, rfl⟩
abbrev main_v41 : Ref sig .tc := ⟨.hbm, 75, rfl⟩
abbrev main_v42 : Ref sig .tc := ⟨.hbm, 76, rfl⟩
abbrev main_c_22 : Ref sig .tc := ⟨.hbm, 77, rfl⟩
abbrev main_c_23 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_c_24 : Ref sig .tc := ⟨.hbm, 82, rfl⟩
abbrev main_v46 : Ref sig .tc := ⟨.hbm, 83, rfl⟩
abbrev main_c_25 : Ref sig .tc := ⟨.hbm, 84, rfl⟩
abbrev main_v47 : Ref sig .tc := ⟨.hbm, 85, rfl⟩
abbrev main_v48 : Ref sig .tc := ⟨.hbm, 86, rfl⟩
abbrev main_c_26 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_c_27 : Ref sig .tc := ⟨.hbm, 91, rfl⟩
abbrev main_v52 : Ref sig .tc := ⟨.hbm, 92, rfl⟩
abbrev main_c_28 : Ref sig .tc := ⟨.hbm, 93, rfl⟩
abbrev main_v53 : Ref sig .tc := ⟨.hbm, 94, rfl⟩
abbrev main_v54 : Ref sig .tc := ⟨.hbm, 95, rfl⟩
abbrev main_c_29 : Ref sig .tc := ⟨.hbm, 96, rfl⟩
abbrev main_c_30 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_cst_31 : Ref sig .tc := ⟨.hbm, 103, rfl⟩
abbrev main_v60 : Ref sig .tc := ⟨.hbm, 104, rfl⟩
abbrev main_v61 : Ref sig .tc := ⟨.hbm, 105, rfl⟩
abbrev main_cst_32 : Ref sig .tc := ⟨.hbm, 106, rfl⟩
abbrev main_v62 : Ref sig .tc := ⟨.hbm, 107, rfl⟩
abbrev main_v63 : Ref sig .tc := ⟨.hbm, 108, rfl⟩
abbrev main_cst_33 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_cst_34 : Ref sig .tc := ⟨.hbm, 119, rfl⟩
abbrev main_v73 : Ref sig .tc := ⟨.hbm, 120, rfl⟩
abbrev main_v74 : Ref sig .tc := ⟨.hbm, 121, rfl⟩
abbrev main_cst_35 : Ref sig .tc := ⟨.hbm, 122, rfl⟩
abbrev main_v75 : Ref sig .tc := ⟨.hbm, 123, rfl⟩
abbrev main_cst_36 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_cst_37 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩

abbrev nD : Nat := 1
abbrev τ : Topo := Topo.v7x

variable {F : FTy → Type} [FloatOps F]
-- ==== Proof.FlashLoop.lean ====
module
public import proofs.«01_k».proof.Proof.Gen.KernelIdeal.Frame.Runs
public import proofs.«01_k».proof.Proof.Gen.KernelIdeal.Points
public import Idealize.ShloMosaic.Lib.Pipeline.Value
public import Idealize.ShloMosaic.Lib.Pointwise
public import Idealize.ShloMosaic.Lib.VecWindow
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F] [Named F]

/-- Reading, through its whole buffer, an array whose newest write covers it all gives that write's contents. -/
theorem read_whole {κ : Kind} {sp : Space} {S : Shape} {e : EltTy} (v : View sig κ sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩)]
  exact View.canon_cons_unit_zero hz inb w L

theorem hz2 : (![0, 0] : Fin 2 → Nat) = fun _ => 0 := by ext x; fin_cases x <;> rfl

/-- Block `n` of 512 keys with their position columns. -/
def kblk (K : Vec F S8192x256 .bf16) (n : ℕ) : Vec F S512x256 .bf16 :=
  fun x => K (ix2 ⟨(512 * n + (x 0).val) % 8192, Nat.mod_lt _ (by norm_num)⟩ (x 1))

/-- Block `n` of 512 values, laid out with the positions along the lanes. -/
def vblk (V : Vec F S1x16x128x512 .bf16) (n : ℕ) : Vec F S1x1x128x512 .bf16 :=
  fun x => V (ix4 0 ⟨n % 16, Nat.mod_lt _ (by norm_num)⟩ (x 2) (x 3))

theorem ld_kblk (K : Vec F S8192x256 .bf16) (n : ℕ) (hn : n < 16) (off : Fin 2 → Nat) (ho : off = ![512 * n, 0])
    (inb : ∀ a, off a + S512x256.size a ≤ S8192x256.size a) :
    View.ld K (Rect.unit (s := S8192x256) off S512x256.size inb) = kblk K n := by
  subst ho
  funext x
  unfold kblk
  refine congrArg K (funext fun a => Fin.ext ?_)
  have h0 : (x 0).val < 512 := (x 0).isLt
  match a with
  | ⟨0, _⟩ =>
    show 512 * n + 1 * (x 0).val = (512 * n + (x 0).val) % 8192
    rw [Nat.mod_eq_of_lt (by omega)]; omega
  | ⟨1, _⟩ =>
    show 0 + 1 * (x 1).val = (x 1).val
    omega

theorem ld_vblk (V : Vec F S1x16x128x512 .bf16) (n : ℕ) (hn : n < 16) (off : Fin 4 → Nat) (ho : off = ![0, n, 0, 0])
    (inb : ∀ a, off a + S1x1x128x512.size a ≤ S1x16x128x512.size a) :
    View.ld V (Rect.unit (s := S1x16x128x512) off S1x1x128x512.size inb) = vblk V n := by
  subst ho
  funext x
  unfold vblk
  refine congrArg V (funext fun a => Fin.ext ?_)
  have h0 : (x 0).val < 1 := (x 0).isLt
  have h1 : (x 1).val < 1 := (x 1).isLt
  match a with
  | ⟨0, _⟩ => show 0 + 1 * (x 0).val = 0; omega
  | ⟨1, _⟩ => show n + 1 * (x 1).val = n % 16; rw [Nat.mod_eq_of_lt hn]; omega
  | ⟨2, _⟩ => show 0 + 1 * (x 2).val = (x 2).val; omega
  | ⟨3, _⟩ => show 0 + 1 * (x 3).val = (x 3).val; omega

/-- The scores of key block `n`: keys times the two masked queries and their position rows. -/
def Sc (q : FVec F S256x1024 .bf16) (K : Vec F S8192x256 .bf16) (n : ℕ) : FVec F S512x1024 .f32 := k0_pay2 q (kblk K n)

/-- The running maximum and the running sums after the key blocks before `n`. -/
def MA (q : FVec F S256x1024 .bf16) (K : Vec F S8192x256 .bf16) (V : Vec F S1x16x128x512 .bf16) :
    ℕ → FVec F S1x1024 .f32 × FVec F S144x1024 .f32
  | 0 => (k0_pay24 k0_pay23, k0_pay25)
  | n + 1 => (k0_pay3 (Sc q K n) (MA q K V n).1, k0_pay4 k0_pay22 (Sc q K n) (MA q K V n).1 (vblk V n) (MA q K V n).2)

/-- The number of pairs of key blocks before the block of the queries. -/
theorem trips_eq : ∀ i : grid0.Coords, (k0_t1_loop i).trips = (i 2).val / 2 := by decide +kernel

theorem trips2_eq : ∀ i : grid0.Coords, (k0_t2_loop i).trips = 0 := fun i => Nat.le_zero.mp (k0_t2_abs i).2.1

theorem off1_eq (i : grid0.Coords) (k : Fin (k0_t1_loop i).trips) (r : Fin 2) :
    k0_off1 i k (BitVec.ofNat 32 (1 + r.val)) = ![512 * (2 * k.val + (1 + r.val)), 0] := by
  have h7 : k.val < 7 := lt_of_lt_of_le k.isLt (k0_t1_abs i).2.1
  have e : ∀ n < 7, ∀ r : Fin 2, (![(Scalar.indexCast (Scalar.muli (Scalar.addi (Scalar.muli 2#32 (Scf.iv 0#32 1#32 n))
      (BitVec.ofNat 32 (1 + r.val))) 512#32)).toNat, 0] : Fin 2 → Nat) = ![512 * (2 * n + (1 + r.val)), 0] := by decide
  exact e k.val h7 r

theorem off2_eq (i : grid0.Coords) (k : Fin (k0_t1_loop i).trips) : k0_off2 i k = ![0, 2 * k.val, 0, 0] := by
  have h7 : k.val < 7 := lt_of_lt_of_le k.isLt (k0_t1_abs i).2.1
  have e : ∀ n < 7, (![0, (Scalar.indexCast (Scalar.muli 2#32 (Scf.iv 0#32 1#32 n))).toNat, 0, 0] : Fin 4 → Nat)
      = ![0, 2 * n, 0, 0] := by decide
  exact e k.val h7

theorem off3_eq (i : grid0.Coords) (k : Fin (k0_t1_loop i).trips) : k0_off3 i k = ![0, 2 * k.val + 1, 0, 0] := by
  have h7 : k.val < 7 := lt_of_lt_of_le k.isLt (k0_t1_abs i).2.1
  have e : ∀ n < 7, (![0, (Scalar.indexCast (Scalar.addi (Scalar.muli 2#32 (Scf.iv 0#32 1#32 n)) 1#32)).toNat, 0, 0] : Fin 4 → Nat)
      = ![0, 2 * n + 1, 0, 0] := by decide
  exact e k.val h7

set_option maxHeartbeats 4000000 in
/-- One trip of the loop over pairs of key blocks takes the running state from before the pair to after it. -/
theorem trip_step (𝒱 : Variants) (c : Dev nD) (bd : Option 𝒱.V) (i : grid0.Coords) (arg3 : Memref sig .tc .smem S1 .i32) (harg3 : arg3.IsWhole) (arg4 : Memref sig .tc .vmem S1x1x128x512 .bf16) (harg4 : arg4.IsWhole) (arg5 : Memref sig .tc .vmem S8192x256 .bf16) (harg5 : arg5.IsWhole) (arg6 : Memref sig .tc .vmem S1x16x128x512 .bf16) (harg6 : arg6.IsWhole) (arg7 : Memref sig .tc .vmem S1x4x64 .f32) (harg7 : arg7.IsWhole) (arg8 : Memref sig .tc .vmem S1x128x1 .f32) (harg8 : arg8.IsWhole) (arg9 : Memref sig .tc .vmem S512x128 .bf16) (harg9 : arg9.IsWhole) (arg10 : Memref sig .tc .vmem S1x1024 .f32) (harg10 : arg10.IsWhole) (arg11 : Memref sig .tc .vmem S144x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg2 : BitVec 32) (v5 : FVec F S1x1 .f32) (v32 : FVec F S256x1024 .bf16)  (v34 : FVec F S1x1024 .f32) (X_arg5 : BufTy.Contents (Elt F) arg5.view.ty) (X_arg6 : BufTy.Contents (Elt F) arg6.view.ty) (k : Fin (k0_t1_loop i).trips) (f_arg10 : BufTy.Contents (Elt F) arg10.view.ty) (f_arg11 : BufTy.Contents (Elt F) arg11.view.ty) (f_arg12 : BufTy.Contents (Elt F) arg12.view.ty) (f_arg13 : BufTy.Contents (Elt F) arg13.view.ty)
    (h10 : arg10.view.read (Elt F) f_arg10 = (MA v32 (arg5.view.read (Elt F) X_arg5) (arg6.view.read (Elt F) X_arg6) (2 * k.val)).1)
    (h11 : arg11.view.read (Elt F) f_arg11 = (MA v32 (arg5.view.read (Elt F) X_arg5) (arg6.view.read (Elt F) X_arg6) (2 * k.val)).2)
    (h12 : arg12.view.read (Elt F) f_arg12 = Sc v32 (arg5.view.read (Elt F) X_arg5) (2 * k.val)) :
    arg10.view.read (Elt F) (arg10.view.writes (Elt F) f_arg10 (tripL_k0_t1 (F := F) 𝒱 c bd i arg3 harg3 arg4 harg4 arg5 harg5 arg6 harg6 arg7 harg7 arg8 harg8 arg9 harg9 arg10 harg10 arg11 harg11 arg12 harg12 arg13 harg13 arg14 harg14 arg2 v5 v32 k0_pay22 v34 X_arg5 X_arg6 k f_arg10 f_arg11 f_arg12 f_arg13).1) = (MA v32 (arg5.view.read (Elt F) X_arg5) (arg6.view.read (Elt F) X_arg6) (2 * (k.val + 1))).1
    ∧ arg11.view.read (Elt F) (arg11.view.writes (Elt F) f_arg11 (tripL_k0_t1 (F := F) 𝒱 c bd i arg3 harg3 arg4 harg4 arg5 harg5 arg6 harg6 arg7 harg7 arg8 harg8 arg9 harg9 arg10 harg10 arg11 harg11 arg12 harg12 arg13 harg13 arg14 harg14 arg2 v5 v32 k0_pay22 v34 X_arg5 X_arg6 k f_arg10 f_arg11 f_arg12 f_arg13).2.1) = (MA v32 (arg5.view.read (Elt F) X_arg5) (arg6.view.read (Elt F) X_arg6) (2 * (k.val + 1))).2
    ∧ arg12.view.read (Elt F) (arg12.view.writes (Elt F) f_arg12 (tripL_k0_t1 (F := F) 𝒱 c bd i arg3 harg3 arg4 harg4 arg5 harg5 arg6 harg6 arg7 harg7 arg8 harg8 arg9 harg9 arg10 harg10 arg11 harg11 arg12 harg12 arg13 harg13 arg14 harg14 arg2 v5 v32 k0_pay22 v34 X_arg5 X_arg6 k f_arg10 f_arg11 f_arg12 f_arg13).2.2.1) = Sc v32 (arg5.view.read (Elt F) X_arg5) (2 * (k.val + 1)) := by
  have h7 : k.val < 7 := lt_of_lt_of_le k.isLt (k0_t1_abs i).2.1
  have e1 := ld_kblk (arg5.view.read (Elt F) X_arg5) (2 * k.val + 1) (by omega) (k0_off1 i k 1#32) (off1_eq i k 0) (k0_off1_inb i k 0)
  have e2 := ld_kblk (arg5.view.read (Elt F) X_arg5) (2 * k.val + 2) (by omega) (k0_off1 i k 2#32) (off1_eq i k 1) (k0_off1_inb i k 1)
  have e3 := ld_vblk (arg6.view.read (Elt F) X_arg6) (2 * k.val) (by omega) _ (off2_eq i k) (k0_off2_inb i k)
  have e4 := ld_vblk (arg6.view.read (Elt F) X_arg6) (2 * k.val + 1) (by omega) _ (off3_eq i k) (k0_off3_inb i k)
  have g10 : ∀ inb, View.readAt (Elt F) arg10.view (Rect.unit (s := S1x1024) ![0, 0] S1x1024.size inb).toLoadRect f_arg10 = (MA v32 (arg5.view.read (Elt F) X_arg5) (arg6.view.read (Elt F) X_arg6) (2 * k.val)).1 := fun inb =>
    (View.readAt_eq_ld _ _ _).trans ((View.ld_unit_zero (S := S1x1024) hz2 inb _).trans h10)
  have g11 : ∀ inb, View.readAt (Elt F) arg11.view (Rect.unit (s := S144x1024) ![0, 0] S144x1024.size inb).toLoadRect f_arg11 = (MA v32 (arg5.view.read (Elt F) X_arg5) (arg6.view.read (Elt F) X_arg6) (2 * k.val)).2 := fun inb =>
    (View.readAt_eq_ld _ _ _).trans ((View.ld_unit_zero (S := S144x1024) hz2 inb _).trans h11)
  have g12 : ∀ inb, View.readAt (Elt F) arg12.view (Rect.unit (s := S512x1024) ![0, 0] S512x1024.size inb).toLoadRect f_arg12 = Sc v32 (arg5.view.read (Elt F) X_arg5) (2 * k.val) := fun inb =>
    (View.readAt_eq_ld _ _ _).trans ((View.ld_unit_zero (S := S512x1024) hz2 inb _).trans h12)
  rw [show 2 * (k.val + 1) = (2 * k.val + 1) + 1 by omega]
  unfold tripL_k0_t1 trip_k0_t1
  dsimp only
  refine ⟨?_, ?_, ?_⟩
  · refine (read_whole (S := S1x1024) _ _ hz2 _ _ _).trans ?_
    unfold MA MA Sc
    rw [← e1]
    sl_unfold_words
    simp only [View.readCov_unit_zero (S := S512x1024) _ hz2, View.readCov_unit_zero (S := S1x1024) _ hz2,
      View.readCov_unit_zero (S := S144x1024) _ hz2, g10, g11, g12, k0_pay2, k0_pay3, k0_pay28, Sc, View.readAt_eq_ld, shapeCast_self]
  · refine (read_whole (S := S144x1024) _ _ hz2 _ _ _).trans ?_
    unfold MA MA Sc
    rw [← e1, ← e3, ← e4]
    sl_unfold_words
    simp only [View.readCov_unit_zero (S := S512x1024) _ hz2, View.readCov_unit_zero (S := S1x1024) _ hz2,
      View.readCov_unit_zero (S := S144x1024) _ hz2, g10, g11, g12, k0_pay2, k0_pay3, k0_pay4, Sc, View.readAt_eq_ld, shapeCast_self]
  · refine (read_whole (S := S512x1024) _ _ hz2 _ _ _).trans ?_
    exact congrArg (k0_pay2 v32) e2

/-- Before trip `n` of the loop the three buffers hold the running state after `2 n` key blocks and the next block's scores. -/
theorem pb_reads (𝒱 : Variants) (c : Dev nD) (bd : Option 𝒱.V) (i : grid0.Coords) (arg3 : Memref sig .tc .smem S1 .i32) (harg3 : arg3.IsWhole) (arg4 : Memref sig .tc .vmem S1x1x128x512 .bf16) (harg4 : arg4.IsWhole) (arg5 : Memref sig .tc .vmem S8192x256 .bf16) (harg5 : arg5.IsWhole) (arg6 : Memref sig .tc .vmem S1x16x128x512 .bf16) (harg6 : arg6.IsWhole) (arg7 : Memref sig .tc .vmem S1x4x64 .f32) (harg7 : arg7.IsWhole) (arg8 : Memref sig .tc .vmem S1x128x1 .f32) (harg8 : arg8.IsWhole) (arg9 : Memref sig .tc .vmem S512x128 .bf16) (harg9 : arg9.IsWhole) (arg10 : Memref sig .tc .vmem S1x1024 .f32) (harg10 : arg10.IsWhole) (arg11 : Memref sig .tc .vmem S144x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg2 : BitVec 32) (v5 : FVec F S1x1 .f32) (v32 : FVec F S256x1024 .bf16)  (v34 : FVec F S1x1024 .f32) (X_arg5 : BufTy.Contents (Elt F) arg5.view.ty) (X_arg6 : BufTy.Contents (Elt F) arg6.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty)
    (h10 : arg10.view.read (Elt F) G_arg10 = (MA v32 (arg5.view.read (Elt F) X_arg5) (arg6.view.read (Elt F) X_arg6) 0).1)
    (h11 : arg11.view.read (Elt F) G_arg11 = (MA v32 (arg5.view.read (Elt F) X_arg5) (arg6.view.read (Elt F) X_arg6) 0).2)
    (h12 : arg12.view.read (Elt F) G_arg12 = Sc v32 (arg5.view.read (Elt F) X_arg5) 0) :
    ∀ n : ℕ, n ≤ (k0_t1_loop i).trips →
    arg10.view.read (Elt F) (arg10.view.writes (Elt F) G_arg10 (pb_k0_t1 (F := F) 𝒱 c bd i arg3 harg3 arg4 harg4 arg5 harg5 arg6 harg6 arg7 harg7 arg8 harg8 arg9 harg9 arg10 harg10 arg11 harg11 arg12 harg12 arg13 harg13 arg14 harg14 arg2 v5 v32 k0_pay22 v34 X_arg5 X_arg6 G_arg10 G_arg11 G_arg12 G_arg13 n).1) = (MA v32 (arg5.view.read (Elt F) X_arg5) (arg6.view.read (Elt F) X_arg6) (2 * n)).1
    ∧ arg11.view.read (Elt F) (arg11.view.writes (Elt F) G_arg11 (pb_k0_t1 (F := F) 𝒱 c bd i arg3 harg3 arg4 harg4 arg5 harg5 arg6 harg6 arg7 harg7 arg8 harg8 arg9 harg9 arg10 harg10 arg11 harg11 arg12 harg12 arg13 harg13 arg14 harg14 arg2 v5 v32 k0_pay22 v34 X_arg5 X_arg6 G_arg10 G_arg11 G_arg12 G_arg13 n).2.1) = (MA v32 (arg5.view.read (Elt F) X_arg5) (arg6.view.read (Elt F) X_arg6) (2 * n)).2
    ∧ arg12.view.read (Elt F) (arg12.view.writes (Elt F) G_arg12 (pb_k0_t1 (F := F) 𝒱 c bd i arg3 harg3 arg4 harg4 arg5 harg5 arg6 harg6 arg7 harg7 arg8 harg8 arg9 harg9 arg10 harg10 arg11 harg11 arg12 harg12 arg13 harg13 arg14 harg14 arg2 v5 v32 k0_pay22 v34 X_arg5 X_arg6 G_arg10 G_arg11 G_arg12 G_arg13 n).2.2.1) = Sc v32 (arg5.view.read (Elt F) X_arg5) (2 * n)
  | 0, _ => ⟨h10, h11, h12⟩
  | n + 1, hn => by
    obtain ⟨i10, i11, i12⟩ := pb_reads 𝒱 c bd i arg3 harg3 arg4 harg4 arg5 harg5 arg6 harg6 arg7 harg7 arg8 harg8 arg9 harg9 arg10 harg10 arg11 harg11 arg12 harg12 arg13 harg13 arg14 harg14 arg2 v5 v32 v34 X_arg5 X_arg6 G_arg10 G_arg11 G_arg12 G_arg13 h10 h11 h12 n (Nat.le_of_succ_le hn)
    rw [pb_k0_t1_succ (F := F) 𝒱 c bd i arg3 harg3 arg4 harg4 arg5 harg5 arg6 harg6 arg7 harg7 arg8 harg8 arg9 harg9 arg10 harg10 arg11 harg11 arg12 harg12 arg13 harg13 arg14 harg14 arg2 v5 v32 k0_pay22 v34 X_arg5 X_arg6 G_arg10 G_arg11 G_arg12 G_arg13 ⟨n, hn⟩]
    dsimp only
    rw [View.writes_append, View.writes_append, View.writes_append]
    exact trip_step _ _ _ _ _ _ _ _ _ _ _ _ _ _ _ _ _ _ _ _ _ _ _ _ _ _ _ _ _ _ _ _ _ _ ⟨n, hn⟩ _ _ _ _ i10 i11 i12

/-- The running sums of one block of queries after its own key block, whose scores carry the reference matrix `own`. -/
def finOf (q : FVec F S256x1024 .bf16) (K : Vec F S8192x256 .bf16) (V : Vec F S1x16x128x512 .bf16) (n : ℕ) (own : FVec F S512x1024 .f32) :
    FVec F S144x1024 .f32 :=
  k0_pay4 k0_pay22 (k0_pay30 (Sc q K n) own) (MA q K V n).1 (vblk V n) (MA q K V n).2

/-- The block of the output the body stores at a point of the grid, from the point's input blocks. -/
def outOf (i : grid0.Coords) (l : Elt F .i32) (x0 : Vec F S1x1x128x512 .bf16) (x1 : Vec F S8192x256 .bf16) (x2 : Vec F S1x16x128x512 .bf16)
    (x3 : Vec F S1x4x64 .f32) (x4 : Vec F S1x128x1 .f32) (own : FVec F S512x1024 .f32) : FVec F S512x128 .bf16 :=
  k0_pay1 (k0_pay38 l) (k0_pay39 x3 l (finOf (k0_pay21 i x0) x1 x2 (i 2).val own)) x4

/-- The word the prefetched table holds. -/
def tblWord (c : Dev nD) (xt0 : TbBuf0 (F := F) c tbM0_0) : Elt F .i32 :=
  View.readAt (Elt F) tbM0_0.view (Rect.unit (s := S1) ![0] S1.size inb_S1_S1_0).toLoadRect xt0 (Shape.Idx.first (numel1_S1.symm ▸ Nat.one_pos))

/-- After the loop the three buffers read the running state after an even number of key blocks, and the next block's scores. -/
theorem reads_after (𝒱 : Variants) (c : Dev nD) (bd : Option 𝒱.V) (i : grid0.Coords) (arg3 : Memref sig .tc .smem S1 .i32) (harg3 : arg3.IsWhole) (arg4 : Memref sig .tc .vmem S1x1x128x512 .bf16) (harg4 : arg4.IsWhole) (arg5 : Memref sig .tc .vmem S8192x256 .bf16) (harg5 : arg5.IsWhole) (arg6 : Memref sig .tc .vmem S1x16x128x512 .bf16) (harg6 : arg6.IsWhole) (arg7 : Memref sig .tc .vmem S1x4x64 .f32) (harg7 : arg7.IsWhole) (arg8 : Memref sig .tc .vmem S1x128x1 .f32) (harg8 : arg8.IsWhole) (arg9 : Memref sig .tc .vmem S512x128 .bf16) (harg9 : arg9.IsWhole) (arg10 : Memref sig .tc .vmem S1x1024 .f32) (harg10 : arg10.IsWhole) (arg11 : Memref sig .tc .vmem S144x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg2 : BitVec 32) (v5 : FVec F S1x1 .f32) (v32 : FVec F S256x1024 .bf16)  (X_arg5 : BufTy.Contents (Elt F) arg5.view.ty) (X_arg6 : BufTy.Contents (Elt F) arg6.view.ty) (G_arg13 : BufTy.Contents (Elt F) arg13.view.ty) :
    arg10.view.readCov ((pb_k0_t1 (F := F) 𝒱 c bd i arg3 harg3 arg4 harg4 arg5 harg5 arg6 harg6 arg7 harg7 arg8 harg8 arg9 harg9 arg10 harg10 arg11 harg11 arg12 harg12 arg13 harg13 arg14 harg14 arg2 v5 v32 k0_pay22 k0_pay23 X_arg5 X_arg6 (arg10.view.writes (Elt F) arg10.view.junk [⟨Rect.unit (s := S1x1024) ![0, 0] S1x1024.size inb_S1x1024_S1x1024_0_0, k0_pay24 k0_pay23⟩]) (arg11.view.writes (Elt F) arg11.view.junk [⟨Rect.unit (s := S144x1024) ![0, 0] S144x1024.size inb_S144x1024_S144x1024_0_0, k0_pay25⟩]) (arg12.view.writes (Elt F) arg12.view.junk [⟨Rect.unit (s := S512x1024) ![0, 0] S512x1024.size inb_S512x1024_S512x1024_0_0, k0_pay27 v32 (View.readAt (Elt F) arg5.view (Rect.unit (s := S8192x256) ![0, 0] S512x256.size inb_S8192x256_S512x256_0_0).toLoadRect X_arg5)⟩]) G_arg13 (Scf.trips (k0_t1_loop i).lb (k0_t1_loop i).ub (k0_t1_loop i).st)).1 ++ [⟨Rect.unit (s := S1x1024) ![0, 0] S1x1024.size inb_S1x1024_S1x1024_0_0, k0_pay24 k0_pay23⟩]) (Rect.unit (s := S1x1024) ![0, 0] S1x1024.size inb_S1x1024_S1x1024_0_0).toLoadRect = (MA v32 (arg5.view.read (Elt F) X_arg5) (arg6.view.read (Elt F) X_arg6) (2 * ((i 2).val / 2))).1
    ∧ arg11.view.readCov ((pb_k0_t1 (F := F) 𝒱 c bd i arg3 harg3 arg4 harg4 arg5 harg5 arg6 harg6 arg7 harg7 arg8 harg8 arg9 harg9 arg10 harg10 arg11 harg11 arg12 harg12 arg13 harg13 arg14 harg14 arg2 v5 v32 k0_pay22 k0_pay23 X_arg5 X_arg6 (arg10.view.writes (Elt F) arg10.view.junk [⟨Rect.unit (s := S1x1024) ![0, 0] S1x1024.size inb_S1x1024_S1x1024_0_0, k0_pay24 k0_pay23⟩]) (arg11.view.writes (Elt F) arg11.view.junk [⟨Rect.unit (s := S144x1024) ![0, 0] S144x1024.size inb_S144x1024_S144x1024_0_0, k0_pay25⟩]) (arg12.view.writes (Elt F) arg12.view.junk [⟨Rect.unit (s := S512x1024) ![0, 0] S512x1024.size inb_S512x1024_S512x1024_0_0, k0_pay27 v32 (View.readAt (Elt F) arg5.view (Rect.unit (s := S8192x256) ![0, 0] S512x256.size inb_S8192x256_S512x256_0_0).toLoadRect X_arg5)⟩]) G_arg13 (Scf.trips (k0_t1_loop i).lb (k0_t1_loop i).ub (k0_t1_loop i).st)).2.1 ++ [⟨Rect.unit (s := S144x1024) ![0, 0] S144x1024.size inb_S144x1024_S144x1024_0_0, k0_pay25⟩]) (Rect.unit (s := S144x1024) ![0, 0] S144x1024.size inb_S144x1024_S144x1024_0_0).toLoadRect = (MA v32 (arg5.view.read (Elt F) X_arg5) (arg6.view.read (Elt F) X_arg6) (2 * ((i 2).val / 2))).2
    ∧ arg12.view.readCov ((pb_k0_t1 (F := F) 𝒱 c bd i arg3 harg3 arg4 harg4 arg5 harg5 arg6 harg6 arg7 harg7 arg8 harg8 arg9 harg9 arg10 harg10 arg11 harg11 arg12 harg12 arg13 harg13 arg14 harg14 arg2 v5 v32 k0_pay22 k0_pay23 X_arg5 X_arg6 (arg10.view.writes (Elt F) arg10.view.junk [⟨Rect.unit (s := S1x1024) ![0, 0] S1x1024.size inb_S1x1024_S1x1024_0_0, k0_pay24 k0_pay23⟩]) (arg11.view.writes (Elt F) arg11.view.junk [⟨Rect.unit (s := S144x1024) ![0, 0] S144x1024.size inb_S144x1024_S144x1024_0_0, k0_pay25⟩]) (arg12.view.writes (Elt F) arg12.view.junk [⟨Rect.unit (s := S512x1024) ![0, 0] S512x1024.size inb_S512x1024_S512x1024_0_0, k0_pay27 v32 (View.readAt (Elt F) arg5.view (Rect.unit (s := S8192x256) ![0, 0] S512x256.size inb_S8192x256_S512x256_0_0).toLoadRect X_arg5)⟩]) G_arg13 (Scf.trips (k0_t1_loop i).lb (k0_t1_loop i).ub (k0_t1_loop i).st)).2.2.1 ++ [⟨Rect.unit (s := S512x1024) ![0, 0] S512x1024.size inb_S512x1024_S512x1024_0_0, k0_pay27 v32 (View.readAt (Elt F) arg5.view (Rect.unit (s := S8192x256) ![0, 0] S512x256.size inb_S8192x256_S512x256_0_0).toLoadRect X_arg5)⟩]) (Rect.unit (s := S512x1024) ![0, 0] S512x1024.size inb_S512x1024_S512x1024_0_0).toLoadRect = Sc v32 (arg5.view.read (Elt F) X_arg5) (2 * ((i 2).val / 2)) := by
  obtain ⟨h10, h11, h12⟩ := pb_reads (F := F) 𝒱 c bd i arg3 harg3 arg4 harg4 arg5 harg5 arg6 harg6 arg7 harg7 arg8 harg8 arg9 harg9 arg10 harg10 arg11 harg11 arg12 harg12 arg13 harg13 arg14 harg14 arg2 v5 v32 k0_pay23 X_arg5 X_arg6 (arg10.view.writes (Elt F) arg10.view.junk [⟨Rect.unit (s := S1x1024) ![0, 0] S1x1024.size inb_S1x1024_S1x1024_0_0, k0_pay24 k0_pay23⟩]) (arg11.view.writes (Elt F) arg11.view.junk [⟨Rect.unit (s := S144x1024) ![0, 0] S144x1024.size inb_S144x1024_S144x1024_0_0, k0_pay25⟩]) (arg12.view.writes (Elt F) arg12.view.junk [⟨Rect.unit (s := S512x1024) ![0, 0] S512x1024.size inb_S512x1024_S512x1024_0_0, k0_pay27 v32 (View.readAt (Elt F) arg5.view (Rect.unit (s := S8192x256) ![0, 0] S512x256.size inb_S8192x256_S512x256_0_0).toLoadRect X_arg5)⟩]) G_arg13
    (read_whole (S := S1x1024) _ _ hz2 _ _ _) (read_whole (S := S144x1024) _ _ hz2 _ _ _)
    ((read_whole (S := S512x1024) _ _ hz2 _ _ _).trans (congrArg (k0_pay27 v32) ((View.readAt_eq_ld _ _ _).trans
      (ld_kblk (arg5.view.read (Elt F) X_arg5) 0 (by norm_num) _ rfl inb_S8192x256_S512x256_0_0)))) _ (le_refl _)
  rw [trips_eq i] at h10 h11 h12
  rw [← View.writes_append] at h10 h11 h12
  have ht : Scf.trips (k0_t1_loop i).lb (k0_t1_loop i).ub (k0_t1_loop i).st = (i 2).val / 2 := trips_eq i
  rw [ht]
  exact ⟨(View.readAt_eq_ld _ _ _).trans ((View.ld_unit_zero (S := S1x1024) hz2 _ _).trans h10),
    (View.readAt_eq_ld _ _ _).trans ((View.ld_unit_zero (S := S144x1024) hz2 _ _).trans h11),
    (View.readAt_eq_ld _ _ _).trans ((View.ld_unit_zero (S := S512x1024) hz2 _ _).trans h12)⟩

theorem pay32_eq (o : FVec F S16x512 .bf16) (a b : Vec F S512x1024 .f32) (m : Vec F S1x1024 .f32) (v : Vec F S1x1x128x512 .bf16)
    (acc : Vec F S144x1024 .f32) : k0_pay32 o a b m v acc = k0_pay4 o (k0_pay30 a b) m v acc := rfl

theorem pay36_eq (o : FVec F S16x512 .bf16) (a b : Vec F S512x1024 .f32) (m : Vec F S1x1024 .f32) (v : Vec F S1x1x128x512 .bf16)
    (acc : Vec F S144x1024 .f32) : k0_pay36 o a b m v acc = k0_pay4 o (k0_pay30 a b) m v acc := rfl

theorem pay18_eq (o : FVec F S16x512 .bf16) (s : Vec F S512x1024 .f32) (m : Vec F S1x1024 .f32) (v : Vec F S1x1x128x512 .bf16)
    (acc : Vec F S144x1024 .f32) : k0_pay18 o s m v acc = k0_pay4 o s m v acc := rfl

theorem pay16_eq (q : FVec F S256x1024 .bf16) (k : Vec F S512x256 .bf16) : k0_pay16 q k = k0_pay2 q k := rfl

theorem pay19_eq (s : Vec F S512x1024 .f32) (m : Vec F S1x1024 .f32) : k0_pay19 s m = k0_pay3 s m :=
  shapeCast_self _ _

theorem cond2_odd : ∀ i : grid0.Coords, cond0_1 i → (i 2).val % 2 = 1 := by decide +kernel
theorem cond3_even : ∀ i : grid0.Coords, cond0_2 i → (i 2).val % 2 = 0 := by decide +kernel
theorem off8_eq : ∀ i : grid0.Coords, cond0_1 i → k0_off8 i = ![0, (i 2).val - 1, 0, 0] := by decide +kernel
theorem coord2_lt : ∀ i : grid0.Coords, (i 2).val < 16 := by decide +kernel

end Cert.KernelIdeal.Gen
end
-- ==== Proof.FlashRunA.lean ====
module

public import proofs.«01_k».proof.Proof.FlashLoop

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- In case A the body, run on whole staging buffers, leaves the block `outOf` in the output buffer. -/
theorem run_A (c : Dev nD) (i : grid0.Coords) (arg4 : Memref sig .tc .vmem S1x1x128x512 .bf16) (harg4 : arg4.IsWhole) (arg5 : Memref sig .tc .vmem S8192x256 .bf16) (harg5 : arg5.IsWhole) (arg6 : Memref sig .tc .vmem S1x16x128x512 .bf16) (harg6 : arg6.IsWhole) (arg7 : Memref sig .tc .vmem S1x4x64 .f32) (harg7 : arg7.IsWhole) (arg8 : Memref sig .tc .vmem S1x128x1 .f32) (harg8 : arg8.IsWhole) (arg9 : Memref sig .tc .vmem S512x128 .bf16) (harg9 : arg9.IsWhole) (arg10 : Memref sig .tc .vmem S1x1024 .f32) (harg10 : arg10.IsWhole) (arg11 : Memref sig .tc .vmem S144x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (hc0 : cond0_0 i) (hc1 : ¬cond0_1 i) (hc2 : cond0_2 i)
    (x0 : Vec F S1x1x128x512 .bf16) (x1 : Vec F S8192x256 .bf16) (x2 : Vec F S1x16x128x512 .bf16) (x3 : Vec F S1x4x64 .f32) (x4 : Vec F S1x128x1 .f32) (xt0 : TbBuf0 (F := F) c tbM0_0) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (outOf i (tblWord c xt0) x0 x1 x2 x3 x4 (k0_pay26 (k0_pay20 i))) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare (k0_pay26 (k0_pay20 i)) ∗ tbPt0 c tbM0_0 xt0) -∗ K ⟨⟩))
          ⊢ wp frame (wpE (defs₀ (F := F)) Variants.none c none) E (cc0_diff_flash_t i tbM0_0 htbM0_0 arg4 harg4 arg5 harg5 arg6 harg6 arg7 harg7 arg8 harg8 arg9 harg9 arg10 harg10 arg11 harg11 arg12 harg12 arg13 harg13 arg14 harg14) K := by
  intro E K
  simp only [cc0_diff_flash_t_eq_skeleton]; unfold cc0_diff_flash_t_skel
  simp only [k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, HT0, Hk⟩
  obtain rfl := harg4.eq_unread hf0; obtain rfl := harg5.eq_unread hf1; obtain rfl := harg6.eq_unread hf2; obtain rfl := harg7.eq_unread hf3; obtain rfl := harg8.eq_unread hf4
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; swap; · iexact H5
    ipureintro
    refine (read_whole (S := S512x128) _ _ hz2 _ _ _).trans ?_
    have hn := coord2_lt i
    have t2 : Scf.trips (k0_t2_loop i).lb (k0_t2_loop i).ub (k0_t2_loop i).st = 0 := trips2_eq i
    have h4 : ∀ inb, View.readAt (Elt F) arg4.view (Rect.unit (s := S1x1x128x512) ![0, 0, 0, 0] S1x1x128x512.size inb).toLoadRect (harg4.unread x0) = x0 := fun inb =>
      (View.readAt_eq_ld _ _ _).trans ((View.ld_unit_zero (S := S1x1x128x512) (by ext a; fin_cases a <;> rfl) inb _).trans (harg4.read_unread _))
    have h7 : ∀ inb, View.readAt (Elt F) arg7.view (Rect.unit (s := S1x4x64) ![0, 0, 0] S1x4x64.size inb).toLoadRect (harg7.unread x3) = x3 := fun inb =>
      (View.readAt_eq_ld _ _ _).trans ((View.ld_unit_zero (S := S1x4x64) (by ext a; fin_cases a <;> rfl) inb _).trans (harg7.read_unread _))
    have h8 : ∀ inb, View.readAt (Elt F) arg8.view (Rect.unit (s := S1x128x1) ![0, 0, 0] S1x128x1.size inb).toLoadRect (harg8.unread x4) = x4 := fun inb =>
      (View.readAt_eq_ld _ _ _).trans ((View.ld_unit_zero (S := S1x128x1) (by ext a; fin_cases a <;> rfl) inb _).trans (harg8.read_unread _))
    have R1 := reads_after (F := F) Variants.none c none i tbM0_0 htbM0_0 arg4 harg4 arg5 harg5 arg6 harg6 arg7 harg7 arg8 harg8 arg9 harg9 arg10 harg10 arg11 harg11 arg12 harg12 arg13 harg13 arg14 harg14 (BitVec.ofNat 32 (i 2).val) (k0_pay20 i) (k0_pay21 i x0) (harg5.unread x1) (harg6.unread x2) fs3
    rw [harg5.read_unread, harg6.read_unread] at R1
    obtain ⟨r10, r11, r12⟩ := R1
    have ho := cond3_even i hc2
    have e10 := ld_vblk x2 (2 * ((i 2).val / 2)) (by omega) (k0_off10 i) ((k0_off10_eq i).trans (by rw [show 2 * ((i 2).val / 2) = (i 2).val by omega])) (k0_off10_inb i hc2)
    have hu : outOf i (tblWord c xt0) x0 x1 x2 x3 x4 (k0_pay26 (k0_pay20 i)) = k0_pay1 (k0_pay38 (tblWord c xt0)) (k0_pay39 x3 (tblWord c xt0)
        (finOf (k0_pay21 i x0) x1 x2 (2 * ((i 2).val / 2)) (k0_pay26 (k0_pay20 i)))) x4 := by
      rw [show 2 * ((i 2).val / 2) = (i 2).val by omega]; rfl
    rw [hu]
    unfold finOf
    rw [← e10]
    sl_unfold_words
    simp only [t2, pb_k0_t2, List.nil_append, View.readCov_unit_zero (S := S512x1024) _ hz2, View.readCov_unit_zero (S := S1x1024) _ hz2,
      View.readCov_unit_zero (S := S144x1024) _ hz2, h4, h7, h8, r10, r11, r12, View.readCov_full (s := S512x1024), View.readCov_full (s := S1x1024), View.readCov_full (s := S144x1024)]
    simp only [View.readAt_eq_ld, harg5.read_unread, harg6.read_unread, tblWord, pay36_eq]
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _; isplitr; swap; · iexact HS4
    ipureintro
    exact (read_whole (S := S512x1024) _ _ hz2 _ _ _)
  iexact HT0

end Cert.KernelIdeal.Gen

end
-- ==== Proof.FlashRunB.lean ====
module

public import proofs.«01_k».proof.Proof.FlashLoop

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- In case B the body, run on whole staging buffers, leaves the block `outOf` in the output buffer. -/
theorem run_B (c : Dev nD) (i : grid0.Coords) (arg4 : Memref sig .tc .vmem S1x1x128x512 .bf16) (harg4 : arg4.IsWhole) (arg5 : Memref sig .tc .vmem S8192x256 .bf16) (harg5 : arg5.IsWhole) (arg6 : Memref sig .tc .vmem S1x16x128x512 .bf16) (harg6 : arg6.IsWhole) (arg7 : Memref sig .tc .vmem S1x4x64 .f32) (harg7 : arg7.IsWhole) (arg8 : Memref sig .tc .vmem S1x128x1 .f32) (harg8 : arg8.IsWhole) (arg9 : Memref sig .tc .vmem S512x128 .bf16) (harg9 : arg9.IsWhole) (arg10 : Memref sig .tc .vmem S1x1024 .f32) (harg10 : arg10.IsWhole) (arg11 : Memref sig .tc .vmem S144x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (hc0 : ¬cond0_0 i) (hc1 : cond0_1 i) (hc2 : ¬cond0_2 i)
    (x0 : Vec F S1x1x128x512 .bf16) (x1 : Vec F S8192x256 .bf16) (x2 : Vec F S1x16x128x512 .bf16) (x3 : Vec F S1x4x64 .f32) (x4 : Vec F S1x128x1 .f32) (xt0 : TbBuf0 (F := F) c tbM0_0) (xs4 : Vec F S512x1024 .f32) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs4 ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (outOf i (tblWord c xt0) x0 x1 x2 x3 x4 xs4) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs4 ∗ tbPt0 c tbM0_0 xt0) -∗ K ⟨⟩))
          ⊢ wp frame (wpE (defs₀ (F := F)) Variants.none c none) E (cc0_diff_flash_t i tbM0_0 htbM0_0 arg4 harg4 arg5 harg5 arg6 harg6 arg7 harg7 arg8 harg8 arg9 harg9 arg10 harg10 arg11 harg11 arg12 harg12 arg13 harg13 arg14 harg14) K := by
  intro E K
  simp only [cc0_diff_flash_t_eq_skeleton]; unfold cc0_diff_flash_t_skel
  simp only [k0_part6_eq_skeleton, k0_part7_eq_skeleton, k0_part5_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%fs4, %hfs4, HS4⟩, HT0, Hk⟩
  obtain rfl := harg4.eq_unread hf0; obtain rfl := harg5.eq_unread hf1; obtain rfl := harg6.eq_unread hf2; obtain rfl := harg7.eq_unread hf3; obtain rfl := harg8.eq_unread hf4; obtain rfl := harg14.eq_unread hfs4
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; swap; · iexact H5
    ipureintro
    refine (read_whole (S := S512x128) _ _ hz2 _ _ _).trans ?_
    have hn := coord2_lt i
    have t2 : Scf.trips (k0_t2_loop i).lb (k0_t2_loop i).ub (k0_t2_loop i).st = 0 := trips2_eq i
    have h4 : ∀ inb, View.readAt (Elt F) arg4.view (Rect.unit (s := S1x1x128x512) ![0, 0, 0, 0] S1x1x128x512.size inb).toLoadRect (harg4.unread x0) = x0 := fun inb =>
      (View.readAt_eq_ld _ _ _).trans ((View.ld_unit_zero (S := S1x1x128x512) (by ext a; fin_cases a <;> rfl) inb _).trans (harg4.read_unread _))
    have h7 : ∀ inb, View.readAt (Elt F) arg7.view (Rect.unit (s := S1x4x64) ![0, 0, 0] S1x4x64.size inb).toLoadRect (harg7.unread x3) = x3 := fun inb =>
      (View.readAt_eq_ld _ _ _).trans ((View.ld_unit_zero (S := S1x4x64) (by ext a; fin_cases a <;> rfl) inb _).trans (harg7.read_unread _))
    have h8 : ∀ inb, View.readAt (Elt F) arg8.view (Rect.unit (s := S1x128x1) ![0, 0, 0] S1x128x1.size inb).toLoadRect (harg8.unread x4) = x4 := fun inb =>
      (View.readAt_eq_ld _ _ _).trans ((View.ld_unit_zero (S := S1x128x1) (by ext a; fin_cases a <;> rfl) inb _).trans (harg8.read_unread _))
    have h14 : ∀ inb, View.readAt (Elt F) arg14.view (Rect.unit (s := S512x1024) ![0, 0] S512x1024.size inb).toLoadRect (harg14.unread xs4) = xs4 := fun inb =>
      (View.readAt_eq_ld _ _ _).trans ((View.ld_unit_zero (S := S512x1024) (by ext a; fin_cases a <;> rfl) inb _).trans (harg14.read_unread _))
    have R1 := reads_after (F := F) Variants.none c none i tbM0_0 htbM0_0 arg4 harg4 arg5 harg5 arg6 harg6 arg7 harg7 arg8 harg8 arg9 harg9 arg10 harg10 arg11 harg11 arg12 harg12 arg13 harg13 arg14 harg14 (BitVec.ofNat 32 (i 2).val) (k0_pay20 i) (k0_pay21 i x0) (harg5.unread x1) (harg6.unread x2) fs3
    rw [harg5.read_unread, harg6.read_unread] at R1
    obtain ⟨r10, r11, r12⟩ := R1
    have ho := cond2_odd i hc1
    have e7 := ld_kblk x1 (2 * ((i 2).val / 2) + 1) (by omega) (k0_off7 i) ((k0_off7_eq i).trans (by rw [show 2 * ((i 2).val / 2) + 1 = (i 2).val by omega])) (k0_off7_inb i hc1)
    have e8 := ld_vblk x2 (2 * ((i 2).val / 2)) (by omega) (k0_off8 i) ((off8_eq i hc1).trans (by rw [show 2 * ((i 2).val / 2) = (i 2).val - 1 by omega])) (k0_off8_inb i hc1)
    have e9 := ld_vblk x2 (2 * ((i 2).val / 2) + 1) (by omega) (k0_off9 i) ((k0_off9_eq i).trans (by rw [show 2 * ((i 2).val / 2) + 1 = (i 2).val by omega])) (k0_off9_inb i hc1)
    have hu : outOf i (tblWord c xt0) x0 x1 x2 x3 x4 xs4 = k0_pay1 (k0_pay38 (tblWord c xt0)) (k0_pay39 x3 (tblWord c xt0)
        (finOf (k0_pay21 i x0) x1 x2 (2 * ((i 2).val / 2) + 1) xs4)) x4 := by
      rw [show 2 * ((i 2).val / 2) + 1 = (i 2).val by omega]; rfl
    rw [hu]
    unfold finOf
    rw [← e9]
    unfold MA
    rw [← e8]
    unfold Sc
    rw [← e7]
    sl_unfold_words
    simp only [t2, pb_k0_t2, List.nil_append, View.readCov_unit_zero (S := S512x1024) _ hz2, View.readCov_unit_zero (S := S1x1024) _ hz2,
      View.readCov_unit_zero (S := S144x1024) _ hz2, h4, h7, h8, h14, r10, r11, r12, View.readCov_full (s := S512x1024), View.readCov_full (s := S1x1024), View.readCov_full (s := S144x1024)]
    simp only [View.readAt_eq_ld, harg5.read_unread, harg6.read_unread, tblWord, k0_pay32, k0_pay18, k0_pay16, k0_pay19, k0_pay31, k0_pay17, k0_pay4, k0_pay3, k0_pay2, k0_pay30, Sc, shapeCast_self]
    rw [harg6.read_unread]
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _; isplitr; · ipureintro; exact harg14.read_unread _
    iexact HS4
  iexact HT0

end Cert.KernelIdeal.Gen

end
-- ==== Proof.FlashRunC.lean ====
module

public import proofs.«01_k».proof.Proof.FlashLoop

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- In case C the body, run on whole staging buffers, leaves the block `outOf` in the output buffer. -/
theorem run_C (c : Dev nD) (i : grid0.Coords) (arg4 : Memref sig .tc .vmem S1x1x128x512 .bf16) (harg4 : arg4.IsWhole) (arg5 : Memref sig .tc .vmem S8192x256 .bf16) (harg5 : arg5.IsWhole) (arg6 : Memref sig .tc .vmem S1x16x128x512 .bf16) (harg6 : arg6.IsWhole) (arg7 : Memref sig .tc .vmem S1x4x64 .f32) (harg7 : arg7.IsWhole) (arg8 : Memref sig .tc .vmem S1x128x1 .f32) (harg8 : arg8.IsWhole) (arg9 : Memref sig .tc .vmem S512x128 .bf16) (harg9 : arg9.IsWhole) (arg10 : Memref sig .tc .vmem S1x1024 .f32) (harg10 : arg10.IsWhole) (arg11 : Memref sig .tc .vmem S144x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (hc0 : ¬cond0_0 i) (hc1 : ¬cond0_1 i) (hc2 : cond0_2 i)
    (x0 : Vec F S1x1x128x512 .bf16) (x1 : Vec F S8192x256 .bf16) (x2 : Vec F S1x16x128x512 .bf16) (x3 : Vec F S1x4x64 .f32) (x4 : Vec F S1x128x1 .f32) (xt0 : TbBuf0 (F := F) c tbM0_0) (xs4 : Vec F S512x1024 .f32) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs4 ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (outOf i (tblWord c xt0) x0 x1 x2 x3 x4 xs4) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs4 ∗ tbPt0 c tbM0_0 xt0) -∗ K ⟨⟩))
          ⊢ wp frame (wpE (defs₀ (F := F)) Variants.none c none) E (cc0_diff_flash_t i tbM0_0 htbM0_0 arg4 harg4 arg5 harg5 arg6 harg6 arg7 harg7 arg8 harg8 arg9 harg9 arg10 harg10 arg11 harg11 arg12 harg12 arg13 harg13 arg14 harg14) K := by
  intro E K
  simp only [cc0_diff_flash_t_eq_skeleton]; unfold cc0_diff_flash_t_skel
  simp only [k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%fs4, %hfs4, HS4⟩, HT0, Hk⟩
  obtain rfl := harg4.eq_unread hf0; obtain rfl := harg5.eq_unread hf1; obtain rfl := harg6.eq_unread hf2; obtain rfl := harg7.eq_unread hf3; obtain rfl := harg8.eq_unread hf4; obtain rfl := harg14.eq_unread hfs4
  sl_exec (disch := first | sl_exact hc0 | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; swap; · iexact H5
    ipureintro
    refine (read_whole (S := S512x128) _ _ hz2 _ _ _).trans ?_
    have hn := coord2_lt i
    have t2 : Scf.trips (k0_t2_loop i).lb (k0_t2_loop i).ub (k0_t2_loop i).st = 0 := trips2_eq i
    have h4 : ∀ inb, View.readAt (Elt F) arg4.view (Rect.unit (s := S1x1x128x512) ![0, 0, 0, 0] S1x1x128x512.size inb).toLoadRect (harg4.unread x0) = x0 := fun inb =>
      (View.readAt_eq_ld _ _ _).trans ((View.ld_unit_zero (S := S1x1x128x512) (by ext a; fin_cases a <;> rfl) inb _).trans (harg4.read_unread _))
    have h7 : ∀ inb, View.readAt (Elt F) arg7.view (Rect.unit (s := S1x4x64) ![0, 0, 0] S1x4x64.size inb).toLoadRect (harg7.unread x3) = x3 := fun inb =>
      (View.readAt_eq_ld _ _ _).trans ((View.ld_unit_zero (S := S1x4x64) (by ext a; fin_cases a <;> rfl) inb _).trans (harg7.read_unread _))
    have h8 : ∀ inb, View.readAt (Elt F) arg8.view (Rect.unit (s := S1x128x1) ![0, 0, 0] S1x128x1.size inb).toLoadRect (harg8.unread x4) = x4 := fun inb =>
      (View.readAt_eq_ld _ _ _).trans ((View.ld_unit_zero (S := S1x128x1) (by ext a; fin_cases a <;> rfl) inb _).trans (harg8.read_unread _))
    have h14 : ∀ inb, View.readAt (Elt F) arg14.view (Rect.unit (s := S512x1024) ![0, 0] S512x1024.size inb).toLoadRect (harg14.unread xs4) = xs4 := fun inb =>
      (View.readAt_eq_ld _ _ _).trans ((View.ld_unit_zero (S := S512x1024) (by ext a; fin_cases a <;> rfl) inb _).trans (harg14.read_unread _))
    have R1 := reads_after (F := F) Variants.none c none i tbM0_0 htbM0_0 arg4 harg4 arg5 harg5 arg6 harg6 arg7 harg7 arg8 harg8 arg9 harg9 arg10 harg10 arg11 harg11 arg12 harg12 arg13 harg13 arg14 harg14 (BitVec.ofNat 32 (i 2).val) (k0_pay20 i) (k0_pay21 i x0) (harg5.unread x1) (harg6.unread x2) fs3
    rw [harg5.read_unread, harg6.read_unread] at R1
    obtain ⟨r10, r11, r12⟩ := R1
    have ho := cond3_even i hc2
    have e10 := ld_vblk x2 (2 * ((i 2).val / 2)) (by omega) (k0_off10 i) ((k0_off10_eq i).trans (by rw [show 2 * ((i 2).val / 2) = (i 2).val by omega])) (k0_off10_inb i hc2)
    have hu : outOf i (tblWord c xt0) x0 x1 x2 x3 x4 xs4 = k0_pay1 (k0_pay38 (tblWord c xt0)) (k0_pay39 x3 (tblWord c xt0)
        (finOf (k0_pay21 i x0) x1 x2 (2 * ((i 2).val / 2)) xs4)) x4 := by
      rw [show 2 * ((i 2).val / 2) = (i 2).val by omega]; rfl
    rw [hu]
    unfold finOf
    rw [← e10]
    sl_unfold_words
    simp only [t2, pb_k0_t2, List.nil_append, View.readCov_unit_zero (S := S512x1024) _ hz2, View.readCov_unit_zero (S := S1x1024) _ hz2,
      View.readCov_unit_zero (S := S144x1024) _ hz2, h4, h7, h8, h14, r10, r11, r12, View.readCov_full (s := S512x1024), View.readCov_full (s := S1x1024), View.readCov_full (s := S144x1024)]
    simp only [View.readAt_eq_ld, harg5.read_unread, harg6.read_unread, tblWord, pay36_eq]
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _; isplitr; · ipureintro; exact harg14.read_unread _
    iexact HS4
  iexact HT0

end Cert.KernelIdeal.Gen

end
-- ==== Proof.FlashFrame.lean ====
module

public import Idealize.ShloMosaic.Lib.Claim
public import proofs.«01_k».proof.Proof.FlashRunA
public import proofs.«01_k».proof.Proof.FlashRunB
public import proofs.«01_k».proof.Proof.FlashRunC

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- What the output's staging buffer and the carried scratch hold after the body at position `n`: the block `outOf` from the
    point's input blocks, and the head's reference matrix. -/
def outsAt0 (hO : Ok m) (c : Dev nD) (n : ℕ) (hn : n < (cfgM m hO).N) : Vec F S512x128 .bf16 × Vec F S512x1024 .f32 :=
  (outOf (grid0.coords ⟨n, hn⟩) (tblWord c (tbl m 0)) (iblk m hO c 0 ⟨n, hn⟩) (iblk m hO c 1 ⟨n, hn⟩) (iblk m hO c 2 ⟨n, hn⟩)
    (iblk m hO c 3 ⟨n, hn⟩) (iblk m hO c 4 ⟨n, hn⟩) (k0_pay26 (k0_pay20 (grid0.coords ⟨n, hn⟩))), k0_pay26 (k0_pay20 (grid0.coords ⟨n, hn⟩)))

/-- `outsAt0` at a point, by its components. -/
theorem outsAt0_at (hO : Ok m) (c : Dev nD) (t : Fin (cfgM m hO).N) :
    outsAt0 m hO c t.val t.isLt = (outOf (grid0.coords t) (tblWord c (tbl m 0)) (iblk m hO c 0 t) (iblk m hO c 1 t) (iblk m hO c 2 t)
      (iblk m hO c 3 t) (iblk m hO c 4 t) (k0_pay26 (k0_pay20 (grid0.coords t))), k0_pay26 (k0_pay20 (grid0.coords t))) := rfl

theorem head_prev : ∀ t : Fin grid0.N, t.val % 16 ≠ 0 →
    (grid0.coords ⟨t.val - 1, Nat.lt_of_le_of_lt (Nat.sub_le _ _) t.isLt⟩ 1).val = (grid0.coords t 1).val := by decide +kernel

/-- Within a head the point before left the same reference matrix. -/
theorem outsAt0_prev (hO : Ok m) (c : Dev nD) (t : Fin (cfgM m hO).N) (h0 : ¬t.val % 16 = 0) (h : t.val - 1 < (cfgM m hO).N) :
    (outsAt0 m hO c (t.val - 1) h).2 = k0_pay26 (k0_pay20 (grid0.coords t)) := by
  unfold outsAt0
  dsimp only
  unfold k0_pay20
  rw [head_prev t h0]

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m hO c n hn).2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m hO c n hn).2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m hO c (n - 1) (by omega)).2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t.val t.isLt).1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl,
    after0_0, after0_1, after0_2, after0_3, after0_4, after0_5]
  rw [show (dats m hO 0 c).Φ t.succ = PhiS m hO c (t.val + 1) t.isLt from rfl, PhiS_succ, PhiT0_eq]
  have hN : t.val < 128 := lt_of_lt_of_eq t.isLt (show (cfgM m hO).N = 128 from N_0)
  by_cases h0 : t.val % 16 = 0
  · by_cases h1 : t.val % 2 = 1
    · exfalso; omega
    · by_cases h2 : t.val % 2 = 0
      · by_cases hz : t.val = 0
        · rw [PhiS_castSucc m hO c t, PhiS_zero m hO c _ _ hz, PhiT0_eq, PhiA0_eq]
          rw [outsAt0_at m hO c t]; dsimp only
          iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩⟩
          iapply (run_A c (grid0.coords t) _ _ _ _ _ _ _ _ _ _ _ _ _ _ _ _ _ _ _ _ _ _ ((hcond0_0 t).mpr h0) (fun h => h1 ((hcond0_1 t).mp h)) ((hcond0_2 t).mpr h2) (iblk m hO c 0 t) (iblk m hO c 1 t) (iblk m hO c 2 t) (iblk m hO c 3 t) (iblk m hO c 4 t) (tbl m 0) Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HS1]; · iexact HS1
          isplitl [HS2]; · iexact HS2
          isplitl [HS3]; · iexact HS3
          isplitl [HS4]; · iexact HS4
          isplitl [HT0]; · iexact HT0
          iintro ⟨H0, H1, H2, H3, H4, H5, HS0, HS1, HS2, HS3, HS4, HT0⟩
          isplitl [HS0 HS1 HS2 HS3 HS4 Hg HT0]
          · isplitl [HS0 HS1 HS2 HS3 HS4 Hg]
            · isplitl [HS0 HS1 HS2 HS3 HS4]
              · isplitl [HS0]
                · iexact HS0
                isplitl [HS1]
                · iexact HS1
                isplitl [HS2]
                · iexact HS2
                isplitl [HS3]
                · iexact HS3
                iexact HS4
              iexact Hg
            iexact HT0
          isplitl [Ho]; · iexact Ho
          isplitl [H0]; · iexact H0
          isplitl [H1]; · iexact H1
          isplitl [H2]; · iexact H2
          isplitl [H3]; · iexact H3
          isplitl [H4]; · iexact H4
          iexact H5
        · rw [PhiS_castSucc m hO c t, PhiS_pos m hO c _ _ hz, PhiT0_eq]
          rw [outsAt0_at m hO c t]; dsimp only
          iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩⟩
          iapply (run_A c (grid0.coords t) _ _ _ _ _ _ _ _ _ _ _ _ _ _ _ _ _ _ _ _ _ _ ((hcond0_0 t).mpr h0) (fun h => h1 ((hcond0_1 t).mp h)) ((hcond0_2 t).mpr h2) (iblk m hO c 0 t) (iblk m hO c 1 t) (iblk m hO c 2 t) (iblk m hO c 3 t) (iblk m hO c 4 t) (tbl m 0) Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HS1]; · iexact HS1
          isplitl [HS2]; · iexact HS2
          isplitl [HS3]; · iexact HS3
          isplitl [HS4]; · iexists _; iexact HS4
          isplitl [HT0]; · iexact HT0
          iintro ⟨H0, H1, H2, H3, H4, H5, HS0, HS1, HS2, HS3, HS4, HT0⟩
          isplitl [HS0 HS1 HS2 HS3 HS4 Hg HT0]
          · isplitl [HS0 HS1 HS2 HS3 HS4 Hg]
            · isplitl [HS0 HS1 HS2 HS3 HS4]
              · isplitl [HS0]
                · iexact HS0
                isplitl [HS1]
                · iexact HS1
                isplitl [HS2]
                · iexact HS2
                isplitl [HS3]
                · iexact HS3
                iexact HS4
              iexact Hg
            iexact HT0
          isplitl [Ho]; · iexact Ho
          isplitl [H0]; · iexact H0
          isplitl [H1]; · iexact H1
          isplitl [H2]; · iexact H2
          isplitl [H3]; · iexact H3
          isplitl [H4]; · iexact H4
          iexact H5
      · exfalso; omega
  · by_cases h1 : t.val % 2 = 1
    · by_cases h2 : t.val % 2 = 0
      · exfalso; omega
      · by_cases hz : t.val = 0
        · exfalso; have hN : t.val < 128 := lt_of_lt_of_eq t.isLt (show (cfgM m hO).N = 128 from N_0); omega
        · rw [PhiS_castSucc m hO c t, PhiS_pos m hO c _ _ hz, PhiT0_eq]
          rw [outsAt0_prev m hO c t h0, outsAt0_at m hO c t]; dsimp only
          iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩⟩
          iapply (run_B c (grid0.coords t) _ _ _ _ _ _ _ _ _ _ _ _ _ _ _ _ _ _ _ _ _ _ (fun h => h0 ((hcond0_0 t).mp h)) ((hcond0_1 t).mpr h1) (fun h => h2 ((hcond0_2 t).mp h)) (iblk m hO c 0 t) (iblk m hO c 1 t) (iblk m hO c 2 t) (iblk m hO c 3 t) (iblk m hO c 4 t) (tbl m 0) _ Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HS1]; · iexact HS1
          isplitl [HS2]; · iexact HS2
          isplitl [HS3]; · iexact HS3
          isplitl [HS4]; · iexact HS4
          isplitl [HT0]; · iexact HT0
          iintro ⟨H0, H1, H2, H3, H4, H5, HS0, HS1, HS2, HS3, HS4, HT0⟩
          isplitl [HS0 HS1 HS2 HS3 HS4 Hg HT0]
          · isplitl [HS0 HS1 HS2 HS3 HS4 Hg]
            · isplitl [HS0 HS1 HS2 HS3 HS4]
              · isplitl [HS0]
                · iexact HS0
                isplitl [HS1]
                · iexact HS1
                isplitl [HS2]
                · iexact HS2
                isplitl [HS3]
                · iexact HS3
                iexact HS4
              iexact Hg
            iexact HT0
          isplitl [Ho]; · iexact Ho
          isplitl [H0]; · iexact H0
          isplitl [H1]; · iexact H1
          isplitl [H2]; · iexact H2
          isplitl [H3]; · iexact H3
          isplitl [H4]; · iexact H4
          iexact H5
    · by_cases h2 : t.val % 2 = 0
      · by_cases hz : t.val = 0
        · exfalso; have hN : t.val < 128 := lt_of_lt_of_eq t.isLt (show (cfgM m hO).N = 128 from N_0); omega
        · rw [PhiS_castSucc m hO c t, PhiS_pos m hO c _ _ hz, PhiT0_eq]
          rw [outsAt0_prev m hO c t h0, outsAt0_at m hO c t]; dsimp only
          iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩⟩
          iapply (run_C c (grid0.coords t) _ _ _ _ _ _ _ _ _ _ _ _ _ _ _ _ _ _ _ _ _ _ (fun h => h0 ((hcond0_0 t).mp h)) (fun h => h1 ((hcond0_1 t).mp h)) ((hcond0_2 t).mpr h2) (iblk m hO c 0 t) (iblk m hO c 1 t) (iblk m hO c 2 t) (iblk m hO c 3 t) (iblk m hO c 4 t) (tbl m 0) _ Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HS1]; · iexact HS1
          isplitl [HS2]; · iexact HS2
          isplitl [HS3]; · iexact HS3
          isplitl [HS4]; · iexact HS4
          isplitl [HT0]; · iexact HT0
          iintro ⟨H0, H1, H2, H3, H4, H5, HS0, HS1, HS2, HS3, HS4, HT0⟩
          isplitl [HS0 HS1 HS2 HS3 HS4 Hg HT0]
          · isplitl [HS0 HS1 HS2 HS3 HS4 Hg]
            · isplitl [HS0 HS1 HS2 HS3 HS4]
              · isplitl [HS0]
                · iexact HS0
                isplitl [HS1]
                · iexact HS1
                isplitl [HS2]
                · iexact HS2
                isplitl [HS3]
                · iexact HS3
                iexact HS4
              iexact Hg
            iexact HT0
          isplitl [Ho]; · iexact Ho
          isplitl [H0]; · iexact H0
          isplitl [H1]; · iexact H1
          isplitl [H2]; · iexact H2
          isplitl [H3]; · iexact H3
          isplitl [H4]; · iexact H4
          iexact H5
      · exfalso; omega

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2, HS3, HS4⟩, Hg⟩, -⟩
  isplitl [HS0 HS1 HS2 HS3 HS4]
  · isplitl [HS0]
    · iexact HS0
    isplitl [HS1]
    · iexact HS1
    isplitl [HS2]
    · iexact HS2
    isplitl [HS3]
    · iexact HS3
    iexists _; iexact HS4
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 128 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.KernelIdeal.Gen

end
-- ==== Proof.FlashOk.lean ====
/- The layer index of the precondition: it lies below the depth, so every window that reads it is inside its array. -/
module

public import proofs.«01_k».proof.Defs
public import proofs.«01_k».proof.Proof.FlashFrame
public import proofs.«01_k».proof.Proof.Gen.Pre_pre

@[expose] public section

noncomputable section

namespace Cert.KernelIdeal.Gen

open Idealize.ShloMosaic Idealize.ShloMosaic.TcCoe Idealize.SL.Sem

variable {F : FTy → Type} [FloatOps F]

/-- Two one-bit words are both one exactly when their conjunction is. -/
theorem andi_one (a b : BitVec 1) : IntOp.andi a b = 1#1 ↔ a = 1#1 ∧ b = 1#1 := by revert a b; decide

/-- A truth value read as one bit is one exactly when it is true. -/
theorem ofBool_one (p : Bool) : (BitVec.ofBool p = 1#1) ↔ p = true := by cases p <;> decide

/-- The precondition bounds the layer index by the depth. -/
theorem lidx_lt (a0 a1 : FVec F Cert.Pre_pre.S2x8192x4x2x64 .f32) (a2 : FVec F Cert.Pre_pre.S2x8192x4x128 .f32)
    (a3 : IVec Cert.Pre_pre.S1 32) (a4 : FVec F Cert.Pre_pre.S4x4x64 .f32) (a5 : FVec F Cert.Pre_pre.S4x128 .f32)
    (h : Cert.Pre_pre.fn (F := F) a0 a1 a2 a3 a4 a5 = fun _ => 1#1) (w : Cert.Pre_pre.S1.Idx) : (a3 w).toNat < 4 := by
  have pre := congrFun h w
  simp only [Cert.Pre_pre.fn, constantI, broadcastInDim, cmpi, andi, andi_one] at pre
  obtain ⟨h1, h2⟩ := pre
  simp only [ofBool_one, IntOp.cmpi, BitVec.sle, BitVec.slt, decide_eq_true_eq, BitVec.toInt, BitVec.toNat_ofNat] at h1 h2
  have := (a3 w).isLt
  split at h1 <;> split at h2 <;> simp at h1 h2 <;> omega

variable [Named F]

/-- A layer index below the depth keeps both windows that read it inside their arrays. -/
theorem ok_of_lt (m : (ℓ : Loc nD τ sig) → Buf (Elt F) ℓ)
    (h : ∀ w : S1.Idx, ((m (((0 : Dev nD) : Thread nD τ).loc main_arg3) : IVec S1 32) w).toNat < 4) : Ok m := by
  have key : ((tbl m).at 0 (Rect.unit (s := S1) ![0] S1.size inb_S1_S1_0) numel1_S1).toNat < 4 := by
    unfold tbl
    simp only [Pipeline.Prefetch.Contents.at]
    have e := V_main_arg3 m (0 : Dev nD)
    have := h
    rw [← e] at this
    exact this _
  refine ⟨fun i => ⟨fun a => ?_, Or.inl rfl⟩, fun i => ⟨fun a => ?_, Or.inl rfl⟩⟩
  · fin_cases a
    · show (((tbl m).at 0 (Rect.unit (s := S1) ![0] S1.size inb_S1_S1_0) numel1_S1).toNat + 1) * 1 ≤ 4
      omega
    · show (0 + 1) * 4 ≤ 4
      decide
    · show (0 + 1) * 64 ≤ 64
      decide
  · fin_cases a
    · show (((tbl m).at 0 (Rect.unit (s := S1) ![0] S1.size inb_S1_S1_0) numel1_S1).toNat + 1) * 1 ≤ 4
      omega
    · show (0 + 1) * 128 ≤ 128
      decide
    · show (0 + 1) * 1 ≤ 1
      decide

end Cert.KernelIdeal.Gen
-- ==== Proof.FlashFrames.lean ====
/- The attention's frames at both readings of its floats. -/
module

public import proofs.«01_k».proof.Proof.FlashOk
public import proofs.«01_k».proof.Proof.FlashBitsOk

@[expose] public section

noncomputable section

namespace Cert.Proof

open Idealize.ShloMosaic Idealize.SL.Sem

/-- The idealized kernel's frame. -/
theorem frame_KernelIdeal : Cert.quiescent_KernelIdeal := fun m ρ h =>
  Cert.KernelIdeal.Gen.frame m ρ (Cert.KernelIdeal.Gen.ok_of_lt m (Cert.KernelIdeal.Gen.lidx_lt _ _ _ _ _ _ (h 0)))

/-- The kernel's frame. -/
theorem frame_Kernel : Cert.quiescent_Kernel := fun m ρ h =>
  Cert.Kernel.Gen.frame m ρ (Cert.Kernel.Gen.ok_of_lt m (Cert.Kernel.Gen.lidx_lt _ _ _ _ _ _ (h 0)))

end Cert.Proof

end
-- ==== Proof.FfnOk.lean ====
/- The layer index of the feed-forward call: the precondition keeps it below the depth, so every window that reads it
   is inside its array, and its transfers move whole words. -/
module

public import proofs.«01_k».proof.Defs
public import proofs.«01_k».proof.Proof.Gen.FfnIdeal.Frame.Runs
public import proofs.«01_k».proof.Proof.Gen.Pre_pre_ffn

@[expose] public section

noncomputable section

namespace Cert.FfnIdeal.Gen

open Idealize.ShloMosaic Idealize.ShloMosaic.TcCoe Idealize.SL.Sem

variable {F : FTy → Type} [FloatOps F]

/-- Two one-bit words are both one exactly when their conjunction is. -/
theorem andi_one (a b : BitVec 1) : IntOp.andi a b = 1#1 ↔ a = 1#1 ∧ b = 1#1 := by revert a b; decide

/-- A truth value read as one bit is one exactly when it is true. -/
theorem ofBool_one (p : Bool) : (BitVec.ofBool p = 1#1) ↔ p = true := by cases p <;> decide

/-- The precondition bounds the layer index by the depth. -/
theorem lidx_lt (a0 : FVec F Cert.Pre_pre_ffn.S2x8192x2048 .f32) (a1 : IVec Cert.Pre_pre_ffn.S1 32)
    (a2 : FVec F Cert.Pre_pre_ffn.S4x2048 .f32) (a3 : FVec F Cert.Pre_pre_ffn.S4x2048x11264 .f32)
    (a4 : FVec F Cert.Pre_pre_ffn.S4x5632x2048 .f32) (a5 : FVec F Cert.Pre_pre_ffn.S2048 .f32)
    (h : Cert.Pre_pre_ffn.fn (F := F) a0 a1 a2 a3 a4 a5 = fun _ => 1#1) (w : Cert.Pre_pre_ffn.S1.Idx) : (a1 w).toNat < 4 := by
  have pre := congrFun h w
  simp only [Cert.Pre_pre_ffn.fn, constantI, broadcastInDim, cmpi, andi, andi_one] at pre
  obtain ⟨h1, h2⟩ := pre
  simp only [ofBool_one, IntOp.cmpi, BitVec.sle, BitVec.slt, decide_eq_true_eq, BitVec.toInt, BitVec.toNat_ofNat] at h1 h2
  have := (a1 w).isLt
  split at h1 <;> split at h2 <;> simp at h1 h2 <;> omega

/-- The layer index the windows read. -/
abbrev lyr (m : (ℓ : Loc nD τ sig) → Buf (Elt F) ℓ) : ℕ :=
  ((tbl m).at 0 (Rect.unit (s := S1) ![0] S1.size inb_S1_S1_0) numel1_S1).toNat

/-- It is the word of the program's argument. -/
theorem lyr_lt (m : (ℓ : Loc nD τ sig) → Buf (Elt F) ℓ)
    (h : ∀ w : S1.Idx, ((m (((0 : Dev nD) : Thread nD τ).loc main_arg1) : IVec S1 32) w).toNat < 4) : lyr m < 4 := by
  unfold lyr tbl
  simp only [Pipeline.Prefetch.Contents.at]
  have e := V_main_arg1 m (0 : Dev nD)
  have := h
  rw [← e] at this
  exact this _

/-- A layer index below the depth keeps the four windows that read it inside their arrays. -/
theorem ok_of_lt (m : (ℓ : Loc nD τ sig) → Buf (Elt F) ℓ)
    (h : ∀ w : S1.Idx, ((m (((0 : Dev nD) : Thread nD τ).loc main_arg1) : IVec S1 32) w).toNat < 4) : Ok m := by
  have key : lyr m < 4 := lyr_lt m h
  have hi (i : grid0.Coords) : (i 1).val < 11 := (i 1).isLt
  refine ⟨fun i => ⟨fun a => ?_, Or.inl rfl⟩, fun i => ⟨fun a => ?_, Or.inr (Or.inr ⟨by decide, rfl, rfl, rfl⟩)⟩,
    fun i => ⟨fun a => ?_, Or.inr (Or.inr ⟨by decide, rfl, rfl, rfl⟩)⟩, fun i => ⟨fun a => ?_, Or.inr ?_⟩⟩
  · fin_cases a
    · show (lyr m + 1) * 1 ≤ 4
      omega
    · show (0 + 1) * 1 ≤ 1
      decide
    · show (0 + 1) * 2048 ≤ 2048
      decide
  · fin_cases a
    · show (lyr m + 1) * 1 ≤ 4
      omega
    · show (0 + 1) * 2048 ≤ 2048
      decide
    · show ((BitVec.ofNat 32 (i 1).val).toNat + 1) * 512 ≤ 11264
      have := hi i
      rw [BitVec.toNat_ofNat]
      omega
  · fin_cases a
    · show (lyr m + 1) * 1 ≤ 4
      omega
    · show (0 + 1) * 2048 ≤ 2048
      decide
    · show ((BitVec.ofNat 32 (i 1).val + 11#32).toNat + 1) * 512 ≤ 11264
      have := hi i
      rw [BitVec.toNat_add, BitVec.toNat_ofNat, BitVec.toNat_ofNat]
      omega
  · fin_cases a
    · show (lyr m + 1) * 1 ≤ 4
      omega
    · show ((BitVec.ofNat 32 (i 1).val).toNat + 1) * 512 ≤ 5632
      have := hi i
      rw [BitVec.toNat_ofNat]
      omega
    · show (0 + 1) * 2048 ≤ 2048
      decide
  · refine Or.inl (Or.inr ⟨by decide, rfl, Or.inl ⟨?_, ?_⟩⟩)
    · show 2 ∣ (BitVec.ofNat 32 (i 1).val).toNat * 512
      exact Dvd.dvd.mul_left (by decide) _
    · show 2 ∣ 512
      decide

end Cert.FfnIdeal.Gen

end
-- ==== Proof.FfnRefOps.lean ====
/- The feed-forward reference's operations in seven stretches, and its run: each buffer ends at what the stretches leave. -/
module

public import proofs.«01_k».proof.Proof.Gen.FfnRefIdeal
public import Idealize.ShloMosaic.Lib.StableHlo.Run
public import Idealize.ShloMosaic.Lib.Pipeline.Frame

@[expose] public section

noncomputable section

namespace Cert.FfnRefIdeal.Stretch

open Cert.FfnRefIdeal Cert.FfnRefIdeal.Gen Idealize.ShloMosaic Idealize.ShloMosaic.TcCoe Idealize.SL.Sem Idealize.ShloMosaic.StableHlo

variable {F : FTy → Type} [FloatOps F]

/-- The contents of a buffer of a shape and an element type. -/
abbrev Ct (F : FTy → Type) (s : Shape) (e : EltTy) := (⟨s, e⟩ : BufTy).Contents (Elt F)

/-- Operations for the layer's norm row. -/
abbrev opsA : List (HloOp τ sig (Elt F)) :=
  [ reshape main_arg1 main_v0 (rfl : (.i32 : EltTy) = .i32) shapeCasts_S1_S_,
    nullary main_c (constantI S_ 32 0#32),
    binary main_v0 main_c main_v1 (cmpi .slt : Ct F S_ .i32 → Ct F S_ .i32 → Ct F S_ .i1),
    nullary main_c_0 (constantI S_ 32 4#32),
    binary main_v0 main_c_0 main_v2 (addi : Ct F S_ .i32 → Ct F S_ .i32 → Ct F S_ .i32),
    ternary main_v1 main_v2 main_v0 main_v3 (select : Ct F S_ .i1 → Ct F S_ .i32 → Ct F S_ .i32 → Ct F S_ .i32),
    nullary main_c_1 (constantI S_ 32 0#32),
    unaryIndexed main_arg2 ![main_v3, main_c_1] ⟨S_, .i32⟩ main_v4 ((fun x i => Host.dynamicSlice S1x2048 x (fun k => (i k (Shape.Idx.first h_S_)).toInt) sliceFits_S4x2048_S1x2048) : Ct F S4x2048 .f32 → (Fin 2 → Ct F S_ .i32) → Ct F S1x2048 .f32),
    reshape main_v4 main_v5 (rfl : (.f32 : EltTy) = .f32) shapeCasts_S1x2048_S2048 ]

/-- What they write, in order. -/
abbrev wA : List (Ref sig .tc) := [main_v0, main_c, main_v1, main_c_0, main_v2, main_v3, main_c_1, main_v4, main_v5]

/-- Operations for the layer's first weights. -/
abbrev opsB : List (HloOp τ sig (Elt F)) :=
  [ reshape main_arg1 main_v6 (rfl : (.i32 : EltTy) = .i32) shapeCasts_S1_S_,
    nullary main_c_2 (constantI S_ 32 0#32),
    binary main_v6 main_c_2 main_v7 (cmpi .slt : Ct F S_ .i32 → Ct F S_ .i32 → Ct F S_ .i1),
    nullary main_c_3 (constantI S_ 32 4#32),
    binary main_v6 main_c_3 main_v8 (addi : Ct F S_ .i32 → Ct F S_ .i32 → Ct F S_ .i32),
    ternary main_v7 main_v8 main_v6 main_v9 (select : Ct F S_ .i1 → Ct F S_ .i32 → Ct F S_ .i32 → Ct F S_ .i32),
    nullary main_c_4 (constantI S_ 32 0#32),
    nullary main_c_5 (constantI S_ 32 0#32),
    unaryIndexed main_arg3 ![main_v9, main_c_4, main_c_5] ⟨S_, .i32⟩ main_v10 ((fun x i => Host.dynamicSlice S1x2048x11264 x (fun k => (i k (Shape.Idx.first h_S_)).toInt) sliceFits_S4x2048x11264_S1x2048x11264) : Ct F S4x2048x11264 .f32 → (Fin 3 → Ct F S_ .i32) → Ct F S1x2048x11264 .f32),
    reshape main_v10 main_v11 (rfl : (.f32 : EltTy) = .f32) shapeCasts_S1x2048x11264_S2048x11264 ]

/-- What they write, in order. -/
abbrev wB : List (Ref sig .tc) := [main_v6, main_c_2, main_v7, main_c_3, main_v8, main_v9, main_c_4, main_c_5, main_v10, main_v11]

/-- Operations for the layer's second weights. -/
abbrev opsC : List (HloOp τ sig (Elt F)) :=
  [ reshape main_arg1 main_v12 (rfl : (.i32 : EltTy) = .i32) shapeCasts_S1_S_,
    nullary main_c_6 (constantI S_ 32 0#32),
    binary main_v12 main_c_6 main_v13 (cmpi .slt : Ct F S_ .i32 → Ct F S_ .i32 → Ct F S_ .i1),
    nullary main_c_7 (constantI S_ 32 4#32),
    binary main_v12 main_c_7 main_v14 (addi : Ct F S_ .i32 → Ct F S_ .i32 → Ct F S_ .i32),
    ternary main_v13 main_v14 main_v12 main_v15 (select : Ct F S_ .i1 → Ct F S_ .i32 → Ct F S_ .i32 → Ct F S_ .i32),
    nullary main_c_8 (constantI S_ 32 0#32),
    nullary main_c_9 (constantI S_ 32 0#32),
    unaryIndexed main_arg4 ![main_v15, main_c_8, main_c_9] ⟨S_, .i32⟩ main_v16 ((fun x i => Host.dynamicSlice S1x5632x2048 x (fun k => (i k (Shape.Idx.first h_S_)).toInt) sliceFits_S4x5632x2048_S1x5632x2048) : Ct F S4x5632x2048 .f32 → (Fin 3 → Ct F S_ .i32) → Ct F S1x5632x2048 .f32),
    reshape main_v16 main_v17 (rfl : (.f32 : EltTy) = .f32) shapeCasts_S1x5632x2048_S5632x2048 ]

/-- What they write, in order. -/
abbrev wC : List (Ref sig .tc) := [main_v12, main_c_6, main_v13, main_c_7, main_v14, main_v15, main_c_8, main_c_9, main_v16, main_v17]

/-- Operations for the normed rows. -/
abbrev opsD : List (HloOp τ sig (Elt F)) :=
  [ binary main_arg0 main_arg0 main_v18 (mulf : Ct F S2x8192x2048 .f32 → Ct F S2x8192x2048 .f32 → Ct F S2x8192x2048 .f32),
    nullary main_cst (constant S_ .f32 0x00000000#32),
    binary main_v18 main_cst main_v19 ((fun x v => Host.reduceAdd x v reducesTo_S2x8192x2048_S2x8192_d2 h_S_) : Ct F S2x8192x2048 .f32 → Ct F S_ .f32 → Ct F S2x8192 .f32),
    unary main_v19 main_v20 (broadcastInDim S2x8192x1 ![0, 1] bcast_S2x8192_S2x8192x1_0_1 : Ct F S2x8192 .f32 → Ct F S2x8192x1 .f32),
    nullary main_cst_10 (constant S_ .f32 0x45000000#32),
    unary main_cst_10 main_v21 (broadcastInDim S2x8192x1 ![] bcast_S_S2x8192x1 : Ct F S_ .f32 → Ct F S2x8192x1 .f32),
    binary main_v20 main_v21 main_v22 (Host.divf : Ct F S2x8192x1 .f32 → Ct F S2x8192x1 .f32 → Ct F S2x8192x1 .f32),
    nullary main_cst_11 (constant S_ .f32 0x358637BD#32),
    unary main_cst_11 main_v23 (broadcastInDim S2x8192x1 ![] bcast_S_S2x8192x1 : Ct F S_ .f32 → Ct F S2x8192x1 .f32),
    binary main_v22 main_v23 main_v24 (addf : Ct F S2x8192x1 .f32 → Ct F S2x8192x1 .f32 → Ct F S2x8192x1 .f32),
    unary main_v24 main_v25 (Host.rsqrt : Ct F S2x8192x1 .f32 → Ct F S2x8192x1 .f32),
    unary main_v25 main_v26 (broadcastInDim S2x8192x2048 ![0, 1, 2] bcast_S2x8192x1_S2x8192x2048_0_1_2 : Ct F S2x8192x1 .f32 → Ct F S2x8192x2048 .f32),
    binary main_arg0 main_v26 main_v27 (mulf : Ct F S2x8192x2048 .f32 → Ct F S2x8192x2048 .f32 → Ct F S2x8192x2048 .f32),
    unary main_v5 main_v28 (broadcastInDim S1x1x2048 ![2] bcast_S2048_S1x1x2048_2 : Ct F S2048 .f32 → Ct F S1x1x2048 .f32),
    unary main_v28 main_v29 (broadcastInDim S2x8192x2048 ![0, 1, 2] bcast_S1x1x2048_S2x8192x2048_0_1_2 : Ct F S1x1x2048 .f32 → Ct F S2x8192x2048 .f32),
    binary main_v27 main_v29 main_v30 (mulf : Ct F S2x8192x2048 .f32 → Ct F S2x8192x2048 .f32 → Ct F S2x8192x2048 .f32) ]

/-- What they write, in order. -/
abbrev wD : List (Ref sig .tc) := [main_v18, main_cst, main_v19, main_v20, main_cst_10, main_v21, main_v22, main_cst_11, main_v23, main_v24, main_v25, main_v26, main_v27, main_v28, main_v29, main_v30]

/-- Operations for the gated columns. -/
abbrev opsE : List (HloOp τ sig (Elt F)) :=
  [ binary main_v30 main_v11 main_v31 ((fun l r => Host.dotGeneral dot_S2x8192x2048_S2048x11264_S2x8192x11264_2_0_01_1_n_n none l r) : Ct F S2x8192x2048 .f32 → Ct F S2048x11264 .f32 → Ct F S2x8192x11264 .f32),
    unary main_v31 main_v32 ((extractStridedSlice S2x8192x5632 ![0, 0, 0] · slices_S2x8192x11264_S2x8192x5632_0_0_0) : Ct F S2x8192x11264 .f32 → Ct F S2x8192x5632 .f32),
    unary main_v31 main_v33 ((extractStridedSlice S2x8192x5632 ![0, 0, 5632] · slices_S2x8192x11264_S2x8192x5632_0_0_5632) : Ct F S2x8192x11264 .f32 → Ct F S2x8192x5632 .f32),
    TRef.unary (TRef.of (T := ⟨S2x8192x5632, .f32⟩) main_v32) (TRef.of (T := ⟨S2x8192x5632, .f32⟩) main_call0_v0) Host.negf,
    TRef.unary (TRef.of (T := ⟨S2x8192x5632, .f32⟩) main_call0_v0) (TRef.of (T := ⟨S2x8192x5632, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S2x8192x5632, .f32⟩) main_call0_v2) (broadcastInDim S2x8192x5632 ![] bcast_S_S2x8192x5632),
    TRef.binary (TRef.of (T := ⟨S2x8192x5632, .f32⟩) main_call0_v2) (TRef.of (T := ⟨S2x8192x5632, .f32⟩) main_call0_v1) (TRef.of (T := ⟨S2x8192x5632, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S2x8192x5632, .f32⟩) main_call0_v4) (broadcastInDim S2x8192x5632 ![] bcast_S_S2x8192x5632),
    TRef.binary (TRef.of (T := ⟨S2x8192x5632, .f32⟩) main_call0_v4) (TRef.of (T := ⟨S2x8192x5632, .f32⟩) main_call0_v3) (TRef.of (T := ⟨S2x8192x5632, .f32⟩) main_call0_v5) Host.divf,
    TRef.binary (TRef.of (T := ⟨S2x8192x5632, .f32⟩) main_v32) (TRef.of (T := ⟨S2x8192x5632, .f32⟩) main_call0_v5) (TRef.of (T := ⟨S2x8192x5632, .f32⟩) main_v34) mulf,
    binary main_v34 main_v33 main_v35 (mulf : Ct F S2x8192x5632 .f32 → Ct F S2x8192x5632 .f32 → Ct F S2x8192x5632 .f32) ]

/-- What they write, in order. -/
abbrev wE : List (Ref sig .tc) := [main_v31, main_v32, main_v33, main_call0_v0, main_call0_v1, main_call0_cst, main_call0_v2, main_call0_v3, main_call0_cst_0, main_call0_v4, main_call0_v5, main_v34, main_v35]

/-- Operations for the rows plus the second product. -/
abbrev opsF : List (HloOp τ sig (Elt F)) :=
  [ binary main_v35 main_v17 main_v36 ((fun l r => Host.dotGeneral dot_S2x8192x5632_S5632x2048_S2x8192x2048_2_0_01_1_n_n none l r) : Ct F S2x8192x5632 .f32 → Ct F S5632x2048 .f32 → Ct F S2x8192x2048 .f32),
    binary main_arg0 main_v36 main_v37 (addf : Ct F S2x8192x2048 .f32 → Ct F S2x8192x2048 .f32 → Ct F S2x8192x2048 .f32) ]

/-- What they write, in order. -/
abbrev wF : List (Ref sig .tc) := [main_v36, main_v37]

/-- Operations for the final norm, taken on the last layer. -/
abbrev opsG : List (HloOp τ sig (Elt F)) :=
  [ reshape main_arg1 main_v38 (rfl : (.i32 : EltTy) = .i32) shapeCasts_S1_S_,
    nullary main_c_12 (constantI S_ 32 3#32),
    binary main_v38 main_c_12 main_v39 (cmpi .eq : Ct F S_ .i32 → Ct F S_ .i32 → Ct F S_ .i1),
    binary main_v37 main_v37 main_v40 (mulf : Ct F S2x8192x2048 .f32 → Ct F S2x8192x2048 .f32 → Ct F S2x8192x2048 .f32),
    nullary main_cst_13 (constant S_ .f32 0x00000000#32),
    binary main_v40 main_cst_13 main_v41 ((fun x v => Host.reduceAdd x v reducesTo_S2x8192x2048_S2x8192_d2 h_S_) : Ct F S2x8192x2048 .f32 → Ct F S_ .f32 → Ct F S2x8192 .f32),
    unary main_v41 main_v42 (broadcastInDim S2x8192x1 ![0, 1] bcast_S2x8192_S2x8192x1_0_1 : Ct F S2x8192 .f32 → Ct F S2x8192x1 .f32),
    nullary main_cst_14 (constant S_ .f32 0x45000000#32),
    unary main_cst_14 main_v43 (broadcastInDim S2x8192x1 ![] bcast_S_S2x8192x1 : Ct F S_ .f32 → Ct F S2x8192x1 .f32),
    binary main_v42 main_v43 main_v44 (Host.divf : Ct F S2x8192x1 .f32 → Ct F S2x8192x1 .f32 → Ct F S2x8192x1 .f32),
    nullary main_cst_15 (constant S_ .f32 0x358637BD#32),
    unary main_cst_15 main_v45 (broadcastInDim S2x8192x1 ![] bcast_S_S2x8192x1 : Ct F S_ .f32 → Ct F S2x8192x1 .f32),
    binary main_v44 main_v45 main_v46 (addf : Ct F S2x8192x1 .f32 → Ct F S2x8192x1 .f32 → Ct F S2x8192x1 .f32),
    unary main_v46 main_v47 (Host.rsqrt : Ct F S2x8192x1 .f32 → Ct F S2x8192x1 .f32),
    unary main_v47 main_v48 (broadcastInDim S2x8192x2048 ![0, 1, 2] bcast_S2x8192x1_S2x8192x2048_0_1_2 : Ct F S2x8192x1 .f32 → Ct F S2x8192x2048 .f32),
    binary main_v37 main_v48 main_v49 (mulf : Ct F S2x8192x2048 .f32 → Ct F S2x8192x2048 .f32 → Ct F S2x8192x2048 .f32),
    unary main_arg5 main_v50 (broadcastInDim S1x1x2048 ![2] bcast_S2048_S1x1x2048_2 : Ct F S2048 .f32 → Ct F S1x1x2048 .f32),
    unary main_v50 main_v51 (broadcastInDim S2x8192x2048 ![0, 1, 2] bcast_S1x1x2048_S2x8192x2048_0_1_2 : Ct F S1x1x2048 .f32 → Ct F S2x8192x2048 .f32),
    binary main_v49 main_v51 main_v52 (mulf : Ct F S2x8192x2048 .f32 → Ct F S2x8192x2048 .f32 → Ct F S2x8192x2048 .f32),
    TRef.ternary (TRef.of (T := ⟨S_, .i1⟩) main_v39) (TRef.of (T := ⟨S2x8192x2048, .f32⟩) main_v52) (TRef.of (T := ⟨S2x8192x2048, .f32⟩) main_v37) (TRef.of (T := ⟨S2x8192x2048, .f32⟩) main_v53) (fun p a b => select (broadcastInDim S2x8192x2048 ![] bcast_S_S2x8192x2048 p) a b),
    reshape main_v53 main_v54 (rfl : (.f32 : EltTy) = .f32) shapeCasts_S2x8192x2048_S16384x2048 ]

/-- What they write, in order. -/
abbrev wG : List (Ref sig .tc) := [main_v38, main_c_12, main_v39, main_v40, main_cst_13, main_v41, main_v42, main_cst_14, main_v43, main_v44, main_cst_15, main_v45, main_v46, main_v47, main_v48, main_v49, main_v50, main_v51, main_v52, main_v53, main_v54]

/-- All of them. -/
abbrev ops : List (HloOp τ sig (Elt F)) := (opsA (F := F)) ++ ((opsB (F := F)) ++ ((opsC (F := F)) ++ ((opsD (F := F)) ++ ((opsE (F := F)) ++ ((opsF (F := F)) ++ ((opsG (F := F))))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., nullary_bufs_sub .., binary_bufs_sub .., nullary_bufs_sub .., binary_bufs_sub .., ternary_bufs_sub .., nullary_bufs_sub .., unaryIndexed_bufs_sub .., reshape_bufs_sub .., reshape_bufs_sub .., nullary_bufs_sub .., binary_bufs_sub .., nullary_bufs_sub .., binary_bufs_sub .., ternary_bufs_sub .., nullary_bufs_sub .., nullary_bufs_sub .., unaryIndexed_bufs_sub .., reshape_bufs_sub .., reshape_bufs_sub .., nullary_bufs_sub .., binary_bufs_sub .., nullary_bufs_sub .., binary_bufs_sub .., ternary_bufs_sub .., nullary_bufs_sub .., nullary_bufs_sub .., unaryIndexed_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub .., reshape_bufs_sub .., nullary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., ternary_bufs_sub .., reshape_bufs_sub ..⟩

set_option maxRecDepth 8192 in
/-- The run. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ

set_option maxRecDepth 8192 in
/-- A buffer the operations do not write is unchanged. -/
theorem unwritten (V : Valuation τ sig (Elt F)) (r : Ref sig .tc) (hr : r ∉ wA ++ (wB ++ (wC ++ (wD ++ (wE ++ (wF ++ wG)))))) :
    after ops V (Proc.devRef .tc r) = V (Proc.devRef .tc r) :=
  after_of_writes_sub ops V (forall_writes_sub_of_map rfl) hr

end Cert.FfnRefIdeal.Stretch

end
-- ==== Proof.FfnFrames.lean ====
/- The frames of the feed-forward programs and of their reference. -/
module

public import proofs.«01_k».proof.Proof.FfnOk
public import proofs.«01_k».proof.Proof.FfnBitsOk
public import proofs.«01_k».proof.Proof.FfnRefOps
public import proofs.«01_k».proof.Proof.Gen.FfnIdeal.Frame
public import proofs.«01_k».proof.Proof.Gen.Ffn.Frame
public import proofs.«01_k».proof.Proof.Gen.Pre_pre_ffn
public import proofs.«01_k».proof.Defs

@[expose] public section

noncomputable section

namespace Cert.Proof

open Idealize.ShloMosaic Idealize.ShloMosaic.TcCoe Idealize.SL.Sem

/-- The idealized feed-forward kernel's frame. -/
theorem frame_FfnIdeal : Cert.quiescent_FfnIdeal := fun m ρ h =>
  Cert.FfnIdeal.Gen.frame m ρ (Cert.FfnIdeal.Gen.ok_of_lt m (Cert.FfnIdeal.Gen.lidx_lt _ _ _ _ _ _ (h 0)))

/-- The feed-forward kernel's frame. -/
theorem frame_Ffn : Cert.quiescent_Ffn := fun m ρ h =>
  Cert.Ffn.Gen.frame m ρ (Cert.Ffn.Gen.ok_of_lt m (Cert.Ffn.Gen.lidx_lt _ _ _ _ _ _ (h 0)))

/-- The reference's arguments end unchanged. -/
theorem ref_unchanged {F : FTy → Type} [FloatOps F]
    (m : (ℓ : Loc Cert.FfnRefIdeal.nD Cert.FfnRefIdeal.τ Cert.FfnRefIdeal.sig) → Buf (Elt F) ℓ) (c : Dev Cert.FfnRefIdeal.nD)
    (r : Ref Cert.FfnRefIdeal.sig .tc)
    (hr : r ∉ Cert.FfnRefIdeal.Stretch.wA ++ (Cert.FfnRefIdeal.Stretch.wB ++ (Cert.FfnRefIdeal.Stretch.wC ++ (Cert.FfnRefIdeal.Stretch.wD ++ (Cert.FfnRefIdeal.Stretch.wE ++ (Cert.FfnRefIdeal.Stretch.wF ++ Cert.FfnRefIdeal.Stretch.wG)))))) :
    StableHlo.after Cert.FfnRefIdeal.Stretch.ops (StableHlo.launchContents m c) (Proc.devRef .tc r)
      = m ((c.tc : Thread Cert.FfnRefIdeal.nD Cert.FfnRefIdeal.τ).loc r) :=
  Cert.FfnRefIdeal.Stretch.unwritten _ r hr

set_option maxRecDepth 8192 in
/-- The reference's frame. -/
theorem frame_FfnRefIdeal : Cert.quiescent_FfnRefIdeal := fun m ρ _ =>
  (θ_run Cert.FfnRefIdeal.defs _ _).mono (fun r h => And.intro (fun c =>
    ⟨(h c _).trans (ref_unchanged m c Cert.FfnRefIdeal.main_arg0 (by decide)),
     (h c _).trans (ref_unchanged m c Cert.FfnRefIdeal.main_arg1 (by decide)),
     (h c _).trans (ref_unchanged m c Cert.FfnRefIdeal.main_arg2 (by decide)),
     (h c _).trans (ref_unchanged m c Cert.FfnRefIdeal.main_arg3 (by decide)),
     (h c _).trans (ref_unchanged m c Cert.FfnRefIdeal.main_arg4 (by decide)),
     (h c _).trans (ref_unchanged m c Cert.FfnRefIdeal.main_arg5 (by decide))⟩)
    (sem_eq_zero_of_no_sems (by decide) r.2)) (Cert.FfnRefIdeal.Stretch.run m ρ)

end Cert.Proof

end
-- ==== Proof.FfnVal.lean ====
/- What one grid point of the feed-forward call leaves in the output block and in the normed-rows scratch, as the
   kernel's own stored values. -/
module

public import proofs.«01_k».proof.Proof.Gen.FfnIdeal.Frame
public import Idealize.ShloMosaic.Lib.Pipeline.Value
public import Idealize.ShloMosaic.Lib.Tactic

@[expose] public section

set_option maxRecDepth 16384

noncomputable section

namespace Cert.FfnIdeal.Gen

open Idealize.ShloMosaic Idealize.ShloMosaic.TcCoe Idealize.ShloMosaic.Tactic
open Idealize.SL Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a row block's first point the output block is left at the rows plus the first weight block's product. -/
theorem out_B (c : Dev nD) (i : grid0.Coords) (arg3 : Memref sig .tc .vmem S1024x2048 .f32) (harg3 : arg3.IsWhole) (arg4 : Memref sig .tc .vmem S1x1x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .bf16) (harg10 : arg10.IsWhole) (hc0 : cond0_0 i) (x0 : Vec F S1024x2048 .f32) (x1 : Vec F S1x1x2048 .f32) (x2 : Vec F S1x2048x512 .bf16) (x3 : Vec F S1x2048x512 .bf16) (x4 : Vec F S1x512x2048 .bf16) (x5 : Vec F S1x2048 .f32) (xt0 : TbBuf0 (F := F) c tbM0_0) (hc1 : ¬cond0_1 i (tbM0_0.view.readAt (Elt F) (Rect.unit (s := S1) ![0] S1.size inb_S1_S1_0).toLoadRect xt0 (Shape.Idx.first (numel1_S1.symm ▸ Nat.one_pos)))) :
    out0_B_6 c i arg3 harg3 arg4 harg4 arg5 harg5 arg6 harg6 arg7 harg7 arg8 harg8 arg9 harg9 arg10 harg10 hc0 x0 x1 x2 x3 x4 x5 xt0 hc1 = k0_pay3 (k0_pay2 x0 x1) x2 x3 (k0_pay1 x0) x4 := by
  unfold out0_B_6
  rw [View.read_writes_eq_canon _ _ _ (cover0_B_6 c i arg3 harg3 arg4 harg4 arg5 harg5 arg6 harg6 arg7 harg7 arg8 harg8 arg9 harg9 arg10 harg10 hc0 x0 x1 x2 x3 x4 x5 xt0 hc1)]
  unfold kernelRun0_B
  dsimp only
  sl_unfold_words
  rw [View.canon_cons_unit_zero (S := S1024x2048) hz2]
  simp only [View.readCov_unit_zero (S := S1024x2048) _ hz2]
  simp only [View.readAt_eq_ld, harg3.read_unread, harg4.read_unread, harg5.read_unread, harg6.read_unread, harg7.read_unread,
    harg8.read_unread, harg9.read_unread, harg10.read_unread, View.ld_unit_zero (S := S1024x2048) hz2, View.ld_unit_zero (S := S1x2048) hz2,
    View.ld_unit_zero (S := S1x1x2048) hz3, View.ld_unit_zero (S := S1x2048x512) hz3, View.ld_unit_zero (S := S1x512x2048) hz3]

/-- At a row block's first point the scratch is left at the normed rows. -/
theorem sout_B (c : Dev nD) (i : grid0.Coords) (arg3 : Memref sig .tc .vmem S1024x2048 .f32) (harg3 : arg3.IsWhole) (arg4 : Memref sig .tc .vmem S1x1x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .bf16) (harg10 : arg10.IsWhole) (hc0 : cond0_0 i) (x0 : Vec F S1024x2048 .f32) (x1 : Vec F S1x1x2048 .f32) (x2 : Vec F S1x2048x512 .bf16) (x3 : Vec F S1x2048x512 .bf16) (x4 : Vec F S1x512x2048 .bf16) (x5 : Vec F S1x2048 .f32) (xt0 : TbBuf0 (F := F) c tbM0_0) (hc1 : ¬cond0_1 i (tbM0_0.view.readAt (Elt F) (Rect.unit (s := S1) ![0] S1.size inb_S1_S1_0).toLoadRect xt0 (Shape.Idx.first (numel1_S1.symm ▸ Nat.one_pos)))) :
    sout0_B_0 c i arg3 harg3 arg4 harg4 arg5 harg5 arg6 harg6 arg7 harg7 arg8 harg8 arg9 harg9 arg10 harg10 hc0 x0 x1 x2 x3 x4 x5 xt0 hc1 = k0_pay2 x0 x1 := by
  unfold sout0_B_0
  rw [View.read_writes_eq_canon _ _ _ (scover0_B_0 c i arg3 harg3 arg4 harg4 arg5 harg5 arg6 harg6 arg7 harg7 arg8 harg8 arg9 harg9 arg10 harg10 hc0 x0 x1 x2 x3 x4 x5 xt0 hc1)]
  unfold kernelRun0_B
  dsimp only
  sl_unfold_words
  rw [View.canon_unit_zero (S := S1024x2048) hz2]
  simp only [View.readAt_eq_ld, harg3.read_unread, harg4.read_unread, harg5.read_unread, harg6.read_unread, harg7.read_unread,
    harg8.read_unread, harg9.read_unread, harg10.read_unread, View.ld_unit_zero (S := S1024x2048) hz2, View.ld_unit_zero (S := S1x2048) hz2,
    View.ld_unit_zero (S := S1x1x2048) hz3, View.ld_unit_zero (S := S1x2048x512) hz3, View.ld_unit_zero (S := S1x512x2048) hz3]

/-- At a later point the output block gains the point's weight block's product. -/
theorem out_D (c : Dev nD) (i : grid0.Coords) (arg3 : Memref sig .tc .vmem S1024x2048 .f32) (harg3 : arg3.IsWhole) (arg4 : Memref sig .tc .vmem S1x1x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .bf16) (harg10 : arg10.IsWhole) (hc0 : ¬cond0_0 i) (x0 : Vec F S1024x2048 .f32) (x1 : Vec F S1x1x2048 .f32) (x2 : Vec F S1x2048x512 .bf16) (x3 : Vec F S1x2048x512 .bf16) (x4 : Vec F S1x512x2048 .bf16) (x5 : Vec F S1x2048 .f32) (xt0 : TbBuf0 (F := F) c tbM0_0) (xo6 : Vec F S1024x2048 .f32) (xs0 : Vec F S1024x2048 .bf16) (hc1 : ¬cond0_1 i (tbM0_0.view.readAt (Elt F) (Rect.unit (s := S1) ![0] S1.size inb_S1_S1_0).toLoadRect xt0 (Shape.Idx.first (numel1_S1.symm ▸ Nat.one_pos)))) :
    out0_D_6 c i arg3 harg3 arg4 harg4 arg5 harg5 arg6 harg6 arg7 harg7 arg8 harg8 arg9 harg9 arg10 harg10 hc0 x0 x1 x2 x3 x4 x5 xt0 xo6 xs0 hc1 = k0_pay3 xs0 x2 x3 xo6 x4 := by
  unfold out0_D_6
  rw [View.read_writes_eq_canon _ _ _ (cover0_D_6 c i arg3 harg3 arg4 harg4 arg5 harg5 arg6 harg6 arg7 harg7 arg8 harg8 arg9 harg9 arg10 harg10 hc0 x0 x1 x2 x3 x4 x5 xt0 xo6 xs0 hc1)]
  unfold kernelRun0_D
  dsimp only
  sl_unfold_words
  rw [View.canon_unit_zero (S := S1024x2048) hz2]
  simp only [View.readAt_eq_ld, harg3.read_unread, harg4.read_unread, harg5.read_unread, harg6.read_unread, harg7.read_unread,
    harg8.read_unread, harg9.read_unread, harg10.read_unread, View.ld_unit_zero (S := S1024x2048) hz2, View.ld_unit_zero (S := S1x2048) hz2,
    View.ld_unit_zero (S := S1x1x2048) hz3, View.ld_unit_zero (S := S1x2048x512) hz3, View.ld_unit_zero (S := S1x512x2048) hz3]

/-- At the last point of the last layer the output block is normed after it gains the product. -/
theorem out_C (c : Dev nD) (i : grid0.Coords) (arg3 : Memref sig .tc .vmem S1024x2048 .f32) (harg3 : arg3.IsWhole) (arg4 : Memref sig .tc .vmem S1x1x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .bf16) (harg10 : arg10.IsWhole) (hc0 : ¬cond0_0 i) (x0 : Vec F S1024x2048 .f32) (x1 : Vec F S1x1x2048 .f32) (x2 : Vec F S1x2048x512 .bf16) (x3 : Vec F S1x2048x512 .bf16) (x4 : Vec F S1x512x2048 .bf16) (x5 : Vec F S1x2048 .f32) (xt0 : TbBuf0 (F := F) c tbM0_0) (xo6 : Vec F S1024x2048 .f32) (xs0 : Vec F S1024x2048 .bf16) (hc1 : cond0_1 i (tbM0_0.view.readAt (Elt F) (Rect.unit (s := S1) ![0] S1.size inb_S1_S1_0).toLoadRect xt0 (Shape.Idx.first (numel1_S1.symm ▸ Nat.one_pos)))) :
    out0_C_6 c i arg3 harg3 arg4 harg4 arg5 harg5 arg6 harg6 arg7 harg7 arg8 harg8 arg9 harg9 arg10 harg10 hc0 x0 x1 x2 x3 x4 x5 xt0 xo6 xs0 hc1 = k0_pay4 (k0_pay3 xs0 x2 x3 xo6 x4) x5 := by
  unfold out0_C_6
  rw [View.read_writes_eq_canon _ _ _ (cover0_C_6 c i arg3 harg3 arg4 harg4 arg5 harg5 arg6 harg6 arg7 harg7 arg8 harg8 arg9 harg9 arg10 harg10 hc0 x0 x1 x2 x3 x4 x5 xt0 xo6 xs0 hc1)]
  unfold kernelRun0_C
  dsimp only
  sl_unfold_words
  rw [View.canon_cons_unit_zero (S := S1024x2048) hz2]
  simp only [View.readCov_unit_zero (S := S1024x2048) _ hz2]
  simp only [View.readAt_eq_ld, harg3.read_unread, harg4.read_unread, harg5.read_unread, harg6.read_unread, harg7.read_unread,
    harg8.read_unread, harg9.read_unread, harg10.read_unread, View.ld_unit_zero (S := S1024x2048) hz2, View.ld_unit_zero (S := S1x2048) hz2,
    View.ld_unit_zero (S := S1x1x2048) hz3, View.ld_unit_zero (S := S1x2048x512) hz3, View.ld_unit_zero (S := S1x512x2048) hz3]

end Cert.FfnIdeal.Gen

end
-- ==== Proof.FfnPay.lean ====
/- The stored values of the feed-forward kernel, read at one element over the extended reals. -/
module

public import proofs.«01_k».proof.Proof.Gen.FfnIdeal.Skeleton
public import proofs.«01_k».proof.Proof.Gen.FfnIdeal
public import Idealize.ShloMosaic.Lib.Pointwise

@[expose] public section

set_option maxRecDepth 16384

noncomputable section

namespace Cert.FfnIdeal.Gen

open Idealize.ShloMosaic

/-- The mean square of a row, plus the guard, as the reciprocal root the row is scaled by. -/
def scale (row : Fin 2048 → EReal) : EReal :=
  Ideal.rsqrt (Ideal.div (∑ k : Fin 2048, row k * row k) (Ideal.ofBits .f32 0x45000000#32) + Ideal.ofBits .f32 0x358637BD#32)

theorem pay1_apply (x : Vec Ideal S1024x2048 .f32) (r : Fin 1024) (d : Fin 2048) :
    k0_pay1 x (ix2 r d) = x (ix2 r d) := by
  pointwise [k0_pay1]

theorem pay2_apply (x : Vec Ideal S1024x2048 .f32) (g : Vec Ideal S1x1x2048 .f32) (r : Fin 1024) (d : Fin 2048) :
    k0_pay2 x g (ix2 r d) = x (ix2 r d) * scale (fun k => x (ix2 r k)) * g (ix3 0 0 d) := by
  pointwise [k0_pay2, k0_pay1, scale]

theorem pay3_apply (xn : Vec Ideal S1024x2048 .bf16) (wg wu : Vec Ideal S1x2048x512 .bf16) (acc : Vec Ideal S1024x2048 .f32)
    (wd : Vec Ideal S1x512x2048 .bf16) (r : Fin 1024) (d : Fin 2048) :
    k0_pay3 xn wg wu acc wd (ix2 r d) = acc (ix2 r d) + ∑ k : Fin 512,
      (∑ e : Fin 2048, xn (ix2 r e) * wg (ix3 0 e k)) * Ideal.logistic (∑ e : Fin 2048, xn (ix2 r e) * wg (ix3 0 e k))
        * (∑ e : Fin 2048, xn (ix2 r e) * wu (ix3 0 e k)) * wd (ix3 0 k d) := by
  pointwise [k0_pay3]

theorem pay4_apply (x : Vec Ideal S1024x2048 .f32) (g : Vec Ideal S1x2048 .f32) (r : Fin 1024) (d : Fin 2048) :
    k0_pay4 x g (ix2 r d) = x (ix2 r d) * scale (fun k => x (ix2 r k)) * g (ix2 0 d) := by
  pointwise [k0_pay4, scale]

end Cert.FfnIdeal.Gen

end
-- ==== Proof.FfnBlk.lean ====
/- The feed-forward call's input blocks at a grid point, as elements of the arrays they are cut from. -/
module

public import proofs.«01_k».proof.Proof.FfnOk
public import Idealize.ShloMosaic.Lib.Pointwise
public import Idealize.ShloMosaic.Lib.Pipeline.Value

@[expose] public section

set_option maxRecDepth 16384

noncomputable section

namespace Cert.FfnIdeal.Gen

open Idealize.ShloMosaic Idealize.ShloMosaic.TcCoe Idealize.SL.Sem

variable {F : FTy → Type} [FloatOps F]
variable (m : (ℓ : Loc nD τ sig) → Buf (Elt F) ℓ)

theorem N_lt (hO : Ok m) (t : Fin (cfgM m hO).N) : t.val < 176 := Nat.lt_of_lt_of_eq t.isLt N_0

theorem gco0 (t : Fin grid0.N) : (grid0.coords t 0).val = t.val / 11 % 16 := Pipeline.Grid.coords_val t 0 (by decide) rfl
theorem gco1 (t : Fin grid0.N) : (grid0.coords t 1).val = t.val / 1 % 11 := Pipeline.Grid.coords_val t 1 (by decide) rfl

theorem co0 (hO : Ok m) (t : Fin (cfgM m hO).N) : (grid0.coords t 0).val = t.val / 11 := by
  have ht := N_lt m hO t
  have e : (grid0.coords t 0).val = t.val / 11 % 16 := gco0 t
  omega

theorem co1 (hO : Ok m) (t : Fin (cfgM m hO).N) : (grid0.coords t 1).val = t.val % 11 := by
  have e : (grid0.coords t 1).val = t.val / 1 % 11 := gco1 t
  omega

/-! The six input blocks at a point. -/
def b0 (hO : Ok m) (c : Dev nD) (t : Fin (cfgM m hO).N) : Vec F S1024x2048 .f32 := iblk m hO c 0 t
def b1 (hO : Ok m) (c : Dev nD) (t : Fin (cfgM m hO).N) : Vec F S1x1x2048 .f32 := iblk m hO c 1 t
def b2 (hO : Ok m) (c : Dev nD) (t : Fin (cfgM m hO).N) : Vec F S1x2048x512 .bf16 := iblk m hO c 2 t
def b3 (hO : Ok m) (c : Dev nD) (t : Fin (cfgM m hO).N) : Vec F S1x2048x512 .bf16 := iblk m hO c 3 t
def b4 (hO : Ok m) (c : Dev nD) (t : Fin (cfgM m hO).N) : Vec F S1x512x2048 .bf16 := iblk m hO c 4 t
def b5 (hO : Ok m) (c : Dev nD) (t : Fin (cfgM m hO).N) : Vec F S1x2048 .f32 := iblk m hO c 5 t

/-- Row `r` of row block `t / 11`. -/
abbrev row (hO : Ok m) (t : Fin (cfgM m hO).N) (r : Fin 1024) : Fin 16384 :=
  ⟨1024 * (t.val / 11) + r.val, by have := N_lt m hO t; omega⟩

theorem blk0 (hO : Ok m) (c : Dev nD) (t : Fin (cfgM m hO).N) (r : Fin 1024) (d : Fin 2048) :
    b0 m hO c t (ix2 r d) = (V m c main_v0 : Vec F S16384x2048 .f32) (ix2 (row m hO t r) d) := by
  unfold b0 iblk
  refine (View.read_apply _ _).trans ?_
  show (V m c main_v0 : Vec F S16384x2048 .f32) _ = (V m c main_v0 : Vec F S16384x2048 .f32) _
  congr 1
  funext a
  apply Fin.ext
  have h0 := co0 m hO t
  have ht := N_lt m hO t
  match a with
  | ⟨0, _⟩ =>
    show (BitVec.ofNat 32 (grid0.coords t 0).val).toNat * 1024 + 1 * r.val = 1024 * (t.val / 11) + r.val
    rw [h0, BitVec.toNat_ofNat]; omega
  | ⟨1, _⟩ => show 0 * 2048 + 1 * d.val = d.val; omega

theorem blk1 (hO : Ok m) (hl : lyr m < 4) (c : Dev nD) (t : Fin (cfgM m hO).N) (d : Fin 2048) :
    b1 m hO c t (ix3 0 0 d) = (V m c main_v1 : Vec F S4x1x2048 .f32) (ix3 ⟨lyr m, hl⟩ 0 d) := by
  unfold b1 iblk
  refine (View.read_apply _ _).trans ?_
  show (V m c main_v1 : Vec F S4x1x2048 .f32) _ = (V m c main_v1 : Vec F S4x1x2048 .f32) _
  congr 1
  funext a
  apply Fin.ext
  match a with
  | ⟨0, _⟩ => show lyr m * 1 + 1 * 0 = lyr m; omega
  | ⟨1, _⟩ => show 0 * 1 + 1 * 0 = 0; omega
  | ⟨2, _⟩ => show 0 * 2048 + 1 * d.val = d.val; omega

theorem blk2 (hO : Ok m) (hl : lyr m < 4) (c : Dev nD) (t : Fin (cfgM m hO).N) (e : Fin 2048) (k : Fin 512) :
    b2 m hO c t (ix3 0 e k)
      = (V m c main_v2 : Vec F S4x2048x11264 .bf16) (ix3 ⟨lyr m, hl⟩ e ⟨512 * (t.val % 11) + k.val, by omega⟩) := by
  unfold b2 iblk
  refine (View.read_apply _ _).trans ?_
  show (V m c main_v2 : Vec F S4x2048x11264 .bf16) _ = (V m c main_v2 : Vec F S4x2048x11264 .bf16) _
  congr 1
  funext a
  apply Fin.ext
  have h1 := co1 m hO t
  match a with
  | ⟨0, _⟩ => show lyr m * 1 + 1 * 0 = lyr m; omega
  | ⟨1, _⟩ => show 0 * 2048 + 1 * e.val = e.val; omega
  | ⟨2, _⟩ =>
    show (BitVec.ofNat 32 (grid0.coords t 1).val).toNat * 512 + 1 * k.val = 512 * (t.val % 11) + k.val
    rw [h1, BitVec.toNat_ofNat]; omega

theorem blk3 (hO : Ok m) (hl : lyr m < 4) (c : Dev nD) (t : Fin (cfgM m hO).N) (e : Fin 2048) (k : Fin 512) :
    b3 m hO c t (ix3 0 e k)
      = (V m c main_v2 : Vec F S4x2048x11264 .bf16) (ix3 ⟨lyr m, hl⟩ e ⟨5632 + (512 * (t.val % 11) + k.val), by omega⟩) := by
  unfold b3 iblk
  refine (View.read_apply _ _).trans ?_
  show (V m c main_v2 : Vec F S4x2048x11264 .bf16) _ = (V m c main_v2 : Vec F S4x2048x11264 .bf16) _
  congr 1
  funext a
  apply Fin.ext
  have h1 := co1 m hO t
  match a with
  | ⟨0, _⟩ => show lyr m * 1 + 1 * 0 = lyr m; omega
  | ⟨1, _⟩ => show 0 * 2048 + 1 * e.val = e.val; omega
  | ⟨2, _⟩ =>
    show (BitVec.ofNat 32 (grid0.coords t 1).val + 11#32).toNat * 512 + 1 * k.val = 5632 + (512 * (t.val % 11) + k.val)
    rw [h1, BitVec.toNat_add, BitVec.toNat_ofNat, BitVec.toNat_ofNat]; omega

theorem blk4 (hO : Ok m) (hl : lyr m < 4) (c : Dev nD) (t : Fin (cfgM m hO).N) (k : Fin 512) (d : Fin 2048) :
    b4 m hO c t (ix3 0 k d)
      = (V m c main_v3 : Vec F S4x5632x2048 .bf16) (ix3 ⟨lyr m, hl⟩ ⟨512 * (t.val % 11) + k.val, by omega⟩ d) := by
  unfold b4 iblk
  refine (View.read_apply _ _).trans ?_
  show (V m c main_v3 : Vec F S4x5632x2048 .bf16) _ = (V m c main_v3 : Vec F S4x5632x2048 .bf16) _
  congr 1
  funext a
  apply Fin.ext
  have h1 := co1 m hO t
  match a with
  | ⟨0, _⟩ => show lyr m * 1 + 1 * 0 = lyr m; omega
  | ⟨1, _⟩ =>
    show (BitVec.ofNat 32 (grid0.coords t 1).val).toNat * 512 + 1 * k.val = 512 * (t.val % 11) + k.val
    rw [h1, BitVec.toNat_ofNat]; omega
  | ⟨2, _⟩ => show 0 * 2048 + 1 * d.val = d.val; omega

theorem blk5 (hO : Ok m) (c : Dev nD) (t : Fin (cfgM m hO).N) (d : Fin 2048) :
    b5 m hO c t (ix2 0 d) = (V m c main_v4 : Vec F S1x2048 .f32) (ix2 0 d) := by
  unfold b5 iblk
  refine (View.read_apply _ _).trans ?_
  show (V m c main_v4 : Vec F S1x2048 .f32) _ = (V m c main_v4 : Vec F S1x2048 .f32) _
  congr 1
  funext a
  apply Fin.ext
  match a with
  | ⟨0, _⟩ => show 0 * 1 + 1 * 0 = 0; omega
  | ⟨1, _⟩ => show 0 * 2048 + 1 * d.val = d.val; omega

end Cert.FfnIdeal.Gen

end
-- ==== Proof.FfnAcc.lean ====
/- The output block of the feed-forward call after each grid point, in closed form over the extended reals: the rows
   plus the weight columns taken so far, normed at the last point of the last layer. -/
module

public import proofs.«01_k».proof.Proof.FfnVal
public import proofs.«01_k».proof.Proof.FfnPay
public import proofs.«01_k».proof.Proof.FfnBlk

@[expose] public section

set_option maxRecDepth 16384

noncomputable section

namespace Cert.FfnIdeal.Gen

open Idealize.ShloMosaic Idealize.ShloMosaic.TcCoe Idealize.SL.Sem

/-- The word the kernel tests for the last layer. -/
abbrev word {F : FTy → Type} [FloatOps F] (m : (ℓ : Loc nD τ sig) → Buf (Elt F) ℓ) : BitVec 32 :=
  tbM0_0.view.readAt (Elt F) (Rect.unit (s := S1) ![0] S1.size inb_S1_S1_0).toLoadRect (tbl m 0) (Shape.Idx.first (numel1_S1.symm ▸ Nat.one_pos))

theorem word_toNat {F : FTy → Type} [FloatOps F] (m : (ℓ : Loc nD τ sig) → Buf (Elt F) ℓ) : (word m).toNat = lyr m := rfl

/-- The final norm is taken exactly at a row block's last point, on the last layer. -/
theorem cond_iff (i : grid0.Coords) (v : BitVec 32) : cond0_1 i v ↔ (i 1).val = 10 ∧ v.toNat = 3 := by
  have hi : (i 1).val < 11 := (i 1).isLt
  have e1 : (i 1).val = 10 ↔ BitVec.ofNat 32 (i 1).val = 10#32 := by
    constructor
    · intro h; rw [h]
    · intro h; have := congrArg BitVec.toNat h; rw [BitVec.toNat_ofNat, BitVec.toNat_ofNat] at this; omega
  have e2 : v.toNat = 3 ↔ v = 3#32 := by
    constructor
    · intro h; exact BitVec.eq_of_toNat_eq h
    · intro h; rw [h]; rfl
  rw [e1, e2]
  unfold cond0_1
  rw [← beq_iff_eq (a := BitVec.ofNat 32 (i 1).val), ← beq_iff_eq (a := v)]
  simp only [Scalar.cmpi, Scalar.andi, Scalar.extui, IntOp.cmpi, IntOp.andi]
  generalize (BitVec.ofNat 32 (i 1).val == 10#32) = p
  generalize (v == 3#32) = q
  revert p q
  decide

section
variable {F : FTy → Type} [FloatOps F] (m : (ℓ : Loc nD τ sig) → Buf (Elt F) ℓ)

theorem outs_B (hO : Ok m) (c : Dev nD) (t : Fin (cfgM m hO).N) (h0 : t.val % 11 = 0) (h1 : ¬cond0_1 (grid0.coords t) (word m)) :
    outsAt0 m hO c t.val t.isLt = (k0_pay3 (k0_pay2 (b0 m hO c t) (b1 m hO c t)) (b2 m hO c t) (b3 m hO c t) (k0_pay1 (b0 m hO c t)) (b4 m hO c t),
      k0_pay2 (b0 m hO c t) (b1 m hO c t)) :=
  (outsAt0_B m hO c t h0 h1).trans (congrArg₂ Prod.mk
    (out_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) ((hcond0_0 t).mpr h0) (b0 m hO c t) (b1 m hO c t) (b2 m hO c t) (b3 m hO c t) (b4 m hO c t) (b5 m hO c t) (tbl m 0) h1)
    (sout_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) ((hcond0_0 t).mpr h0) (b0 m hO c t) (b1 m hO c t) (b2 m hO c t) (b3 m hO c t) (b4 m hO c t) (b5 m hO c t) (tbl m 0) h1))

theorem outs_C (hO : Ok m) (c : Dev nD) (n : ℕ) (h : n + 1 < (cfgM m hO).N) (h0 : ¬(n + 1) % 11 = 0) (h1 : cond0_1 (grid0.coords (⟨n + 1, h⟩ : Fin (cfgM m hO).N)) (word m)) :
    outsAt0 m hO c (n + 1) h = (k0_pay4 (k0_pay3 (outsAt0 m hO c n (Nat.lt_of_succ_lt h)).2 (b2 m hO c ⟨n + 1, h⟩) (b3 m hO c ⟨n + 1, h⟩) (outsAt0 m hO c n (Nat.lt_of_succ_lt h)).1 (b4 m hO c ⟨n + 1, h⟩)) (b5 m hO c ⟨n + 1, h⟩),
      (outsAt0 m hO c n (Nat.lt_of_succ_lt h)).2) :=
  (outsAt0_C m hO c ⟨n + 1, h⟩ h0 h1).trans (congrArg (fun z => (z, (outsAt0 m hO c n (Nat.lt_of_succ_lt h)).2))
    (out_C c (grid0.coords ⟨n + 1, h⟩) (ms0_0 m hO ⟨n + 1, h⟩) (hs0_0 m hO ⟨n + 1, h⟩) (ms0_1 m hO ⟨n + 1, h⟩) (hs0_1 m hO ⟨n + 1, h⟩) (ms0_2 m hO ⟨n + 1, h⟩) (hs0_2 m hO ⟨n + 1, h⟩) (ms0_3 m hO ⟨n + 1, h⟩) (hs0_3 m hO ⟨n + 1, h⟩) (ms0_4 m hO ⟨n + 1, h⟩) (hs0_4 m hO ⟨n + 1, h⟩) (ms0_5 m hO ⟨n + 1, h⟩) (hs0_5 m hO ⟨n + 1, h⟩) (ms0_6 m hO ⟨n + 1, h⟩) (hs0_6 m hO ⟨n + 1, h⟩) scM0_0 (Memref.isWhole_whole _) (fun h' => h0 ((hcond0_0 ⟨n + 1, h⟩).mp h')) (b0 m hO c ⟨n + 1, h⟩) (b1 m hO c ⟨n + 1, h⟩) (b2 m hO c ⟨n + 1, h⟩) (b3 m hO c ⟨n + 1, h⟩) (b4 m hO c ⟨n + 1, h⟩) (b5 m hO c ⟨n + 1, h⟩) (tbl m 0) (outsAt0 m hO c n (Nat.lt_of_succ_lt h)).1 (outsAt0 m hO c n (Nat.lt_of_succ_lt h)).2 h1))

theorem outs_D (hO : Ok m) (c : Dev nD) (n : ℕ) (h : n + 1 < (cfgM m hO).N) (h0 : ¬(n + 1) % 11 = 0) (h1 : ¬cond0_1 (grid0.coords (⟨n + 1, h⟩ : Fin (cfgM m hO).N)) (word m)) :
    outsAt0 m hO c (n + 1) h = (k0_pay3 (outsAt0 m hO c n (Nat.lt_of_succ_lt h)).2 (b2 m hO c ⟨n + 1, h⟩) (b3 m hO c ⟨n + 1, h⟩) (outsAt0 m hO c n (Nat.lt_of_succ_lt h)).1 (b4 m hO c ⟨n + 1, h⟩),
      (outsAt0 m hO c n (Nat.lt_of_succ_lt h)).2) :=
  (outsAt0_D m hO c ⟨n + 1, h⟩ h0 h1).trans (congrArg (fun z => (z, (outsAt0 m hO c n (Nat.lt_of_succ_lt h)).2))
    (out_D c (grid0.coords ⟨n + 1, h⟩) (ms0_0 m hO ⟨n + 1, h⟩) (hs0_0 m hO ⟨n + 1, h⟩) (ms0_1 m hO ⟨n + 1, h⟩) (hs0_1 m hO ⟨n + 1, h⟩) (ms0_2 m hO ⟨n + 1, h⟩) (hs0_2 m hO ⟨n + 1, h⟩) (ms0_3 m hO ⟨n + 1, h⟩) (hs0_3 m hO ⟨n + 1, h⟩) (ms0_4 m hO ⟨n + 1, h⟩) (hs0_4 m hO ⟨n + 1, h⟩) (ms0_5 m hO ⟨n + 1, h⟩) (hs0_5 m hO ⟨n + 1, h⟩) (ms0_6 m hO ⟨n + 1, h⟩) (hs0_6 m hO ⟨n + 1, h⟩) scM0_0 (Memref.isWhole_whole _) (fun h' => h0 ((hcond0_0 ⟨n + 1, h⟩).mp h')) (b0 m hO c ⟨n + 1, h⟩) (b1 m hO c ⟨n + 1, h⟩) (b2 m hO c ⟨n + 1, h⟩) (b3 m hO c ⟨n + 1, h⟩) (b4 m hO c ⟨n + 1, h⟩) (b5 m hO c ⟨n + 1, h⟩) (tbl m 0) (outsAt0 m hO c n (Nat.lt_of_succ_lt h)).1 (outsAt0 m hO c n (Nat.lt_of_succ_lt h)).2 h1))

end

variable (m : (ℓ : Loc nD τ sig) → Buf (Elt Ideal) ℓ)

/-- A row of the activations. -/
def xv (c : Dev nD) (R : Fin 16384) (d : Fin 2048) : EReal := (V m c main_v0 : Vec Ideal S16384x2048 .f32) (ix2 R d)

/-- The normed row. -/
def xn (hl : lyr m < 4) (c : Dev nD) (R : Fin 16384) (e : Fin 2048) : EReal :=
  xv m c R e * scale (xv m c R) * (V m c main_v1 : Vec Ideal S4x1x2048 .f32) (ix3 ⟨lyr m, hl⟩ 0 e)

/-- A column of the first product. -/
def gu (hl : lyr m < 4) (c : Dev nD) (R : Fin 16384) (n : Fin 11264) : EReal :=
  ∑ e : Fin 2048, xn m hl c R e * (V m c main_v2 : Vec Ideal S4x2048x11264 .bf16) (ix3 ⟨lyr m, hl⟩ e n)

/-- One hidden column's part of an output element. -/
def part (hl : lyr m < 4) (c : Dev nD) (R : Fin 16384) (d : Fin 2048) (n : ℕ) : EReal :=
  if h : n < 5632 then
    gu m hl c R ⟨n, by omega⟩ * Ideal.logistic (gu m hl c R ⟨n, by omega⟩) * gu m hl c R ⟨5632 + n, by omega⟩
      * (V m c main_v3 : Vec Ideal S4x5632x2048 .bf16) (ix3 ⟨lyr m, hl⟩ ⟨n, h⟩ d)
  else 0

/-- The row plus its first `n` hidden columns' parts. -/
def acc (hl : lyr m < 4) (c : Dev nD) (n : ℕ) (R : Fin 16384) (d : Fin 2048) : EReal :=
  xv m c R d + ∑ k ∈ Finset.range n, part m hl c R d k

theorem acc_step (hl : lyr m < 4) (c : Dev nD) (n : ℕ) (R : Fin 16384) (d : Fin 2048) :
    acc m hl c (n + 512) R d = acc m hl c n R d + ∑ k : Fin 512, part m hl c R d (n + k.val) := by
  unfold acc
  rw [Finset.sum_range_add, add_assoc, Finset.sum_range (fun x => part m hl c R d (n + x))]

/-- The value a point's product stores, over the normed rows and what the block held. -/
theorem pay3_blk (hO : Ok m) (hl : lyr m < 4) (c : Dev nD) (t : Fin (cfgM m hO).N) (s : Vec Ideal S1024x2048 .bf16) (a : Vec Ideal S1024x2048 .f32)
    (hs : ∀ (r : Fin 1024) (e : Fin 2048), s (ix2 r e) = xn m hl c (row m hO t r) e)
    (ha : ∀ (r : Fin 1024) (d : Fin 2048), a (ix2 r d) = acc m hl c (512 * (t.val % 11)) (row m hO t r) d) (r : Fin 1024) (d : Fin 2048) :
    k0_pay3 s (b2 m hO c t) (b3 m hO c t) a (b4 m hO c t) (ix2 r d)
      = acc m hl c (512 * (t.val % 11 + 1)) (row m hO t r) d := by
  rw [show 512 * (t.val % 11 + 1) = 512 * (t.val % 11) + 512 by omega, acc_step, pay3_apply, ha]
  congr 1
  refine Finset.sum_congr rfl fun k _ => ?_
  have hk : 512 * (t.val % 11) + k.val < 5632 := by omega
  unfold part
  rw [dif_pos hk, blk4 m hO hl c t k d]
  have hg : (∑ e : Fin 2048, s (ix2 r e) * (b2 m hO c t) (ix3 0 e k)) = gu m hl c (row m hO t r) ⟨512 * (t.val % 11) + k.val, by omega⟩ := by
    unfold gu
    refine Finset.sum_congr rfl fun e _ => ?_
    rw [hs, blk2 m hO hl c t e k]
  have hu : (∑ e : Fin 2048, s (ix2 r e) * (b3 m hO c t) (ix3 0 e k)) = gu m hl c (row m hO t r) ⟨5632 + (512 * (t.val % 11) + k.val), by omega⟩ := by
    unfold gu
    refine Finset.sum_congr rfl fun e _ => ?_
    rw [hs, blk3 m hO hl c t e k]
  rw [hg, hu]

/-- The normed rows a point's first store leaves. -/
theorem pay2_blk (hO : Ok m) (hl : lyr m < 4) (c : Dev nD) (t : Fin (cfgM m hO).N) (r : Fin 1024) (e : Fin 2048) :
    k0_pay2 (b0 m hO c t) (b1 m hO c t) (ix2 r e) = xn m hl c (row m hO t r) e := by
  rw [pay2_apply, blk0 m hO c t r e, blk1 m hO hl c t e]
  unfold xn xv
  simp only [blk0 m hO c t r]

/-- The state after point `n`. -/
structure St (hO : Ok m) (hl : lyr m < 4) (c : Dev nD) (n : ℕ) (h : n < (cfgM m hO).N) : Prop where
  sc : ∀ (r : Fin 1024) (e : Fin 2048), (outsAt0 m hO c n h).2 (ix2 r e) = xn m hl c (row m hO ⟨n, h⟩ r) e
  mid : ¬ (n % 11 = 10 ∧ lyr m = 3) → ∀ (r : Fin 1024) (d : Fin 2048),
    (outsAt0 m hO c n h).1 (ix2 r d) = acc m hl c (512 * (n % 11 + 1)) (row m hO ⟨n, h⟩ r) d
  fin : n % 11 = 10 ∧ lyr m = 3 → ∀ (r : Fin 1024) (d : Fin 2048),
    (outsAt0 m hO c n h).1 (ix2 r d) = acc m hl c 5632 (row m hO ⟨n, h⟩ r) d * scale (acc m hl c 5632 (row m hO ⟨n, h⟩ r))
      * (V m c main_v4 : Vec Ideal S1x2048 .f32) (ix2 0 d)

theorem st (hO : Ok m) (hl : lyr m < 4) (c : Dev nD) : ∀ (n : ℕ) (h : n < (cfgM m hO).N), St m hO hl c n h := by
  intro n
  induction n with
  | zero =>
    intro h
    have hc : ¬ cond0_1 (grid0.coords (⟨0, h⟩ : Fin (cfgM m hO).N)) (word m) := by
      rw [cond_iff, co1 m hO ⟨0, h⟩]; rintro ⟨h1, _⟩; exact absurd h1 (by simp)
    have e := outs_B m hO c ⟨0, h⟩ rfl hc
    have hs : ∀ (r : Fin 1024) (x : Fin 2048), (outsAt0 m hO c 0 h).2 (ix2 r x) = xn m hl c (row m hO ⟨0, h⟩ r) x := by
      intro r x
      rw [show outsAt0 m hO c 0 h = _ from e]
      exact pay2_blk m hO hl c ⟨0, h⟩ r x
    refine ⟨hs, fun _ r d => ?_, fun hf => absurd hf.1 (by simp)⟩
    rw [show outsAt0 m hO c 0 h = _ from e]
    refine pay3_blk m hO hl c ⟨0, h⟩ _ _ (fun r e => pay2_blk m hO hl c ⟨0, h⟩ r e) (fun r d => ?_) r d
    rw [pay1_apply, blk0 m hO c ⟨0, h⟩ r d]
    unfold acc xv
    simp
  | succ n ih =>
    intro h
    have hN := N_lt m hO ⟨n + 1, h⟩
    by_cases h0 : (n + 1) % 11 = 0
    · have hc : ¬ cond0_1 (grid0.coords (⟨n + 1, h⟩ : Fin (cfgM m hO).N)) (word m) := by
        rw [cond_iff, co1 m hO ⟨n + 1, h⟩]; rintro ⟨h1, _⟩; dsimp only at h1; omega
      have e := outs_B m hO c ⟨n + 1, h⟩ h0 hc
      refine ⟨fun r x => ?_, fun _ r d => ?_, fun hf => absurd hf.1 (by omega)⟩
      · rw [show outsAt0 m hO c (n + 1) h = _ from e]
        exact pay2_blk m hO hl c ⟨n + 1, h⟩ r x
      · rw [show outsAt0 m hO c (n + 1) h = _ from e]
        refine pay3_blk m hO hl c ⟨n + 1, h⟩ _ _ (fun r e => pay2_blk m hO hl c ⟨n + 1, h⟩ r e) (fun r d => ?_) r d
        rw [pay1_apply, blk0 m hO c ⟨n + 1, h⟩ r d]
        unfold acc xv
        simp [h0]
    · have hp := ih (Nat.lt_of_succ_lt h)
      have hrow (r : Fin 1024) : row m hO ⟨n, Nat.lt_of_succ_lt h⟩ r = row m hO ⟨n + 1, h⟩ r := by
        apply Fin.ext; show 1024 * (n / 11) + r.val = 1024 * ((n + 1) / 11) + r.val; omega
      have hmid := hp.mid (by rintro ⟨h1, _⟩; omega)
      have hsc := hp.sc
      simp only [hrow] at hmid hsc
      rw [show n % 11 + 1 = (n + 1) % 11 by omega] at hmid
      have h3 := pay3_blk m hO hl c ⟨n + 1, h⟩ _ _ hsc hmid
      by_cases hc : cond0_1 (grid0.coords (⟨n + 1, h⟩ : Fin (cfgM m hO).N)) (word m)
      · have e := outs_C m hO c n h h0 hc
        have hc' := hc
        rw [cond_iff, co1 m hO ⟨n + 1, h⟩, word_toNat] at hc'
        refine ⟨fun r x => ?_, fun hf => absurd hc' hf, fun hf r d => ?_⟩
        · rw [show outsAt0 m hO c (n + 1) h = _ from e]
          exact hsc r x
        · rw [show outsAt0 m hO c (n + 1) h = _ from e]
          dsimp only
          rw [pay4_apply, blk5 m hO c ⟨n + 1, h⟩ d]
          have h10 : (n + 1) % 11 = 10 := hf.1
          have h3' : ∀ (r : Fin 1024) (d : Fin 2048), _ = acc m hl c 5632 (row m hO ⟨n + 1, h⟩ r) d := fun r d =>
            (h3 r d).trans (by show acc m hl c (512 * ((n + 1) % 11 + 1)) _ _ = _; rw [h10])
          rw [h3' r d]
          congr 2
          exact congrArg scale (funext fun k => h3' r k)
      · have e := outs_D m hO c n h h0 hc
        have hc' := hc
        rw [cond_iff, co1 m hO ⟨n + 1, h⟩, word_toNat] at hc'
        refine ⟨fun r x => ?_, fun _ r d => ?_, fun hf => absurd hf hc'⟩
        · rw [show outsAt0 m hO c (n + 1) h = _ from e]
          exact hsc r x
        · rw [show outsAt0 m hO c (n + 1) h = _ from e]
          exact h3 r d

end Cert.FfnIdeal.Gen

end
-- ==== Proof.FfnArray.lean ====
/- What the feed-forward call's result array ends holding, over the extended reals, and the call's run read back. -/
module

public import proofs.«01_k».proof.Proof.FfnAcc
public import Idealize.ShloMosaic.Lib.Pipeline.ValueKit.Geometry

@[expose] public section

set_option maxRecDepth 16384

noncomputable section

namespace Cert.FfnIdeal.Gen

open Idealize.ShloMosaic Idealize.ShloMosaic.TcCoe Idealize.SL.Sem

variable (m : (ℓ : Loc nD τ sig) → Buf (Elt Ideal) ℓ) (ρ : Dev nD → PrngReg)

theorem eta2 (x : S1024x2048.Idx) : x = ix2 (x 0 : Fin 1024) (x 1 : Fin 2048) :=
  funext fun a => by match a with | ⟨0, _⟩ => rfl | ⟨1, _⟩ => rfl

/-- An element of the result: the row plus every hidden column's part, normed on the last layer. -/
def resAt (hl : lyr m < 4) (c : Dev nD) (R : Fin 16384) (d : Fin 2048) : EReal :=
  if lyr m = 3 then
    acc m hl c 5632 R d * scale (acc m hl c 5632 R) * (V m c main_v4 : Vec Ideal S1x2048 .f32) (ix2 0 d)
  else acc m hl c 5632 R d

/-- The result array. -/
def result (hl : lyr m < 4) (c : Dev nD) : Vec Ideal S16384x2048 .f32 := fun i => resAt m hl c (i 0) (i 1)

theorem outs_fin (hO : Ok m) (hl : lyr m < 4) (c : Dev nD) (t : Fin (cfgM m hO).N) (ht : t.val % 11 = 10) (x : S1024x2048.Idx) :
    (outsAt0 m hO c t.val t.isLt).1 x = resAt m hl c (row m hO t (x 0)) (x 1) := by
  have s := st m hO hl c t.val t.isLt
  unfold resAt
  rw [eta2 x]
  by_cases h3 : lyr m = 3
  · rw [if_pos h3]
    exact s.fin ⟨ht, h3⟩ (x 0) (x 1)
  · rw [if_neg h3]
    have e := s.mid (fun h => h3 h.2) (x 0) (x 1)
    rw [ht] at e
    exact e

theorem flushed_eq (hO : Ok m) (hl : lyr m < 4) (c : Dev nD) (t : Fin (cfgM m hO).N) (hf : ((cfgM m hO).win 6).flush t = true) :
    (dats m hO 0 c).flushed 6 t = (((cfgM m hO).win 6).blk t).view.read (Elt Ideal) (result m hl c) := by
  have ht : t.val % 11 = 10 := (flush0_6 (adm m hO) t).mp hf
  show ((cfgM m hO).win 6).cut (grid0.coords t) ((dats m hO 0 c).after 6 t) = _
  rw [after0_6]
  funext y
  obtain ⟨y, rfl⟩ : ∃ z : S1024x2048.Idx, z = y := ⟨y, rfl⟩
  refine Eq.trans ?_ (View.read_apply _ _).symm
  show (outsAt0 m hO c t.val t.isLt).1 (((cfgM m hO).win 6).xinj (grid0.coords t) y) = result m hl c _
  refine (outs_fin m hO hl c t ht _).trans ?_
  unfold result
  have h0 := co0 m hO t
  have hN := N_lt m hO t
  refine congrArg₂ (resAt m hl c) ?_ ?_
  · apply Fin.ext
    show 1024 * (t.val / 11) + (y 0).val = (BitVec.ofNat 32 (grid0.coords t 0).val).toNat * 1024 + 1 * (y 0).val
    rw [h0, BitVec.toNat_ofNat]; omega
  · apply Fin.ext
    show (y 1).val = 0 * 2048 + 1 * (y 1).val
    omega

theorem final_o (hO : Ok m) (hl : lyr m < 4) (c : Dev nD) : (dats m hO 0 c).arrAt 6 (cfgM m hO).N = result m hl c :=
  (dats m hO 0 c).arrAt_eq_of_cover 6 (result m hl c) (flushed_eq m hO hl c) fun i => by
    obtain ⟨i, rfl⟩ : ∃ z : S16384x2048.Idx, z = i := ⟨i, rfl⟩
    have h0 : (i 0 : Nat) < 16384 := (i 0).isLt
    have h1 : (i 1 : Nat) < 2048 := (i 1).isLt
    have hlt : 11 * ((i 0 : Nat) / 1024) + 10 < (cfgM m hO).N := Nat.lt_of_lt_of_eq (by omega : _ < 176) N_0.symm
    refine ⟨⟨11 * ((i 0 : Nat) / 1024) + 10, hlt⟩, (flush0_6 (adm m hO) _).mpr (by show (11 * ((i 0 : Nat) / 1024) + 10) % 11 = 10; omega), ?_⟩
    have hc := co0 m hO ⟨11 * ((i 0 : Nat) / 1024) + 10, hlt⟩
    have hc' : (grid0.coords (⟨11 * ((i 0 : Nat) / 1024) + 10, hlt⟩ : Fin (cfgM m hO).N) 0).val = (i 0 : Nat) / 1024 := by
      rw [hc]; show (11 * ((i 0 : Nat) / 1024) + 10) / 11 = _; omega
    clear hc
    generalize (⟨11 * ((i 0 : Nat) / 1024) + 10, hlt⟩ : Fin (cfgM m hO).N) = t at hc'
    refine (Pipeline.Window.emb_mem_blk_iff ((cfgM m hO).win 6) t i rfl).mpr ?_
    intro a
    match a with
    | ⟨0, _⟩ =>
      show (BitVec.ofNat 32 (grid0.coords t 0).val).toNat * 1024 ≤ (i 0 : Nat) ∧ (i 0 : Nat) < (BitVec.ofNat 32 (grid0.coords t 0).val).toNat * 1024 + 1024
      rw [hc', BitVec.toNat_ofNat]; omega
    | ⟨1, _⟩ =>
      show 0 * 2048 ≤ (i 1 : Nat) ∧ (i 1 : Nat) < 0 * 2048 + 2048
      omega

end Cert.FfnIdeal.Gen

end
-- ==== Proof.FfnHost.lean ====
/- The arrays the feed-forward call reads, over the extended reals, as elements of the arguments. -/
module

public import proofs.«01_k».proof.Proof.FfnArray
public import Idealize.ShloMosaic.Lib.StableHlo.ReadAt

@[expose] public section

set_option maxRecDepth 16384

noncomputable section

namespace Cert.FfnIdeal.Gen

open Idealize.ShloMosaic Idealize.ShloMosaic.TcCoe Idealize.SL.Sem Idealize.ShloMosaic.StableHlo

variable (m : (ℓ : Loc nD τ sig) → Buf (Elt Ideal) ℓ)

theorem V_v0 (c : Dev nD) (R : Fin 16384) (d : Fin 2048) :
    V m c main_v0 (ix2 R d) = m ((c.tc : Thread nD τ).loc main_arg0) (ix3 (⟨R.val / 8192, by omega⟩ : Fin 2) (⟨R.val % 8192, by omega⟩ : Fin 8192) d) := by
  unfold V
  after_reads_at
  try rfl

theorem V_v1 (c : Dev nD) (l : Fin 4) (d : Fin 2048) :
    V m c main_v1 (ix3 l (0 : Fin 1) d) = m ((c.tc : Thread nD τ).loc main_arg2) (ix2 l d) := by
  unfold V
  after_reads_at
  try rfl

theorem V_v2 (c : Dev nD) (l : Fin 4) (e : Fin 2048) (d : Fin 11264) :
    V m c main_v2 (ix3 l e d) = m ((c.tc : Thread nD τ).loc main_arg3) (ix3 l e d) := by
  unfold V
  after_reads_at
  try rfl

theorem V_v3 (c : Dev nD) (l : Fin 4) (e : Fin 5632) (d : Fin 2048) :
    V m c main_v3 (ix3 l e d) = m ((c.tc : Thread nD τ).loc main_arg4) (ix3 l e d) := by
  unfold V
  after_reads_at
  try rfl

theorem V_v4 (c : Dev nD) (d : Fin 2048) :
    V m c main_v4 (ix2 (0 : Fin 1) d) = m ((c.tc : Thread nD τ).loc main_arg5) (ix1 d) := by
  unfold V
  after_reads_at
  try rfl

end Cert.FfnIdeal.Gen

end
-- ==== Proof.FfnRefVal.lean ====
/- The feed-forward reference's stretches read at an index, over the extended reals. -/
module

public import proofs.«01_k».proof.Proof.FfnRefOps
public import proofs.«01_k».proof.Proof.FfnPay
public import Idealize.ShloMosaic.Lib.StableHlo.ReadAt
public import Idealize.ShloMosaic.Lib.Pointwise
public import Idealize.ShloMosaic.Lib.DynamicIndex

@[expose] public section

set_option maxRecDepth 16384

noncomputable section

namespace Cert.FfnRefIdeal.Stretch

open Cert.FfnRefIdeal Cert.FfnRefIdeal.Gen Idealize.ShloMosaic Idealize.ShloMosaic.TcCoe Idealize.SL.Sem Idealize.ShloMosaic.StableHlo

variable (V : Valuation τ sig (Elt Ideal))

/-- The start a layer's slice is taken at is the layer. -/
theorem start_val {w : BitVec 32} (l : Fin 4) (h : w.toNat = l.val) : w.toInt = l.val := by
  rw [BitVec.toInt_eq_toNat_of_lt (by omega), h]

/-- The one element of a one-element array. -/
theorem cast_one (hc : S1.ShapeCasts S_) (w : IVec S1 32) (i : S_.Idx) : shapeCast S_ w hc i = w (ix1 0) :=
  congrArg w (funext fun a => by match a with | ⟨0, _⟩ => exact Subsingleton.elim (α := Fin 1) _ _)

/-- The start index as the reference takes it. -/
theorem start_sel (hc : S1.ShapeCasts S_) (w : IVec S1 32) (a : IVec S_ 32) (l : Fin 4) (h : (w (ix1 0)).toNat = l.val) (i : S_.Idx) :
    BitVec.toInt (select (cmpi .slt (shapeCast S_ w hc) (constantI S_ 32 0#32)) a (shapeCast S_ w hc) i) = l.val := by
  have e : BitVec.toInt (shapeCast S_ w hc i) = l.val := by rw [cast_one]; exact start_val l h
  rw [select_slt_zero_of_nonneg _ _ _ _ (by rw [e]; omega), e]

/-- A layer's slice of a stack of rows, the unit axis dropped. -/
theorem slice2 (x : Vec Ideal S4x2048 .f32) (l : Fin 4) (start : Fin 2 → Int) (h0 : start 0 = l.val) (h1 : start 1 = 0)
    (h : S4x2048.Slices (fun _ => 0) S1x2048) (hc : S1x2048.ShapeCasts S2048) (d : Fin 2048) :
    shapeCast S2048 (Host.dynamicSlice S1x2048 x start h) hc (ix1 d) = x (ix2 l d) := by
  have hoff : S4x2048.Slices ![l.val, 0] S1x2048 := ⟨rfl, fun a => by
    match a with
    | ⟨0, _⟩ => show l.val + 1 ≤ 4; omega
    | ⟨1, _⟩ => show 0 + 2048 ≤ 2048; omega⟩
  rw [Host.dynamicSlice_eq_extractStridedSlice S1x2048 x start ![l.val, 0] h hoff (fun a => by
    match a with
    | ⟨0, _⟩ => exact h0
    | ⟨1, _⟩ => exact h1)]
  pointwise

/-- A layer's slice of a stack of arrays, the unit axis dropped. -/
theorem slice3_2048 (x : Vec Ideal S4x2048x11264 .f32) (l : Fin 4) (start : Fin 3 → Int) (h0 : start 0 = l.val) (h1 : start 1 = 0) (h2 : start 2 = 0)
    (h : S4x2048x11264.Slices (fun _ => 0) S1x2048x11264) (hc : S1x2048x11264.ShapeCasts S2048x11264) (e : Fin 2048) (d : Fin 11264) :
    shapeCast S2048x11264 (Host.dynamicSlice S1x2048x11264 x start h) hc (ix2 e d) = x (ix3 l e d) := by
  have hoff : S4x2048x11264.Slices ![l.val, 0, 0] S1x2048x11264 := ⟨rfl, fun a => by
    match a with
    | ⟨0, _⟩ => show l.val + 1 ≤ 4; omega
    | ⟨1, _⟩ => show 0 + 2048 ≤ 2048; omega
    | ⟨2, _⟩ => show 0 + 11264 ≤ 11264; omega⟩
  rw [Host.dynamicSlice_eq_extractStridedSlice S1x2048x11264 x start ![l.val, 0, 0] h hoff (fun a => by
    match a with
    | ⟨0, _⟩ => exact h0
    | ⟨1, _⟩ => exact h1
    | ⟨2, _⟩ => exact h2)]
  pointwise

/-- A layer's slice of a stack of arrays, the unit axis dropped. -/
theorem slice3_5632 (x : Vec Ideal S4x5632x2048 .f32) (l : Fin 4) (start : Fin 3 → Int) (h0 : start 0 = l.val) (h1 : start 1 = 0) (h2 : start 2 = 0)
    (h : S4x5632x2048.Slices (fun _ => 0) S1x5632x2048) (hc : S1x5632x2048.ShapeCasts S5632x2048) (e : Fin 5632) (d : Fin 2048) :
    shapeCast S5632x2048 (Host.dynamicSlice S1x5632x2048 x start h) hc (ix2 e d) = x (ix3 l e d) := by
  have hoff : S4x5632x2048.Slices ![l.val, 0, 0] S1x5632x2048 := ⟨rfl, fun a => by
    match a with
    | ⟨0, _⟩ => show l.val + 1 ≤ 4; omega
    | ⟨1, _⟩ => show 0 + 5632 ≤ 5632; omega
    | ⟨2, _⟩ => show 0 + 2048 ≤ 2048; omega⟩
  rw [Host.dynamicSlice_eq_extractStridedSlice S1x5632x2048 x start ![l.val, 0, 0] h hoff (fun a => by
    match a with
    | ⟨0, _⟩ => exact h0
    | ⟨1, _⟩ => exact h1
    | ⟨2, _⟩ => exact h2)]
  pointwise

/-- The reference's choice on the layer being the last. -/
theorem sel_last (w : BitVec 32) (l : Fin 4) (h : w.toNat = l.val) (a b : EReal) :
    Scalar.select (IntOp.cmpi .eq w 3#32) a b = if l.val = 3 then a else b := by
  show Scalar.select (BitVec.ofBool (w == 3#32)) a b = _
  by_cases h3 : l.val = 3
  · have hw : (w == 3#32) = true := beq_iff_eq.mpr (BitVec.eq_of_toNat_eq (h.trans h3))
    rw [hw, if_pos h3]
    rfl
  · have hw : (w == 3#32) = false := by
      rw [beq_eq_false_iff_ne]
      intro e
      rw [e] at h
      exact h3 h.symm
    rw [hw, if_neg h3]
    rfl

theorem A_v3 (l : Fin 4) (h : (V (Proc.devRef .tc main_arg1) (ix1 0)).toNat = l.val) :
    BitVec.toInt (upto opsA V 7 (Proc.devRef .tc main_v3) (Shape.Idx.first h_S_)) = l.val := by
  after_reads_simp
  exact start_sel shapeCasts_S1_S_ (V (Proc.devRef .tc main_arg1)) _ l h _

theorem A_v5 (l : Fin 4) (h : (V (Proc.devRef .tc main_arg1) (ix1 0)).toNat = l.val) (g : Fin 4 → Fin 2048 → EReal)
    (hg : ∀ l d, g l d = V (Proc.devRef .tc main_arg2) (ix2 l d)) (d : Fin 2048) :
    g l d = after opsA V (Proc.devRef .tc main_v5) (ix1 d) := by
  rw [hg]
  symm
  have h3 := A_v3 V l h
  have h_c_1 : BitVec.toInt (upto opsA V 7 (Proc.devRef .tc main_c_1) (Shape.Idx.first h_S_)) = 0 := by
    after_reads_simp; rfl
  after_reads_simp
  generalize upto opsA V 7 = W at h3 h_c_1 ⊢
  exact slice2 _ l _ h3 h_c_1 _ _ d

theorem B_v9 (l : Fin 4) (h : (V (Proc.devRef .tc main_arg1) (ix1 0)).toNat = l.val) :
    BitVec.toInt (upto opsB V 8 (Proc.devRef .tc main_v9) (Shape.Idx.first h_S_)) = l.val := by
  after_reads_simp
  exact start_sel shapeCasts_S1_S_ (V (Proc.devRef .tc main_arg1)) _ l h _

theorem B_v11 (l : Fin 4) (h : (V (Proc.devRef .tc main_arg1) (ix1 0)).toNat = l.val) (g : Fin 4 → Fin 2048 → Fin 11264 → EReal)
    (hg : ∀ l e d, g l e d = V (Proc.devRef .tc main_arg3) (ix3 l e d)) (e : Fin 2048) (d : Fin 11264) :
    g l e d = after opsB V (Proc.devRef .tc main_v11) (ix2 e d) := by
  rw [hg]
  symm
  have h3 := B_v9 V l h
  have h_c_4 : BitVec.toInt (upto opsB V 8 (Proc.devRef .tc main_c_4) (Shape.Idx.first h_S_)) = 0 := by
    after_reads_simp; rfl
  have h_c_5 : BitVec.toInt (upto opsB V 8 (Proc.devRef .tc main_c_5) (Shape.Idx.first h_S_)) = 0 := by
    after_reads_simp; rfl
  after_reads_simp
  generalize upto opsB V 8 = W at h3 h_c_4 h_c_5 ⊢
  exact slice3_2048 _ l _ h3 h_c_4 h_c_5 _ _ e d

theorem C_v15 (l : Fin 4) (h : (V (Proc.devRef .tc main_arg1) (ix1 0)).toNat = l.val) :
    BitVec.toInt (upto opsC V 8 (Proc.devRef .tc main_v15) (Shape.Idx.first h_S_)) = l.val := by
  after_reads_simp
  exact start_sel shapeCasts_S1_S_ (V (Proc.devRef .tc main_arg1)) _ l h _

theorem C_v17 (l : Fin 4) (h : (V (Proc.devRef .tc main_arg1) (ix1 0)).toNat = l.val) (g : Fin 4 → Fin 5632 → Fin 2048 → EReal)
    (hg : ∀ l e d, g l e d = V (Proc.devRef .tc main_arg4) (ix3 l e d)) (e : Fin 5632) (d : Fin 2048) :
    g l e d = after opsC V (Proc.devRef .tc main_v17) (ix2 e d) := by
  rw [hg]
  symm
  have h3 := C_v15 V l h
  have h_c_8 : BitVec.toInt (upto opsC V 8 (Proc.devRef .tc main_c_8) (Shape.Idx.first h_S_)) = 0 := by
    after_reads_simp; rfl
  have h_c_9 : BitVec.toInt (upto opsC V 8 (Proc.devRef .tc main_c_9) (Shape.Idx.first h_S_)) = 0 := by
    after_reads_simp; rfl
  after_reads_simp
  generalize upto opsC V 8 = W at h3 h_c_8 h_c_9 ⊢
  exact slice3_5632 _ l _ h3 h_c_8 h_c_9 _ _ e d

theorem D_v30 (x : Fin 2 → Fin 8192 → Fin 2048 → EReal) (g : Fin 2048 → EReal)
    (hx : ∀ b s d, x b s d = V (Proc.devRef .tc main_arg0) (ix3 b s d)) (hg : ∀ d, g d = V (Proc.devRef .tc main_v5) (ix1 d))
    (b : Fin 2) (s : Fin 8192) (d : Fin 2048) :
    x b s d * Cert.FfnIdeal.Gen.scale (x b s) * g d = after opsD V (Proc.devRef .tc main_v30) (ix3 b s d) := by
  symm
  after_reads_at
  simp only [← hx, ← hg]
  rfl

theorem E_v35 (x : Fin 2 → Fin 8192 → Fin 2048 → EReal) (w : Fin 2048 → Fin 11264 → EReal)
    (hx : ∀ b s d, x b s d = V (Proc.devRef .tc main_v30) (ix3 b s d)) (hw : ∀ e n, w e n = V (Proc.devRef .tc main_v11) (ix2 e n))
    (b : Fin 2) (s : Fin 8192) (n : Fin 5632) :
    (∑ e : Fin 2048, x b s e * w e ⟨n.val, by omega⟩) * Ideal.logistic (∑ e : Fin 2048, x b s e * w e ⟨n.val, by omega⟩)
        * (∑ e : Fin 2048, x b s e * w e ⟨5632 + n.val, by omega⟩)
      = after opsE V (Proc.devRef .tc main_v35) (ix3 b s n) := by
  symm
  after_reads_at
  simp only [← hx, ← hw]
  rfl

theorem F_v37 (x : Fin 2 → Fin 8192 → Fin 2048 → EReal) (a : Fin 2 → Fin 8192 → Fin 5632 → EReal) (w : Fin 5632 → Fin 2048 → EReal)
    (hx : ∀ b s d, x b s d = V (Proc.devRef .tc main_arg0) (ix3 b s d)) (ha : ∀ b s d, a b s d = V (Proc.devRef .tc main_v35) (ix3 b s d))
    (hw : ∀ e n, w e n = V (Proc.devRef .tc main_v17) (ix2 e n)) (b : Fin 2) (s : Fin 8192) (d : Fin 2048) :
    x b s d + (∑ k : Fin 5632, a b s k * w k d) = after opsF V (Proc.devRef .tc main_v37) (ix3 b s d) := by
  symm
  after_reads_at
  simp only [← hx, ← ha, ← hw]

theorem G_v54 (l : Fin 4) (h : (V (Proc.devRef .tc main_arg1) (ix1 0)).toNat = l.val)
    (y : Fin 2 → Fin 8192 → Fin 2048 → EReal) (g : Fin 2048 → EReal)
    (hy : ∀ b s d, y b s d = V (Proc.devRef .tc main_v37) (ix3 b s d)) (hg : ∀ d, g d = V (Proc.devRef .tc main_arg5) (ix1 d))
    (R : Fin 16384) (d : Fin 2048) :
    (if l.val = 3 then y ⟨R.val / 8192, by omega⟩ ⟨R.val % 8192, by omega⟩ d * Cert.FfnIdeal.Gen.scale (y ⟨R.val / 8192, by omega⟩ ⟨R.val % 8192, by omega⟩) * g d
      else y ⟨R.val / 8192, by omega⟩ ⟨R.val % 8192, by omega⟩ d) = after opsG V (Proc.devRef .tc main_v54) (ix2 R d) := by
  symm
  after_reads_at
  simp only [← hy, ← hg]
  exact sel_last _ l h _ _

end Cert.FfnRefIdeal.Stretch

end
-- ==== Proof.FfnRefRes.lean ====
/- The feed-forward reference's result at an index, over the extended reals, as a closed form of its arguments. -/
module

public import proofs.«01_k».proof.Proof.FfnRefVal

@[expose] public section

set_option maxRecDepth 16384

noncomputable section

namespace Cert.FfnRefIdeal.Stretch

open Cert.FfnRefIdeal Cert.FfnRefIdeal.Gen Idealize.ShloMosaic Idealize.ShloMosaic.TcCoe Idealize.SL.Sem Idealize.ShloMosaic.StableHlo

/-! The closed form: a layer's feed-forward over rows `x`, norm weights `g`, weights `w` and `v`, and final norm `f`. -/

/-- The normed rows. -/
def rn (x : Fin 2 → Fin 8192 → Fin 2048 → EReal) (g : Fin 2048 → EReal) (b : Fin 2) (s : Fin 8192) (e : Fin 2048) : EReal :=
  x b s e * Cert.FfnIdeal.Gen.scale (x b s) * g e

/-- A column of the first product. -/
def rg (x : Fin 2 → Fin 8192 → Fin 2048 → EReal) (g : Fin 2048 → EReal) (w : Fin 2048 → Fin 11264 → EReal)
    (b : Fin 2) (s : Fin 8192) (n : Fin 11264) : EReal :=
  ∑ e : Fin 2048, rn x g b s e * w e n

/-- A gated column. -/
def ra (x : Fin 2 → Fin 8192 → Fin 2048 → EReal) (g : Fin 2048 → EReal) (w : Fin 2048 → Fin 11264 → EReal)
    (b : Fin 2) (s : Fin 8192) (n : Fin 5632) : EReal :=
  rg x g w b s ⟨n.val, by omega⟩ * Ideal.logistic (rg x g w b s ⟨n.val, by omega⟩) * rg x g w b s ⟨5632 + n.val, by omega⟩

/-- The rows plus the second product. -/
def ry (x : Fin 2 → Fin 8192 → Fin 2048 → EReal) (g : Fin 2048 → EReal) (w : Fin 2048 → Fin 11264 → EReal) (v : Fin 5632 → Fin 2048 → EReal)
    (b : Fin 2) (s : Fin 8192) (d : Fin 2048) : EReal :=
  x b s d + ∑ k : Fin 5632, ra x g w b s k * v k d

/-- The result: normed on the last layer. -/
def rres (l : Fin 4) (x : Fin 2 → Fin 8192 → Fin 2048 → EReal) (g : Fin 2048 → EReal) (w : Fin 2048 → Fin 11264 → EReal)
    (v : Fin 5632 → Fin 2048 → EReal) (f : Fin 2048 → EReal) (b : Fin 2) (s : Fin 8192) (d : Fin 2048) : EReal :=
  if l.val = 3 then ry x g w v b s d * Cert.FfnIdeal.Gen.scale (ry x g w v b s) * f d else ry x g w v b s d

theorem after_app (p q : List (HloOp τ sig (Elt Ideal))) (V : Valuation τ sig (Elt Ideal)) : after (p ++ q) V = after q (after p V) := by
  induction p generalizing V with
  | nil => rfl
  | cons op p ih => exact ih _

section
variable (V : Valuation τ sig (Elt Ideal)) (r : Ref sig .tc)
theorem keepA (hr : r ∉ wA) : after opsA V (Proc.devRef .tc r) = V (Proc.devRef .tc r) := after_of_writes_sub _ V (forall_writes_sub_of_map rfl) hr
theorem keepB (hr : r ∉ wB) : after opsB V (Proc.devRef .tc r) = V (Proc.devRef .tc r) := after_of_writes_sub _ V (forall_writes_sub_of_map rfl) hr
theorem keepC (hr : r ∉ wC) : after opsC V (Proc.devRef .tc r) = V (Proc.devRef .tc r) := after_of_writes_sub _ V (forall_writes_sub_of_map rfl) hr
theorem keepD (hr : r ∉ wD) : after opsD V (Proc.devRef .tc r) = V (Proc.devRef .tc r) := after_of_writes_sub _ V (forall_writes_sub_of_map rfl) hr
theorem keepE (hr : r ∉ wE) : after opsE V (Proc.devRef .tc r) = V (Proc.devRef .tc r) := after_of_writes_sub _ V (forall_writes_sub_of_map rfl) hr
theorem keepF (hr : r ∉ wF) : after opsF V (Proc.devRef .tc r) = V (Proc.devRef .tc r) := after_of_writes_sub _ V (forall_writes_sub_of_map rfl) hr
end

theorem ref_v54 (V : Valuation τ sig (Elt Ideal)) (l : Fin 4) (h : (V (Proc.devRef .tc main_arg1) (ix1 0)).toNat = l.val)
    (x : Fin 2 → Fin 8192 → Fin 2048 → EReal) (g : Fin 4 → Fin 2048 → EReal) (w : Fin 4 → Fin 2048 → Fin 11264 → EReal)
    (v : Fin 4 → Fin 5632 → Fin 2048 → EReal) (f : Fin 2048 → EReal)
    (hx : ∀ b s d, x b s d = V (Proc.devRef .tc main_arg0) (ix3 b s d)) (hg : ∀ l d, g l d = V (Proc.devRef .tc main_arg2) (ix2 l d))
    (hw : ∀ l e d, w l e d = V (Proc.devRef .tc main_arg3) (ix3 l e d)) (hv : ∀ l e d, v l e d = V (Proc.devRef .tc main_arg4) (ix3 l e d))
    (hf : ∀ d, f d = V (Proc.devRef .tc main_arg5) (ix1 d)) (R : Fin 16384) (d : Fin 2048) :
    rres l x (g l) (w l) (v l) f ⟨R.val / 8192, by omega⟩ ⟨R.val % 8192, by omega⟩ d = after ops V (Proc.devRef .tc main_v54) (ix2 R d) := by
  unfold ops
  rw [after_app, after_app, after_app, after_app, after_app, after_app]
  have a5 := fun d => A_v5 V l h g hg d
  have aK := fun r hr => keepA V r hr
  generalize after opsA V = VA at a5 aK ⊢
  have b11 := fun e d => B_v11 VA l (by rw [aK _ (by decide)]; exact h) w (fun l e d => by rw [aK _ (by decide)]; exact hw l e d) e d
  have bK := fun r hr => keepB VA r hr
  generalize after opsB VA = VB at b11 bK ⊢
  have c17 := fun e d => C_v17 VB l (by rw [bK _ (by decide), aK _ (by decide)]; exact h) v (fun l e d => by rw [bK _ (by decide), aK _ (by decide)]; exact hv l e d) e d
  have cK := fun r hr => keepC VB r hr
  generalize after opsC VB = VC at c17 cK ⊢
  have d30 := fun b s d => D_v30 VC x (g l) (fun b s d => by rw [cK _ (by decide), bK _ (by decide), aK _ (by decide)]; exact hx b s d)
    (fun d => by rw [cK _ (by decide), bK _ (by decide)]; exact a5 d) b s d
  have dK := fun r hr => keepD VC r hr
  generalize after opsD VC = VD at d30 dK ⊢
  have e35 := fun b s n => E_v35 VD (rn x (g l)) (w l) d30 (fun e n => by rw [dK _ (by decide), cK _ (by decide)]; exact b11 e n) b s n
  have eK := fun r hr => keepE VD r hr
  generalize after opsE VD = VE at e35 eK ⊢
  have f37 := fun b s d => F_v37 VE x (ra x (g l) (w l)) (v l)
    (fun b s d => by rw [eK _ (by decide), dK _ (by decide), cK _ (by decide), bK _ (by decide), aK _ (by decide)]; exact hx b s d)
    e35 (fun e n => by rw [eK _ (by decide), dK _ (by decide)]; exact c17 e n) b s d
  have fK := fun r hr => keepF VE r hr
  generalize after opsF VE = VF at f37 fK ⊢
  exact G_v54 VF l (by rw [fK _ (by decide), eK _ (by decide), dK _ (by decide), cK _ (by decide), bK _ (by decide), aK _ (by decide)]; exact h)
    (ry x (g l) (w l) (v l)) f f37
    (fun d => by rw [fK _ (by decide), eK _ (by decide), dK _ (by decide), cK _ (by decide), bK _ (by decide), aK _ (by decide)]; exact hf d) R d

end Cert.FfnRefIdeal.Stretch

end
-- ==== Proof.FfnEq.lean ====
/- The feed-forward call and its reference compute the same array of the same arguments, over the extended reals. -/
module

public import proofs.«01_k».proof.Defs
public import proofs.«01_k».proof.Proof.FfnHost
public import proofs.«01_k».proof.Proof.FfnRefRes
public import proofs.«01_k».proof.Proof.FfnFrames

@[expose] public section

set_option maxRecDepth 16384

noncomputable section

namespace Cert.FfnIdeal.Gen

open Idealize.ShloMosaic Idealize.ShloMosaic.TcCoe Idealize.SL.Sem Cert.FfnRefIdeal.Stretch

variable (m : (ℓ : Loc nD τ sig) → Buf (Elt Ideal) ℓ) (ρ : Dev nD → PrngReg)

/-! The arguments as functions of coordinates. -/
def ax (c : Dev nD) (b : Fin 2) (s : Fin 8192) (d : Fin 2048) : EReal := m ((c.tc : Thread nD τ).loc main_arg0) (ix3 b s d)
def ag (c : Dev nD) (l : Fin 4) (d : Fin 2048) : EReal := m ((c.tc : Thread nD τ).loc main_arg2) (ix2 l d)
def aw (c : Dev nD) (l : Fin 4) (e : Fin 2048) (d : Fin 11264) : EReal := m ((c.tc : Thread nD τ).loc main_arg3) (ix3 l e d)
def av (c : Dev nD) (l : Fin 4) (e : Fin 5632) (d : Fin 2048) : EReal := m ((c.tc : Thread nD τ).loc main_arg4) (ix3 l e d)
def af (c : Dev nD) (d : Fin 2048) : EReal := m ((c.tc : Thread nD τ).loc main_arg5) (ix1 d)

/-- A row's batch and position. -/
abbrev rb (R : Fin 16384) : Fin 2 := ⟨R.val / 8192, by omega⟩
abbrev rs (R : Fin 16384) : Fin 8192 := ⟨R.val % 8192, by omega⟩

theorem xv_eq (c : Dev nD) (R : Fin 16384) : xv m c R = ax m c (rb R) (rs R) := funext fun d => V_v0 m c R d

theorem xn_eq (hl : lyr m < 4) (c : Dev nD) (R : Fin 16384) (e : Fin 2048) :
    xn m hl c R e = rn (ax m c) (ag m c ⟨lyr m, hl⟩) (rb R) (rs R) e := by
  unfold xn rn
  rw [xv_eq]
  exact congrArg _ (V_v1 m c ⟨lyr m, hl⟩ e)

theorem gu_eq (hl : lyr m < 4) (c : Dev nD) (R : Fin 16384) (n : Fin 11264) :
    gu m hl c R n = rg (ax m c) (ag m c ⟨lyr m, hl⟩) (aw m c ⟨lyr m, hl⟩) (rb R) (rs R) n := by
  unfold gu rg
  refine Finset.sum_congr rfl fun e _ => ?_
  rw [xn_eq]
  exact congrArg _ (V_v2 m c ⟨lyr m, hl⟩ e n)

theorem part_eq (hl : lyr m < 4) (c : Dev nD) (R : Fin 16384) (d : Fin 2048) (k : Fin 5632) :
    part m hl c R d k.val = ra (ax m c) (ag m c ⟨lyr m, hl⟩) (aw m c ⟨lyr m, hl⟩) (rb R) (rs R) k * av m c ⟨lyr m, hl⟩ k d := by
  unfold part ra
  rw [dif_pos k.isLt, gu_eq, gu_eq]
  exact congrArg _ (V_v3 m c ⟨lyr m, hl⟩ k d)

theorem acc_eq (hl : lyr m < 4) (c : Dev nD) (R : Fin 16384) :
    acc m hl c 5632 R = ry (ax m c) (ag m c ⟨lyr m, hl⟩) (aw m c ⟨lyr m, hl⟩) (av m c ⟨lyr m, hl⟩) (rb R) (rs R) := by
  funext d
  unfold acc ry
  rw [xv_eq, Finset.sum_range (fun x => part m hl c R d x)]
  refine congrArg _ (Finset.sum_congr rfl fun k _ => part_eq m hl c R d k)

theorem resAt_eq (hl : lyr m < 4) (c : Dev nD) (R : Fin 16384) (d : Fin 2048) :
    resAt m hl c R d = rres ⟨lyr m, hl⟩ (ax m c) (ag m c ⟨lyr m, hl⟩) (aw m c ⟨lyr m, hl⟩) (av m c ⟨lyr m, hl⟩) (af m c) (rb R) (rs R) d := by
  unfold resAt rres
  rw [acc_eq]
  by_cases h3 : lyr m = 3
  · rw [if_pos h3, if_pos h3]
    exact congrArg _ (V_v4 m c d)
  · rw [if_neg h3, if_neg h3]

/-- The call's run, read: the result array, the arguments unchanged. -/
theorem run_value (hO : Ok m) (hl : lyr m < 4) : θ_run defs (onTc (τ := τ) (main (F := Ideal))) ⟨m, fun _ => 0, ρ⟩ (fun r => ∀ c : Dev nD,
      r.2.mem ((c.tc : Thread nD τ).loc main_v5) = result m hl c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final_o m hO hl c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) (run_main m ρ hO)

theorem eta2R (x : S16384x2048.Idx) : x = ix2 (x 0 : Fin 16384) (x 1 : Fin 2048) :=
  funext fun a => by match a with | ⟨0, _⟩ => rfl | ⟨1, _⟩ => rfl

/-- The layer index is the word of the argument. -/
theorem lyr_arg : lyr m = ((m (((0 : Dev nD).tc : Thread nD τ).loc main_arg1) : IVec S1 32) (ix1 0)).toNat := by
  unfold lyr tbl
  simp only [Pipeline.Prefetch.Contents.at]
  have e := V_main_arg1 m (0 : Dev nD)
  rw [← e]
  exact congrArg (fun w : S1.Idx => ((V m 0 main_arg1 : IVec S1 32) w).toNat) (funext fun a => by match a with | ⟨0, _⟩ => rfl)

/-- The two arrays are one. -/
theorem ref_eq (m' : (ℓ : Loc Cert.FfnRefIdeal.nD Cert.FfnRefIdeal.τ Cert.FfnRefIdeal.sig) → Buf (Elt Ideal) ℓ) (hl : lyr m < 4) (c : Dev nD)
    (h0 : m' ((c.tc : Thread Cert.FfnRefIdeal.nD Cert.FfnRefIdeal.τ).loc Cert.FfnRefIdeal.main_arg0) = m ((c.tc : Thread nD τ).loc main_arg0))
    (h1 : m' ((c.tc : Thread Cert.FfnRefIdeal.nD Cert.FfnRefIdeal.τ).loc Cert.FfnRefIdeal.main_arg1) = m ((c.tc : Thread nD τ).loc main_arg1))
    (h2 : m' ((c.tc : Thread Cert.FfnRefIdeal.nD Cert.FfnRefIdeal.τ).loc Cert.FfnRefIdeal.main_arg2) = m ((c.tc : Thread nD τ).loc main_arg2))
    (h3 : m' ((c.tc : Thread Cert.FfnRefIdeal.nD Cert.FfnRefIdeal.τ).loc Cert.FfnRefIdeal.main_arg3) = m ((c.tc : Thread nD τ).loc main_arg3))
    (h4 : m' ((c.tc : Thread Cert.FfnRefIdeal.nD Cert.FfnRefIdeal.τ).loc Cert.FfnRefIdeal.main_arg4) = m ((c.tc : Thread nD τ).loc main_arg4))
    (h5 : m' ((c.tc : Thread Cert.FfnRefIdeal.nD Cert.FfnRefIdeal.τ).loc Cert.FfnRefIdeal.main_arg5) = m ((c.tc : Thread nD τ).loc main_arg5)) :
    StableHlo.after ops (StableHlo.launchContents m' c) (Proc.devRef .tc Cert.FfnRefIdeal.main_v54) = result m hl c := by
  have hc : c = 0 := Subsingleton.elim _ _
  funext i
  obtain ⟨i, rfl⟩ : ∃ z : S16384x2048.Idx, z = i := ⟨i, rfl⟩
  have hw : (m' ((c.tc : Thread Cert.FfnRefIdeal.nD Cert.FfnRefIdeal.τ).loc Cert.FfnRefIdeal.main_arg1) (ix1 0)).toNat = lyr m := by
    rw [h1, hc]
    exact (lyr_arg m).symm
  have e (R : Fin 16384) (d : Fin 2048) :
      StableHlo.after ops (StableHlo.launchContents m' c) (Proc.devRef .tc Cert.FfnRefIdeal.main_v54) (ix2 R d) = resAt m hl c R d := by
    refine Eq.trans ?_ (resAt_eq m hl c R d).symm
    refine (ref_v54 (StableHlo.launchContents m' c) ⟨lyr m, hl⟩ hw (ax m c) (ag m c) (aw m c) (av m c) (af m c) ?_ ?_ ?_ ?_ ?_ R d).symm
    · exact fun b s d => (congrFun h0 (ix3 b s d)).symm
    · exact fun l d => (congrFun h2 (ix2 l d)).symm
    · exact fun l e d => (congrFun h3 (ix3 l e d)).symm
    · exact fun l e d => (congrFun h4 (ix3 l e d)).symm
    · exact fun d => (congrFun h5 (ix1 d)).symm
  exact (congrArg _ (eta2R i)).trans (e (i 0) (i 1))

end Cert.FfnIdeal.Gen

namespace Cert.Proof

open Idealize.ShloMosaic Idealize.ShloMosaic.TcCoe Idealize.SL.Sem

/-- The feed-forward kernel's value. -/
theorem value_Ffn : Cert.algebraic_FfnIdeal_FfnRefIdeal := fun m g m' g' h hm => by
  have hlt := Cert.FfnIdeal.Gen.lidx_lt _ _ _ _ _ _ (h 0)
  have hl := Cert.FfnIdeal.Gen.lyr_lt m hlt
  have hO := Cert.FfnIdeal.Gen.ok_of_lt m hlt
  refine ⟨Cert.FfnIdeal.Gen.result m hl, Cert.FfnIdeal.Gen.run_value m g hO hl, ?_⟩
  refine (θ_run Cert.FfnRefIdeal.defs _ _).mono (fun r hr c => ?_) (Cert.FfnRefIdeal.Stretch.run m' g')
  obtain ⟨h0, h1, h2, h3, h4, h5⟩ := hm c
  exact ⟨(hr c _).trans (Cert.FfnIdeal.Gen.ref_eq m m' hl c h0 h1 h2 h3 h4 h5),
     (hr c _).trans (ref_unchanged m' c Cert.FfnRefIdeal.main_arg0 (by decide)),
     (hr c _).trans (ref_unchanged m' c Cert.FfnRefIdeal.main_arg1 (by decide)),
     (hr c _).trans (ref_unchanged m' c Cert.FfnRefIdeal.main_arg2 (by decide)),
     (hr c _).trans (ref_unchanged m' c Cert.FfnRefIdeal.main_arg3 (by decide)),
     (hr c _).trans (ref_unchanged m' c Cert.FfnRefIdeal.main_arg4 (by decide)),
     (hr c _).trans (ref_unchanged m' c Cert.FfnRefIdeal.main_arg5 (by decide))⟩

end Cert.Proof

end
-- ==== Proof.InRuns.lean ====
/- The call `in_proj`: the blocks its points read, and the closed forms of its one condition. -/
module

public import proofs.«01_k».proof.Proof.Gen.InProjIdeal.Launch
public import proofs.«01_k».proof.Proof.Gen.InProjIdeal.Skeleton
public import Idealize.ShloMosaic.Lib.Pipeline.Kit
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.InProjIdeal.Fr

open Cert.InProjIdeal Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem fetch0_0 (a : (pcfg0 (F := F)).Adm) : ∀ t : Fin (cfg0 a).N, ((cfg0 a).win 0).fetch t = true ↔ t.val % 5 = 0 :=
  (fun t => Pipeline.Window.fetchOf_reads cc0_transform_0 reads0_0 hreads0_0 0 (by decide) (by decide) (Pipeline.Window.sep_of_coord cc0_transform_0 0 0 (fun _ => rfl) (by decide)) (P := 5) (by decide) t : ∀ t : Fin grid0.N, Pipeline.Window.fetchOf grid0 false cc0_transform_0 t = true ↔ t.val % 5 = 0)
theorem flush0_4 (a : (pcfg0 (F := F)).Adm) : ∀ t : Fin (cfg0 a).N, ((cfg0 a).win 4).flush t = true :=
  (fun t => (Pipeline.Window.flushOf_reads cc0_transform_4 reads0_4 hreads0_4 1 (by decide) (by decide) (Pipeline.Window.sep_of_coord cc0_transform_4 1 1 (fun _ => rfl) (by decide)) (P := 1) (m := 0) (by decide) rfl t).mpr (Nat.mod_one _) : ∀ t : Fin grid0.N, Pipeline.Window.flushOf grid0 true cc0_transform_4 t = true)
theorem flush0_5 (a : (pcfg0 (F := F)).Adm) : ∀ t : Fin (cfg0 a).N, ((cfg0 a).win 5).flush t = true ↔ t.val % 5 = 4 :=
  (fun t => Pipeline.Window.flushOf_reads cc0_transform_5 reads0_5 hreads0_5 0 (by decide) (by decide) (Pipeline.Window.sep_of_coord cc0_transform_5 0 0 (fun _ => rfl) (by decide)) (P := 5) (m := 4) (by decide) rfl t : ∀ t : Fin grid0.N, Pipeline.Window.flushOf grid0 true cc0_transform_5 t = true ↔ t.val % 5 = 4)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

abbrev bodyAt0 (a : (pcfg0 (F := F)).Adm) (t : Fin (cfg0 a).N) : Prog (TpuEff nD τ sig (Elt F) Λ₀ .tc) PUnit :=
  cc0_in_proj (grid0.coords t) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _)

local notation "𝕄" => MT nD τ sig Unit (Elt F) ℕ (UR sig nD τ) ℕ

variable (m : (ℓ : Loc nD τ sig) → Buf (Elt F) ℓ) (ρ : Dev nD → PrngReg)

/-- The host's operations before the call, the pad's own among them. -/
abbrev hostAll : List (HloOp τ sig (Elt F)) := [hostOps0, hostOps0_1, hostOps0_2].flatten

abbrev V (c : Dev nD) (b : Ref sig .tc) : Buf (Elt F) ((c : Thread nD τ).loc b) := StableHlo.after hostAll (fun b => m (c, b)) b

theorem hostAll_fresh : ([hostOps0, hostOps0_1, hostOps0_2] : List (List (HloOp τ sig (Elt F)))).Forall fun ops => ops.Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] ⟨hostOps0_sub, hostOps0_1_sub, hostOps0_2_sub⟩ hostAll_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostAll, hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostAll, hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostAll, hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostAll, hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S1 .i32 := Memref.whole main_arg1
abbrev htbM0_0 : tbM0_0.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩) h

abbrev cond0_0 (i : grid0.Coords) : Prop := (Scalar.cmpi .ne (Scalar.extui (Scalar.cmpi .eq (BitVec.ofNat 32 (i 1).val) 0#32)) 0#32) = 1#1
theorem hcond0_0 : ∀ t : Fin grid0.N, cond0_0 (grid0.coords t) ↔ t.val % 5 = 0 :=
  (fun t => by
    have ht : t.val < 80 := Nat.lt_of_lt_of_eq t.isLt N_0
    have e0 : (grid0.coords t 0).val = t.val / 5 % 16 := Pipeline.Grid.coords_val t 0 (by decide) rfl
    have e1 : (grid0.coords t 1).val = t.val / 1 % 5 := Pipeline.Grid.coords_val t 1 (by decide) rfl
    simp only [cond0_0, e0, e1]
    word_cmp
   : ∀ t : Fin grid0.N, cond0_0 (grid0.coords t) ↔ t.val % 5 = 0)

abbrev VO0_4 : View sig .tc .vmem S1024x1536 .f32 := (Memref.whole cc0_stg4_0 : Memref sig .tc .vmem S1024x1536 .f32).view
abbrev VO0_5 : View sig .tc .vmem S1024x128 .f32 := (Memref.whole cc0_stg5_0 : Memref sig .tc .vmem S1024x128 .f32).view
abbrev ms0_0 (hO : Ok m) (t : Fin (cfgM m hO).N) : Memref sig .tc .vmem S1024x2048 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x1536 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x2048x128 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1024x1536 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1024x128 .f32 := spec0_5.stage ((cfgM m hO).slots t 5)
abbrev hs0_5 (hO : Ok m) (t : Fin (cfgM m hO).N) : (ms0_5 m hO t).IsWhole := hstage0_5 (((cfgM m hO).slots t 5).cast nbuf0_5)
abbrev scM0_0 : Memref sig .tc .vmem S1024x2048 .bf16 := Memref.whole cc0_scratch0
abbrev VS0_0 : View sig .tc .vmem S1024x2048 .bf16 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The gate block is idle exactly at the points after the first of its row of blocks. -/
theorem idle5_eq (hO : Ok m) (t : Fin (cfgM m hO).N) : (cfgM m hO).idle 5 ((cfgM m hO).grid.coords t) = !decide (t.val % 5 = 0) := by
  show (!(k0_cond1 (grid0.coords t) == 1#1)) = _
  congr 1
  rw [Bool.eq_iff_iff, beq_iff_eq, decide_eq_true_iff]
  exact hcond0_0 t

end Cert.InProjIdeal.Fr

end
-- ==== Proof.InOk.lean ====
/- The layer index of the call `in_proj`: the precondition keeps it below the depth, so every window that reads it
   is inside its array, and its transfers move whole words. -/
module

public import proofs.«01_k».proof.Defs
public import proofs.«01_k».proof.Proof.InRuns
public import proofs.«01_k».proof.Proof.Gen.Pre_pre_in

@[expose] public section

set_option maxRecDepth 16384

noncomputable section

namespace Cert.InProjIdeal.Fr

open Cert.InProjIdeal Cert.InProjIdeal.Gen Idealize.ShloMosaic Idealize.ShloMosaic.TcCoe Idealize.SL.Sem

variable {F : FTy → Type} [FloatOps F]

/-- Two one-bit words are both one exactly when their conjunction is. -/
theorem andi_one (a b : BitVec 1) : IntOp.andi a b = 1#1 ↔ a = 1#1 ∧ b = 1#1 := by revert a b; decide

/-- A truth value read as one bit is one exactly when it is true. -/
theorem ofBool_one (p : Bool) : (BitVec.ofBool p = 1#1) ↔ p = true := by cases p <;> decide

/-- The precondition bounds the layer index by the depth. -/
theorem lidx_lt (a0 : FVec F Cert.Pre_pre_in.S2x8192x2048 .f32) (a1 : IVec Cert.Pre_pre_in.S1 32)
    (a2 : FVec F Cert.Pre_pre_in.S4x2048 .f32) (a3 : FVec F Cert.Pre_pre_in.S4x2048x7692 .f32)
    (h : Cert.Pre_pre_in.fn (F := F) a0 a1 a2 a3 = fun _ => 1#1) (w : Cert.Pre_pre_in.S1.Idx) : (a1 w).toNat < 4 := by
  have pre := congrFun h w
  simp only [Cert.Pre_pre_in.fn, constantI, broadcastInDim, cmpi, andi, andi_one] at pre
  obtain ⟨h1, h2⟩ := pre
  simp only [ofBool_one, IntOp.cmpi, BitVec.sle, BitVec.slt, decide_eq_true_eq, BitVec.toInt, BitVec.toNat_ofNat] at h1 h2
  have := (a1 w).isLt
  split at h1 <;> split at h2 <;> simp at h1 h2 <;> omega

/-- The layer index the windows read. -/
abbrev lyr (m : (ℓ : Loc nD τ sig) → Buf (Elt F) ℓ) : ℕ :=
  ((tbl m).at 0 (Rect.unit (s := S1) ![0] S1.size inb_S1_S1_0) numel1_S1).toNat

/-- It is the word of the program's argument. -/
theorem lyr_lt (m : (ℓ : Loc nD τ sig) → Buf (Elt F) ℓ)
    (h : ∀ w : S1.Idx, ((m (((0 : Dev nD) : Thread nD τ).loc main_arg1) : IVec S1 32) w).toNat < 4) : lyr m < 4 := by
  unfold lyr tbl
  simp only [Pipeline.Prefetch.Contents.at]
  have e := V_main_arg1 m (0 : Dev nD)
  have := h
  rw [← e] at this
  exact this _

/-- A layer index below the depth keeps the three windows that read it inside their arrays. -/
theorem ok_of_lt (m : (ℓ : Loc nD τ sig) → Buf (Elt F) ℓ)
    (h : ∀ w : S1.Idx, ((m (((0 : Dev nD) : Thread nD τ).loc main_arg1) : IVec S1 32) w).toNat < 4) : Ok m := by
  have key : lyr m < 4 := lyr_lt m h
  have hi (i : grid0.Coords) : (i 1).val < 5 := (i 1).isLt
  refine ⟨fun i => ⟨fun a => ?_, Or.inl rfl⟩, fun i => ⟨fun a => ?_, Or.inr (Or.inr ⟨by decide, rfl, rfl, rfl⟩)⟩,
    fun i => ⟨fun a => ?_, Or.inr (Or.inr ⟨by decide, rfl, rfl, rfl⟩)⟩⟩
  · fin_cases a
    · show (lyr m + 1) * 1 ≤ 4
      omega
    · show (0 + 1) * 1 ≤ 1
      decide
    · show (0 + 1) * 2048 ≤ 2048
      decide
  · fin_cases a
    · show (lyr m + 1) * 1 ≤ 4
      omega
    · show (0 + 1) * 2048 ≤ 2048
      decide
    · show ((BitVec.ofNat 32 (i 1).val).toNat + 1) * 1536 ≤ 7680
      have := hi i
      rw [BitVec.toNat_ofNat]
      omega
  · fin_cases a
    · show (lyr m + 1) * 1 ≤ 4
      omega
    · show (0 + 1) * 2048 ≤ 2048
      decide
    · show (0 + 1) * 128 ≤ 128
      decide

end Cert.InProjIdeal.Fr

end
-- ==== Proof.InBlk.lean ====
/- The input blocks of the call `in_proj` at a grid point, as elements of the arrays they are cut from. -/
module

public import proofs.«01_k».proof.Proof.InOk
public import Idealize.ShloMosaic.Lib.Pointwise
public import Idealize.ShloMosaic.Lib.Pipeline.Value

@[expose] public section

set_option maxRecDepth 16384

noncomputable section

namespace Cert.InProjIdeal.Fr

open Cert.InProjIdeal Cert.InProjIdeal.Gen Idealize.ShloMosaic Idealize.ShloMosaic.TcCoe Idealize.SL.Sem

variable {F : FTy → Type} [FloatOps F]
variable (m : (ℓ : Loc nD τ sig) → Buf (Elt F) ℓ)

theorem N_lt (hO : Ok m) (t : Fin (cfgM m hO).N) : t.val < 80 := Nat.lt_of_lt_of_eq t.isLt N_0

theorem gco0 (t : Fin grid0.N) : (grid0.coords t 0).val = t.val / 5 % 16 := Pipeline.Grid.coords_val t 0 (by decide) rfl
theorem gco1 (t : Fin grid0.N) : (grid0.coords t 1).val = t.val / 1 % 5 := Pipeline.Grid.coords_val t 1 (by decide) rfl

theorem co0 (hO : Ok m) (t : Fin (cfgM m hO).N) : (grid0.coords t 0).val = t.val / 5 := by
  have ht := N_lt m hO t
  have e : (grid0.coords t 0).val = t.val / 5 % 16 := gco0 t
  omega

theorem co1 (hO : Ok m) (t : Fin (cfgM m hO).N) : (grid0.coords t 1).val = t.val % 5 := by
  have e : (grid0.coords t 1).val = t.val / 1 % 5 := gco1 t
  omega

/-! The four input blocks at a point. -/
def b0 (hO : Ok m) (c : Dev nD) (t : Fin (cfgM m hO).N) : Vec F S1024x2048 .f32 := iblk m hO c 0 t
def b1 (hO : Ok m) (c : Dev nD) (t : Fin (cfgM m hO).N) : Vec F S1x1x2048 .f32 := iblk m hO c 1 t
def b2 (hO : Ok m) (c : Dev nD) (t : Fin (cfgM m hO).N) : Vec F S1x2048x1536 .bf16 := iblk m hO c 2 t
def b3 (hO : Ok m) (c : Dev nD) (t : Fin (cfgM m hO).N) : Vec F S1x2048x128 .bf16 := iblk m hO c 3 t

/-- Row `r` of row block `t / 5`. -/
abbrev row (hO : Ok m) (t : Fin (cfgM m hO).N) (r : Fin 1024) : Fin 16384 :=
  ⟨1024 * (t.val / 5) + r.val, by have := N_lt m hO t; omega⟩

/-- Column `n` of column block `t % 5`. -/
abbrev colb (hO : Ok m) (t : Fin (cfgM m hO).N) (n : Fin 1536) : Fin 7680 :=
  ⟨1536 * (t.val % 5) + n.val, by omega⟩

theorem blk0 (hO : Ok m) (c : Dev nD) (t : Fin (cfgM m hO).N) (r : Fin 1024) (d : Fin 2048) :
    b0 m hO c t (ix2 r d) = (V m c main_v7 : Vec F S16384x2048 .f32) (ix2 (row m hO t r) d) := by
  unfold b0 iblk
  refine (View.read_apply _ _).trans ?_
  show (V m c main_v7 : Vec F S16384x2048 .f32) _ = (V m c main_v7 : Vec F S16384x2048 .f32) _
  congr 1
  funext a
  apply Fin.ext
  have h0 := co0 m hO t
  have h1 := co1 m hO t
  have ht := N_lt m hO t
  match a with
  | ⟨0, _⟩ =>
    show (BitVec.ofNat 32 (grid0.coords t 0).val).toNat * 1024 + 1 * r.val = 1024 * (t.val / 5) + r.val
    rw [h0, BitVec.toNat_ofNat]; omega
  | ⟨1, _⟩ => show 0 * 2048 + 1 * d.val = d.val; omega

theorem blk1 (hO : Ok m) (hl : lyr m < 4) (c : Dev nD) (t : Fin (cfgM m hO).N) (d : Fin 2048) :
    b1 m hO c t (ix3 0 0 d) = (V m c main_v8 : Vec F S4x1x2048 .f32) (ix3 ⟨lyr m, hl⟩ 0 d) := by
  unfold b1 iblk
  refine (View.read_apply _ _).trans ?_
  show (V m c main_v8 : Vec F S4x1x2048 .f32) _ = (V m c main_v8 : Vec F S4x1x2048 .f32) _
  congr 1
  funext a
  apply Fin.ext
  have h0 := co0 m hO t
  have h1 := co1 m hO t
  have ht := N_lt m hO t
  match a with
  | ⟨0, _⟩ => show lyr m * 1 + 1 * 0 = lyr m; omega
  | ⟨1, _⟩ => show 0 * 1 + 1 * 0 = 0; omega
  | ⟨2, _⟩ => show 0 * 2048 + 1 * d.val = d.val; omega

theorem blk2 (hO : Ok m) (hl : lyr m < 4) (c : Dev nD) (t : Fin (cfgM m hO).N) (e : Fin 2048) (n : Fin 1536) :
    b2 m hO c t (ix3 0 e n) = (V m c main_v3 : Vec F S4x2048x7680 .bf16) (ix3 ⟨lyr m, hl⟩ e (colb m hO t n)) := by
  unfold b2 iblk
  refine (View.read_apply _ _).trans ?_
  show (V m c main_v3 : Vec F S4x2048x7680 .bf16) _ = (V m c main_v3 : Vec F S4x2048x7680 .bf16) _
  congr 1
  funext a
  apply Fin.ext
  have h0 := co0 m hO t
  have h1 := co1 m hO t
  have ht := N_lt m hO t
  match a with
  | ⟨0, _⟩ => show lyr m * 1 + 1 * 0 = lyr m; omega
  | ⟨1, _⟩ => show 0 * 2048 + 1 * e.val = e.val; omega
  | ⟨2, _⟩ =>
    show (BitVec.ofNat 32 (grid0.coords t 1).val).toNat * 1536 + 1 * n.val = 1536 * (t.val % 5) + n.val
    rw [h1, BitVec.toNat_ofNat]; omega

theorem blk3 (hO : Ok m) (hl : lyr m < 4) (c : Dev nD) (t : Fin (cfgM m hO).N) (e : Fin 2048) (n : Fin 128) :
    b3 m hO c t (ix3 0 e n) = (V m c main_v6 : Vec F S4x2048x128 .bf16) (ix3 ⟨lyr m, hl⟩ e n) := by
  unfold b3 iblk
  refine (View.read_apply _ _).trans ?_
  show (V m c main_v6 : Vec F S4x2048x128 .bf16) _ = (V m c main_v6 : Vec F S4x2048x128 .bf16) _
  congr 1
  funext a
  apply Fin.ext
  have h0 := co0 m hO t
  have h1 := co1 m hO t
  have ht := N_lt m hO t
  match a with
  | ⟨0, _⟩ => show lyr m * 1 + 1 * 0 = lyr m; omega
  | ⟨1, _⟩ => show 0 * 2048 + 1 * e.val = e.val; omega
  | ⟨2, _⟩ => show 0 * 128 + 1 * n.val = n.val; omega

end Cert.InProjIdeal.Fr

end
-- ==== Proof.InPay.lean ====
/- The stored values of the kernel of `in_proj`, read at one element over the extended reals. -/
module

public import proofs.«01_k».proof.Proof.Gen.InProjIdeal.Skeleton
public import proofs.«01_k».proof.Proof.Gen.InProjIdeal
public import proofs.«01_k».proof.Proof.FfnPay
public import Idealize.ShloMosaic.Lib.Pointwise

@[expose] public section

set_option maxRecDepth 16384

noncomputable section

namespace Cert.InProjIdeal.Fr

open Cert.InProjIdeal Cert.InProjIdeal.Gen Idealize.ShloMosaic

theorem pay2_apply (x : Vec Ideal S1024x2048 .f32) (g : Vec Ideal S1x1x2048 .f32) (r : Fin 1024) (d : Fin 2048) :
    k0_pay2 x g (ix2 r d) = x (ix2 r d) * Cert.FfnIdeal.Gen.scale (fun k => x (ix2 r k)) * g (ix3 0 0 d) := by
  pointwise [k0_pay2, k0_pay1, Cert.FfnIdeal.Gen.scale]

theorem pay3_apply (x : Vec Ideal S1024x2048 .f32) (g : Vec Ideal S1x1x2048 .f32) (w : Vec Ideal S1x2048x128 .bf16) (r : Fin 1024) (k : Fin 128) :
    k0_pay3 x g w (ix2 r k) = ∑ e : Fin 2048, (x (ix2 r e) * Cert.FfnIdeal.Gen.scale (fun k => x (ix2 r k)) * g (ix3 0 0 e)) * w (ix3 0 e k) := by
  pointwise [k0_pay3, k0_pay1, Cert.FfnIdeal.Gen.scale]

theorem pay4_apply (xn : Vec Ideal S1024x2048 .bf16) (w : Vec Ideal S1x2048x1536 .bf16) (r : Fin 1024) (n : Fin 1536) :
    k0_pay4 xn w (ix2 r n) = ∑ e : Fin 2048, xn (ix2 r e) * w (ix3 0 e n) := by
  pointwise [k0_pay4]

end Cert.InProjIdeal.Fr

end
-- ==== Proof.InRunA.lean ====
/- The call `in_proj` at a first point of a row of blocks: what the body stores. -/
module

public import proofs.«01_k».proof.Proof.InRuns

@[expose] public section

set_option maxRecDepth 16384

noncomputable section

namespace Cert.InProjIdeal.Fr

open Cert.InProjIdeal Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg3 : Memref sig .tc .vmem S1024x2048 .f32) (harg3 : arg3.IsWhole) (arg4 : Memref sig .tc .vmem S1x1x2048 .f32) (harg4 : arg4.IsWhole) (arg5 : Memref sig .tc .vmem S1x2048x1536 .bf16) (harg5 : arg5.IsWhole) (arg6 : Memref sig .tc .vmem S1x2048x128 .bf16) (harg6 : arg6.IsWhole) (arg7 : Memref sig .tc .vmem S1024x1536 .f32) (harg7 : arg7.IsWhole) (arg8 : Memref sig .tc .vmem S1024x128 .f32) (harg8 : arg8.IsWhole) (arg9 : Memref sig .tc .vmem S1024x2048 .bf16) (harg9 : arg9.IsWhole) (hc0 : cond0_0 i)
    (x0 : Vec F S1024x2048 .f32) (x1 : Vec F S1x1x2048 .f32) (x2 : Vec F S1x2048x1536 .bf16) (x3 : Vec F S1x2048x128 .bf16) (xt0 : TbBuf0 (F := F) c tbM0_0) :
    Σ' (L4 : List (View.Piece (Elt F) S1024x1536 .f32)), Σ' (L5 : List (View.Piece (Elt F) S1024x128 .f32)), { LS0 : List (View.Piece (Elt F) S1024x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ tbPt0 c tbM0_0 xt0) -∗ K ⟨⟩))
          ⊢ wp frame (wpE (defs₀ (F := F)) Variants.none c none) E (cc0_in_proj i tbM0_0 htbM0_0 arg3 harg3 arg4 harg4 arg5 harg5 arg6 harg6 arg7 harg7 arg8 harg8 arg9 harg9) K } := by
  refine ⟨?_, ?_, ?_, fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, HT0, Hk⟩
    obtain rfl := harg3.eq_unread hf0; obtain rfl := harg4.eq_unread hf1; obtain rfl := harg5.eq_unread hf2; obtain rfl := harg6.eq_unread hf3
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [HS0]; · iexists _; iexact HS0
    iexact HT0

end Cert.InProjIdeal.Fr

end
-- ==== Proof.InRunB.lean ====
/- The call `in_proj` at a later point of a row of blocks: what the body stores. -/
module

public import proofs.«01_k».proof.Proof.InRuns

@[expose] public section

set_option maxRecDepth 16384

noncomputable section

namespace Cert.InProjIdeal.Fr

open Cert.InProjIdeal Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg3 : Memref sig .tc .vmem S1024x2048 .f32) (harg3 : arg3.IsWhole) (arg4 : Memref sig .tc .vmem S1x1x2048 .f32) (harg4 : arg4.IsWhole) (arg5 : Memref sig .tc .vmem S1x2048x1536 .bf16) (harg5 : arg5.IsWhole) (arg6 : Memref sig .tc .vmem S1x2048x128 .bf16) (harg6 : arg6.IsWhole) (arg7 : Memref sig .tc .vmem S1024x1536 .f32) (harg7 : arg7.IsWhole) (arg8 : Memref sig .tc .vmem S1024x128 .f32) (harg8 : arg8.IsWhole) (arg9 : Memref sig .tc .vmem S1024x2048 .bf16) (harg9 : arg9.IsWhole) (hc0 : ¬cond0_0 i)
    (x0 : Vec F S1024x2048 .f32) (x1 : Vec F S1x1x2048 .f32) (x2 : Vec F S1x2048x1536 .bf16) (x3 : Vec F S1x2048x128 .bf16) (xt0 : TbBuf0 (F := F) c tbM0_0) (xo5 : Vec F S1024x128 .f32) (xs0 : Vec F S1024x2048 .bf16) :
    Σ' (L4 : List (View.Piece (Elt F) S1024x1536 .f32)), Σ' (L5 : List (View.Piece (Elt F) S1024x128 .f32)), { LS0 : List (View.Piece (Elt F) S1024x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xo5 ∗ owns (c : Thread nD τ) arg9 fullShare xs0 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ owns (c : Thread nD τ) arg8 fullShare xo5 ∗ owns (c : Thread nD τ) arg9 fullShare xs0 ∗ tbPt0 c tbM0_0 xt0) -∗ K ⟨⟩))
          ⊢ wp frame (wpE (defs₀ (F := F)) Variants.none c none) E (cc0_in_proj i tbM0_0 htbM0_0 arg3 harg3 arg4 harg4 arg5 harg5 arg6 harg6 arg7 harg7 arg8 harg8 arg9 harg9) K } := by
  refine ⟨?_, [], [], fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, HT0, Hk⟩
    obtain rfl := harg3.eq_unread hf0; obtain rfl := harg4.eq_unread hf1; obtain rfl := harg5.eq_unread hf2; obtain rfl := harg6.eq_unread hf3; obtain rfl := harg8.eq_unread hf5; obtain rfl := harg9.eq_unread hfs0
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]
    · iexists _; isplitr; · ipureintro; exact harg8.read_unread _
      iexact H5
    isplitl [HS0]
    · iexists _; isplitr; · ipureintro; exact harg9.read_unread _
      iexact HS0
    iexact HT0

end Cert.InProjIdeal.Fr

end
-- ==== Proof.InFrame.lean ====
/- The call `in_proj`: what its outputs hold after each point, and its frame. -/
module

public import proofs.«01_k».proof.Proof.InRunA
public import proofs.«01_k».proof.Proof.InRunB
public import Idealize.ShloMosaic.Lib.Claim

@[expose] public section

set_option maxRecDepth 16384

noncomputable section

namespace Cert.InProjIdeal.Fr

open Cert.InProjIdeal Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem cover0_A_4 (c : Dev nD) (i : grid0.Coords) (arg3 : Memref sig .tc .vmem S1024x2048 .f32) (harg3 : arg3.IsWhole) (arg4 : Memref sig .tc .vmem S1x1x2048 .f32) (harg4 : arg4.IsWhole) (arg5 : Memref sig .tc .vmem S1x2048x1536 .bf16) (harg5 : arg5.IsWhole) (arg6 : Memref sig .tc .vmem S1x2048x128 .bf16) (harg6 : arg6.IsWhole) (arg7 : Memref sig .tc .vmem S1024x1536 .f32) (harg7 : arg7.IsWhole) (arg8 : Memref sig .tc .vmem S1024x128 .f32) (harg8 : arg8.IsWhole) (arg9 : Memref sig .tc .vmem S1024x2048 .bf16) (harg9 : arg9.IsWhole) (hc0 : cond0_0 i)
    (x0 : Vec F S1024x2048 .f32) (x1 : Vec F S1x1x2048 .f32) (x2 : Vec F S1x2048x1536 .bf16) (x3 : Vec F S1x2048x128 .bf16) (xt0 : TbBuf0 (F := F) c tbM0_0) (y : S1024x1536.Idx) :
    ∃ pc ∈ (kernelRun0_A c i arg3 harg3 arg4 harg4 arg5 harg5 arg6 harg6 arg7 harg7 arg8 harg8 arg9 harg9 hc0 x0 x1 x2 x3 xt0).1, y ∈ pc.1.set :=
  View.cover_of_tiledL (kernelRun0_A c i arg3 harg3 arg4 harg4 arg5 harg5 arg6 harg6 arg7 harg7 arg8 harg8 arg9 harg9 hc0 x0 x1 x2 x3 xt0).1 S1024x1536.size (by sl_kernel_rfl) y

def out0_A_4 (c : Dev nD) (i : grid0.Coords) (arg3 : Memref sig .tc .vmem S1024x2048 .f32) (harg3 : arg3.IsWhole) (arg4 : Memref sig .tc .vmem S1x1x2048 .f32) (harg4 : arg4.IsWhole) (arg5 : Memref sig .tc .vmem S1x2048x1536 .bf16) (harg5 : arg5.IsWhole) (arg6 : Memref sig .tc .vmem S1x2048x128 .bf16) (harg6 : arg6.IsWhole) (arg7 : Memref sig .tc .vmem S1024x1536 .f32) (harg7 : arg7.IsWhole) (arg8 : Memref sig .tc .vmem S1024x128 .f32) (harg8 : arg8.IsWhole) (arg9 : Memref sig .tc .vmem S1024x2048 .bf16) (harg9 : arg9.IsWhole) (hc0 : cond0_0 i)
    (x0 : Vec F S1024x2048 .f32) (x1 : Vec F S1x1x2048 .f32) (x2 : Vec F S1x2048x1536 .bf16) (x3 : Vec F S1x2048x128 .bf16) (xt0 : TbBuf0 (F := F) c tbM0_0) : Vec F S1024x1536 .f32 :=
  VO0_4.read (Elt F) (VO0_4.writes (Elt F) VO0_4.junk (kernelRun0_A c i arg3 harg3 arg4 harg4 arg5 harg5 arg6 harg6 arg7 harg7 arg8 harg8 arg9 harg9 hc0 x0 x1 x2 x3 xt0).1)

theorem cover0_A_5 (c : Dev nD) (i : grid0.Coords) (arg3 : Memref sig .tc .vmem S1024x2048 .f32) (harg3 : arg3.IsWhole) (arg4 : Memref sig .tc .vmem S1x1x2048 .f32) (harg4 : arg4.IsWhole) (arg5 : Memref sig .tc .vmem S1x2048x1536 .bf16) (harg5 : arg5.IsWhole) (arg6 : Memref sig .tc .vmem S1x2048x128 .bf16) (harg6 : arg6.IsWhole) (arg7 : Memref sig .tc .vmem S1024x1536 .f32) (harg7 : arg7.IsWhole) (arg8 : Memref sig .tc .vmem S1024x128 .f32) (harg8 : arg8.IsWhole) (arg9 : Memref sig .tc .vmem S1024x2048 .bf16) (harg9 : arg9.IsWhole) (hc0 : cond0_0 i)
    (x0 : Vec F S1024x2048 .f32) (x1 : Vec F S1x1x2048 .f32) (x2 : Vec F S1x2048x1536 .bf16) (x3 : Vec F S1x2048x128 .bf16) (xt0 : TbBuf0 (F := F) c tbM0_0) (y : S1024x128.Idx) :
    ∃ pc ∈ (kernelRun0_A c i arg3 harg3 arg4 harg4 arg5 harg5 arg6 harg6 arg7 harg7 arg8 harg8 arg9 harg9 hc0 x0 x1 x2 x3 xt0).2.1, y ∈ pc.1.set :=
  View.cover_of_tiledL (kernelRun0_A c i arg3 harg3 arg4 harg4 arg5 harg5 arg6 harg6 arg7 harg7 arg8 harg8 arg9 harg9 hc0 x0 x1 x2 x3 xt0).2.1 S1024x128.size (by sl_kernel_rfl) y

def out0_A_5 (c : Dev nD) (i : grid0.Coords) (arg3 : Memref sig .tc .vmem S1024x2048 .f32) (harg3 : arg3.IsWhole) (arg4 : Memref sig .tc .vmem S1x1x2048 .f32) (harg4 : arg4.IsWhole) (arg5 : Memref sig .tc .vmem S1x2048x1536 .bf16) (harg5 : arg5.IsWhole) (arg6 : Memref sig .tc .vmem S1x2048x128 .bf16) (harg6 : arg6.IsWhole) (arg7 : Memref sig .tc .vmem S1024x1536 .f32) (harg7 : arg7.IsWhole) (arg8 : Memref sig .tc .vmem S1024x128 .f32) (harg8 : arg8.IsWhole) (arg9 : Memref sig .tc .vmem S1024x2048 .bf16) (harg9 : arg9.IsWhole) (hc0 : cond0_0 i)
    (x0 : Vec F S1024x2048 .f32) (x1 : Vec F S1x1x2048 .f32) (x2 : Vec F S1x2048x1536 .bf16) (x3 : Vec F S1x2048x128 .bf16) (xt0 : TbBuf0 (F := F) c tbM0_0) : Vec F S1024x128 .f32 :=
  VO0_5.read (Elt F) (VO0_5.writes (Elt F) VO0_5.junk (kernelRun0_A c i arg3 harg3 arg4 harg4 arg5 harg5 arg6 harg6 arg7 harg7 arg8 harg8 arg9 harg9 hc0 x0 x1 x2 x3 xt0).2.1)

theorem scover0_A_0 (c : Dev nD) (i : grid0.Coords) (arg3 : Memref sig .tc .vmem S1024x2048 .f32) (harg3 : arg3.IsWhole) (arg4 : Memref sig .tc .vmem S1x1x2048 .f32) (harg4 : arg4.IsWhole) (arg5 : Memref sig .tc .vmem S1x2048x1536 .bf16) (harg5 : arg5.IsWhole) (arg6 : Memref sig .tc .vmem S1x2048x128 .bf16) (harg6 : arg6.IsWhole) (arg7 : Memref sig .tc .vmem S1024x1536 .f32) (harg7 : arg7.IsWhole) (arg8 : Memref sig .tc .vmem S1024x128 .f32) (harg8 : arg8.IsWhole) (arg9 : Memref sig .tc .vmem S1024x2048 .bf16) (harg9 : arg9.IsWhole) (hc0 : cond0_0 i)
    (x0 : Vec F S1024x2048 .f32) (x1 : Vec F S1x1x2048 .f32) (x2 : Vec F S1x2048x1536 .bf16) (x3 : Vec F S1x2048x128 .bf16) (xt0 : TbBuf0 (F := F) c tbM0_0) (y : S1024x2048.Idx) :
    ∃ pc ∈ (kernelRun0_A c i arg3 harg3 arg4 harg4 arg5 harg5 arg6 harg6 arg7 harg7 arg8 harg8 arg9 harg9 hc0 x0 x1 x2 x3 xt0).2.2.1, y ∈ pc.1.set :=
  View.cover_of_tiledL (kernelRun0_A c i arg3 harg3 arg4 harg4 arg5 harg5 arg6 harg6 arg7 harg7 arg8 harg8 arg9 harg9 hc0 x0 x1 x2 x3 xt0).2.2.1 S1024x2048.size (by sl_kernel_rfl) y

def sout0_A_0 (c : Dev nD) (i : grid0.Coords) (arg3 : Memref sig .tc .vmem S1024x2048 .f32) (harg3 : arg3.IsWhole) (arg4 : Memref sig .tc .vmem S1x1x2048 .f32) (harg4 : arg4.IsWhole) (arg5 : Memref sig .tc .vmem S1x2048x1536 .bf16) (harg5 : arg5.IsWhole) (arg6 : Memref sig .tc .vmem S1x2048x128 .bf16) (harg6 : arg6.IsWhole) (arg7 : Memref sig .tc .vmem S1024x1536 .f32) (harg7 : arg7.IsWhole) (arg8 : Memref sig .tc .vmem S1024x128 .f32) (harg8 : arg8.IsWhole) (arg9 : Memref sig .tc .vmem S1024x2048 .bf16) (harg9 : arg9.IsWhole) (hc0 : cond0_0 i)
    (x0 : Vec F S1024x2048 .f32) (x1 : Vec F S1x1x2048 .f32) (x2 : Vec F S1x2048x1536 .bf16) (x3 : Vec F S1x2048x128 .bf16) (xt0 : TbBuf0 (F := F) c tbM0_0) : Vec F S1024x2048 .bf16 :=
  VS0_0.read (Elt F) (VS0_0.writes (Elt F) VS0_0.junk (kernelRun0_A c i arg3 harg3 arg4 harg4 arg5 harg5 arg6 harg6 arg7 harg7 arg8 harg8 arg9 harg9 hc0 x0 x1 x2 x3 xt0).2.2.1)

theorem cover0_B_4 (c : Dev nD) (i : grid0.Coords) (arg3 : Memref sig .tc .vmem S1024x2048 .f32) (harg3 : arg3.IsWhole) (arg4 : Memref sig .tc .vmem S1x1x2048 .f32) (harg4 : arg4.IsWhole) (arg5 : Memref sig .tc .vmem S1x2048x1536 .bf16) (harg5 : arg5.IsWhole) (arg6 : Memref sig .tc .vmem S1x2048x128 .bf16) (harg6 : arg6.IsWhole) (arg7 : Memref sig .tc .vmem S1024x1536 .f32) (harg7 : arg7.IsWhole) (arg8 : Memref sig .tc .vmem S1024x128 .f32) (harg8 : arg8.IsWhole) (arg9 : Memref sig .tc .vmem S1024x2048 .bf16) (harg9 : arg9.IsWhole) (hc0 : ¬cond0_0 i)
    (x0 : Vec F S1024x2048 .f32) (x1 : Vec F S1x1x2048 .f32) (x2 : Vec F S1x2048x1536 .bf16) (x3 : Vec F S1x2048x128 .bf16) (xt0 : TbBuf0 (F := F) c tbM0_0) (xo5 : Vec F S1024x128 .f32) (xs0 : Vec F S1024x2048 .bf16) (y : S1024x1536.Idx) :
    ∃ pc ∈ (kernelRun0_B c i arg3 harg3 arg4 harg4 arg5 harg5 arg6 harg6 arg7 harg7 arg8 harg8 arg9 harg9 hc0 x0 x1 x2 x3 xt0 xo5 xs0).1, y ∈ pc.1.set :=
  View.cover_of_tiledL (kernelRun0_B c i arg3 harg3 arg4 harg4 arg5 harg5 arg6 harg6 arg7 harg7 arg8 harg8 arg9 harg9 hc0 x0 x1 x2 x3 xt0 xo5 xs0).1 S1024x1536.size (by sl_kernel_rfl) y

def out0_B_4 (c : Dev nD) (i : grid0.Coords) (arg3 : Memref sig .tc .vmem S1024x2048 .f32) (harg3 : arg3.IsWhole) (arg4 : Memref sig .tc .vmem S1x1x2048 .f32) (harg4 : arg4.IsWhole) (arg5 : Memref sig .tc .vmem S1x2048x1536 .bf16) (harg5 : arg5.IsWhole) (arg6 : Memref sig .tc .vmem S1x2048x128 .bf16) (harg6 : arg6.IsWhole) (arg7 : Memref sig .tc .vmem S1024x1536 .f32) (harg7 : arg7.IsWhole) (arg8 : Memref sig .tc .vmem S1024x128 .f32) (harg8 : arg8.IsWhole) (arg9 : Memref sig .tc .vmem S1024x2048 .bf16) (harg9 : arg9.IsWhole) (hc0 : ¬cond0_0 i)
    (x0 : Vec F S1024x2048 .f32) (x1 : Vec F S1x1x2048 .f32) (x2 : Vec F S1x2048x1536 .bf16) (x3 : Vec F S1x2048x128 .bf16) (xt0 : TbBuf0 (F := F) c tbM0_0) (xo5 : Vec F S1024x128 .f32) (xs0 : Vec F S1024x2048 .bf16) : Vec F S1024x1536 .f32 :=
  VO0_4.read (Elt F) (VO0_4.writes (Elt F) VO0_4.junk (kernelRun0_B c i arg3 harg3 arg4 harg4 arg5 harg5 arg6 harg6 arg7 harg7 arg8 harg8 arg9 harg9 hc0 x0 x1 x2 x3 xt0 xo5 xs0).1)

def out0_B_5 (c : Dev nD) (i : grid0.Coords) (arg3 : Memref sig .tc .vmem S1024x2048 .f32) (harg3 : arg3.IsWhole) (arg4 : Memref sig .tc .vmem S1x1x2048 .f32) (harg4 : arg4.IsWhole) (arg5 : Memref sig .tc .vmem S1x2048x1536 .bf16) (harg5 : arg5.IsWhole) (arg6 : Memref sig .tc .vmem S1x2048x128 .bf16) (harg6 : arg6.IsWhole) (arg7 : Memref sig .tc .vmem S1024x1536 .f32) (harg7 : arg7.IsWhole) (arg8 : Memref sig .tc .vmem S1024x128 .f32) (harg8 : arg8.IsWhole) (arg9 : Memref sig .tc .vmem S1024x2048 .bf16) (harg9 : arg9.IsWhole) (hc0 : ¬cond0_0 i)
    (x0 : Vec F S1024x2048 .f32) (x1 : Vec F S1x1x2048 .f32) (x2 : Vec F S1x2048x1536 .bf16) (x3 : Vec F S1x2048x128 .bf16) (xt0 : TbBuf0 (F := F) c tbM0_0) (xo5 : Vec F S1024x128 .f32) (xs0 : Vec F S1024x2048 .bf16) : Vec F S1024x128 .f32 := xo5

def sout0_B_0 (c : Dev nD) (i : grid0.Coords) (arg3 : Memref sig .tc .vmem S1024x2048 .f32) (harg3 : arg3.IsWhole) (arg4 : Memref sig .tc .vmem S1x1x2048 .f32) (harg4 : arg4.IsWhole) (arg5 : Memref sig .tc .vmem S1x2048x1536 .bf16) (harg5 : arg5.IsWhole) (arg6 : Memref sig .tc .vmem S1x2048x128 .bf16) (harg6 : arg6.IsWhole) (arg7 : Memref sig .tc .vmem S1024x1536 .f32) (harg7 : arg7.IsWhole) (arg8 : Memref sig .tc .vmem S1024x128 .f32) (harg8 : arg8.IsWhole) (arg9 : Memref sig .tc .vmem S1024x2048 .bf16) (harg9 : arg9.IsWhole) (hc0 : ¬cond0_0 i)
    (x0 : Vec F S1024x2048 .f32) (x1 : Vec F S1x1x2048 .f32) (x2 : Vec F S1x2048x1536 .bf16) (x3 : Vec F S1x2048x128 .bf16) (xt0 : TbBuf0 (F := F) c tbM0_0) (xo5 : Vec F S1024x128 .f32) (xs0 : Vec F S1024x2048 .bf16) : Vec F S1024x2048 .bf16 := xs0

def outsAt0 (hO : Ok m) (c : Dev nD) : (n : ℕ) → n < (cfgM m hO).N → Vec F S1024x1536 .f32 × Vec F S1024x128 .f32 × Vec F S1024x2048 .bf16
  | 0, hn => (out0_A_4 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) scM0_0 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (tbl m 0), out0_A_5 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) scM0_0 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (tbl m 0), sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) scM0_0 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (tbl m 0))
  | n + 1, hn =>
    if h0 : (n + 1) % 5 = 0 then
      (out0_A_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (tbl m 0), out0_A_5 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (tbl m 0), sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (tbl m 0))
    else
      (out0_B_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (outsAt0 hO c n (Nat.lt_of_succ_lt hn)).2.1 (outsAt0 hO c n (Nat.lt_of_succ_lt hn)).2.2, out0_B_5 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (outsAt0 hO c n (Nat.lt_of_succ_lt hn)).2.1 (outsAt0 hO c n (Nat.lt_of_succ_lt hn)).2.2, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (outsAt0 hO c n (Nat.lt_of_succ_lt hn)).2.1 (outsAt0 hO c n (Nat.lt_of_succ_lt hn)).2.2)

set_option maxHeartbeats 1600000 in
theorem outsAt0_A (hO : Ok m) (c : Dev nD) (t : Fin (cfgM m hO).N) (h0 : t.val % 5 = 0) :
    outsAt0 m hO c t.val t.isLt = (out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 t).mpr h0) (iblk m hO c 0 t) (iblk m hO c 1 t) (iblk m hO c 2 t) (iblk m hO c 3 t) (tbl m 0), out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 t).mpr h0) (iblk m hO c 0 t) (iblk m hO c 1 t) (iblk m hO c 2 t) (iblk m hO c 3 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 t).mpr h0) (iblk m hO c 0 t) (iblk m hO c 1 t) (iblk m hO c 2 t) (iblk m hO c 3 t) (tbl m 0)) := by
  obtain ⟨n, hn⟩ := t
  cases n with
  | zero => exact rfl
  | succ n => exact (dif_pos h0).trans rfl

set_option maxHeartbeats 1600000 in
theorem outsAt0_B (hO : Ok m) (c : Dev nD) (t : Fin (cfgM m hO).N) (h0 : ¬t.val % 5 = 0) :
    outsAt0 m hO c t.val t.isLt = (out0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => h0 ((hcond0_0 t).mp h)) (iblk m hO c 0 t) (iblk m hO c 1 t) (iblk m hO c 2 t) (iblk m hO c 3 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2, out0_B_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => h0 ((hcond0_0 t).mp h)) (iblk m hO c 0 t) (iblk m hO c 1 t) (iblk m hO c 2 t) (iblk m hO c 3 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => h0 ((hcond0_0 t).mp h)) (iblk m hO c 0 t) (iblk m hO c 1 t) (iblk m hO c 2 t) (iblk m hO c 3 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.2)) ∗ (∃ r, prngReg c r)) ∗ Pipeline.ΦT pre0 (tbl m) c) := rfl

theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.2)) ∗ (∃ r, prngReg c r)) ∗ Pipeline.ΦT pre0 (tbl m) c) := by
  cases n with
  | zero => exact absurd rfl hz
  | succ n => rfl

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t.val t.isLt).1
    | ⟨5, _⟩ => (outsAt0 m hO c t.val t.isLt).2.1
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t.val t.isLt).1 := by dsimp only [dats]; try rfl
theorem after0_5 (hO : Ok m) (c : Dev nD) (t : Fin (cfgM m hO).N) : (dats m hO 0 c).after 5 t = (outsAt0 m hO c t.val t.isLt).2.1 := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem after5_idle (hO : Ok m) (c : Dev nD) (t : Fin (cfgM m hO).N) (h0 : ¬t.val % 5 = 0) :
    (outsAt0 m hO c t.val t.isLt).2.1 = (outsAt0 m hO c (t.val - 1) (Nat.lt_of_le_of_lt (Nat.sub_le _ _) t.isLt)).2.1 := by
  rw [outsAt0_B m hO c t h0]; unfold out0_B_5; rfl

theorem fresh5 (hO : Ok m) : ∀ n : ℕ, n < (cfgM m hO).N → n % 5 ≠ 0 → (cfgM m hO).fresh 5 n = false
  | 0, _, h => absurd (Nat.zero_mod _) h
  | n + 1, hn, h => by
    have hn' : n < (cfgM m hO).N := Nat.lt_of_succ_lt hn
    rw [Pipeline.Cfg.fresh_succ (cfgM m hO) 5 n hn']
    have hf : ((cfgM m hO).win 5).flush ⟨n, hn'⟩ = false :=
      Bool.eq_false_iff.mpr fun e => by have := (flush0_5 (adm m hO) _).mp e; dsimp only at this; omega
    rw [hf, Bool.false_or, idle5_eq m hO ⟨n, hn'⟩]
    by_cases hz : n % 5 = 0
    · rw [decide_eq_true (p := (⟨n, hn'⟩ : Fin (cfgM m hO).N).val % 5 = 0) hz]; rfl
    · rw [fresh5 hO n hn' hz, Bool.and_false]

theorem before0_5_B (hO : Ok m) (c : Dev nD) (t : Fin (cfgM m hO).N) (h0 : ¬t.val % 5 = 0) (d) :
    (dats m hO 0 c).before 5 t d = (outsAt0 m hO c (t.val - 1) (Nat.lt_of_le_of_lt (Nat.sub_le _ _) t.isLt)).2.1 := by
  rw [(dats m hO 0 c).before_out_traj 5 rfl (fun _ _ => rfl) (fun s hs hi _ => by
    rw [after0_5, after0_5]
    rw [idle5_eq m hO s] at hi
    exact after5_idle m hO c s (by simpa using hi)) t.val t rfl d, fresh5 m hO t.val t.isLt h0, if_neg Bool.false_ne_true, after0_5]

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

set_option maxHeartbeats 3200000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl,
    after0_0, after0_1, after0_2, after0_3, after0_4, after0_5]
  rw [show (dats m hO 0 c).Φ t.succ = PhiS m hO c (t.val + 1) t.isLt from rfl, PhiS_succ, PhiT0_eq]
  have hN : t.val < 80 := lt_of_lt_of_eq t.isLt (show (cfgM m hO).N = 80 from N_0)
  by_cases h0 : t.val % 5 = 0
  · by_cases hz : t.val = 0
    · rw [PhiS_castSucc m hO c t, PhiS_zero m hO c _ _ hz, PhiT0_eq, PhiA0_eq]
      rw [outsAt0_A m hO c t h0]
      unfold out0_A_4 out0_A_5 sout0_A_0; (try dsimp only)
      iintro ⟨⟨⟨HS0, Hg⟩, HT0⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk m hO c 0 t) (iblk m hO c 1 t) (iblk m hO c 2 t) (iblk m hO c 3 t) (tbl m 0)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HT0]; · iexact HT0
      iintro ⟨H0, H1, H2, H3, ⟨%e4, H4⟩, ⟨%e5, H5⟩, ⟨%es0, HS0⟩, HT0⟩
      isplitl [HS0 Hg HT0]
      · isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          iexact Hg
        iexact HT0
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _ _)
    · rw [PhiS_castSucc m hO c t, PhiS_pos m hO c _ _ hz, PhiT0_eq]
      rw [outsAt0_A m hO c t h0]
      unfold out0_A_4 out0_A_5 sout0_A_0; (try dsimp only)
      iintro ⟨⟨⟨HS0, Hg⟩, HT0⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk m hO c 0 t) (iblk m hO c 1 t) (iblk m hO c 2 t) (iblk m hO c 3 t) (tbl m 0)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexists _; iexact HS0
      isplitl [HT0]; · iexact HT0
      iintro ⟨H0, H1, H2, H3, ⟨%e4, H4⟩, ⟨%e5, H5⟩, ⟨%es0, HS0⟩, HT0⟩
      isplitl [HS0 Hg HT0]
      · isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          iexact Hg
        iexact HT0
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _ _)
  · by_cases hz : t.val = 0
    · exfalso; have hN : t.val < 80 := lt_of_lt_of_eq t.isLt (show (cfgM m hO).N = 80 from N_0); omega
    · rw [PhiS_castSucc m hO c t, PhiS_pos m hO c _ _ hz, PhiT0_eq]
      rw [outsAt0_B m hO c t h0]
      simp only [before0_5_B m hO c t h0]
      unfold out0_B_4 out0_B_5 sout0_B_0; (try dsimp only)
      iintro ⟨⟨⟨HS0, Hg⟩, HT0⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (iblk m hO c 0 t) (iblk m hO c 1 t) (iblk m hO c 2 t) (iblk m hO c 3 t) (tbl m 0) _ _).2.2.2 Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [HT0]; · iexact HT0
      iintro ⟨H0, H1, H2, H3, ⟨%e4, H4⟩, H5, HS0, HT0⟩
      isplitl [HS0 Hg HT0]
      · isplitl [HS0 Hg]
        · isplitl [HS0]
          · iexact HS0
          iexact Hg
        iexact HT0
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _)
      iexact H5

theorem leaves5 (hO : Ok m) (c : Dev nD) (t : Fin (cfgM m hO).N) :
    owns (c : Thread nD τ) (ms0_5 m hO t) fullShare ((dats m hO 0 c).after 5 t) ⊢ (dats m hO 0 c).leavesExact 5 t := by
  by_cases h0 : t.val % 5 = 0
  · rw [show (dats m hO 0 c).leavesExact 5 t = owns (c : Thread nD τ) (ms0_5 m hO t) fullShare ((dats m hO 0 c).after 5 t) from by
      unfold Dat.leavesExact; rw [idle5_eq m hO t, decide_eq_true h0]; rfl]
  · by_cases h4 : t.val % 5 = 4
    · rw [show (dats m hO 0 c).leavesExact 5 t = owns (c : Thread nD τ) (ms0_5 m hO t) fullShare ((dats m hO 0 c).after 5 t) from by
        unfold Dat.leavesExact; rw [idle5_eq m hO t, decide_eq_false h0, (flush0_5 (adm m hO) t).mpr h4]; rfl]
    · rw [(dats m hO 0 c).leavesExact_idle 5 t (by rw [idle5_eq m hO t, decide_eq_false h0]; rfl)
        (Bool.eq_false_iff.mpr fun e => h4 ((flush0_5 (adm m hO) t).mp e))]
      simp only [before0_5_B m hO c t h0]
      rw [after0_5, after5_idle m hO c t h0]
      iintro H
      iexists (outsAt0 m hO c (t.val - 1) (Nat.lt_of_le_of_lt (Nat.sub_le _ _) t.isLt)).2.1
      iexact H

def bodyPostL (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ (dats m hO 0 c).leavesExact 5 t)

theorem bodyPost_le (hO : Ok m) (c : Dev nD) (t : Fin (cfgM m hO).N) : bodyPost m hO c t ⊢ bodyPostL m hO c t := by
  unfold bodyPost bodyPostL
  iintro ⟨HP, Ho, H0, H1, H2, H3, H4, H5⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  iapply (leaves5 m hO c t)
  iexact H5

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => bodyPost_le m hO c t

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

theorem hout (hO : Ok m) (c : Dev nD) : (dats m hO 0 c).Φ (Fin.last (cfgM m hO).N) ⊢ Pipeline.ΦA spec0 c :=
  Phi_out m hO c _ (by rw [Fin.val_last]; have : (cfgM m hO).N = 80 := N_0; omega)

set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (dats m hO) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.InProjIdeal.Fr

end
-- ==== Proof.InVal.lean ====
/- What one grid point of the call `in_proj` leaves in its two output blocks and in the normed-rows scratch, as the
   kernel's own stored values. -/
module

public import proofs.«01_k».proof.Proof.InFrame
public import Idealize.ShloMosaic.Lib.Pipeline.Value
public import Idealize.ShloMosaic.Lib.Tactic

@[expose] public section

set_option maxRecDepth 16384

noncomputable section

namespace Cert.InProjIdeal.Fr

open Cert.InProjIdeal Cert.InProjIdeal.Gen Idealize.ShloMosaic Idealize.ShloMosaic.TcCoe Idealize.ShloMosaic.Tactic Idealize.SL Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem out_A_4 (c : Dev nD) (i : grid0.Coords) (arg3 : Memref sig .tc .vmem S1024x2048 .f32) (harg3 : arg3.IsWhole) (arg4 : Memref sig .tc .vmem S1x1x2048 .f32) (harg4 : arg4.IsWhole) (arg5 : Memref sig .tc .vmem S1x2048x1536 .bf16) (harg5 : arg5.IsWhole) (arg6 : Memref sig .tc .vmem S1x2048x128 .bf16) (harg6 : arg6.IsWhole) (arg7 : Memref sig .tc .vmem S1024x1536 .f32) (harg7 : arg7.IsWhole) (arg8 : Memref sig .tc .vmem S1024x128 .f32) (harg8 : arg8.IsWhole) (arg9 : Memref sig .tc .vmem S1024x2048 .bf16) (harg9 : arg9.IsWhole) (hc0 : cond0_0 i) (x0 : Vec F S1024x2048 .f32) (x1 : Vec F S1x1x2048 .f32) (x2 : Vec F S1x2048x1536 .bf16) (x3 : Vec F S1x2048x128 .bf16) (xt0 : TbBuf0 (F := F) c tbM0_0) :
    out0_A_4 c i arg3 harg3 arg4 harg4 arg5 harg5 arg6 harg6 arg7 harg7 arg8 harg8 arg9 harg9 hc0 x0 x1 x2 x3 xt0 = k0_pay4 (k0_pay2 x0 x1) x2 := by
  unfold out0_A_4
  rw [View.read_writes_eq_canon _ _ _ (cover0_A_4 c i arg3 harg3 arg4 harg4 arg5 harg5 arg6 harg6 arg7 harg7 arg8 harg8 arg9 harg9 hc0 x0 x1 x2 x3 xt0)]
  unfold kernelRun0_A
  dsimp only
  sl_unfold_words
  rw [View.canon_unit_zero (S := S1024x1536) hz2]
  simp only [View.readCov_unit_zero (S := S1024x2048) _ hz2]
  simp only [View.readAt_eq_ld, harg3.read_unread, harg4.read_unread, harg5.read_unread, harg6.read_unread, harg7.read_unread,
    harg8.read_unread, harg9.read_unread, View.ld_unit_zero (S := S1024x2048) hz2,
    View.ld_unit_zero (S := S1x1x2048) hz3, View.ld_unit_zero (S := S1x2048x1536) hz3, View.ld_unit_zero (S := S1x2048x128) hz3]

theorem out_A_5 (c : Dev nD) (i : grid0.Coords) (arg3 : Memref sig .tc .vmem S1024x2048 .f32) (harg3 : arg3.IsWhole) (arg4 : Memref sig .tc .vmem S1x1x2048 .f32) (harg4 : arg4.IsWhole) (arg5 : Memref sig .tc .vmem S1x2048x1536 .bf16) (harg5 : arg5.IsWhole) (arg6 : Memref sig .tc .vmem S1x2048x128 .bf16) (harg6 : arg6.IsWhole) (arg7 : Memref sig .tc .vmem S1024x1536 .f32) (harg7 : arg7.IsWhole) (arg8 : Memref sig .tc .vmem S1024x128 .f32) (harg8 : arg8.IsWhole) (arg9 : Memref sig .tc .vmem S1024x2048 .bf16) (harg9 : arg9.IsWhole) (hc0 : cond0_0 i) (x0 : Vec F S1024x2048 .f32) (x1 : Vec F S1x1x2048 .f32) (x2 : Vec F S1x2048x1536 .bf16) (x3 : Vec F S1x2048x128 .bf16) (xt0 : TbBuf0 (F := F) c tbM0_0) :
    out0_A_5 c i arg3 harg3 arg4 harg4 arg5 harg5 arg6 harg6 arg7 harg7 arg8 harg8 arg9 harg9 hc0 x0 x1 x2 x3 xt0 = k0_pay3 x0 x1 x3 := by
  unfold out0_A_5
  rw [View.read_writes_eq_canon _ _ _ (cover0_A_5 c i arg3 harg3 arg4 harg4 arg5 harg5 arg6 harg6 arg7 harg7 arg8 harg8 arg9 harg9 hc0 x0 x1 x2 x3 xt0)]
  unfold kernelRun0_A
  dsimp only
  sl_unfold_words
  rw [View.canon_unit_zero (S := S1024x128) hz2]
  simp only [View.readAt_eq_ld, harg3.read_unread, harg4.read_unread, harg5.read_unread, harg6.read_unread, harg7.read_unread,
    harg8.read_unread, harg9.read_unread, View.ld_unit_zero (S := S1024x2048) hz2,
    View.ld_unit_zero (S := S1x1x2048) hz3, View.ld_unit_zero (S := S1x2048x1536) hz3, View.ld_unit_zero (S := S1x2048x128) hz3]

theorem sout_A (c : Dev nD) (i : grid0.Coords) (arg3 : Memref sig .tc .vmem S1024x2048 .f32) (harg3 : arg3.IsWhole) (arg4 : Memref sig .tc .vmem S1x1x2048 .f32) (harg4 : arg4.IsWhole) (arg5 : Memref sig .tc .vmem S1x2048x1536 .bf16) (harg5 : arg5.IsWhole) (arg6 : Memref sig .tc .vmem S1x2048x128 .bf16) (harg6 : arg6.IsWhole) (arg7 : Memref sig .tc .vmem S1024x1536 .f32) (harg7 : arg7.IsWhole) (arg8 : Memref sig .tc .vmem S1024x128 .f32) (harg8 : arg8.IsWhole) (arg9 : Memref sig .tc .vmem S1024x2048 .bf16) (harg9 : arg9.IsWhole) (hc0 : cond0_0 i) (x0 : Vec F S1024x2048 .f32) (x1 : Vec F S1x1x2048 .f32) (x2 : Vec F S1x2048x1536 .bf16) (x3 : Vec F S1x2048x128 .bf16) (xt0 : TbBuf0 (F := F) c tbM0_0) :
    sout0_A_0 c i arg3 harg3 arg4 harg4 arg5 harg5 arg6 harg6 arg7 harg7 arg8 harg8 arg9 harg9 hc0 x0 x1 x2 x3 xt0 = k0_pay2 x0 x1 := by
  unfold sout0_A_0
  rw [View.read_writes_eq_canon _ _ _ (scover0_A_0 c i arg3 harg3 arg4 harg4 arg5 harg5 arg6 harg6 arg7 harg7 arg8 harg8 arg9 harg9 hc0 x0 x1 x2 x3 xt0)]
  unfold kernelRun0_A
  dsimp only
  sl_unfold_words
  rw [View.canon_unit_zero (S := S1024x2048) hz2]
  simp only [View.readAt_eq_ld, harg3.read_unread, harg4.read_unread, harg5.read_unread, harg6.read_unread, harg7.read_unread,
    harg8.read_unread, harg9.read_unread, View.ld_unit_zero (S := S1024x2048) hz2,
    View.ld_unit_zero (S := S1x1x2048) hz3, View.ld_unit_zero (S := S1x2048x1536) hz3, View.ld_unit_zero (S := S1x2048x128) hz3]

theorem out_B_4 (c : Dev nD) (i : grid0.Coords) (arg3 : Memref sig .tc .vmem S1024x2048 .f32) (harg3 : arg3.IsWhole) (arg4 : Memref sig .tc .vmem S1x1x2048 .f32) (harg4 : arg4.IsWhole) (arg5 : Memref sig .tc .vmem S1x2048x1536 .bf16) (harg5 : arg5.IsWhole) (arg6 : Memref sig .tc .vmem S1x2048x128 .bf16) (harg6 : arg6.IsWhole) (arg7 : Memref sig .tc .vmem S1024x1536 .f32) (harg7 : arg7.IsWhole) (arg8 : Memref sig .tc .vmem S1024x128 .f32) (harg8 : arg8.IsWhole) (arg9 : Memref sig .tc .vmem S1024x2048 .bf16) (harg9 : arg9.IsWhole) (hc0 : ¬cond0_0 i) (x0 : Vec F S1024x2048 .f32) (x1 : Vec F S1x1x2048 .f32) (x2 : Vec F S1x2048x1536 .bf16) (x3 : Vec F S1x2048x128 .bf16) (xt0 : TbBuf0 (F := F) c tbM0_0) (xo5 : Vec F S1024x128 .f32) (xs0 : Vec F S1024x2048 .bf16) :
    out0_B_4 c i arg3 harg3 arg4 harg4 arg5 harg5 arg6 harg6 arg7 harg7 arg8 harg8 arg9 harg9 hc0 x0 x1 x2 x3 xt0 xo5 xs0 = k0_pay4 xs0 x2 := by
  unfold out0_B_4
  rw [View.read_writes_eq_canon _ _ _ (cover0_B_4 c i arg3 harg3 arg4 harg4 arg5 harg5 arg6 harg6 arg7 harg7 arg8 harg8 arg9 harg9 hc0 x0 x1 x2 x3 xt0 xo5 xs0)]
  unfold kernelRun0_B
  dsimp only
  sl_unfold_words
  rw [View.canon_unit_zero (S := S1024x1536) hz2]
  simp only [View.readAt_eq_ld, harg3.read_unread, harg4.read_unread, harg5.read_unread, harg6.read_unread, harg7.read_unread,
    harg8.read_unread, harg9.read_unread, View.ld_unit_zero (S := S1024x2048) hz2,
    View.ld_unit_zero (S := S1x1x2048) hz3, View.ld_unit_zero (S := S1x2048x1536) hz3, View.ld_unit_zero (S := S1x2048x128) hz3]

end Cert.InProjIdeal.Fr

end
-- ==== Proof.InAcc.lean ====
/- What the call `in_proj` leaves in its blocks after each grid point, as elements of the arrays, and the two arrays
   it ends with. -/
module

public import proofs.«01_k».proof.Proof.InBlk
public import proofs.«01_k».proof.Proof.InPay
public import proofs.«01_k».proof.Proof.InVal
public import Idealize.ShloMosaic.Lib.Pipeline.ValueKit.Geometry

@[expose] public section

set_option maxRecDepth 16384

noncomputable section

namespace Cert.InProjIdeal.Fr

open Cert.InProjIdeal Cert.InProjIdeal.Gen Idealize.ShloMosaic Idealize.ShloMosaic.TcCoe Idealize.SL.Sem

variable (m : (ℓ : Loc nD τ sig) → Buf (Elt Ideal) ℓ)

/-- A row of the first array. -/
def xv (c : Dev nD) (R : Fin 16384) (d : Fin 2048) : EReal := (V m c main_v7 : Vec Ideal S16384x2048 .f32) (ix2 R d)

/-- A normed row. -/
def xn (hl : lyr m < 4) (c : Dev nD) (R : Fin 16384) (d : Fin 2048) : EReal :=
  xv m c R d * Cert.FfnIdeal.Gen.scale (xv m c R) * (V m c main_v8 : Vec Ideal S4x1x2048 .f32) (ix3 ⟨lyr m, hl⟩ 0 d)

/-- An element of the first result. -/
def zAt (hl : lyr m < 4) (c : Dev nD) (R : Fin 16384) (n : Fin 7680) : EReal :=
  ∑ e : Fin 2048, xn m hl c R e * (V m c main_v3 : Vec Ideal S4x2048x7680 .bf16) (ix3 ⟨lyr m, hl⟩ e n)

/-- An element of the second result. -/
def gAt (hl : lyr m < 4) (c : Dev nD) (R : Fin 16384) (n : Fin 128) : EReal :=
  ∑ e : Fin 2048, xn m hl c R e * (V m c main_v6 : Vec Ideal S4x2048x128 .bf16) (ix3 ⟨lyr m, hl⟩ e n)

theorem pay2_blk (hO : Ok m) (hl : lyr m < 4) (c : Dev nD) (t : Fin (cfgM m hO).N) (r : Fin 1024) (d : Fin 2048) :
    k0_pay2 (b0 m hO c t) (b1 m hO c t) (ix2 r d) = xn m hl c (row m hO t r) d := by
  rw [pay2_apply, blk0, blk1 m hO hl]
  unfold xn xv
  simp only [blk0]

theorem pay3_blk (hO : Ok m) (hl : lyr m < 4) (c : Dev nD) (t : Fin (cfgM m hO).N) (r : Fin 1024) (k : Fin 128) :
    k0_pay3 (b0 m hO c t) (b1 m hO c t) (b3 m hO c t) (ix2 r k) = gAt m hl c (row m hO t r) k := by
  rw [pay3_apply]
  unfold gAt
  refine Finset.sum_congr rfl fun e _ => ?_
  rw [blk0, blk1 m hO hl, blk3 m hO hl]
  unfold xn xv
  simp only [blk0]

theorem pay4_blk (hO : Ok m) (hl : lyr m < 4) (c : Dev nD) (t : Fin (cfgM m hO).N) (s : Vec Ideal S1024x2048 .bf16)
    (hs : ∀ (r : Fin 1024) (d : Fin 2048), s (ix2 r d) = xn m hl c (row m hO t r) d) (r : Fin 1024) (n : Fin 1536) :
    k0_pay4 s (b2 m hO c t) (ix2 r n) = zAt m hl c (row m hO t r) (colb m hO t n) := by
  rw [pay4_apply]
  unfold zAt
  refine Finset.sum_congr rfl fun e _ => ?_
  rw [hs, blk2 m hO hl]

theorem outs_A (hO : Ok m) (c : Dev nD) (t : Fin (cfgM m hO).N) (h0 : t.val % 5 = 0) :
    outsAt0 m hO c t.val t.isLt = (k0_pay4 (k0_pay2 (b0 m hO c t) (b1 m hO c t)) (b2 m hO c t),
      k0_pay3 (b0 m hO c t) (b1 m hO c t) (b3 m hO c t), k0_pay2 (b0 m hO c t) (b1 m hO c t)) :=
  (outsAt0_A m hO c t h0).trans (congrArg₂ Prod.mk (out_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 t).mpr h0) (b0 m hO c t) (b1 m hO c t) (b2 m hO c t) (b3 m hO c t) (tbl m 0))
    (congrArg₂ Prod.mk (out_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 t).mpr h0) (b0 m hO c t) (b1 m hO c t) (b2 m hO c t) (b3 m hO c t) (tbl m 0)) (sout_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 t).mpr h0) (b0 m hO c t) (b1 m hO c t) (b2 m hO c t) (b3 m hO c t) (tbl m 0))))

theorem outs_B (hO : Ok m) (c : Dev nD) (n : ℕ) (h : n + 1 < (cfgM m hO).N) (h0 : ¬(n + 1) % 5 = 0) :
    outsAt0 m hO c (n + 1) h = (k0_pay4 (outsAt0 m hO c n (Nat.lt_of_succ_lt h)).2.2 (b2 m hO c ⟨n + 1, h⟩),
      (outsAt0 m hO c n (Nat.lt_of_succ_lt h)).2.1, (outsAt0 m hO c n (Nat.lt_of_succ_lt h)).2.2) :=
  (outsAt0_B m hO c ⟨n + 1, h⟩ h0).trans (congrArg (fun z => (z, (outsAt0 m hO c n (Nat.lt_of_succ_lt h)).2.1, (outsAt0 m hO c n (Nat.lt_of_succ_lt h)).2.2)) (out_B_4 c (grid0.coords ⟨n + 1, h⟩) (ms0_0 m hO ⟨n + 1, h⟩) (hs0_0 m hO ⟨n + 1, h⟩) (ms0_1 m hO ⟨n + 1, h⟩) (hs0_1 m hO ⟨n + 1, h⟩) (ms0_2 m hO ⟨n + 1, h⟩) (hs0_2 m hO ⟨n + 1, h⟩) (ms0_3 m hO ⟨n + 1, h⟩) (hs0_3 m hO ⟨n + 1, h⟩) (ms0_4 m hO ⟨n + 1, h⟩) (hs0_4 m hO ⟨n + 1, h⟩) (ms0_5 m hO ⟨n + 1, h⟩) (hs0_5 m hO ⟨n + 1, h⟩) scM0_0 (Memref.isWhole_whole _) (fun h' => h0 ((hcond0_0 ⟨n + 1, h⟩).mp h')) (b0 m hO c ⟨n + 1, h⟩) (b1 m hO c ⟨n + 1, h⟩) (b2 m hO c ⟨n + 1, h⟩) (b3 m hO c ⟨n + 1, h⟩) (tbl m 0) (outsAt0 m hO c n (Nat.lt_of_succ_lt h)).2.1 (outsAt0 m hO c n (Nat.lt_of_succ_lt h)).2.2))

/-- What the blocks hold after a point. -/
structure St (hO : Ok m) (hl : lyr m < 4) (c : Dev nD) (n : ℕ) (h : n < (cfgM m hO).N) : Prop where
  sc : ∀ (r : Fin 1024) (d : Fin 2048), (outsAt0 m hO c n h).2.2 (ix2 r d) = xn m hl c (row m hO ⟨n, h⟩ r) d
  ga : ∀ (r : Fin 1024) (k : Fin 128), (outsAt0 m hO c n h).2.1 (ix2 r k) = gAt m hl c (row m hO ⟨n, h⟩ r) k
  zz : ∀ (r : Fin 1024) (k : Fin 1536), (outsAt0 m hO c n h).1 (ix2 r k) = zAt m hl c (row m hO ⟨n, h⟩ r) (colb m hO ⟨n, h⟩ k)

theorem st_A (hO : Ok m) (hl : lyr m < 4) (c : Dev nD) (t : Fin (cfgM m hO).N) (h0 : t.val % 5 = 0) : St m hO hl c t.val t.isLt := by
  have e := outs_A m hO c t h0
  refine ⟨fun r d => ?_, fun r k => ?_, fun r k => ?_⟩
  · rw [e]; exact pay2_blk m hO hl c t r d
  · rw [e]; exact pay3_blk m hO hl c t r k
  · rw [e]; exact pay4_blk m hO hl c t _ (pay2_blk m hO hl c t) r k

theorem st (hO : Ok m) (hl : lyr m < 4) (c : Dev nD) (n : ℕ) : ∀ h : n < (cfgM m hO).N, St m hO hl c n h := by
  induction n with
  | zero => intro h; exact st_A m hO hl c ⟨0, h⟩ rfl
  | succ n ih =>
    intro h
    by_cases h0 : (n + 1) % 5 = 0
    · exact st_A m hO hl c ⟨n + 1, h⟩ h0
    · have hp := ih (Nat.lt_of_succ_lt h)
      have hrow (r : Fin 1024) : row m hO ⟨n, Nat.lt_of_succ_lt h⟩ r = row m hO ⟨n + 1, h⟩ r := by
        apply Fin.ext; show 1024 * (n / 5) + r.val = 1024 * ((n + 1) / 5) + r.val; omega
      have e := outs_B m hO c n h h0
      have hsc := hp.sc
      have hga := hp.ga
      simp only [hrow] at hsc hga
      refine ⟨fun r d => ?_, fun r k => ?_, fun r k => ?_⟩
      · rw [e]; exact hsc r d
      · rw [e]; exact hga r k
      · rw [e]; exact pay4_blk m hO hl c ⟨n + 1, h⟩ _ hsc r k

theorem etaz (x : S1024x1536.Idx) : x = ix2 (x 0 : Fin 1024) (x 1 : Fin 1536) :=
  funext fun a => by match a with | ⟨0, _⟩ => rfl | ⟨1, _⟩ => rfl
theorem etag (x : S1024x128.Idx) : x = ix2 (x 0 : Fin 1024) (x 1 : Fin 128) :=
  funext fun a => by match a with | ⟨0, _⟩ => rfl | ⟨1, _⟩ => rfl

/-- The two result arrays. -/
def resZ (hl : lyr m < 4) (c : Dev nD) : Vec Ideal S16384x7680 .f32 := fun i => zAt m hl c (i 0) (i 1)
def resG (hl : lyr m < 4) (c : Dev nD) : Vec Ideal S16384x128 .f32 := fun i => gAt m hl c (i 0) (i 1)

theorem flushedZ (hO : Ok m) (hl : lyr m < 4) (c : Dev nD) (t : Fin (cfgM m hO).N) (hf : ((cfgM m hO).win 4).flush t = true) :
    (dats m hO 0 c).flushed 4 t = (((cfgM m hO).win 4).blk t).view.read (Elt Ideal) (resZ m hl c) := by
  show ((cfgM m hO).win 4).cut (grid0.coords t) ((dats m hO 0 c).after 4 t) = _
  rw [after0_4]
  funext y
  obtain ⟨y, rfl⟩ : ∃ z : S1024x1536.Idx, z = y := ⟨y, rfl⟩
  refine Eq.trans ?_ (View.read_apply _ _).symm
  show (outsAt0 m hO c t.val t.isLt).1 (((cfgM m hO).win 4).xinj (grid0.coords t) y) = resZ m hl c _
  have e (r : Fin 1024) (k : Fin 1536) := (st m hO hl c t.val t.isLt).zz r k
  refine (congrArg _ (etaz y)).trans ((e (y 0) (y 1)).trans ?_)
  unfold resZ
  have h0 := co0 m hO t
  have h1 := co1 m hO t
  have hN := N_lt m hO t
  refine congrArg₂ (zAt m hl c) ?_ ?_
  · apply Fin.ext
    show 1024 * (t.val / 5) + (y 0).val = (BitVec.ofNat 32 (grid0.coords t 0).val).toNat * 1024 + 1 * (y 0).val
    rw [h0, BitVec.toNat_ofNat]; omega
  · apply Fin.ext
    show 1536 * (t.val % 5) + (y 1).val = (BitVec.ofNat 32 (grid0.coords t 1).val).toNat * 1536 + 1 * (y 1).val
    rw [h1, BitVec.toNat_ofNat]; omega

theorem flushedG (hO : Ok m) (hl : lyr m < 4) (c : Dev nD) (t : Fin (cfgM m hO).N) (hf : ((cfgM m hO).win 5).flush t = true) :
    (dats m hO 0 c).flushed 5 t = (((cfgM m hO).win 5).blk t).view.read (Elt Ideal) (resG m hl c) := by
  show ((cfgM m hO).win 5).cut (grid0.coords t) ((dats m hO 0 c).after 5 t) = _
  rw [after0_5]
  funext y
  obtain ⟨y, rfl⟩ : ∃ z : S1024x128.Idx, z = y := ⟨y, rfl⟩
  refine Eq.trans ?_ (View.read_apply _ _).symm
  show (outsAt0 m hO c t.val t.isLt).2.1 (((cfgM m hO).win 5).xinj (grid0.coords t) y) = resG m hl c _
  have e (r : Fin 1024) (k : Fin 128) := (st m hO hl c t.val t.isLt).ga r k
  refine (congrArg _ (etag y)).trans ((e (y 0) (y 1)).trans ?_)
  unfold resG
  have h0 := co0 m hO t
  have hN := N_lt m hO t
  refine congrArg₂ (gAt m hl c) ?_ ?_
  · apply Fin.ext
    show 1024 * (t.val / 5) + (y 0).val = (BitVec.ofNat 32 (grid0.coords t 0).val).toNat * 1024 + 1 * (y 0).val
    rw [h0, BitVec.toNat_ofNat]; omega
  · apply Fin.ext
    show (y 1).val = 0 * 128 + 1 * (y 1).val
    omega

theorem final_z (hO : Ok m) (hl : lyr m < 4) (c : Dev nD) : (dats m hO 0 c).arrAt 4 (cfgM m hO).N = resZ m hl c :=
  (dats m hO 0 c).arrAt_eq_of_cover 4 (resZ m hl c) (flushedZ m hO hl c) fun i => by
    obtain ⟨i, rfl⟩ : ∃ z : S16384x7680.Idx, z = i := ⟨i, rfl⟩
    have h0 : (i 0 : Nat) < 16384 := (i 0).isLt
    have h1 : (i 1 : Nat) < 7680 := (i 1).isLt
    have hlt : 5 * ((i 0 : Nat) / 1024) + (i 1 : Nat) / 1536 < (cfgM m hO).N := Nat.lt_of_lt_of_eq (by omega : _ < 80) N_0.symm
    refine ⟨⟨5 * ((i 0 : Nat) / 1024) + (i 1 : Nat) / 1536, hlt⟩, flush0_4 (adm m hO) _, ?_⟩
    have hc := co0 m hO ⟨5 * ((i 0 : Nat) / 1024) + (i 1 : Nat) / 1536, hlt⟩
    have hd := co1 m hO ⟨5 * ((i 0 : Nat) / 1024) + (i 1 : Nat) / 1536, hlt⟩
    have hc' : (grid0.coords (⟨5 * ((i 0 : Nat) / 1024) + (i 1 : Nat) / 1536, hlt⟩ : Fin (cfgM m hO).N) 0).val = (i 0 : Nat) / 1024 := by
      rw [hc]; show (5 * ((i 0 : Nat) / 1024) + (i 1 : Nat) / 1536) / 5 = _; omega
    have hd' : (grid0.coords (⟨5 * ((i 0 : Nat) / 1024) + (i 1 : Nat) / 1536, hlt⟩ : Fin (cfgM m hO).N) 1).val = (i 1 : Nat) / 1536 := by
      rw [hd]; show (5 * ((i 0 : Nat) / 1024) + (i 1 : Nat) / 1536) % 5 = _; omega
    clear hc hd
    generalize (⟨5 * ((i 0 : Nat) / 1024) + (i 1 : Nat) / 1536, hlt⟩ : Fin (cfgM m hO).N) = t at hc' hd'
    refine (Pipeline.Window.emb_mem_blk_iff ((cfgM m hO).win 4) t i rfl).mpr ?_
    intro a
    match a with
    | ⟨0, _⟩ =>
      show (BitVec.ofNat 32 (grid0.coords t 0).val).toNat * 1024 ≤ (i 0 : Nat) ∧ (i 0 : Nat) < (BitVec.ofNat 32 (grid0.coords t 0).val).toNat * 1024 + 1024
      rw [hc', BitVec.toNat_ofNat]; omega
    | ⟨1, _⟩ =>
      show (BitVec.ofNat 32 (grid0.coords t 1).val).toNat * 1536 ≤ (i 1 : Nat) ∧ (i 1 : Nat) < (BitVec.ofNat 32 (grid0.coords t 1).val).toNat * 1536 + 1536
      rw [hd', BitVec.toNat_ofNat]; omega

theorem final_g (hO : Ok m) (hl : lyr m < 4) (c : Dev nD) : (dats m hO 0 c).arrAt 5 (cfgM m hO).N = resG m hl c :=
  (dats m hO 0 c).arrAt_eq_of_cover 5 (resG m hl c) (flushedG m hO hl c) fun i => by
    obtain ⟨i, rfl⟩ : ∃ z : S16384x128.Idx, z = i := ⟨i, rfl⟩
    have h0 : (i 0 : Nat) < 16384 := (i 0).isLt
    have h1 : (i 1 : Nat) < 128 := (i 1).isLt
    have hlt : 5 * ((i 0 : Nat) / 1024) + 4 < (cfgM m hO).N := Nat.lt_of_lt_of_eq (by omega : _ < 80) N_0.symm
    refine ⟨⟨5 * ((i 0 : Nat) / 1024) + 4, hlt⟩, (flush0_5 (adm m hO) _).mpr (by show (5 * ((i 0 : Nat) / 1024) + 4) % 5 = 4; omega), ?_⟩
    have hc := co0 m hO ⟨5 * ((i 0 : Nat) / 1024) + 4, hlt⟩
    have hc' : (grid0.coords (⟨5 * ((i 0 : Nat) / 1024) + 4, hlt⟩ : Fin (cfgM m hO).N) 0).val = (i 0 : Nat) / 1024 := by
      rw [hc]; show (5 * ((i 0 : Nat) / 1024) + 4) / 5 = _; omega
    clear hc
    generalize (⟨5 * ((i 0 : Nat) / 1024) + 4, hlt⟩ : Fin (cfgM m hO).N) = t at hc'
    refine (Pipeline.Window.emb_mem_blk_iff ((cfgM m hO).win 5) t i rfl).mpr ?_
    intro a
    match a with
    | ⟨0, _⟩ =>
      show (BitVec.ofNat 32 (grid0.coords t 0).val).toNat * 1024 ≤ (i 0 : Nat) ∧ (i 0 : Nat) < (BitVec.ofNat 32 (grid0.coords t 0).val).toNat * 1024 + 1024
      rw [hc', BitVec.toNat_ofNat]; omega
    | ⟨1, _⟩ =>
      show 0 * 128 ≤ (i 1 : Nat) ∧ (i 1 : Nat) < 0 * 128 + 128
      omega

end Cert.InProjIdeal.Fr

end
-- ==== Proof.InRefOps.lean ====
/- The reference of the call `in_proj`, in stretches of its operations: its run, and which buffers each stretch leaves. -/
module

public import proofs.«01_k».proof.Proof.Gen.InProjRefIdeal
public import Idealize.ShloMosaic.Lib.StableHlo.Run
public import Idealize.ShloMosaic.Lib.Pipeline.Frame

@[expose] public section

noncomputable section

namespace Cert.InProjRefIdeal.Stretch

open Cert.InProjRefIdeal Cert.InProjRefIdeal.Gen Idealize.ShloMosaic Idealize.ShloMosaic.TcCoe Idealize.SL.Sem Idealize.ShloMosaic.StableHlo

variable {F : FTy → Type} [FloatOps F]

/-- The contents of a buffer of a shape and an element type. -/
abbrev Ct (F : FTy → Type) (s : Shape) (e : EltTy) := (⟨s, e⟩ : BufTy).Contents (Elt F)

/-- Operations for the layer's norm row. -/
abbrev opsA : List (HloOp τ sig (Elt F)) :=
  [ reshape main_arg1 main_v0 (rfl : (.i32 : EltTy) = .i32) shapeCasts_S1_S_,
    nullary main_c (constantI S_ 32 0#32),
    binary main_v0 main_c main_v1 (cmpi .slt : Ct F S_ .i32 → Ct F S_ .i32 → Ct F S_ .i1),
    nullary main_c_0 (constantI S_ 32 4#32),
    binary main_v0 main_c_0 main_v2 (addi : Ct F S_ .i32 → Ct F S_ .i32 → Ct F S_ .i32),
    ternary main_v1 main_v2 main_v0 main_v3 (select : Ct F S_ .i1 → Ct F S_ .i32 → Ct F S_ .i32 → Ct F S_ .i32),
    nullary main_c_1 (constantI S_ 32 0#32),
    unaryIndexed main_arg2 ![main_v3, main_c_1] ⟨S_, .i32⟩ main_v4 ((fun x i => Host.dynamicSlice S1x2048 x (fun k => (i k (Shape.Idx.first h_S_)).toInt) sliceFits_S4x2048_S1x2048) : Ct F S4x2048 .f32 → (Fin 2 → Ct F S_ .i32) → Ct F S1x2048 .f32),
    reshape main_v4 main_v5 (rfl : (.f32 : EltTy) = .f32) shapeCasts_S1x2048_S2048 ]

/-- What they write, in order. -/
abbrev wA : List (Ref sig .tc) := [main_v0, main_c, main_v1, main_c_0, main_v2, main_v3, main_c_1, main_v4, main_v5]

/-- Operations for the layer's weights. -/
abbrev opsB : List (HloOp τ sig (Elt F)) :=
  [ reshape main_arg1 main_v6 (rfl : (.i32 : EltTy) = .i32) shapeCasts_S1_S_,
    nullary main_c_2 (constantI S_ 32 0#32),
    binary main_v6 main_c_2 main_v7 (cmpi .slt : Ct F S_ .i32 → Ct F S_ .i32 → Ct F S_ .i1),
    nullary main_c_3 (constantI S_ 32 4#32),
    binary main_v6 main_c_3 main_v8 (addi : Ct F S_ .i32 → Ct F S_ .i32 → Ct F S_ .i32),
    ternary main_v7 main_v8 main_v6 main_v9 (select : Ct F S_ .i1 → Ct F S_ .i32 → Ct F S_ .i32 → Ct F S_ .i32),
    nullary main_c_4 (constantI S_ 32 0#32),
    nullary main_c_5 (constantI S_ 32 0#32),
    unaryIndexed main_arg3 ![main_v9, main_c_4, main_c_5] ⟨S_, .i32⟩ main_v10 ((fun x i => Host.dynamicSlice S1x2048x7692 x (fun k => (i k (Shape.Idx.first h_S_)).toInt) sliceFits_S4x2048x7692_S1x2048x7692) : Ct F S4x2048x7692 .f32 → (Fin 3 → Ct F S_ .i32) → Ct F S1x2048x7692 .f32),
    reshape main_v10 main_v11 (rfl : (.f32 : EltTy) = .f32) shapeCasts_S1x2048x7692_S2048x7692 ]

/-- What they write, in order. -/
abbrev wB : List (Ref sig .tc) := [main_v6, main_c_2, main_v7, main_c_3, main_v8, main_v9, main_c_4, main_c_5, main_v10, main_v11]

/-- Operations for the normed rows. -/
abbrev opsC : List (HloOp τ sig (Elt F)) :=
  [ binary main_arg0 main_arg0 main_v12 (mulf : Ct F S2x8192x2048 .f32 → Ct F S2x8192x2048 .f32 → Ct F S2x8192x2048 .f32),
    nullary main_cst (constant S_ .f32 0x00000000#32),
    binary main_v12 main_cst main_v13 ((fun x v => Host.reduceAdd x v reducesTo_S2x8192x2048_S2x8192_d2 h_S_) : Ct F S2x8192x2048 .f32 → Ct F S_ .f32 → Ct F S2x8192 .f32),
    unary main_v13 main_v14 (broadcastInDim S2x8192x1 ![0, 1] bcast_S2x8192_S2x8192x1_0_1 : Ct F S2x8192 .f32 → Ct F S2x8192x1 .f32),
    nullary main_cst_6 (constant S_ .f32 0x45000000#32),
    unary main_cst_6 main_v15 (broadcastInDim S2x8192x1 ![] bcast_S_S2x8192x1 : Ct F S_ .f32 → Ct F S2x8192x1 .f32),
    binary main_v14 main_v15 main_v16 (Host.divf : Ct F S2x8192x1 .f32 → Ct F S2x8192x1 .f32 → Ct F S2x8192x1 .f32),
    nullary main_cst_7 (constant S_ .f32 0x358637BD#32),
    unary main_cst_7 main_v17 (broadcastInDim S2x8192x1 ![] bcast_S_S2x8192x1 : Ct F S_ .f32 → Ct F S2x8192x1 .f32),
    binary main_v16 main_v17 main_v18 (addf : Ct F S2x8192x1 .f32 → Ct F S2x8192x1 .f32 → Ct F S2x8192x1 .f32),
    unary main_v18 main_v19 (Host.rsqrt : Ct F S2x8192x1 .f32 → Ct F S2x8192x1 .f32),
    unary main_v19 main_v20 (broadcastInDim S2x8192x2048 ![0, 1, 2] bcast_S2x8192x1_S2x8192x2048_0_1_2 : Ct F S2x8192x1 .f32 → Ct F S2x8192x2048 .f32),
    binary main_arg0 main_v20 main_v21 (mulf : Ct F S2x8192x2048 .f32 → Ct F S2x8192x2048 .f32 → Ct F S2x8192x2048 .f32),
    unary main_v5 main_v22 (broadcastInDim S1x1x2048 ![2] bcast_S2048_S1x1x2048_2 : Ct F S2048 .f32 → Ct F S1x1x2048 .f32),
    unary main_v22 main_v23 (broadcastInDim S2x8192x2048 ![0, 1, 2] bcast_S1x1x2048_S2x8192x2048_0_1_2 : Ct F S1x1x2048 .f32 → Ct F S2x8192x2048 .f32),
    binary main_v21 main_v23 main_v24 (mulf : Ct F S2x8192x2048 .f32 → Ct F S2x8192x2048 .f32 → Ct F S2x8192x2048 .f32) ]

/-- What they write, in order. -/
abbrev wC : List (Ref sig .tc) := [main_v12, main_cst, main_v13, main_v14, main_cst_6, main_v15, main_v16, main_cst_7, main_v17, main_v18, main_v19, main_v20, main_v21, main_v22, main_v23, main_v24]

/-- Operations for the product. -/
abbrev opsD : List (HloOp τ sig (Elt F)) :=
  [ binary main_v24 main_v11 main_v25 ((fun l r => Host.dotGeneral dot_S2x8192x2048_S2048x7692_S2x8192x7692_2_0_01_1_n_n none l r) : Ct F S2x8192x2048 .f32 → Ct F S2048x7692 .f32 → Ct F S2x8192x7692 .f32) ]

/-- What they write, in order. -/
abbrev wD : List (Ref sig .tc) := [main_v25]

/-- Operations for the two results. -/
abbrev opsE : List (HloOp τ sig (Elt F)) :=
  [ unary main_v25 main_v26 ((extractStridedSlice S2x8192x3072 ![0, 0, 0] · slices_S2x8192x7692_S2x8192x3072_0_0_0) : Ct F S2x8192x7692 .f32 → Ct F S2x8192x3072 .f32),
    unary main_v25 main_v27 ((extractStridedSlice S2x8192x12 ![0, 0, 3072] · slices_S2x8192x7692_S2x8192x12_0_0_3072) : Ct F S2x8192x7692 .f32 → Ct F S2x8192x12 .f32),
    unary main_v25 main_v28 ((extractStridedSlice S2x8192x4608 ![0, 0, 3084] · slices_S2x8192x7692_S2x8192x4608_0_0_3084) : Ct F S2x8192x7692 .f32 → Ct F S2x8192x4608 .f32),
    binary main_v26 main_v28 main_v29 ((fun a b => concatenate S2x8192x7680 2 [⟨S2x8192x3072, a⟩, ⟨S2x8192x4608, b⟩] concatenates_S2x8192x3072_S2x8192x4608_S2x8192x7680_d2) : Ct F S2x8192x3072 .f32 → Ct F S2x8192x4608 .f32 → Ct F S2x8192x7680 .f32),
    nullary main_cst_8 (constant S_ .f32 0x00000000#32),
    binary main_v27 main_cst_8 main_v30 ((fun x v => pad S2x8192x128 ![0, 0, 0] ![0, 0, 116] ![0, 0, 0] x v pads_S2x8192x12_S2x8192x128_000_000_01160 h_S_) : Ct F S2x8192x12 .f32 → Ct F S_ .f32 → Ct F S2x8192x128 .f32),
    reshape main_v29 main_v31 (rfl : (.f32 : EltTy) = .f32) shapeCasts_S2x8192x7680_S16384x7680,
    reshape main_v30 main_v32 (rfl : (.f32 : EltTy) = .f32) shapeCasts_S2x8192x128_S16384x128 ]

/-- What they write, in order. -/
abbrev wE : List (Ref sig .tc) := [main_v26, main_v27, main_v28, main_v29, main_cst_8, main_v30, main_v31, main_v32]

/-- All of them. -/
abbrev ops : List (HloOp τ sig (Elt F)) := (opsA (F := F)) ++ ((opsB (F := F)) ++ ((opsC (F := F)) ++ ((opsD (F := F)) ++ ((opsE (F := F))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., nullary_bufs_sub .., binary_bufs_sub .., nullary_bufs_sub .., binary_bufs_sub .., ternary_bufs_sub .., nullary_bufs_sub .., unaryIndexed_bufs_sub .., reshape_bufs_sub .., reshape_bufs_sub .., nullary_bufs_sub .., binary_bufs_sub .., nullary_bufs_sub .., binary_bufs_sub .., ternary_bufs_sub .., nullary_bufs_sub .., nullary_bufs_sub .., unaryIndexed_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., unary_bufs_sub .., binary_bufs_sub .., nullary_bufs_sub .., binary_bufs_sub .., reshape_bufs_sub .., reshape_bufs_sub ..⟩

set_option maxRecDepth 8192 in
/-- The run. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ

set_option maxRecDepth 8192 in
/-- A buffer the operations do not write is unchanged. -/
theorem unwritten (V : Valuation τ sig (Elt F)) (r : Ref sig .tc) (hr : r ∉ wA ++ (wB ++ (wC ++ (wD ++ (wE))))) :
    after ops V (Proc.devRef .tc r) = V (Proc.devRef .tc r) :=
  after_of_writes_sub ops V (forall_writes_sub_of_map rfl) hr

end Cert.InProjRefIdeal.Stretch

end
-- ==== Proof.InHost.lean ====
/- The arrays of the call `in_proj` its windows read, as elements of the arguments. -/
module

public import proofs.«01_k».proof.Proof.InRuns
public import Idealize.ShloMosaic.Lib.StableHlo.ReadAt
public import Idealize.ShloMosaic.Lib.Pointwise

@[expose] public section

set_option maxRecDepth 16384

noncomputable section

namespace Cert.InProjIdeal.Fr

open Cert.InProjIdeal Cert.InProjIdeal.Gen Idealize.ShloMosaic Idealize.ShloMosaic.TcCoe Idealize.SL.Sem Idealize.ShloMosaic.StableHlo

variable (m : (ℓ : Loc nD τ sig) → Buf (Elt Ideal) ℓ)

/-- The column of the weights an output column is the product of: the gate's twelve lie between. -/
def colz (n : Fin 7680) : Fin 7692 := if h : n.val < 3072 then ⟨n.val, by omega⟩ else ⟨n.val + 12, by omega⟩

/-- The host's operations, one list. -/
theorem hostAll_eq {F : FTy → Type} [FloatOps F] : (hostAll : List (HloOp τ sig (Elt F))) = [ StableHlo.unary main_arg3 main_v0 ((extractStridedSlice S4x2048x3072 ![0, 0, 0] · slices_S4x2048x7692_S4x2048x3072_0_0_0) : (⟨S4x2048x7692, .f32⟩ : BufTy).Contents (Elt F) → (⟨S4x2048x3072, .f32⟩ : BufTy).Contents (Elt F)),
    StableHlo.unary main_arg3 main_v1 ((extractStridedSlice S4x2048x4608 ![0, 0, 3084] · slices_S4x2048x7692_S4x2048x4608_0_0_3084) : (⟨S4x2048x7692, .f32⟩ : BufTy).Contents (Elt F) → (⟨S4x2048x4608, .f32⟩ : BufTy).Contents (Elt F)),
    StableHlo.binary main_v0 main_v1 main_v2 ((fun a b => concatenate S4x2048x7680 2 [⟨S4x2048x3072, a⟩, ⟨S4x2048x4608, b⟩] concatenates_S4x2048x3072_S4x2048x4608_S4x2048x7680_d2) : (⟨S4x2048x3072, .f32⟩ : BufTy).Contents (Elt F) → (⟨S4x2048x4608, .f32⟩ : BufTy).Contents (Elt F) → (⟨S4x2048x7680, .f32⟩ : BufTy).Contents (Elt F)),
    StableHlo.unary main_v2 main_v3 ((truncf .bf16 · bitsLt_bf16_f32) : (⟨S4x2048x7680, .f32⟩ : BufTy).Contents (Elt F) → (⟨S4x2048x7680, .bf16⟩ : BufTy).Contents (Elt F)),
    StableHlo.unary main_arg3 main_v4 ((extractStridedSlice S4x2048x12 ![0, 0, 3072] · slices_S4x2048x7692_S4x2048x12_0_0_3072) : (⟨S4x2048x7692, .f32⟩ : BufTy).Contents (Elt F) → (⟨S4x2048x12, .f32⟩ : BufTy).Contents (Elt F)),
    StableHlo.nullary main_c (constantI S_ 32 0#32),
    StableHlo.unary main_c main_call0_v0 ((sitofp .f32) : (⟨S_, .i32⟩ : BufTy).Contents (Elt F) → (⟨S_, .f32⟩ : BufTy).Contents (Elt F)),
    StableHlo.binary main_v4 main_call0_v0 main_v5 ((fun x v => pad S4x2048x128 ![0, 0, 0] ![0, 0, 116] ![0, 0, 0] x v pads_S4x2048x12_S4x2048x128_000_000_01160 h_S_) : (⟨S4x2048x12, .f32⟩ : BufTy).Contents (Elt F) → (⟨S_, .f32⟩ : BufTy).Contents (Elt F) → (⟨S4x2048x128, .f32⟩ : BufTy).Contents (Elt F)),
    StableHlo.unary main_v5 main_v6 ((truncf .bf16 · bitsLt_bf16_f32) : (⟨S4x2048x128, .f32⟩ : BufTy).Contents (Elt F) → (⟨S4x2048x128, .bf16⟩ : BufTy).Contents (Elt F)),
    StableHlo.reshape main_arg0 main_v7 (rfl : (.f32 : EltTy) = .f32) shapeCasts_S2x8192x2048_S16384x2048,
    StableHlo.reshape main_arg2 main_v8 (rfl : (.f32 : EltTy) = .f32) shapeCasts_S4x2048_S4x1x2048 ] := rfl

theorem V_v7 (c : Dev nD) (R : Fin 16384) (d : Fin 2048) :
    V m c main_v7 (ix2 R d) = m ((c.tc : Thread nD τ).loc main_arg0) (ix3 (⟨R.val / 8192, by omega⟩ : Fin 2) (⟨R.val % 8192, by omega⟩ : Fin 8192) d) := by
  unfold V
  rw [hostAll_eq]
  after_reads_at
  try rfl

theorem V_v8 (c : Dev nD) (l : Fin 4) (d : Fin 2048) :
    V m c main_v8 (ix3 l (0 : Fin 1) d) = m ((c.tc : Thread nD τ).loc main_arg2) (ix2 l d) := by
  unfold V
  rw [hostAll_eq]
  after_reads_at
  try rfl

theorem V_v3 (c : Dev nD) (l : Fin 4) (e : Fin 2048) (n : Fin 7680) :
    V m c main_v3 (ix3 l e n) = m ((c.tc : Thread nD τ).loc main_arg3) (ix3 l e (colz n)) := by
  unfold V colz
  rw [hostAll_eq]
  by_cases h : n.val < 3072
  · rw [dif_pos h]
    after_reads_at
    rw [dif_pos h]
    after_reads_at
  · rw [dif_neg h]
    after_reads_at
    rw [dif_neg h]
    after_reads_at
    refine congrArg (m ((c.tc : Thread nD τ).loc main_arg3)) (funext fun a => Fin.ext ?_)
    match a with
    | ⟨0, _⟩ => rfl
    | ⟨1, _⟩ => rfl
    | ⟨2, _⟩ => show 3084 + (n.val - 3072) = n.val + 12; omega

theorem V_v6 (c : Dev nD) (l : Fin 4) (e : Fin 2048) (n : Fin 128) :
    V m c main_v6 (ix3 l e n) = if h : n.val < 12 then m ((c.tc : Thread nD τ).loc main_arg3) (ix3 l e (⟨3072 + n.val, by omega⟩ : Fin 7692)) else (0 : EReal) := by
  unfold V
  rw [hostAll_eq]
  by_cases h : n.val < 12
  · rw [dif_pos h]
    after_reads_at
    rw [dif_pos h]
  · rw [dif_neg h]
    after_reads_at
    rw [dif_neg h]
    show (((0#32 : BitVec 32).toInt : ℝ) : EReal) = 0
    simp

end Cert.InProjIdeal.Fr

end
-- ==== Proof.InRefVal.lean ====
/- The reference of the call `in_proj`: its two results, element by element, as closed forms of its arguments. -/
module

public import proofs.«01_k».proof.Proof.InRefOps
public import proofs.«01_k».proof.Proof.FfnRefVal
public import proofs.«01_k».proof.Proof.FfnRefRes
public import proofs.«01_k».proof.Proof.InHost

@[expose] public section

set_option maxRecDepth 16384

noncomputable section

namespace Cert.InProjRefIdeal.Stretch

open Cert.InProjRefIdeal Cert.InProjRefIdeal.Gen Idealize.ShloMosaic Idealize.ShloMosaic.TcCoe Idealize.SL.Sem Idealize.ShloMosaic.StableHlo
open Cert.FfnRefIdeal.Stretch (start_sel slice2 rn)
open Cert.InProjIdeal.Fr (colz)

/-- A layer's slice of a stack of arrays, the unit axis dropped. -/
theorem slice3 (x : Vec Ideal S4x2048x7692 .f32) (l : Fin 4) (start : Fin 3 → Int) (h0 : start 0 = l.val) (h1 : start 1 = 0) (h2 : start 2 = 0)
    (h : S4x2048x7692.Slices (fun _ => 0) S1x2048x7692) (hc : S1x2048x7692.ShapeCasts S2048x7692) (e : Fin 2048) (d : Fin 7692) :
    shapeCast S2048x7692 (Host.dynamicSlice S1x2048x7692 x start h) hc (ix2 e d) = x (ix3 l e d) := by
  have hoff : S4x2048x7692.Slices ![l.val, 0, 0] S1x2048x7692 := ⟨rfl, fun a => by
    match a with
    | ⟨0, _⟩ => show l.val + 1 ≤ 4; omega
    | ⟨1, _⟩ => show 0 + 2048 ≤ 2048; omega
    | ⟨2, _⟩ => show 0 + 7692 ≤ 7692; omega⟩
  rw [Host.dynamicSlice_eq_extractStridedSlice S1x2048x7692 x start ![l.val, 0, 0] h hoff (fun a => by
    match a with
    | ⟨0, _⟩ => exact h0
    | ⟨1, _⟩ => exact h1
    | ⟨2, _⟩ => exact h2)]
  pointwise

variable (V : Valuation τ sig (Elt Ideal))

theorem A_v3 (l : Fin 4) (h : (V (Proc.devRef .tc main_arg1) (ix1 0)).toNat = l.val) :
    BitVec.toInt (upto opsA V 7 (Proc.devRef .tc main_v3) (Shape.Idx.first h_S_)) = l.val := by
  after_reads_simp
  exact start_sel shapeCasts_S1_S_ (V (Proc.devRef .tc main_arg1)) _ l h _

theorem A_v5 (l : Fin 4) (h : (V (Proc.devRef .tc main_arg1) (ix1 0)).toNat = l.val) (g : Fin 4 → Fin 2048 → EReal)
    (hg : ∀ l d, g l d = V (Proc.devRef .tc main_arg2) (ix2 l d)) (d : Fin 2048) :
    g l d = after opsA V (Proc.devRef .tc main_v5) (ix1 d) := by
  rw [hg]
  symm
  have h3 := A_v3 V l h
  have h_c_1 : BitVec.toInt (upto opsA V 7 (Proc.devRef .tc main_c_1) (Shape.Idx.first h_S_)) = 0 := by
    after_reads_simp; rfl
  after_reads_simp
  generalize upto opsA V 7 = W at h3 h_c_1 ⊢
  exact slice2 _ l _ h3 h_c_1 _ _ d

theorem B_v9 (l : Fin 4) (h : (V (Proc.devRef .tc main_arg1) (ix1 0)).toNat = l.val) :
    BitVec.toInt (upto opsB V 8 (Proc.devRef .tc main_v9) (Shape.Idx.first h_S_)) = l.val := by
  after_reads_simp
  exact start_sel shapeCasts_S1_S_ (V (Proc.devRef .tc main_arg1)) _ l h _

theorem B_v11 (l : Fin 4) (h : (V (Proc.devRef .tc main_arg1) (ix1 0)).toNat = l.val) (g : Fin 4 → Fin 2048 → Fin 7692 → EReal)
    (hg : ∀ l e d, g l e d = V (Proc.devRef .tc main_arg3) (ix3 l e d)) (e : Fin 2048) (d : Fin 7692) :
    g l e d = after opsB V (Proc.devRef .tc main_v11) (ix2 e d) := by
  rw [hg]
  symm
  have h3 := B_v9 V l h
  have h_c_4 : BitVec.toInt (upto opsB V 8 (Proc.devRef .tc main_c_4) (Shape.Idx.first h_S_)) = 0 := by
    after_reads_simp; rfl
  have h_c_5 : BitVec.toInt (upto opsB V 8 (Proc.devRef .tc main_c_5) (Shape.Idx.first h_S_)) = 0 := by
    after_reads_simp; rfl
  after_reads_simp
  generalize upto opsB V 8 = W at h3 h_c_4 h_c_5 ⊢
  exact slice3 _ l _ h3 h_c_4 h_c_5 _ _ e d

theorem C_v24 (x : Fin 2 → Fin 8192 → Fin 2048 → EReal) (g : Fin 2048 → EReal)
    (hx : ∀ b s d, x b s d = V (Proc.devRef .tc main_arg0) (ix3 b s d)) (hg : ∀ d, g d = V (Proc.devRef .tc main_v5) (ix1 d))
    (b : Fin 2) (s : Fin 8192) (d : Fin 2048) :
    rn x g b s d = after opsC V (Proc.devRef .tc main_v24) (ix3 b s d) := by
  symm
  after_reads_at
  simp only [← hx, ← hg]
  rfl

theorem D_v25 (x : Fin 2 → Fin 8192 → Fin 2048 → EReal) (w : Fin 2048 → Fin 7692 → EReal)
    (hx : ∀ b s d, x b s d = V (Proc.devRef .tc main_v24) (ix3 b s d)) (hw : ∀ e n, w e n = V (Proc.devRef .tc main_v11) (ix2 e n))
    (b : Fin 2) (s : Fin 8192) (n : Fin 7692) :
    (∑ e : Fin 2048, x b s e * w e n) = after opsD V (Proc.devRef .tc main_v25) (ix3 b s n) := by
  symm
  after_reads_at
  simp only [← hx, ← hw]

theorem E_v31 (y : Fin 2 → Fin 8192 → Fin 7692 → EReal) (hy : ∀ b s d, y b s d = V (Proc.devRef .tc main_v25) (ix3 b s d))
    (R : Fin 16384) (n : Fin 7680) :
    y ⟨R.val / 8192, by omega⟩ ⟨R.val % 8192, by omega⟩ (colz n) = after opsE V (Proc.devRef .tc main_v31) (ix2 R n) := by
  symm
  rw [hy]
  unfold colz
  by_cases h : n.val < 3072
  · rw [dif_pos h]
    after_reads_at
    rw [dif_pos h]
    after_reads_at
    try rfl
  · rw [dif_neg h]
    after_reads_at
    rw [dif_neg h]
    after_reads_at
    refine congrArg (V (Proc.devRef .tc main_v25)) (funext fun a => Fin.ext ?_)
    match a with
    | ⟨0, _⟩ => rfl
    | ⟨1, _⟩ => rfl
    | ⟨2, _⟩ => show 3084 + (n.val - 3072) = n.val + 12; omega

set_option maxHeartbeats 1600000 in
theorem E_v32 (y : Fin 2 → Fin 8192 → Fin 7692 → EReal) (hy : ∀ b s d, y b s d = V (Proc.devRef .tc main_v25) (ix3 b s d))
    (R : Fin 16384) (n : Fin 128) :
    (if h : n.val < 12 then y ⟨R.val / 8192, by omega⟩ ⟨R.val % 8192, by omega⟩ ⟨3072 + n.val, by omega⟩ else (0 : EReal))
      = after opsE V (Proc.devRef .tc main_v32) (ix2 R n) := by
  symm
  by_cases h : n.val < 12
  · rw [dif_pos h, hy]
    after_reads_at
    exact dif_pos ⟨by omega, by omega, h⟩
  · rw [dif_neg h]
    after_reads_at
    exact dif_neg fun e => h e.2.2

theorem after_app (p q : List (HloOp τ sig (Elt Ideal))) (V : Valuation τ sig (Elt Ideal)) : after (p ++ q) V = after q (after p V) := by
  induction p generalizing V with
  | nil => rfl
  | cons op p ih => exact ih _

section
variable (r : Ref sig .tc)
theorem keepA (hr : r ∉ wA) : after opsA V (Proc.devRef .tc r) = V (Proc.devRef .tc r) := after_of_writes_sub _ V (forall_writes_sub_of_map rfl) hr
theorem keepB (hr : r ∉ wB) : after opsB V (Proc.devRef .tc r) = V (Proc.devRef .tc r) := after_of_writes_sub _ V (forall_writes_sub_of_map rfl) hr
theorem keepC (hr : r ∉ wC) : after opsC V (Proc.devRef .tc r) = V (Proc.devRef .tc r) := after_of_writes_sub _ V (forall_writes_sub_of_map rfl) hr
end

/-- The product's columns. -/
def ry (x : Fin 2 → Fin 8192 → Fin 2048 → EReal) (g : Fin 2048 → EReal) (w : Fin 2048 → Fin 7692 → EReal)
    (b : Fin 2) (s : Fin 8192) (n : Fin 7692) : EReal := ∑ e : Fin 2048, rn x g b s e * w e n

/-- The product, after the stretches before the last. -/
theorem ref_y (l : Fin 4) (h : (V (Proc.devRef .tc main_arg1) (ix1 0)).toNat = l.val)
    (x : Fin 2 → Fin 8192 → Fin 2048 → EReal) (g : Fin 4 → Fin 2048 → EReal) (w : Fin 4 → Fin 2048 → Fin 7692 → EReal)
    (hx : ∀ b s d, x b s d = V (Proc.devRef .tc main_arg0) (ix3 b s d)) (hg : ∀ l d, g l d = V (Proc.devRef .tc main_arg2) (ix2 l d))
    (hw : ∀ l e d, w l e d = V (Proc.devRef .tc main_arg3) (ix3 l e d)) (b : Fin 2) (s : Fin 8192) (n : Fin 7692) :
    ry x (g l) (w l) b s n = after opsD (after opsC (after opsB (after opsA V))) (Proc.devRef .tc main_v25) (ix3 b s n) := by
  have a5 := fun d => A_v5 V l h g hg d
  have aK := fun r hr => keepA V r hr
  generalize after opsA V = VA at a5 aK ⊢
  have b11 := fun e d => B_v11 VA l (by rw [aK _ (by decide)]; exact h) w (fun l e d => by rw [aK _ (by decide)]; exact hw l e d) e d
  have bK := fun r hr => keepB VA r hr
  generalize after opsB VA = VB at b11 bK ⊢
  have c24 := fun b s d => C_v24 VB x (g l) (fun b s d => by rw [bK _ (by decide), aK _ (by decide)]; exact hx b s d)
    (fun d => by rw [bK _ (by decide)]; exact a5 d) b s d
  have cK := fun r hr => keepC VB r hr
  generalize after opsC VB = VC at c24 cK ⊢
  exact D_v25 VC (rn x (g l)) (w l) c24 (fun e n => by rw [cK _ (by decide)]; exact b11 e n) b s n

theorem ops_after : after ops V = after opsE (after opsD (after opsC (after opsB (after opsA V)))) := by
  unfold ops
  rw [after_app, after_app, after_app, after_app]

end Cert.InProjRefIdeal.Stretch

end
-- ==== Proof.InEq.lean ====
/- The call `in_proj` leaves what its reference leaves: the two closed forms are one. -/
module

public import proofs.«01_k».proof.Defs
public import proofs.«01_k».proof.Proof.InAcc
public import proofs.«01_k».proof.Proof.InRefVal
public import proofs.«01_k».proof.Proof.InBitsOk
public import proofs.«01_k».proof.Proof.InBitsFrame

@[expose] public section

set_option maxRecDepth 16384

noncomputable section

namespace Cert.InProjIdeal.Fr

open Cert.InProjIdeal Cert.InProjIdeal.Gen Idealize.ShloMosaic Idealize.ShloMosaic.TcCoe Idealize.SL.Sem Cert.InProjRefIdeal.Stretch
open Cert.FfnRefIdeal.Stretch (rn)

variable (m : (ℓ : Loc nD τ sig) → Buf (Elt Ideal) ℓ) (ρ : Dev nD → PrngReg)

/-! The arguments as functions of coordinates. -/
def ax (c : Dev nD) (b : Fin 2) (s : Fin 8192) (d : Fin 2048) : EReal := m ((c.tc : Thread nD τ).loc main_arg0) (ix3 b s d)
def ag (c : Dev nD) (l : Fin 4) (d : Fin 2048) : EReal := m ((c.tc : Thread nD τ).loc main_arg2) (ix2 l d)
def aw (c : Dev nD) (l : Fin 4) (e : Fin 2048) (d : Fin 7692) : EReal := m ((c.tc : Thread nD τ).loc main_arg3) (ix3 l e d)

/-- A row's batch and position. -/
abbrev rb (R : Fin 16384) : Fin 2 := ⟨R.val / 8192, by omega⟩
abbrev rs (R : Fin 16384) : Fin 8192 := ⟨R.val % 8192, by omega⟩

theorem xv_eq (c : Dev nD) (R : Fin 16384) : xv m c R = ax m c (rb R) (rs R) := funext fun d => V_v7 m c R d

theorem xn_eq (hl : lyr m < 4) (c : Dev nD) (R : Fin 16384) (e : Fin 2048) :
    xn m hl c R e = rn (ax m c) (ag m c ⟨lyr m, hl⟩) (rb R) (rs R) e := by
  unfold xn rn
  rw [xv_eq]
  exact congrArg _ (V_v8 m c ⟨lyr m, hl⟩ e)

theorem zAt_eq (hl : lyr m < 4) (c : Dev nD) (R : Fin 16384) (n : Fin 7680) :
    zAt m hl c R n = ry (ax m c) (ag m c ⟨lyr m, hl⟩) (aw m c ⟨lyr m, hl⟩) (rb R) (rs R) (colz n) := by
  unfold zAt ry
  refine Finset.sum_congr rfl fun e _ => ?_
  rw [xn_eq]
  exact congrArg _ (V_v3 m c ⟨lyr m, hl⟩ e n)

theorem gAt_eq (hl : lyr m < 4) (c : Dev nD) (R : Fin 16384) (n : Fin 128) :
    gAt m hl c R n = if h : n.val < 12 then ry (ax m c) (ag m c ⟨lyr m, hl⟩) (aw m c ⟨lyr m, hl⟩) (rb R) (rs R) ⟨3072 + n.val, by omega⟩ else (0 : EReal) := by
  unfold gAt
  by_cases h : n.val < 12
  · rw [dif_pos h]
    unfold ry
    refine Finset.sum_congr rfl fun e _ => ?_
    rw [xn_eq]
    exact congrArg _ ((V_v6 m c ⟨lyr m, hl⟩ e n).trans (dif_pos h))
  · rw [dif_neg h]
    refine Finset.sum_eq_zero fun e _ => ?_
    have e0 : (V m c main_v6 : Vec Ideal S4x2048x128 .bf16) (ix3 ⟨lyr m, hl⟩ e n) = (0 : EReal) := (V_v6 m c ⟨lyr m, hl⟩ e n).trans (dif_neg h)
    rw [e0]
    exact mul_zero _

/-- The call's run, read: the two result arrays, the arguments unchanged. -/
theorem run_value (hO : Ok m) (hl : lyr m < 4) : θ_run defs (onTc (τ := τ) (main (F := Ideal))) ⟨m, fun _ => 0, ρ⟩ (fun r => ∀ c : Dev nD,
      r.2.mem ((c.tc : Thread nD τ).loc main_v9_0) = resZ m hl c
      ∧ r.2.mem ((c.tc : Thread nD τ).loc main_v9_1) = resG m hl c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final_z m hO hl c), ((h c).1 5).trans (final_g m hO hl c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩) (run_main m ρ hO)

theorem etaZ (x : S16384x7680.Idx) : x = ix2 (x 0 : Fin 16384) (x 1 : Fin 7680) :=
  funext fun a => by match a with | ⟨0, _⟩ => rfl | ⟨1, _⟩ => rfl
theorem etaG (x : S16384x128.Idx) : x = ix2 (x 0 : Fin 16384) (x 1 : Fin 128) :=
  funext fun a => by match a with | ⟨0, _⟩ => rfl | ⟨1, _⟩ => rfl

/-- The layer index is the word of the argument. -/
theorem lyr_arg : lyr m = ((m (((0 : Dev nD).tc : Thread nD τ).loc main_arg1) : IVec S1 32) (ix1 0)).toNat := by
  unfold lyr tbl
  simp only [Pipeline.Prefetch.Contents.at]
  have e := V_main_arg1 m (0 : Dev nD)
  rw [← e]
  exact congrArg (fun w : S1.Idx => ((V m 0 main_arg1 : IVec S1 32) w).toNat) (funext fun a => by match a with | ⟨0, _⟩ => rfl)

section
variable (m' : (ℓ : Loc Cert.InProjRefIdeal.nD Cert.InProjRefIdeal.τ Cert.InProjRefIdeal.sig) → Buf (Elt Ideal) ℓ) (hl : lyr m < 4) (c : Dev nD)
    (h0 : m' ((c.tc : Thread Cert.InProjRefIdeal.nD Cert.InProjRefIdeal.τ).loc Cert.InProjRefIdeal.main_arg0) = m ((c.tc : Thread nD τ).loc main_arg0))
    (h1 : m' ((c.tc : Thread Cert.InProjRefIdeal.nD Cert.InProjRefIdeal.τ).loc Cert.InProjRefIdeal.main_arg1) = m ((c.tc : Thread nD τ).loc main_arg1))
    (h2 : m' ((c.tc : Thread Cert.InProjRefIdeal.nD Cert.InProjRefIdeal.τ).loc Cert.InProjRefIdeal.main_arg2) = m ((c.tc : Thread nD τ).loc main_arg2))
    (h3 : m' ((c.tc : Thread Cert.InProjRefIdeal.nD Cert.InProjRefIdeal.τ).loc Cert.InProjRefIdeal.main_arg3) = m ((c.tc : Thread nD τ).loc main_arg3))
include h0 h1 h2 h3

theorem y_eq (b : Fin 2) (s : Fin 8192) (n : Fin 7692) :
    ry (ax m c) (ag m c ⟨lyr m, hl⟩) (aw m c ⟨lyr m, hl⟩) b s n
      = StableHlo.after opsD (StableHlo.after opsC (StableHlo.after opsB (StableHlo.after opsA (StableHlo.launchContents m' c)))) (Proc.devRef .tc Cert.InProjRefIdeal.main_v25) (ix3 b s n) := by
  have hc : c = 0 := Subsingleton.elim _ _
  have hw : (m' ((c.tc : Thread Cert.InProjRefIdeal.nD Cert.InProjRefIdeal.τ).loc Cert.InProjRefIdeal.main_arg1) (ix1 0)).toNat = lyr m := by
    rw [h1, hc]
    exact (lyr_arg m).symm
  refine ref_y (StableHlo.launchContents m' c) ⟨lyr m, hl⟩ hw (ax m c) (ag m c) (aw m c) ?_ ?_ ?_ b s n
  · exact fun b s d => (congrFun h0 (ix3 b s d)).symm
  · exact fun l d => (congrFun h2 (ix2 l d)).symm
  · exact fun l e d => (congrFun h3 (ix3 l e d)).symm

/-- The first arrays are one. -/
theorem ref_z : StableHlo.after (ops (F := Ideal)) (StableHlo.launchContents m' c) (Proc.devRef .tc Cert.InProjRefIdeal.main_v31) = resZ m hl c := by
  have hy := y_eq m m' hl c h0 h1 h2 h3
  rw [ops_after]
  generalize StableHlo.after (opsD (F := Ideal)) _ = W at hy ⊢
  funext i
  obtain ⟨i, rfl⟩ : ∃ z : S16384x7680.Idx, z = i := ⟨i, rfl⟩
  have e (R : Fin 16384) (d : Fin 7680) :
      StableHlo.after (opsE (F := Ideal)) W (Proc.devRef .tc Cert.InProjRefIdeal.main_v31) (ix2 R d) = zAt m hl c R d :=
    (E_v31 W _ hy R d).symm.trans (zAt_eq m hl c R d).symm
  exact (congrArg _ (etaZ i)).trans (e (i 0) (i 1))

/-- The second arrays are one. -/
theorem ref_g : StableHlo.after (ops (F := Ideal)) (StableHlo.launchContents m' c) (Proc.devRef .tc Cert.InProjRefIdeal.main_v32) = resG m hl c := by
  have hy := y_eq m m' hl c h0 h1 h2 h3
  rw [ops_after]
  generalize StableHlo.after (opsD (F := Ideal)) _ = W at hy ⊢
  funext i
  obtain ⟨i, rfl⟩ : ∃ z : S16384x128.Idx, z = i := ⟨i, rfl⟩
  have e (R : Fin 16384) (d : Fin 128) :
      StableHlo.after (opsE (F := Ideal)) W (Proc.devRef .tc Cert.InProjRefIdeal.main_v32) (ix2 R d) = gAt m hl c R d :=
    (E_v32 W _ hy R d).symm.trans (gAt_eq m hl c R d).symm
  exact (congrArg _ (etaG i)).trans (e (i 0) (i 1))
end

end Cert.InProjIdeal.Fr

namespace Cert.Proof

open Idealize.ShloMosaic Idealize.ShloMosaic.TcCoe Idealize.SL.Sem

/-- The frame of the call `in_proj`, idealized. -/
theorem frame_InProjIdeal : Cert.quiescent_InProjIdeal := fun m ρ h =>
  Cert.InProjIdeal.Fr.frame m ρ (Cert.InProjIdeal.Fr.ok_of_lt m (Cert.InProjIdeal.Fr.lidx_lt _ _ _ _ (h 0)))

/-- The frame of the call `in_proj`. -/
theorem frame_InProj : Cert.quiescent_InProj := fun m ρ h =>
  Cert.InProj.Fr.frame m ρ (Cert.InProj.Fr.ok_of_lt m (Cert.InProj.Fr.lidx_lt _ _ _ _ (h 0)))

/-- The reference's arguments end unchanged. -/
theorem in_unchanged {F : FTy → Type} [FloatOps F]
    (m : (ℓ : Loc Cert.InProjRefIdeal.nD Cert.InProjRefIdeal.τ Cert.InProjRefIdeal.sig) → Buf (Elt F) ℓ) (c : Dev Cert.InProjRefIdeal.nD) (r : Ref Cert.InProjRefIdeal.sig .tc)
    (hr : r ∉ Cert.InProjRefIdeal.Stretch.wA ++ (Cert.InProjRefIdeal.Stretch.wB ++ (Cert.InProjRefIdeal.Stretch.wC ++ (Cert.InProjRefIdeal.Stretch.wD ++ Cert.InProjRefIdeal.Stretch.wE)))) :
    StableHlo.after Cert.InProjRefIdeal.Stretch.ops (StableHlo.launchContents m c) (Proc.devRef .tc r)
      = m ((c.tc : Thread Cert.InProjRefIdeal.nD Cert.InProjRefIdeal.τ).loc r) :=
  Cert.InProjRefIdeal.Stretch.unwritten _ r hr

set_option maxRecDepth 8192 in
/-- The reference's frame. -/
theorem frame_InProjRefIdeal : Cert.quiescent_InProjRefIdeal := fun m ρ _ =>
  (θ_run Cert.InProjRefIdeal.defs _ _).mono (fun r h => And.intro (fun c =>
    ⟨(h c _).trans (in_unchanged m c Cert.InProjRefIdeal.main_arg0 (by decide)),
     (h c _).trans (in_unchanged m c Cert.InProjRefIdeal.main_arg1 (by decide)),
     (h c _).trans (in_unchanged m c Cert.InProjRefIdeal.main_arg2 (by decide)),
     (h c _).trans (in_unchanged m c Cert.InProjRefIdeal.main_arg3 (by decide))⟩)
    (sem_eq_zero_of_no_sems (by decide) r.2)) (Cert.InProjRefIdeal.Stretch.run m ρ)

/-- The value of the call `in_proj`. -/
theorem value_InProj : Cert.algebraic_InProjIdeal_InProjRefIdeal := fun m g m' g' h hm => by
  have hlt := Cert.InProjIdeal.Fr.lidx_lt _ _ _ _ (h 0)
  have hl := Cert.InProjIdeal.Fr.lyr_lt m hlt
  have hO := Cert.InProjIdeal.Fr.ok_of_lt m hlt
  refine ⟨Cert.InProjIdeal.Fr.resZ m hl, Cert.InProjIdeal.Fr.resG m hl, Cert.InProjIdeal.Fr.run_value m g hO hl, ?_⟩
  refine (θ_run Cert.InProjRefIdeal.defs _ _).mono (fun r hr c => ?_) (Cert.InProjRefIdeal.Stretch.run m' g')
  obtain ⟨h0, h1, h2, h3⟩ := hm c
  exact ⟨(hr c _).trans (Cert.InProjIdeal.Fr.ref_z m m' hl c h0 h1 h2 h3),
     (hr c _).trans (Cert.InProjIdeal.Fr.ref_g m m' hl c h0 h1 h2 h3),
     (hr c _).trans (in_unchanged m' c Cert.InProjRefIdeal.main_arg0 (by decide)),
     (hr c _).trans (in_unchanged m' c Cert.InProjRefIdeal.main_arg1 (by decide)),
     (hr c _).trans (in_unchanged m' c Cert.InProjRefIdeal.main_arg2 (by decide)),
     (hr c _).trans (in_unchanged m' c Cert.InProjRefIdeal.main_arg3 (by decide))⟩

end Cert.Proof

end
-- ==== Proof.MemVal.lean ====
/- The memory keys and values as functions of coordinates. -/
module

public import proofs.«01_k».proof.Proof.FfnPay

@[expose] public section

set_option maxRecDepth 16384

noncomputable section

namespace Cert.MemVal

open Idealize.ShloMosaic

/-- A head's scale, of its 128 columns. -/
def hscale (row : Fin 128 → EReal) : EReal :=
  Ideal.rsqrt (Ideal.div (∑ k : Fin 128, row k * row k) (Ideal.ofBits .f32 0x43000000#32) + Ideal.ofBits .f32 0x358637BD#32)

/-- A row's normed entry. -/
def mn (x : Fin 2048 → EReal) (g : Fin 2048 → EReal) (e : Fin 2048) : EReal := x e * Cert.FfnIdeal.Gen.scale x * g e

/-- A normed row times the weights: column `n`. -/
def mw (x : Fin 2048 → EReal) (g : Fin 2048 → EReal) (w : Fin 2048 → Fin 512 → EReal) (n : Fin 512) : EReal := ∑ e : Fin 2048, mn x g e * w e n

/-- The column `k` of the head that column `n` lies in. -/
abbrev hcol (n : Fin 512) (k : Fin 128) : Fin 512 := ⟨128 * (n.val / 128) + k.val, by omega⟩

/-- A row of keys: each head's columns normed and weighted. -/
def mkey (y : Fin 512 → EReal) (kg : Fin 128 → EReal) (n : Fin 512) : EReal :=
  y n * hscale (fun k => y (hcol n k)) * kg ⟨n.val % 128, by omega⟩

end Cert.MemVal

end
-- ==== Proof.MemArr.lean ====
/- What the call `mem_kv` leaves in its two arrays. -/
module

public import proofs.«01_k».proof.Proof.Gen.MemKvIdeal.Value
public import proofs.«01_k».proof.Proof.MemVal
public import Idealize.ShloMosaic.Lib.StableHlo.ReadAt
public import Idealize.ShloMosaic.Lib.Pointwise
public import Idealize.ShloMosaic.Lib.Pipeline.ValueKit.Geometry

@[expose] public section

set_option maxRecDepth 16384

noncomputable section

namespace Cert.MemKvIdeal.Hand

open Cert.MemKvIdeal Cert.MemKvIdeal.Gen Cert.MemKvIdeal.Value Idealize.ShloMosaic Idealize.ShloMosaic.TcCoe Idealize.SL.Sem Idealize.ShloMosaic.StableHlo Cert.MemVal

theorem pay3_apply (x : Vec Ideal S1x256x2048 .f32) (g : Vec Ideal S1x1x2048 .f32) (r : Fin 256) (d : Fin 2048) :
    k0_pay3 x g (ix2 r d) = mn (fun k => x (ix3 0 r k)) (fun k => g (ix3 0 0 k)) d := by
  unfold mn
  pointwise [k0_pay3, Cert.FfnIdeal.Gen.scale]

theorem pay4_apply (x : Vec Ideal S1x256x2048 .f32) (g : Vec Ideal S1x1x2048 .f32) (w : Vec Ideal S1x2048x512 .bf16) (r : Fin 256) (n : Fin 512) :
    k0_pay4 x g w (ix2 r n) = mw (fun k => x (ix3 0 r k)) (fun k => g (ix3 0 0 k)) (fun e n => w (ix3 0 e n)) n := by
  unfold mw
  simp only [← pay3_apply]
  generalize hz : k0_pay3 x g = z
  unfold k0_pay4
  rw [hz]
  pointwise

theorem pay2_apply (z : FVec Ideal S256x2048 .bf16) (w : Vec Ideal S1x2048x512 .bf16) (r : Fin 256) (n : Fin 512) :
    k0_pay2 z w (ix3 0 r n) = ∑ e : Fin 2048, z (ix2 r e) * w (ix3 0 e n) := by
  pointwise [k0_pay2]

/-- The sum of a head's squares. -/
theorem fam_apply (P0 : Vec Ideal S1x256x2048 .f32) (P1 : Vec Ideal S1x1x2048 .f32) (P2 : Vec Ideal S1x2048x512 .bf16) (P3 : Vec Ideal S1x1x128 .f32)
    (j : Fin 4) (r : Fin 256) :
    Fam5_1 P0 P1 P2 P3 j (ix1 r) = ∑ k : Fin 128, k0_pay4 P0 P1 P2 (ix2 r (⟨128 * j.val + k.val, by omega⟩ : Fin 512)) * k0_pay4 P0 P1 P2 (ix2 r (⟨128 * j.val + k.val, by omega⟩ : Fin 512)) := by
  generalize hz : k0_pay4 P0 P1 P2 = z
  match j with
  | ⟨0, _⟩ => simp only [Fam5_1]; rw [hz]; pointwise
  | ⟨1, _⟩ => simp only [Fam5_1]; rw [hz]; pointwise
  | ⟨2, _⟩ => simp only [Fam5_1]; rw [hz]; pointwise
  | ⟨3, _⟩ => simp only [Fam5_1]; rw [hz]; pointwise

theorem E5_apply (P0 : Vec Ideal S1x256x2048 .f32) (P1 : Vec Ideal S1x1x2048 .f32) (P2 : Vec Ideal S1x2048x512 .bf16) (P3 : Vec Ideal S1x1x128 .f32)
    (r : Fin 256) (n : Fin 512) :
    E5 P0 P1 P2 P3 (ix3 0 r n) = mkey (fun n => k0_pay4 P0 P1 P2 (ix2 r n)) (fun k => P3 (ix3 0 0 k)) n := by
  have e1 : ix5_0 (ix3 0 r n) = ix2 r n := funext fun a => by match a with | ⟨0, _⟩ => rfl | ⟨1, _⟩ => rfl
  have e2 : ix5_1 (ix3 0 r n) = ix1 r := funext fun a => by match a with | ⟨0, _⟩ => rfl
  have e3 : ix5_2 (ix3 0 r n) = ix3 0 0 (⟨n.val % 128, by omega⟩ : Fin 128) := funext fun a => by match a with | ⟨0, _⟩ => rfl | ⟨1, _⟩ => rfl | ⟨2, _⟩ => rfl
  have e4 := fam_apply P0 P1 P2 P3 (⟨n.val / 128, by omega⟩ : Fin 4) r
  show FloatOps.mulf (FloatOps.mulf (k0_pay4 P0 P1 P2 (ix5_0 (ix3 0 r n))) (FloatOps.rsqrt (FloatOps.addf (FloatOps.divf (Fam5_1 P0 P1 P2 P3 (⟨n.val / 128, by omega⟩ : Fin 4) (ix5_1 (ix3 0 r n))) (Scalar.ofBits .f32 0x43000000#32)) (Scalar.ofBits .f32 0x358637BD#32)))) (P3 (ix5_2 (ix3 0 r n))) = _
  rw [e1, e2, e3, e4]
  rfl

theorem hz3 : (![0, 0, 0] : Fin 3 → Nat) = fun _ => 0 := funext fun a => by fin_cases a <;> rfl

theorem out5 (x0 : Vec Ideal S1x256x2048 .f32) (x1 : Vec Ideal S1x1x2048 .f32) (x2 : Vec Ideal S1x2048x512 .bf16) (x3 : Vec Ideal S1x2048x512 .bf16) (x4 : Vec Ideal S1x1x128 .f32)
    (r : Fin 256) (n : Fin 512) :
    out0_5 x0 x1 x2 x3 x4 (ix3 0 r n)
      = mkey (mw (fun k => x0 (ix3 0 r k)) (fun k => x1 (ix3 0 0 k)) (fun e n => x2 (ix3 0 e n))) (fun k => x4 (ix3 0 0 k)) n := by
  unfold out0_5 k0_pay10
  refine (canon5_eq _ _ _ _ _).trans ((E5_apply _ _ _ _ r n).trans ?_)
  simp only [View.ld_unit_zero (S := S1x256x2048) hz3, View.ld_unit_zero (S := S1x1x2048) hz3, View.ld_unit_zero (S := S1x2048x512) hz3, View.ld_unit_zero (S := S1x1x128) hz3]
  simp only [pay4_apply]
  have h : View.ld x4 r0_3 = x4 := View.ld_unit_zero (S := S1x1x128) hz3 _ _
  rw [h]

theorem out6 (x0 : Vec Ideal S1x256x2048 .f32) (x1 : Vec Ideal S1x1x2048 .f32) (x2 : Vec Ideal S1x2048x512 .bf16) (x3 : Vec Ideal S1x2048x512 .bf16) (x4 : Vec Ideal S1x1x128 .f32)
    (r : Fin 256) (n : Fin 512) :
    out0_6 x0 x1 x2 x3 x4 (ix3 0 r n) = mw (fun k => x0 (ix3 0 r k)) (fun k => x1 (ix3 0 0 k)) (fun e n => x3 (ix3 0 e n)) n := by
  unfold out0_6
  rw [View.canon_unit_zero (S := S1x256x512) hz3]
  simp only [View.ld_unit_zero (S := S1x256x2048) hz3, View.ld_unit_zero (S := S1x1x2048) hz3, View.ld_unit_zero (S := S1x2048x512) hz3]
  refine (pay2_apply _ _ r n).trans ?_
  unfold mw
  exact Finset.sum_congr rfl fun e _ => congrArg (· * _) (pay3_apply x0 x1 r e)

section
variable (m : (ℓ : Loc nD τ sig) → Buf (Elt Ideal) ℓ) (ρ : Dev nD → PrngReg)

theorem N_lt (t : Fin cfg0.N) : t.val < 8 := Nat.lt_of_lt_of_eq t.isLt N_0
theorem co0 (t : Fin cfg0.N) : (grid0.coords t 0).val = t.val / 2 := by
  have ht := N_lt t
  have e : (grid0.coords t 0).val = t.val / 2 % 4 := Pipeline.Grid.coords_val t 0 (by decide) rfl
  omega
theorem co1 (t : Fin cfg0.N) : (grid0.coords t 1).val = t.val % 2 := by
  have e : (grid0.coords t 1).val = t.val / 1 % 2 := Pipeline.Grid.coords_val t 1 (by decide) rfl
  omega

/-! The input blocks at a point. -/
def b0 (c : Dev nD) (t : Fin cfg0.N) : Vec Ideal S1x256x2048 .f32 := iblk m c 0 t
def b1 (c : Dev nD) (t : Fin cfg0.N) : Vec Ideal S1x1x2048 .f32 := iblk m c 1 t
def b2 (c : Dev nD) (t : Fin cfg0.N) : Vec Ideal S1x2048x512 .bf16 := iblk m c 2 t
def b3 (c : Dev nD) (t : Fin cfg0.N) : Vec Ideal S1x2048x512 .bf16 := iblk m c 3 t
def b4 (c : Dev nD) (t : Fin cfg0.N) : Vec Ideal S1x1x128 .f32 := iblk m c 4 t

/-- A point's layer and batch. -/
abbrev ly (t : Fin cfg0.N) : Fin 4 := ⟨t.val / 2, by have := N_lt t; omega⟩
abbrev ba (t : Fin cfg0.N) : Fin 2 := ⟨t.val % 2, by omega⟩

theorem blk0 (c : Dev nD) (t : Fin cfg0.N) (r : Fin 256) (d : Fin 2048) :
    b0 m c t (ix3 0 r d) = (V m c main_arg0 : Vec Ideal S2x256x2048 .f32) (ix3 (ba t) r d) := by
  unfold b0 iblk
  refine (View.read_apply _ _).trans ?_
  show (V m c main_arg0 : Vec Ideal S2x256x2048 .f32) _ = (V m c main_arg0 : Vec Ideal S2x256x2048 .f32) _
  congr 1
  funext a
  apply Fin.ext
  have h0 := co0 t
  have h1 := co1 t
  have ht := N_lt t
  match a with
  | ⟨0, _⟩ =>
    show (BitVec.ofNat 32 (grid0.coords t 1).val).toNat * 1 + 1 * 0 = t.val % 2
    rw [h1, BitVec.toNat_ofNat]; omega
  | ⟨1, _⟩ => show 0 * 256 + 1 * r.val = r.val; omega
  | ⟨2, _⟩ => show 0 * 2048 + 1 * d.val = d.val; omega

theorem blk1 (c : Dev nD) (t : Fin cfg0.N) (d : Fin 2048) :
    b1 m c t (ix3 0 0 d) = (V m c main_v0 : Vec Ideal S4x1x2048 .f32) (ix3 (ly t) 0 d) := by
  unfold b1 iblk
  refine (View.read_apply _ _).trans ?_
  show (V m c main_v0 : Vec Ideal S4x1x2048 .f32) _ = (V m c main_v0 : Vec Ideal S4x1x2048 .f32) _
  congr 1
  funext a
  apply Fin.ext
  have h0 := co0 t
  have h1 := co1 t
  have ht := N_lt t
  match a with
  | ⟨0, _⟩ =>
    show (BitVec.ofNat 32 (grid0.coords t 0).val).toNat * 1 + 1 * 0 = t.val / 2
    rw [h0, BitVec.toNat_ofNat]; omega
  | ⟨1, _⟩ => rfl
  | ⟨2, _⟩ => show 0 * 2048 + 1 * d.val = d.val; omega

theorem blk2 (c : Dev nD) (t : Fin cfg0.N) (e : Fin 2048) (n : Fin 512) :
    b2 m c t (ix3 0 e n) = (V m c main_v1 : Vec Ideal S4x2048x512 .bf16) (ix3 (ly t) e n) := by
  unfold b2 iblk
  refine (View.read_apply _ _).trans ?_
  show (V m c main_v1 : Vec Ideal S4x2048x512 .bf16) _ = (V m c main_v1 : Vec Ideal S4x2048x512 .bf16) _
  congr 1
  funext a
  apply Fin.ext
  have h0 := co0 t
  have h1 := co1 t
  have ht := N_lt t
  match a with
  | ⟨0, _⟩ =>
    show (BitVec.ofNat 32 (grid0.coords t 0).val).toNat * 1 + 1 * 0 = t.val / 2
    rw [h0, BitVec.toNat_ofNat]; omega
  | ⟨1, _⟩ => show 0 * 2048 + 1 * e.val = e.val; omega
  | ⟨2, _⟩ => show 0 * 512 + 1 * n.val = n.val; omega

theorem blk3 (c : Dev nD) (t : Fin cfg0.N) (e : Fin 2048) (n : Fin 512) :
    b3 m c t (ix3 0 e n) = (V m c main_v2 : Vec Ideal S4x2048x512 .bf16) (ix3 (ly t) e n) := by
  unfold b3 iblk
  refine (View.read_apply _ _).trans ?_
  show (V m c main_v2 : Vec Ideal S4x2048x512 .bf16) _ = (V m c main_v2 : Vec Ideal S4x2048x512 .bf16) _
  congr 1
  funext a
  apply Fin.ext
  have h0 := co0 t
  have h1 := co1 t
  have ht := N_lt t
  match a with
  | ⟨0, _⟩ =>
    show (BitVec.ofNat 32 (grid0.coords t 0).val).toNat * 1 + 1 * 0 = t.val / 2
    rw [h0, BitVec.toNat_ofNat]; omega
  | ⟨1, _⟩ => show 0 * 2048 + 1 * e.val = e.val; omega
  | ⟨2, _⟩ => show 0 * 512 + 1 * n.val = n.val; omega

theorem blk4 (c : Dev nD) (t : Fin cfg0.N) (d : Fin 128) :
    b4 m c t (ix3 0 0 d) = (V m c main_v3 : Vec Ideal S4x1x128 .f32) (ix3 (ly t) 0 d) := by
  unfold b4 iblk
  refine (View.read_apply _ _).trans ?_
  show (V m c main_v3 : Vec Ideal S4x1x128 .f32) _ = (V m c main_v3 : Vec Ideal S4x1x128 .f32) _
  congr 1
  funext a
  apply Fin.ext
  have h0 := co0 t
  have h1 := co1 t
  have ht := N_lt t
  match a with
  | ⟨0, _⟩ =>
    show (BitVec.ofNat 32 (grid0.coords t 0).val).toNat * 1 + 1 * 0 = t.val / 2
    rw [h0, BitVec.toNat_ofNat]; omega
  | ⟨1, _⟩ => rfl
  | ⟨2, _⟩ => show 0 * 128 + 1 * d.val = d.val; omega

/-! The arguments as functions of coordinates. -/
def ax (c : Dev nD) (b : Fin 2) (s : Fin 256) (d : Fin 2048) : EReal := m ((c.tc : Thread nD τ).loc main_arg0) (ix3 b s d)
def ag (c : Dev nD) (l : Fin 4) (d : Fin 2048) : EReal := m ((c.tc : Thread nD τ).loc main_arg1) (ix2 l d)
def awk (c : Dev nD) (l : Fin 4) (e : Fin 2048) (n : Fin 512) : EReal := m ((c.tc : Thread nD τ).loc main_arg2) (ix3 l e n)
def awv (c : Dev nD) (l : Fin 4) (e : Fin 2048) (n : Fin 512) : EReal := m ((c.tc : Thread nD τ).loc main_arg3) (ix3 l e n)
def akg (c : Dev nD) (l : Fin 4) (d : Fin 128) : EReal := m ((c.tc : Thread nD τ).loc main_arg4) (ix2 l d)

theorem V_x (c : Dev nD) (b : Fin 2) (s : Fin 256) (d : Fin 2048) : (V m c main_arg0 : Vec Ideal S2x256x2048 .f32) (ix3 b s d) = ax m c b s d := congrFun (V_main_arg0 m c) _
theorem V_g (c : Dev nD) (l : Fin 4) (d : Fin 2048) : (V m c main_v0 : Vec Ideal S4x1x2048 .f32) (ix3 l 0 d) = ag m c l d := by
  unfold V
  after_reads_at
  try rfl
theorem V_wk (c : Dev nD) (l : Fin 4) (e : Fin 2048) (n : Fin 512) : (V m c main_v1 : Vec Ideal S4x2048x512 .bf16) (ix3 l e n) = awk m c l e n := by
  unfold V
  after_reads_at
  try rfl
theorem V_wv (c : Dev nD) (l : Fin 4) (e : Fin 2048) (n : Fin 512) : (V m c main_v2 : Vec Ideal S4x2048x512 .bf16) (ix3 l e n) = awv m c l e n := by
  unfold V
  after_reads_at
  try rfl
theorem V_kg (c : Dev nD) (l : Fin 4) (d : Fin 128) : (V m c main_v3 : Vec Ideal S4x1x128 .f32) (ix3 l 0 d) = akg m c l d := by
  unfold V
  after_reads_at
  try rfl

theorem bx (c : Dev nD) (t : Fin cfg0.N) (r : Fin 256) (d : Fin 2048) : b0 m c t (ix3 0 r d) = ax m c (ba t) r d := (blk0 m c t r d).trans (V_x m c _ _ _)
theorem bg (c : Dev nD) (t : Fin cfg0.N) (d : Fin 2048) : b1 m c t (ix3 0 0 d) = ag m c (ly t) d := (blk1 m c t d).trans (V_g m c _ _)
theorem bwk (c : Dev nD) (t : Fin cfg0.N) (e : Fin 2048) (n : Fin 512) : b2 m c t (ix3 0 e n) = awk m c (ly t) e n := (blk2 m c t e n).trans (V_wk m c _ _ _)
theorem bwv (c : Dev nD) (t : Fin cfg0.N) (e : Fin 2048) (n : Fin 512) : b3 m c t (ix3 0 e n) = awv m c (ly t) e n := (blk3 m c t e n).trans (V_wv m c _ _ _)
theorem bkg (c : Dev nD) (t : Fin cfg0.N) (d : Fin 128) : b4 m c t (ix3 0 0 d) = akg m c (ly t) d := (blk4 m c t d).trans (V_kg m c _ _)

/-! The two arrays. -/
def valAt (c : Dev nD) (w : Fin 4 → Fin 2048 → Fin 512 → EReal) (R : Fin 8) (s : Fin 256) (n : Fin 512) : EReal :=
  mw (ax m c ⟨R.val % 2, by omega⟩ s) (ag m c ⟨R.val / 2, by omega⟩) (w ⟨R.val / 2, by omega⟩) n
def keyAt (c : Dev nD) (R : Fin 8) (s : Fin 256) (n : Fin 512) : EReal :=
  mkey (valAt m c (awk m c) R s) (akg m c ⟨R.val / 2, by omega⟩) n
def resK (c : Dev nD) : Vec Ideal S8x256x512 .f32 := fun i => keyAt m c (i 0) (i 1) (i 2)
def resV (c : Dev nD) : Vec Ideal S8x256x512 .f32 := fun i => valAt m c (awv m c) (i 0) (i 1) (i 2)

theorem out5_at (c : Dev nD) (t : Fin cfg0.N) (r : Fin 256) (n : Fin 512) :
    out0_5 (b0 m c t) (b1 m c t) (b2 m c t) (b3 m c t) (b4 m c t) (ix3 0 r n) = keyAt m c ⟨t.val, N_lt t⟩ r n := by
  rw [out5]
  simp only [bx, bg, bwk, bkg]
  rfl

theorem out6_at (c : Dev nD) (t : Fin cfg0.N) (r : Fin 256) (n : Fin 512) :
    out0_6 (b0 m c t) (b1 m c t) (b2 m c t) (b3 m c t) (b4 m c t) (ix3 0 r n) = valAt m c (awv m c) ⟨t.val, N_lt t⟩ r n := by
  rw [out6]
  simp only [bx, bg, bwv]
  rfl

theorem eta3 (y : S1x256x512.Idx) : y = ix3 0 (y 1 : Fin 256) (y 2 : Fin 512) :=
  funext fun a => by match a with | ⟨0, _⟩ => exact Subsingleton.elim (α := Fin 1) _ _ | ⟨1, _⟩ => rfl | ⟨2, _⟩ => rfl

/-- Where a point's block lies. -/
theorem pos (t : Fin cfg0.N) : (Scalar.addi (Scalar.muli (BitVec.ofNat 32 (grid0.coords t 0).val) 2#32) (BitVec.ofNat 32 (grid0.coords t 1).val)).toNat = t.val := by
  rw [co0 t, co1 t]
  have ht := N_lt t
  generalize t.val = k at ht ⊢
  interval_cases k <;> rfl

theorem fl_k (c : Dev nD) (t : Fin cfg0.N) (hf : (cfg0.win 5).flush t = true) :
    (dats m 0 c).flushed 5 t = ((cfg0.win 5).blk t).view.read (Elt Ideal) (resK m c) := by
  rw [flushed5]
  funext y
  obtain ⟨y, rfl⟩ : ∃ z : S1x256x512.Idx, z = y := ⟨y, rfl⟩
  refine Eq.trans ?_ (View.read_apply _ _).symm
  show out0_5 (b0 m c t) (b1 m c t) (b2 m c t) (b3 m c t) (b4 m c t) ((cfg0.win 5).xinj (grid0.coords t) y) = resK m c _
  have e (r : Fin 256) (n : Fin 512) := out5_at m c t r n
  refine (congrArg _ (eta3 y)).trans ((e (y 1) (y 2)).trans ?_)
  unfold resK
  have hp := pos t
  have a0 : (⟨t.val, N_lt t⟩ : Fin 8) = (((cfg0.win 5).blk t).view.emb y 0 : Fin 8) := Fin.ext (by
    have hy : (y 0 : Nat) < 1 := (y 0).isLt
    show t.val = (Scalar.addi (Scalar.muli (BitVec.ofNat 32 (grid0.coords t 0).val) 2#32) (BitVec.ofNat 32 (grid0.coords t 1).val)).toNat * 1 + 1 * (y 0).val
    rw [hp]; omega)
  have a1 : (y 1 : Fin 256) = (((cfg0.win 5).blk t).view.emb y 1 : Fin 256) := Fin.ext (by
    show (y 1).val = 0 * 256 + 1 * (y 1).val; omega)
  have a2 : (y 2 : Fin 512) = (((cfg0.win 5).blk t).view.emb y 2 : Fin 512) := Fin.ext (by
    show (y 2).val = 0 * 512 + 1 * (y 2).val; omega)
  exact congr (congrArg₂ (keyAt m c) a0 a1) a2

theorem final_k (c : Dev nD) : (dats m 0 c).arrAt 5 cfg0.N = resK m c :=
  (dats m 0 c).arrAt_eq_of_cover 5 (resK m c) (fl_k m c) fun i => by
    obtain ⟨i, rfl⟩ : ∃ z : S8x256x512.Idx, z = i := ⟨i, rfl⟩
    have h0 : (i 0 : Nat) < 8 := (i 0).isLt
    have h1 : (i 1 : Nat) < 256 := (i 1).isLt
    have h2 : (i 2 : Nat) < 512 := (i 2).isLt
    have hlt : (i 0 : Nat) < cfg0.N := Nat.lt_of_lt_of_eq h0 N_0.symm
    refine ⟨⟨(i 0 : Nat), hlt⟩, flush0_5 _, ?_⟩
    have hp : _ = (i 0 : Nat) := pos ⟨(i 0 : Nat), hlt⟩
    generalize (⟨(i 0 : Nat), hlt⟩ : Fin cfg0.N) = t at hp
    refine (Pipeline.Window.emb_mem_blk_iff (cfg0.win 5) t i rfl).mpr ?_
    intro a
    match a with
    | ⟨0, _⟩ =>
      show (Scalar.addi (Scalar.muli (BitVec.ofNat 32 (grid0.coords t 0).val) 2#32) (BitVec.ofNat 32 (grid0.coords t 1).val)).toNat * 1 ≤ (i 0 : Nat) ∧ (i 0 : Nat) < (Scalar.addi (Scalar.muli (BitVec.ofNat 32 (grid0.coords t 0).val) 2#32) (BitVec.ofNat 32 (grid0.coords t 1).val)).toNat * 1 + 1
      rw [hp]; omega
    | ⟨1, _⟩ => show 0 * 256 ≤ (i 1 : Nat) ∧ (i 1 : Nat) < 0 * 256 + 256; omega
    | ⟨2, _⟩ => show 0 * 512 ≤ (i 2 : Nat) ∧ (i 2 : Nat) < 0 * 512 + 512; omega

theorem fl_v (c : Dev nD) (t : Fin cfg0.N) (hf : (cfg0.win 6).flush t = true) :
    (dats m 0 c).flushed 6 t = ((cfg0.win 6).blk t).view.read (Elt Ideal) (resV m c) := by
  rw [flushed6]
  funext y
  obtain ⟨y, rfl⟩ : ∃ z : S1x256x512.Idx, z = y := ⟨y, rfl⟩
  refine Eq.trans ?_ (View.read_apply _ _).symm
  show out0_6 (b0 m c t) (b1 m c t) (b2 m c t) (b3 m c t) (b4 m c t) ((cfg0.win 6).xinj (grid0.coords t) y) = resV m c _
  have e (r : Fin 256) (n : Fin 512) := out6_at m c t r n
  refine (congrArg _ (eta3 y)).trans ((e (y 1) (y 2)).trans ?_)
  unfold resV
  have hp := pos t
  have a0 : (⟨t.val, N_lt t⟩ : Fin 8) = (((cfg0.win 6).blk t).view.emb y 0 : Fin 8) := Fin.ext (by
    have hy : (y 0 : Nat) < 1 := (y 0).isLt
    show t.val = (Scalar.addi (Scalar.muli (BitVec.ofNat 32 (grid0.coords t 0).val) 2#32) (BitVec.ofNat 32 (grid0.coords t 1).val)).toNat * 1 + 1 * (y 0).val
    rw [hp]; omega)
  have a1 : (y 1 : Fin 256) = (((cfg0.win 6).blk t).view.emb y 1 : Fin 256) := Fin.ext (by
    show (y 1).val = 0 * 256 + 1 * (y 1).val; omega)
  have a2 : (y 2 : Fin 512) = (((cfg0.win 6).blk t).view.emb y 2 : Fin 512) := Fin.ext (by
    show (y 2).val = 0 * 512 + 1 * (y 2).val; omega)
  exact congr (congrArg₂ (valAt m c (awv m c)) a0 a1) a2

theorem final_v (c : Dev nD) : (dats m 0 c).arrAt 6 cfg0.N = resV m c :=
  (dats m 0 c).arrAt_eq_of_cover 6 (resV m c) (fl_v m c) fun i => by
    obtain ⟨i, rfl⟩ : ∃ z : S8x256x512.Idx, z = i := ⟨i, rfl⟩
    have h0 : (i 0 : Nat) < 8 := (i 0).isLt
    have h1 : (i 1 : Nat) < 256 := (i 1).isLt
    have h2 : (i 2 : Nat) < 512 := (i 2).isLt
    have hlt : (i 0 : Nat) < cfg0.N := Nat.lt_of_lt_of_eq h0 N_0.symm
    refine ⟨⟨(i 0 : Nat), hlt⟩, flush0_6 _, ?_⟩
    have hp : _ = (i 0 : Nat) := pos ⟨(i 0 : Nat), hlt⟩
    generalize (⟨(i 0 : Nat), hlt⟩ : Fin cfg0.N) = t at hp
    refine (Pipeline.Window.emb_mem_blk_iff (cfg0.win 6) t i rfl).mpr ?_
    intro a
    match a with
    | ⟨0, _⟩ =>
      show (Scalar.addi (Scalar.muli (BitVec.ofNat 32 (grid0.coords t 0).val) 2#32) (BitVec.ofNat 32 (grid0.coords t 1).val)).toNat * 1 ≤ (i 0 : Nat) ∧ (i 0 : Nat) < (Scalar.addi (Scalar.muli (BitVec.ofNat 32 (grid0.coords t 0).val) 2#32) (BitVec.ofNat 32 (grid0.coords t 1).val)).toNat * 1 + 1
      rw [hp]; omega
    | ⟨1, _⟩ => show 0 * 256 ≤ (i 1 : Nat) ∧ (i 1 : Nat) < 0 * 256 + 256; omega
    | ⟨2, _⟩ => show 0 * 512 ≤ (i 2 : Nat) ∧ (i 2 : Nat) < 0 * 512 + 512; omega

/-- The call's run, read. -/
theorem run_value : θ_run defs (onTc (τ := τ) (main (F := Ideal))) ⟨m, fun _ => 0, ρ⟩ (fun r => ∀ c : Dev nD,
      r.2.mem ((c.tc : Thread nD τ).loc main_v4_0) = resK m c
      ∧ r.2.mem ((c.tc : Thread nD τ).loc main_v4_1) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (final_k m c), (h c).2.1.trans (final_v m c), (h c).2.2⟩) (run_blocks m ρ)
end

end Cert.MemKvIdeal.Hand

end
-- ==== Proof.MemRefOps.lean ====
/- The reference of the call `mem_kv`, in stretches of its operations: its run, and which buffers each stretch leaves. -/
module

public import proofs.«01_k».proof.Proof.Gen.MemKvRefIdeal
public import Idealize.ShloMosaic.Lib.StableHlo.Run
public import Idealize.ShloMosaic.Lib.Pipeline.Frame

@[expose] public section

noncomputable section

namespace Cert.MemKvRefIdeal.Stretch

open Cert.MemKvRefIdeal Cert.MemKvRefIdeal.Gen Idealize.ShloMosaic Idealize.ShloMosaic.TcCoe Idealize.SL.Sem Idealize.ShloMosaic.StableHlo

variable {F : FTy → Type} [FloatOps F]

/-- The contents of a buffer of a shape and an element type. -/
abbrev Ct (F : FTy → Type) (s : Shape) (e : EltTy) := (⟨s, e⟩ : BufTy).Contents (Elt F)

/-- Operations for the normed rows of every layer. -/
abbrev opsA : List (HloOp τ sig (Elt F)) :=
  [ binary main_arg0 main_arg0 main_v0 (mulf : Ct F S2x256x2048 .f32 → Ct F S2x256x2048 .f32 → Ct F S2x256x2048 .f32),
    nullary main_cst (constant S_ .f32 0x00000000#32),
    binary main_v0 main_cst main_v1 ((fun x v => Host.reduceAdd x v reducesTo_S2x256x2048_S2x256_d2 h_S_) : Ct F S2x256x2048 .f32 → Ct F S_ .f32 → Ct F S2x256 .f32),
    unary main_v1 main_v2 (broadcastInDim S2x256x1 ![0, 1] bcast_S2x256_S2x256x1_0_1 : Ct F S2x256 .f32 → Ct F S2x256x1 .f32),
    nullary main_cst_0 (constant S_ .f32 0x45000000#32),
    unary main_cst_0 main_v3 (broadcastInDim S2x256x1 ![] bcast_S_S2x256x1 : Ct F S_ .f32 → Ct F S2x256x1 .f32),
    binary main_v2 main_v3 main_v4 (Host.divf : Ct F S2x256x1 .f32 → Ct F S2x256x1 .f32 → Ct F S2x256x1 .f32),
    nullary main_cst_1 (constant S_ .f32 0x358637BD#32),
    unary main_cst_1 main_v5 (broadcastInDim S2x256x1 ![] bcast_S_S2x256x1 : Ct F S_ .f32 → Ct F S2x256x1 .f32),
    binary main_v4 main_v5 main_v6 (addf : Ct F S2x256x1 .f32 → Ct F S2x256x1 .f32 → Ct F S2x256x1 .f32),
    unary main_v6 main_v7 (Host.rsqrt : Ct F S2x256x1 .f32 → Ct F S2x256x1 .f32),
    unary main_v7 main_v8 (broadcastInDim S2x256x2048 ![0, 1, 2] bcast_S2x256x1_S2x256x2048_0_1_2 : Ct F S2x256x1 .f32 → Ct F S2x256x2048 .f32),
    binary main_arg0 main_v8 main_v9 (mulf : Ct F S2x256x2048 .f32 → Ct F S2x256x2048 .f32 → Ct F S2x256x2048 .f32),
    unary main_arg1 main_v10 (broadcastInDim S4x1x1x2048 ![0, 3] bcast_S4x2048_S4x1x1x2048_0_3 : Ct F S4x2048 .f32 → Ct F S4x1x1x2048 .f32),
    unary main_v9 main_v11 (broadcastInDim S1x2x256x2048 ![1, 2, 3] bcast_S2x256x2048_S1x2x256x2048_1_2_3 : Ct F S2x256x2048 .f32 → Ct F S1x2x256x2048 .f32),
    unary main_v11 main_v12 (broadcastInDim S4x2x256x2048 ![0, 1, 2, 3] bcast_S1x2x256x2048_S4x2x256x2048_0_1_2_3 : Ct F S1x2x256x2048 .f32 → Ct F S4x2x256x2048 .f32),
    unary main_v10 main_v13 (broadcastInDim S4x2x256x2048 ![0, 1, 2, 3] bcast_S4x1x1x2048_S4x2x256x2048_0_1_2_3 : Ct F S4x1x1x2048 .f32 → Ct F S4x2x256x2048 .f32),
    binary main_v12 main_v13 main_v14 (mulf : Ct F S4x2x256x2048 .f32 → Ct F S4x2x256x2048 .f32 → Ct F S4x2x256x2048 .f32) ]

/-- What they write, in order. -/
abbrev wA : List (Ref sig .tc) := [main_v0, main_cst, main_v1, main_v2, main_cst_0, main_v3, main_v4, main_cst_1, main_v5, main_v6, main_v7, main_v8, main_v9, main_v10, main_v11, main_v12, main_v13, main_v14]

/-- Operations for the product of the keys. -/
abbrev opsB : List (HloOp τ sig (Elt F)) :=
  [ binary main_v14 main_arg2 main_v15 ((fun l r => Host.dotGeneral dot_S4x2x256x2048_S4x2048x512_S4x2x256x512_3_1_12_2_0_0 none l r) : Ct F S4x2x256x2048 .f32 → Ct F S4x2048x512 .f32 → Ct F S4x2x256x512 .f32) ]

/-- What they write, in order. -/
abbrev wB : List (Ref sig .tc) := [main_v15]

/-- Operations for the normed keys. -/
abbrev opsC : List (HloOp τ sig (Elt F)) :=
  [ reshape main_v15 main_v16 (rfl : (.f32 : EltTy) = .f32) shapeCasts_S4x2x256x512_S4x2x256x4x128,
    binary main_v16 main_v16 main_v17 (mulf : Ct F S4x2x256x4x128 .f32 → Ct F S4x2x256x4x128 .f32 → Ct F S4x2x256x4x128 .f32),
    nullary main_cst_2 (constant S_ .f32 0x00000000#32),
    binary main_v17 main_cst_2 main_v18 ((fun x v => Host.reduceAdd x v reducesTo_S4x2x256x4x128_S4x2x256x4_d4 h_S_) : Ct F S4x2x256x4x128 .f32 → Ct F S_ .f32 → Ct F S4x2x256x4 .f32),
    unary main_v18 main_v19 (broadcastInDim S4x2x256x4x1 ![0, 1, 2, 3] bcast_S4x2x256x4_S4x2x256x4x1_0_1_2_3 : Ct F S4x2x256x4 .f32 → Ct F S4x2x256x4x1 .f32),
    nullary main_cst_3 (constant S_ .f32 0x43000000#32),
    unary main_cst_3 main_v20 (broadcastInDim S4x2x256x4x1 ![] bcast_S_S4x2x256x4x1 : Ct F S_ .f32 → Ct F S4x2x256x4x1 .f32),
    binary main_v19 main_v20 main_v21 (Host.divf : Ct F S4x2x256x4x1 .f32 → Ct F S4x2x256x4x1 .f32 → Ct F S4x2x256x4x1 .f32),
    nullary main_cst_4 (constant S_ .f32 0x358637BD#32),
    unary main_cst_4 main_v22 (broadcastInDim S4x2x256x4x1 ![] bcast_S_S4x2x256x4x1 : Ct F S_ .f32 → Ct F S4x2x256x4x1 .f32),
    binary main_v21 main_v22 main_v23 (addf : Ct F S4x2x256x4x1 .f32 → Ct F S4x2x256x4x1 .f32 → Ct F S4x2x256x4x1 .f32),
    unary main_v23 main_v24 (Host.rsqrt : Ct F S4x2x256x4x1 .f32 → Ct F S4x2x256x4x1 .f32),
    unary main_v24 main_v25 (broadcastInDim S4x2x256x4x128 ![0, 1, 2, 3, 4] bcast_S4x2x256x4x1_S4x2x256x4x128_0_1_2_3_4 : Ct F S4x2x256x4x1 .f32 → Ct F S4x2x256x4x128 .f32),
    binary main_v16 main_v25 main_v26 (mulf : Ct F S4x2x256x4x128 .f32 → Ct F S4x2x256x4x128 .f32 → Ct F S4x2x256x4x128 .f32),
    unary main_arg4 main_v27 (broadcastInDim S4x1x1x1x128 ![0, 4] bcast_S4x128_S4x1x1x1x128_0_4 : Ct F S4x128 .f32 → Ct F S4x1x1x1x128 .f32),
    unary main_v27 main_v28 (broadcastInDim S4x2x256x4x128 ![0, 1, 2, 3, 4] bcast_S4x1x1x1x128_S4x2x256x4x128_0_1_2_3_4 : Ct F S4x1x1x1x128 .f32 → Ct F S4x2x256x4x128 .f32),
    binary main_v26 main_v28 main_v29 (mulf : Ct F S4x2x256x4x128 .f32 → Ct F S4x2x256x4x128 .f32 → Ct F S4x2x256x4x128 .f32) ]

/-- What they write, in order. -/
abbrev wC : List (Ref sig .tc) := [main_v16, main_v17, main_cst_2, main_v18, main_v19, main_cst_3, main_v20, main_v21, main_cst_4, main_v22, main_v23, main_v24, main_v25, main_v26, main_v27, main_v28, main_v29]

/-- Operations for the product of the values. -/
abbrev opsD : List (HloOp τ sig (Elt F)) :=
  [ binary main_v14 main_arg3 main_v30 ((fun l r => Host.dotGeneral dot_S4x2x256x2048_S4x2048x512_S4x2x256x512_3_1_12_2_0_0 none l r) : Ct F S4x2x256x2048 .f32 → Ct F S4x2048x512 .f32 → Ct F S4x2x256x512 .f32) ]

/-- What they write, in order. -/
abbrev wD : List (Ref sig .tc) := [main_v30]

/-- Operations for the two results. -/
abbrev opsE : List (HloOp τ sig (Elt F)) :=
  [ reshape main_v30 main_v31 (rfl : (.f32 : EltTy) = .f32) shapeCasts_S4x2x256x512_S4x2x256x4x128,
    reshape main_v29 main_v32 (rfl : (.f32 : EltTy) = .f32) shapeCasts_S4x2x256x4x128_S8x256x512,
    reshape main_v31 main_v33 (rfl : (.f32 : EltTy) = .f32) shapeCasts_S4x2x256x4x128_S8x256x512 ]

/-- What they write, in order. -/
abbrev wE : List (Ref sig .tc) := [main_v31, main_v32, main_v33]

/-- All of them. -/
abbrev ops : List (HloOp τ sig (Elt F)) := (opsA (F := F)) ++ ((opsB (F := F)) ++ ((opsC (F := F)) ++ ((opsD (F := F)) ++ ((opsE (F := F))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., unary_bufs_sub .., unary_bufs_sub .., binary_bufs_sub .., binary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., reshape_bufs_sub .., reshape_bufs_sub .., reshape_bufs_sub ..⟩

set_option maxRecDepth 8192 in
/-- The run. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ

set_option maxRecDepth 8192 in
/-- A buffer the operations do not write is unchanged. -/
theorem unwritten (V : Valuation τ sig (Elt F)) (r : Ref sig .tc) (hr : r ∉ wA ++ (wB ++ (wC ++ (wD ++ (wE))))) :
    after ops V (Proc.devRef .tc r) = V (Proc.devRef .tc r) :=
  after_of_writes_sub ops V (forall_writes_sub_of_map rfl) hr

end Cert.MemKvRefIdeal.Stretch

end
-- ==== Proof.MemRefVal.lean ====
/- What the reference of the call `mem_kv` leaves, stretch by stretch. -/
module

public import proofs.«01_k».proof.Proof.MemRefOps
public import proofs.«01_k».proof.Proof.MemVal
public import Idealize.ShloMosaic.Lib.StableHlo.ReadAt
public import Idealize.ShloMosaic.Lib.Pointwise

@[expose] public section

set_option maxRecDepth 16384

noncomputable section

namespace Cert.MemKvRefIdeal.Stretch

open Cert.MemKvRefIdeal Cert.MemKvRefIdeal.Gen Idealize.ShloMosaic Idealize.ShloMosaic.TcCoe Idealize.SL.Sem Idealize.ShloMosaic.StableHlo Cert.MemVal

variable (V : Valuation τ sig (Elt Ideal))

theorem A_v14 (x : Fin 2 → Fin 256 → Fin 2048 → EReal) (g : Fin 4 → Fin 2048 → EReal)
    (hx : ∀ b s d, x b s d = V (Proc.devRef .tc main_arg0) (ix3 b s d)) (hg : ∀ l d, g l d = V (Proc.devRef .tc main_arg1) (ix2 l d))
    (l : Fin 4) (b : Fin 2) (s : Fin 256) (d : Fin 2048) :
    mn (x b s) (g l) d = after opsA V (Proc.devRef .tc main_v14) (ix4 l b s d) := by
  symm
  after_reads_at
  simp only [← hx, ← hg]
  rfl

theorem B_v15 (x : Fin 4 → Fin 2 → Fin 256 → Fin 2048 → EReal) (w : Fin 4 → Fin 2048 → Fin 512 → EReal)
    (hx : ∀ l b s d, x l b s d = V (Proc.devRef .tc main_v14) (ix4 l b s d)) (hw : ∀ l e n, w l e n = V (Proc.devRef .tc main_arg2) (ix3 l e n))
    (l : Fin 4) (b : Fin 2) (s : Fin 256) (n : Fin 512) :
    (∑ e : Fin 2048, x l b s e * w l e n) = after opsB V (Proc.devRef .tc main_v15) (ix4 l b s n) := by
  symm
  after_reads_at
  simp only [← hx, ← hw]

theorem C_v29 (y : Fin 4 → Fin 2 → Fin 256 → Fin 512 → EReal) (kg : Fin 4 → Fin 128 → EReal)
    (hy : ∀ l b s n, y l b s n = V (Proc.devRef .tc main_v15) (ix4 l b s n)) (hk : ∀ l d, kg l d = V (Proc.devRef .tc main_arg4) (ix2 l d))
    (l : Fin 4) (b : Fin 2) (s : Fin 256) (h : Fin 4) (d : Fin 128) :
    (y l b s ⟨128 * h.val + d.val, by omega⟩ * hscale (fun k => y l b s ⟨128 * h.val + k.val, by omega⟩) * kg l d) = after opsC V (Proc.devRef .tc main_v29) (ix5 l b s h d) := by
  symm
  after_reads_at
  simp only [hy, hk, hscale, Nat.mul_comm 128]

theorem D_v30 (x : Fin 4 → Fin 2 → Fin 256 → Fin 2048 → EReal) (w : Fin 4 → Fin 2048 → Fin 512 → EReal)
    (hx : ∀ l b s d, x l b s d = V (Proc.devRef .tc main_v14) (ix4 l b s d)) (hw : ∀ l e n, w l e n = V (Proc.devRef .tc main_arg3) (ix3 l e n))
    (l : Fin 4) (b : Fin 2) (s : Fin 256) (n : Fin 512) :
    (∑ e : Fin 2048, x l b s e * w l e n) = after opsD V (Proc.devRef .tc main_v30) (ix4 l b s n) := by
  symm
  after_reads_at
  simp only [← hx, ← hw]

theorem E_v32 (R : Fin 8) (s : Fin 256) (n : Fin 512) :
    after opsE V (Proc.devRef .tc main_v32) (ix3 R s n)
      = V (Proc.devRef .tc main_v29) (ix5 (⟨R.val / 2, by omega⟩ : Fin 4) (⟨R.val % 2, by omega⟩ : Fin 2) s (⟨n.val / 128, by omega⟩ : Fin 4) (⟨n.val % 128, by omega⟩ : Fin 128)) := by
  after_reads_at
  try rfl

theorem E_v33 (R : Fin 8) (s : Fin 256) (n : Fin 512) :
    after opsE V (Proc.devRef .tc main_v33) (ix3 R s n)
      = V (Proc.devRef .tc main_v30) (ix4 (⟨R.val / 2, by omega⟩ : Fin 4) (⟨R.val % 2, by omega⟩ : Fin 2) s n) := by
  have hn (h : n.val / 128 * 128 + n.val % 128 < 512) : (⟨n.val / 128 * 128 + n.val % 128, h⟩ : Fin 512) = n := Fin.ext (show n.val / 128 * 128 + n.val % 128 = n.val by omega)
  after_reads_at
  rw [hn]

theorem after_app (p q : List (HloOp τ sig (Elt Ideal))) (V : Valuation τ sig (Elt Ideal)) : after (p ++ q) V = after q (after p V) := by
  induction p generalizing V with
  | nil => rfl
  | cons op p ih => exact ih _

section
variable (r : Ref sig .tc)
theorem keepA (hr : r ∉ wA) : after opsA V (Proc.devRef .tc r) = V (Proc.devRef .tc r) := after_of_writes_sub _ V (forall_writes_sub_of_map rfl) hr
theorem keepB (hr : r ∉ wB) : after opsB V (Proc.devRef .tc r) = V (Proc.devRef .tc r) := after_of_writes_sub _ V (forall_writes_sub_of_map rfl) hr
theorem keepC (hr : r ∉ wC) : after opsC V (Proc.devRef .tc r) = V (Proc.devRef .tc r) := after_of_writes_sub _ V (forall_writes_sub_of_map rfl) hr
theorem keepD (hr : r ∉ wD) : after opsD V (Proc.devRef .tc r) = V (Proc.devRef .tc r) := after_of_writes_sub _ V (forall_writes_sub_of_map rfl) hr
end

theorem ops_after : after (ops (F := Ideal)) V = after opsE (after opsD (after opsC (after opsB (after opsA V)))) := by
  unfold ops
  simp only [after_app]

section
variable (x : Fin 2 → Fin 256 → Fin 2048 → EReal) (g : Fin 4 → Fin 2048 → EReal)
  (wk : Fin 4 → Fin 2048 → Fin 512 → EReal) (wv : Fin 4 → Fin 2048 → Fin 512 → EReal) (kg : Fin 4 → Fin 128 → EReal)
  (hx : ∀ b s d, x b s d = V (Proc.devRef .tc main_arg0) (ix3 b s d)) (hg : ∀ l d, g l d = V (Proc.devRef .tc main_arg1) (ix2 l d))
  (hwk : ∀ l e n, wk l e n = V (Proc.devRef .tc main_arg2) (ix3 l e n)) (hwv : ∀ l e n, wv l e n = V (Proc.devRef .tc main_arg3) (ix3 l e n))
  (hkg : ∀ l d, kg l d = V (Proc.devRef .tc main_arg4) (ix2 l d))
include hx hg

include hwk in
theorem ref_y (l : Fin 4) (b : Fin 2) (s : Fin 256) (n : Fin 512) :
    mw (x b s) (g l) (wk l) n = after opsB (after opsA V) (Proc.devRef .tc main_v15) (ix4 l b s n) :=
  B_v15 (after opsA V) (fun l b s d => mn (x b s) (g l) d) wk (A_v14 V x g hx hg)
    (fun l e n => (hwk l e n).trans (congrFun (keepA V main_arg2 (by decide)).symm _)) l b s n

include hwv in
theorem ref_v (R : Fin 8) (s : Fin 256) (n : Fin 512) :
    mw (x ⟨R.val % 2, by omega⟩ s) (g ⟨R.val / 2, by omega⟩) (wv ⟨R.val / 2, by omega⟩) n = after (ops (F := Ideal)) V (Proc.devRef .tc main_v33) (ix3 R s n) := by
  rw [ops_after, E_v33]
  refine D_v30 (after opsC (after opsB (after opsA V))) (fun l b s d => mn (x b s) (g l) d) wv ?_ ?_ _ _ s n
  · intro l b s d
    rw [keepC _ main_v14 (by decide), keepB _ main_v14 (by decide)]
    exact A_v14 V x g hx hg l b s d
  · intro l e n
    rw [keepC _ main_arg3 (by decide), keepB _ main_arg3 (by decide), keepA _ main_arg3 (by decide)]
    exact hwv l e n

include hwk hkg in
theorem ref_k (R : Fin 8) (s : Fin 256) (n : Fin 512) :
    mkey (mw (x ⟨R.val % 2, by omega⟩ s) (g ⟨R.val / 2, by omega⟩) (wk ⟨R.val / 2, by omega⟩)) (kg ⟨R.val / 2, by omega⟩) n
      = after (ops (F := Ideal)) V (Proc.devRef .tc main_v32) (ix3 R s n) := by
  rw [ops_after, E_v32, keepD _ main_v29 (by decide)]
  have hn : n = ⟨128 * (n.val / 128) + n.val % 128, by omega⟩ := Fin.ext (show n.val = 128 * (n.val / 128) + n.val % 128 by omega)
  refine Eq.trans ?_ (C_v29 (after opsB (after opsA V)) (fun l b s => mw (x b s) (g l) (wk l)) kg (ref_y V x g wk hx hg hwk) ?_
    (⟨R.val / 2, by omega⟩ : Fin 4) (⟨R.val % 2, by omega⟩ : Fin 2) s (⟨n.val / 128, by omega⟩ : Fin 4) (⟨n.val % 128, by omega⟩ : Fin 128))
  · unfold mkey
    exact congrArg (fun z => mw (x ⟨R.val % 2, by omega⟩ s) (g ⟨R.val / 2, by omega⟩) (wk ⟨R.val / 2, by omega⟩) z * _ * _) hn
  · intro l d
    rw [keepB _ main_arg4 (by decide), keepA _ main_arg4 (by decide)]
    exact hkg l d
end

end Cert.MemKvRefIdeal.Stretch

end
-- ==== Proof.MemEq.lean ====
/- The call `mem_kv` leaves what its reference leaves. -/
module

public import proofs.«01_k».proof.Defs
public import proofs.«01_k».proof.Proof.Gen.MemKv.Frame
public import proofs.«01_k».proof.Proof.MemArr
public import proofs.«01_k».proof.Proof.MemRefVal

@[expose] public section

set_option maxRecDepth 16384

noncomputable section

namespace Cert.MemKvIdeal.Hand

open Cert.MemKvIdeal Cert.MemKvIdeal.Gen Idealize.ShloMosaic Idealize.ShloMosaic.TcCoe Idealize.SL.Sem Idealize.ShloMosaic.StableHlo Cert.MemVal Cert.MemKvRefIdeal.Stretch

theorem etaR (x : S8x256x512.Idx) : x = ix3 (x 0 : Fin 8) (x 1 : Fin 256) (x 2 : Fin 512) :=
  funext fun a => by match a with | ⟨0, _⟩ => rfl | ⟨1, _⟩ => rfl | ⟨2, _⟩ => rfl

section
variable (m : (ℓ : Loc nD τ sig) → Buf (Elt Ideal) ℓ) (m' : (ℓ : Loc Cert.MemKvRefIdeal.nD Cert.MemKvRefIdeal.τ Cert.MemKvRefIdeal.sig) → Buf (Elt Ideal) ℓ) (c : Dev nD)
    (h0 : m' ((c.tc : Thread Cert.MemKvRefIdeal.nD Cert.MemKvRefIdeal.τ).loc Cert.MemKvRefIdeal.main_arg0) = m ((c.tc : Thread nD τ).loc main_arg0))
    (h1 : m' ((c.tc : Thread Cert.MemKvRefIdeal.nD Cert.MemKvRefIdeal.τ).loc Cert.MemKvRefIdeal.main_arg1) = m ((c.tc : Thread nD τ).loc main_arg1))
    (h2 : m' ((c.tc : Thread Cert.MemKvRefIdeal.nD Cert.MemKvRefIdeal.τ).loc Cert.MemKvRefIdeal.main_arg2) = m ((c.tc : Thread nD τ).loc main_arg2))
    (h3 : m' ((c.tc : Thread Cert.MemKvRefIdeal.nD Cert.MemKvRefIdeal.τ).loc Cert.MemKvRefIdeal.main_arg3) = m ((c.tc : Thread nD τ).loc main_arg3))
    (h4 : m' ((c.tc : Thread Cert.MemKvRefIdeal.nD Cert.MemKvRefIdeal.τ).loc Cert.MemKvRefIdeal.main_arg4) = m ((c.tc : Thread nD τ).loc main_arg4))
include h0 h1

include h2 h4 in
/-- The keys are one. -/
theorem ref_keys : after (ops (F := Ideal)) (launchContents m' c) (Proc.devRef .tc Cert.MemKvRefIdeal.main_v32) = resK m c := by
  funext i
  obtain ⟨i, rfl⟩ : ∃ z : S8x256x512.Idx, z = i := ⟨i, rfl⟩
  have e (r : Fin 8) (s : Fin 256) (n : Fin 512) :
      after (ops (F := Ideal)) (launchContents m' c) (Proc.devRef .tc Cert.MemKvRefIdeal.main_v32) (ix3 r s n) = keyAt m c r s n :=
    (ref_k (launchContents m' c) (ax m c) (ag m c) (awk m c) (akg m c) (fun b s d => (congrFun h0 (ix3 b s d)).symm)
      (fun l d => (congrFun h1 (ix2 l d)).symm) (fun l e n => (congrFun h2 (ix3 l e n)).symm) (fun l d => (congrFun h4 (ix2 l d)).symm) r s n).symm
  exact (congrArg _ (etaR i)).trans (e (i 0) (i 1) (i 2))

include h3 in
/-- The values are one. -/
theorem ref_values : after (ops (F := Ideal)) (launchContents m' c) (Proc.devRef .tc Cert.MemKvRefIdeal.main_v33) = resV m c := by
  funext i
  obtain ⟨i, rfl⟩ : ∃ z : S8x256x512.Idx, z = i := ⟨i, rfl⟩
  have e (r : Fin 8) (s : Fin 256) (n : Fin 512) :
      after (ops (F := Ideal)) (launchContents m' c) (Proc.devRef .tc Cert.MemKvRefIdeal.main_v33) (ix3 r s n) = valAt m c (awv m c) r s n :=
    (ref_v (launchContents m' c) (ax m c) (ag m c) (awv m c) (fun b s d => (congrFun h0 (ix3 b s d)).symm)
      (fun l d => (congrFun h1 (ix2 l d)).symm) (fun l e n => (congrFun h3 (ix3 l e n)).symm) r s n).symm
  exact (congrArg _ (etaR i)).trans (e (i 0) (i 1) (i 2))
end

end Cert.MemKvIdeal.Hand

namespace Cert.Proof

open Idealize.ShloMosaic Idealize.ShloMosaic.TcCoe Idealize.SL.Sem

/-- The reference's arguments end unchanged. -/
theorem mem_unchanged {F : FTy → Type} [FloatOps F]
    (m : (ℓ : Loc Cert.MemKvRefIdeal.nD Cert.MemKvRefIdeal.τ Cert.MemKvRefIdeal.sig) → Buf (Elt F) ℓ) (c : Dev Cert.MemKvRefIdeal.nD) (r : Ref Cert.MemKvRefIdeal.sig .tc)
    (hr : r ∉ Cert.MemKvRefIdeal.Stretch.wA ++ (Cert.MemKvRefIdeal.Stretch.wB ++ (Cert.MemKvRefIdeal.Stretch.wC ++ (Cert.MemKvRefIdeal.Stretch.wD ++ Cert.MemKvRefIdeal.Stretch.wE)))) :
    StableHlo.after Cert.MemKvRefIdeal.Stretch.ops (StableHlo.launchContents m c) (Proc.devRef .tc r)
      = m ((c.tc : Thread Cert.MemKvRefIdeal.nD Cert.MemKvRefIdeal.τ).loc r) :=
  Cert.MemKvRefIdeal.Stretch.unwritten _ r hr

set_option maxRecDepth 8192 in
/-- The reference's frame. -/
theorem frame_MemKvRefIdeal : Cert.quiescent_MemKvRefIdeal := fun m ρ _ =>
  (θ_run Cert.MemKvRefIdeal.defs _ _).mono (fun r h => And.intro (fun c =>
    ⟨(h c _).trans (mem_unchanged m c Cert.MemKvRefIdeal.main_arg0 (by decide)),
     (h c _).trans (mem_unchanged m c Cert.MemKvRefIdeal.main_arg1 (by decide)),
     (h c _).trans (mem_unchanged m c Cert.MemKvRefIdeal.main_arg2 (by decide)),
     (h c _).trans (mem_unchanged m c Cert.MemKvRefIdeal.main_arg3 (by decide)),
     (h c _).trans (mem_unchanged m c Cert.MemKvRefIdeal.main_arg4 (by decide))⟩)
    (sem_eq_zero_of_no_sems (by decide) r.2)) (Cert.MemKvRefIdeal.Stretch.run m ρ)

theorem frame_MemKv : Cert.quiescent_MemKv := fun m ρ _ => Cert.MemKv.Gen.frame m ρ
theorem frame_MemKvIdeal : Cert.quiescent_MemKvIdeal := fun m ρ _ => Cert.MemKvIdeal.Gen.frame m ρ

/-- The value of the call `mem_kv`. -/
theorem value_MemKv : Cert.algebraic_MemKvIdeal_MemKvRefIdeal := fun m g m' g' _ hm => by
  refine ⟨Cert.MemKvIdeal.Hand.resK m, Cert.MemKvIdeal.Hand.resV m, Cert.MemKvIdeal.Hand.run_value m g, ?_⟩
  refine (θ_run Cert.MemKvRefIdeal.defs _ _).mono (fun r hr c => ?_) (Cert.MemKvRefIdeal.Stretch.run m' g')
  obtain ⟨h0, h1, h2, h3, h4⟩ := hm c
  exact ⟨(hr c _).trans (Cert.MemKvIdeal.Hand.ref_keys m m' c h0 h1 h2 h4),
     (hr c _).trans (Cert.MemKvIdeal.Hand.ref_values m m' c h0 h1 h3),
     (hr c _).trans (mem_unchanged m' c Cert.MemKvRefIdeal.main_arg0 (by decide)),
     (hr c _).trans (mem_unchanged m' c Cert.MemKvRefIdeal.main_arg1 (by decide)),
     (hr c _).trans (mem_unchanged m' c Cert.MemKvRefIdeal.main_arg2 (by decide)),
     (hr c _).trans (mem_unchanged m' c Cert.MemKvRefIdeal.main_arg3 (by decide)),
     (hr c _).trans (mem_unchanged m' c Cert.MemKvRefIdeal.main_arg4 (by decide))⟩

end Cert.Proof

end
-- ==== Proof.PostOk.lean ====
/- The layer index of the call `post_mix`: the precondition keeps it below the depth, so every window that reads it is inside its array, and its transfers move whole words. -/
module

public import proofs.«01_k».proof.Defs
public import proofs.«01_k».proof.Proof.Gen.PostIdeal.Frame.Runs
public import proofs.«01_k».proof.Proof.Gen.Pre_pre_post
public import Mathlib.Tactic.IntervalCases

@[expose] public section

set_option maxRecDepth 16384

noncomputable section

namespace Cert.PostIdeal.Hand

open Cert.PostIdeal Cert.PostIdeal.Gen Idealize.ShloMosaic Idealize.ShloMosaic.TcCoe Idealize.SL.Sem

variable {F : FTy → Type} [FloatOps F]

/-- Two one-bit words are both one exactly when their conjunction is. -/
theorem andi_one (a b : BitVec 1) : IntOp.andi a b = 1#1 ↔ a = 1#1 ∧ b = 1#1 := by revert a b; decide

/-- A truth value read as one bit is one exactly when it is true. -/
theorem ofBool_one (p : Bool) : (BitVec.ofBool p = 1#1) ↔ p = true := by cases p <;> decide

/-- The precondition bounds the layer index by the depth. -/
theorem lidx_lt (a0 : FVec F Cert.Pre_pre_post.S2x8192x2048 .f32) (a1 : FVec F Cert.Pre_pre_post.S2x8192x2048 .f32) (a2 : IVec Cert.Pre_pre_post.S1 32) (a3 : FVec F Cert.Pre_pre_post.S4x2048x2048 .f32) (a4 : FVec F Cert.Pre_pre_post.S4x2048 .f32) (a5 : FVec F Cert.Pre_pre_post.S4x2048x512 .f32) (a6 : FVec F Cert.Pre_pre_post.S4x128 .f32) (a7 : FVec F Cert.Pre_pre_post.S4x2x256x4x128 .f32) (a8 : FVec F Cert.Pre_pre_post.S4x2x256x4x128 .f32) (a9 : FVec F Cert.Pre_pre_post.S4x512x2048 .f32)
    (h : Cert.Pre_pre_post.fn (F := F) a0 a1 a2 a3 a4 a5 a6 a7 a8 a9 = fun _ => 1#1) (w : Cert.Pre_pre_post.S1.Idx) : (a2 w).toNat < 4 := by
  have pre := congrFun h w
  simp only [Cert.Pre_pre_post.fn, constantI, broadcastInDim, cmpi, andi, andi_one] at pre
  obtain ⟨h1, h2⟩ := pre
  simp only [ofBool_one, IntOp.cmpi, BitVec.sle, BitVec.slt, decide_eq_true_eq, BitVec.toInt, BitVec.toNat_ofNat] at h1 h2
  have := (a2 w).isLt
  split at h1 <;> split at h2 <;> simp at h1 h2 <;> omega

/-- The layer index the windows read. -/
abbrev lyrW (m : (ℓ : Loc nD τ sig) → Buf (Elt F) ℓ) : BitVec 32 :=
  (tbl m).at 0 (Rect.unit (s := S1) ![0] S1.size inb_S1_S1_0) numel1_S1
abbrev lyr (m : (ℓ : Loc nD τ sig) → Buf (Elt F) ℓ) : ℕ := (lyrW m).toNat

/-- It is the word of the program's argument. -/
theorem lyr_lt (m : (ℓ : Loc nD τ sig) → Buf (Elt F) ℓ)
    (h : ∀ w : S1.Idx, ((m (((0 : Dev nD) : Thread nD τ).loc main_arg2) : IVec S1 32) w).toNat < 4) : lyr m < 4 := by
  unfold lyr lyrW tbl
  simp only [Pipeline.Prefetch.Contents.at]
  have e := V_main_arg2 m (0 : Dev nD)
  have := h
  rw [← e] at this
  exact this _

/-- The batch of a row block, as the index map divides it out. -/
def bq (a : BitVec 32) : BitVec 32 :=
  Scalar.select (Scalar.andi (Scalar.cmpi .ne (Scalar.subi (Scalar.extui (Scalar.cmpi .sgt a 0#32)) (Scalar.extui (Scalar.cmpi .slt a 0#32)))
      (Scalar.subi (Scalar.extui (Scalar.cmpi .sgt 16#32 0#32)) (Scalar.extui (Scalar.cmpi .slt 16#32 0#32))))
    (Scalar.cmpi .ne (Scalar.remsi a 16#32) 0#32)) (Scalar.subi (Scalar.divsi a 16#32) 1#32) (Scalar.divsi a 16#32)

theorem bq_val (i : ℕ) (hi : i < 32) : (bq (BitVec.ofNat 32 i)).toNat = i / 16 := by
  interval_cases i <;> rfl

/-- Which memory block a point reads. -/
abbrev mb (l : BitVec 32) (i : ℕ) : ℕ := (Scalar.addi (Scalar.muli l 2#32) (bq (BitVec.ofNat 32 i))).toNat

theorem mb_val (l : BitVec 32) (hl : l.toNat < 4) (i : ℕ) (hi : i < 32) : mb l i = 2 * l.toNat + i / 16 := by
  have h := bq_val i hi
  show (l * 2#32 + bq (BitVec.ofNat 32 i)).toNat = _
  rw [BitVec.toNat_add, BitVec.toNat_mul, h]
  show (l.toNat * 2 % 2 ^ 32 + i / 16) % 2 ^ 32 = _
  omega

/-- A layer index below the depth keeps the windows that read it inside their arrays. -/
theorem ok_of_lt (m : (ℓ : Loc nD τ sig) → Buf (Elt F) ℓ)
    (h : ∀ w : S1.Idx, ((m (((0 : Dev nD) : Thread nD τ).loc main_arg2) : IVec S1 32) w).toNat < 4) : Ok m := by
  have key : lyr m < 4 := lyr_lt m h
  have hi (i : grid0.Coords) : (i 0).val < 32 := (i 0).isLt
  refine ⟨fun i => ⟨fun a => ?_, Or.inr (Or.inr ⟨by decide, rfl, rfl, rfl⟩)⟩, fun i => ⟨fun a => ?_, Or.inl rfl⟩,
    fun i => ⟨fun a => ?_, Or.inr (Or.inr ⟨by decide, rfl, rfl, rfl⟩)⟩, fun i => ⟨fun a => ?_, Or.inl rfl⟩, fun i => ⟨fun a => ?_, Or.inl rfl⟩,
    fun i => ⟨fun a => ?_, Or.inl rfl⟩, fun i => ⟨fun a => ?_, Or.inr (Or.inr ⟨by decide, rfl, rfl, rfl⟩)⟩⟩
  · fin_cases a
    · show (lyr m + 1) * 1 ≤ 4
      omega
    · show (0 + 1) * 2048 ≤ 2048
      decide
    · show (0 + 1) * 2048 ≤ 2048
      decide
  · fin_cases a
    · show (lyr m + 1) * 1 ≤ 4
      omega
    · show (0 + 1) * 1 ≤ 1
      decide
    · show (0 + 1) * 2048 ≤ 2048
      decide
  · fin_cases a
    · show (lyr m + 1) * 1 ≤ 4
      omega
    · show (0 + 1) * 2048 ≤ 2048
      decide
    · show (0 + 1) * 512 ≤ 512
      decide
  · fin_cases a
    · show (lyr m + 1) * 1 ≤ 4
      omega
    · show (0 + 1) * 1 ≤ 1
      decide
    · show (0 + 1) * 128 ≤ 128
      decide
  · fin_cases a
    · show (mb (lyrW m) (i 0).val + 1) * 1 ≤ 8
      have := hi i
      have key' : (lyrW m).toNat < 4 := key
      rw [mb_val _ key _ this]
      omega
    · show (0 + 1) * 256 ≤ 256
      decide
    · show (0 + 1) * 512 ≤ 512
      decide
  · fin_cases a
    · show (mb (lyrW m) (i 0).val + 1) * 1 ≤ 8
      have := hi i
      have key' : (lyrW m).toNat < 4 := key
      rw [mb_val _ key _ this]
      omega
    · show (0 + 1) * 256 ≤ 256
      decide
    · show (0 + 1) * 512 ≤ 512
      decide
  · fin_cases a
    · show (lyr m + 1) * 1 ≤ 4
      omega
    · show (0 + 1) * 512 ≤ 512
      decide
    · show (0 + 1) * 2048 ≤ 2048
      decide

end Cert.PostIdeal.Hand

end
-- ==== Proof.PostBlk.lean ====
/- The input blocks of the call `post_mix` at a grid point, as elements of the arrays they are cut from. -/
module

public import proofs.«01_k».proof.Proof.PostOk
public import Idealize.ShloMosaic.Lib.Pointwise
public import Idealize.ShloMosaic.Lib.Pipeline.Value

@[expose] public section

set_option maxRecDepth 16384

noncomputable section

namespace Cert.PostIdeal.Hand

open Cert.PostIdeal Cert.PostIdeal.Gen Idealize.ShloMosaic Idealize.ShloMosaic.TcCoe Idealize.SL.Sem

variable {F : FTy → Type} [FloatOps F]
variable (m : (ℓ : Loc nD τ sig) → Buf (Elt F) ℓ)

theorem N_lt (hO : Ok m) (t : Fin (cfgM m hO).N) : t.val < 32 := Nat.lt_of_lt_of_eq t.isLt N_0

theorem gco0 (t : Fin grid0.N) : (grid0.coords t 0).val = t.val / 1 % 32 := Pipeline.Grid.coords_val t 0 (by decide) rfl

theorem co0 (hO : Ok m) (t : Fin (cfgM m hO).N) : (grid0.coords t 0).val = t.val := by
  have ht := N_lt m hO t
  have e : (grid0.coords t 0).val = t.val / 1 % 32 := gco0 t
  omega

/-- Row `r` of row block `t`. -/
abbrev row (hO : Ok m) (t : Fin (cfgM m hO).N) (r : Fin 512) : Fin 16384 :=
  ⟨512 * t.val + r.val, by have := N_lt m hO t; omega⟩

/-- The memory block of point `t`. -/
abbrev mblk (hO : Ok m) (hl : lyr m < 4) (t : Fin (cfgM m hO).N) : Fin 8 :=
  ⟨2 * lyr m + t.val / 16, by have := N_lt m hO t; omega⟩

/-! The input blocks at a point. -/
def b0 (hO : Ok m) (c : Dev nD) (t : Fin (cfgM m hO).N) : Vec F S512x2048 .f32 := iblk m hO c 0 t
def b1 (hO : Ok m) (c : Dev nD) (t : Fin (cfgM m hO).N) : Vec F S512x768 .bf16 := iblk m hO c 1 t
def b2 (hO : Ok m) (c : Dev nD) (t : Fin (cfgM m hO).N) : Vec F S512x512 .bf16 := iblk m hO c 2 t
def b3 (hO : Ok m) (c : Dev nD) (t : Fin (cfgM m hO).N) : Vec F S512x768 .bf16 := iblk m hO c 3 t
def b4 (hO : Ok m) (c : Dev nD) (t : Fin (cfgM m hO).N) : Vec F S1x2048x2048 .bf16 := iblk m hO c 4 t
def b5 (hO : Ok m) (c : Dev nD) (t : Fin (cfgM m hO).N) : Vec F S1x1x2048 .f32 := iblk m hO c 5 t
def b6 (hO : Ok m) (c : Dev nD) (t : Fin (cfgM m hO).N) : Vec F S1x2048x512 .bf16 := iblk m hO c 6 t
def b7 (hO : Ok m) (c : Dev nD) (t : Fin (cfgM m hO).N) : Vec F S1x1x128 .f32 := iblk m hO c 7 t
def b8 (hO : Ok m) (c : Dev nD) (t : Fin (cfgM m hO).N) : Vec F S1x256x512 .f32 := iblk m hO c 8 t
def b9 (hO : Ok m) (c : Dev nD) (t : Fin (cfgM m hO).N) : Vec F S1x256x512 .f32 := iblk m hO c 9 t
def b10 (hO : Ok m) (c : Dev nD) (t : Fin (cfgM m hO).N) : Vec F S1x512x2048 .bf16 := iblk m hO c 10 t

theorem blk0 (hO : Ok m) (c : Dev nD) (t : Fin (cfgM m hO).N) (r : Fin 512) (e : Fin 2048) :
    b0 m hO c t (ix2 r e) = (V m c main_v2 : Vec F S16384x2048 .f32) (ix2 (row m hO t r) e) := by
  unfold b0 iblk
  refine (View.read_apply _ _).trans ?_
  show (V m c main_v2 : Vec F S16384x2048 .f32) _ = (V m c main_v2 : Vec F S16384x2048 .f32) _
  congr 1
  funext a
  apply Fin.ext
  have h0 := co0 m hO t
  have ht := N_lt m hO t
  match a with
  | ⟨0, _⟩ =>
    show (BitVec.ofNat 32 (grid0.coords t 0).val).toNat * 512 + 1 * r.val = 512 * t.val + r.val
    rw [h0, BitVec.toNat_ofNat]; omega
  | ⟨1, _⟩ => show 0 * 2048 + 1 * e.val = e.val; omega

theorem blk1 (hO : Ok m) (c : Dev nD) (t : Fin (cfgM m hO).N) (r : Fin 512) (e : Fin 768) :
    b1 m hO c t (ix2 r e) = (V m c main_v3 : Vec F S16384x768 .bf16) (ix2 (row m hO t r) e) := by
  unfold b1 iblk
  refine (View.read_apply _ _).trans ?_
  show (V m c main_v3 : Vec F S16384x768 .bf16) _ = (V m c main_v3 : Vec F S16384x768 .bf16) _
  congr 1
  funext a
  apply Fin.ext
  have h0 := co0 m hO t
  have ht := N_lt m hO t
  match a with
  | ⟨0, _⟩ =>
    show (BitVec.ofNat 32 (grid0.coords t 0).val).toNat * 512 + 1 * r.val = 512 * t.val + r.val
    rw [h0, BitVec.toNat_ofNat]; omega
  | ⟨1, _⟩ => show 0 * 768 + 1 * e.val = e.val; omega

theorem blk2 (hO : Ok m) (c : Dev nD) (t : Fin (cfgM m hO).N) (r : Fin 512) (e : Fin 512) :
    b2 m hO c t (ix2 r e) = (V m c main_v4 : Vec F S16384x512 .bf16) (ix2 (row m hO t r) e) := by
  unfold b2 iblk
  refine (View.read_apply _ _).trans ?_
  show (V m c main_v4 : Vec F S16384x512 .bf16) _ = (V m c main_v4 : Vec F S16384x512 .bf16) _
  congr 1
  funext a
  apply Fin.ext
  have h0 := co0 m hO t
  have ht := N_lt m hO t
  match a with
  | ⟨0, _⟩ =>
    show (BitVec.ofNat 32 (grid0.coords t 0).val).toNat * 512 + 1 * r.val = 512 * t.val + r.val
    rw [h0, BitVec.toNat_ofNat]; omega
  | ⟨1, _⟩ => show 0 * 512 + 1 * e.val = e.val; omega

theorem blk3 (hO : Ok m) (c : Dev nD) (t : Fin (cfgM m hO).N) (r : Fin 512) (e : Fin 768) :
    b3 m hO c t (ix2 r e) = (V m c main_v5 : Vec F S16384x768 .bf16) (ix2 (row m hO t r) e) := by
  unfold b3 iblk
  refine (View.read_apply _ _).trans ?_
  show (V m c main_v5 : Vec F S16384x768 .bf16) _ = (V m c main_v5 : Vec F S16384x768 .bf16) _
  congr 1
  funext a
  apply Fin.ext
  have h0 := co0 m hO t
  have ht := N_lt m hO t
  match a with
  | ⟨0, _⟩ =>
    show (BitVec.ofNat 32 (grid0.coords t 0).val).toNat * 512 + 1 * r.val = 512 * t.val + r.val
    rw [h0, BitVec.toNat_ofNat]; omega
  | ⟨1, _⟩ => show 0 * 768 + 1 * e.val = e.val; omega

theorem blk4 (hO : Ok m) (hl : lyr m < 4) (c : Dev nD) (t : Fin (cfgM m hO).N) (e : Fin 2048) (n : Fin 2048) :
    b4 m hO c t (ix3 0 e n) = (V m c main_v6 : Vec F S4x2048x2048 .bf16) (ix3 ⟨lyr m, hl⟩ e n) := by
  unfold b4 iblk
  refine (View.read_apply _ _).trans ?_
  show (V m c main_v6 : Vec F S4x2048x2048 .bf16) _ = (V m c main_v6 : Vec F S4x2048x2048 .bf16) _
  congr 1
  funext a
  apply Fin.ext
  have h0 := co0 m hO t
  have ht := N_lt m hO t
  match a with
  | ⟨0, _⟩ => show lyr m * 1 + 1 * 0 = lyr m; omega
  | ⟨1, _⟩ => show 0 * 2048 + 1 * e.val = e.val; omega
  | ⟨2, _⟩ => show 0 * 2048 + 1 * n.val = n.val; omega

theorem blk5 (hO : Ok m) (hl : lyr m < 4) (c : Dev nD) (t : Fin (cfgM m hO).N) (n : Fin 2048) :
    b5 m hO c t (ix3 0 0 n) = (V m c main_v7 : Vec F S4x1x2048 .f32) (ix3 ⟨lyr m, hl⟩ 0 n) := by
  unfold b5 iblk
  refine (View.read_apply _ _).trans ?_
  show (V m c main_v7 : Vec F S4x1x2048 .f32) _ = (V m c main_v7 : Vec F S4x1x2048 .f32) _
  congr 1
  funext a
  apply Fin.ext
  have h0 := co0 m hO t
  have ht := N_lt m hO t
  match a with
  | ⟨0, _⟩ => show lyr m * 1 + 1 * 0 = lyr m; omega
  | ⟨1, _⟩ => show 0 * 1 + 1 * 0 = 0; omega
  | ⟨2, _⟩ => show 0 * 2048 + 1 * n.val = n.val; omega

theorem blk6 (hO : Ok m) (hl : lyr m < 4) (c : Dev nD) (t : Fin (cfgM m hO).N) (e : Fin 2048) (n : Fin 512) :
    b6 m hO c t (ix3 0 e n) = (V m c main_v8 : Vec F S4x2048x512 .bf16) (ix3 ⟨lyr m, hl⟩ e n) := by
  unfold b6 iblk
  refine (View.read_apply _ _).trans ?_
  show (V m c main_v8 : Vec F S4x2048x512 .bf16) _ = (V m c main_v8 : Vec F S4x2048x512 .bf16) _
  congr 1
  funext a
  apply Fin.ext
  have h0 := co0 m hO t
  have ht := N_lt m hO t
  match a with
  | ⟨0, _⟩ => show lyr m * 1 + 1 * 0 = lyr m; omega
  | ⟨1, _⟩ => show 0 * 2048 + 1 * e.val = e.val; omega
  | ⟨2, _⟩ => show 0 * 512 + 1 * n.val = n.val; omega

theorem blk7 (hO : Ok m) (hl : lyr m < 4) (c : Dev nD) (t : Fin (cfgM m hO).N) (n : Fin 128) :
    b7 m hO c t (ix3 0 0 n) = (V m c main_v9 : Vec F S4x1x128 .f32) (ix3 ⟨lyr m, hl⟩ 0 n) := by
  unfold b7 iblk
  refine (View.read_apply _ _).trans ?_
  show (V m c main_v9 : Vec F S4x1x128 .f32) _ = (V m c main_v9 : Vec F S4x1x128 .f32) _
  congr 1
  funext a
  apply Fin.ext
  have h0 := co0 m hO t
  have ht := N_lt m hO t
  match a with
  | ⟨0, _⟩ => show lyr m * 1 + 1 * 0 = lyr m; omega
  | ⟨1, _⟩ => show 0 * 1 + 1 * 0 = 0; omega
  | ⟨2, _⟩ => show 0 * 128 + 1 * n.val = n.val; omega

theorem blk8 (hO : Ok m) (hl : lyr m < 4) (c : Dev nD) (t : Fin (cfgM m hO).N) (e : Fin 256) (n : Fin 512) :
    b8 m hO c t (ix3 0 e n) = (V m c main_v10 : Vec F S8x256x512 .f32) (ix3 (mblk m hO hl t) e n) := by
  unfold b8 iblk
  refine (View.read_apply _ _).trans ?_
  show (V m c main_v10 : Vec F S8x256x512 .f32) _ = (V m c main_v10 : Vec F S8x256x512 .f32) _
  congr 1
  funext a
  apply Fin.ext
  have h0 := co0 m hO t
  have ht := N_lt m hO t
  match a with
  | ⟨0, _⟩ =>
    show mb (lyrW m) (grid0.coords t 0).val * 1 + 1 * 0 = 2 * lyr m + t.val / 16
    rw [h0, mb_val (lyrW m) hl _ ht]
    show (2 * lyr m + t.val / 16) * 1 + 1 * 0 = 2 * lyr m + t.val / 16
    omega
  | ⟨1, _⟩ => show 0 * 256 + 1 * e.val = e.val; omega
  | ⟨2, _⟩ => show 0 * 512 + 1 * n.val = n.val; omega

theorem blk9 (hO : Ok m) (hl : lyr m < 4) (c : Dev nD) (t : Fin (cfgM m hO).N) (e : Fin 256) (n : Fin 512) :
    b9 m hO c t (ix3 0 e n) = (V m c main_v11 : Vec F S8x256x512 .f32) (ix3 (mblk m hO hl t) e n) := by
  unfold b9 iblk
  refine (View.read_apply _ _).trans ?_
  show (V m c main_v11 : Vec F S8x256x512 .f32) _ = (V m c main_v11 : Vec F S8x256x512 .f32) _
  congr 1
  funext a
  apply Fin.ext
  have h0 := co0 m hO t
  have ht := N_lt m hO t
  match a with
  | ⟨0, _⟩ =>
    show mb (lyrW m) (grid0.coords t 0).val * 1 + 1 * 0 = 2 * lyr m + t.val / 16
    rw [h0, mb_val (lyrW m) hl _ ht]
    show (2 * lyr m + t.val / 16) * 1 + 1 * 0 = 2 * lyr m + t.val / 16
    omega
  | ⟨1, _⟩ => show 0 * 256 + 1 * e.val = e.val; omega
  | ⟨2, _⟩ => show 0 * 512 + 1 * n.val = n.val; omega

theorem blk10 (hO : Ok m) (hl : lyr m < 4) (c : Dev nD) (t : Fin (cfgM m hO).N) (e : Fin 512) (n : Fin 2048) :
    b10 m hO c t (ix3 0 e n) = (V m c main_v12 : Vec F S4x512x2048 .bf16) (ix3 ⟨lyr m, hl⟩ e n) := by
  unfold b10 iblk
  refine (View.read_apply _ _).trans ?_
  show (V m c main_v12 : Vec F S4x512x2048 .bf16) _ = (V m c main_v12 : Vec F S4x512x2048 .bf16) _
  congr 1
  funext a
  apply Fin.ext
  have h0 := co0 m hO t
  have ht := N_lt m hO t
  match a with
  | ⟨0, _⟩ => show lyr m * 1 + 1 * 0 = lyr m; omega
  | ⟨1, _⟩ => show 0 * 512 + 1 * e.val = e.val; omega
  | ⟨2, _⟩ => show 0 * 2048 + 1 * n.val = n.val; omega

end Cert.PostIdeal.Hand

end
-- ==== Proof.PostHost.lean ====
/- The arrays the call `post_mix` reads, as elements of the arguments. -/
module

public import proofs.«01_k».proof.Proof.Gen.PostIdeal.Frame.Runs
public import Idealize.ShloMosaic.Lib.StableHlo.ReadAt
public import Idealize.ShloMosaic.Lib.Pointwise

@[expose] public section

set_option maxRecDepth 16384

noncomputable section

namespace Cert.PostIdeal.Hand

open Cert.PostIdeal Cert.PostIdeal.Gen Idealize.ShloMosaic Idealize.ShloMosaic.TcCoe Idealize.SL.Sem Idealize.ShloMosaic.StableHlo

variable (m : (ℓ : Loc nD τ sig) → Buf (Elt Ideal) ℓ)

/-- A row's batch and position. -/
abbrev rb (R : Fin 16384) : Fin 2 := ⟨R.val / 8192, by omega⟩
abbrev rs (R : Fin 16384) : Fin 8192 := ⟨R.val % 8192, by omega⟩

theorem V_v2 (c : Dev nD) (R : Fin 16384) (d : Fin 2048) :
    V m c main_v2 (ix2 R d) = m ((c.tc : Thread nD τ).loc main_arg0) (ix3 (⟨R.val / 8192, by omega⟩ : Fin 2) (⟨R.val % 8192, by omega⟩ : Fin 8192) d) := by
  unfold V
  after_reads_at
  try rfl

theorem V_v3 (c : Dev nD) (R : Fin 16384) (e : Fin 768) :
    V m c main_v3 (ix2 R e) = m ((c.tc : Thread nD τ).loc main_arg1) (ix3 (⟨R.val / 8192, by omega⟩ : Fin 2) (⟨R.val % 8192, by omega⟩ : Fin 8192) (⟨e.val, by omega⟩ : Fin 2048)) := by
  unfold V
  after_reads_at
  try rfl

theorem V_v4 (c : Dev nD) (R : Fin 16384) (e : Fin 512) :
    V m c main_v4 (ix2 R e) = m ((c.tc : Thread nD τ).loc main_arg1) (ix3 (⟨R.val / 8192, by omega⟩ : Fin 2) (⟨R.val % 8192, by omega⟩ : Fin 8192) (⟨768 + e.val, by omega⟩ : Fin 2048)) := by
  unfold V
  after_reads_at
  try rfl

theorem V_v5 (c : Dev nD) (R : Fin 16384) (e : Fin 768) :
    V m c main_v5 (ix2 R e) = m ((c.tc : Thread nD τ).loc main_arg1) (ix3 (⟨R.val / 8192, by omega⟩ : Fin 2) (⟨R.val % 8192, by omega⟩ : Fin 8192) (⟨1280 + e.val, by omega⟩ : Fin 2048)) := by
  unfold V
  after_reads_at
  try rfl

theorem V_v6 (c : Dev nD) (l : Fin 4) (e : Fin 2048) (d : Fin 2048) :
    V m c main_v6 (ix3 l e d) = m ((c.tc : Thread nD τ).loc main_arg3) (ix3 l e d) := by
  unfold V
  after_reads_at
  try rfl

theorem V_v7 (c : Dev nD) (l : Fin 4) (d : Fin 2048) :
    V m c main_v7 (ix3 l (0 : Fin 1) d) = m ((c.tc : Thread nD τ).loc main_arg4) (ix2 l d) := by
  unfold V
  after_reads_at
  try rfl

theorem V_v8 (c : Dev nD) (l : Fin 4) (e : Fin 2048) (n : Fin 512) :
    V m c main_v8 (ix3 l e n) = m ((c.tc : Thread nD τ).loc main_arg5) (ix3 l e n) := by
  unfold V
  after_reads_at
  try rfl

theorem V_v9 (c : Dev nD) (l : Fin 4) (d : Fin 128) :
    V m c main_v9 (ix3 l (0 : Fin 1) d) = m ((c.tc : Thread nD τ).loc main_arg6) (ix2 l d) := by
  unfold V
  after_reads_at
  try rfl

theorem V_v10 (c : Dev nD) (B : Fin 8) (j : Fin 256) (n : Fin 512) :
    V m c main_v10 (ix3 B j n) = m ((c.tc : Thread nD τ).loc main_arg7) (ix5 (⟨B.val / 2, by omega⟩ : Fin 4) (⟨B.val % 2, by omega⟩ : Fin 2) j (⟨n.val / 128, by omega⟩ : Fin 4) (⟨n.val % 128, by omega⟩ : Fin 128)) := by
  unfold V
  after_reads_at
  try rfl

theorem V_v11 (c : Dev nD) (B : Fin 8) (j : Fin 256) (n : Fin 512) :
    V m c main_v11 (ix3 B j n) = m ((c.tc : Thread nD τ).loc main_arg8) (ix5 (⟨B.val / 2, by omega⟩ : Fin 4) (⟨B.val % 2, by omega⟩ : Fin 2) j (⟨n.val / 128, by omega⟩ : Fin 4) (⟨n.val % 128, by omega⟩ : Fin 128)) := by
  unfold V
  after_reads_at
  try rfl

theorem V_v12 (c : Dev nD) (l : Fin 4) (n : Fin 512) (d : Fin 2048) :
    V m c main_v12 (ix3 l n d) = m ((c.tc : Thread nD τ).loc main_arg9) (ix3 l n d) := by
  unfold V
  after_reads_at
  try rfl

end Cert.PostIdeal.Hand

end
-- ==== Proof.PostVal.lean ====
/- What one grid point of the call `post_mix` leaves in its output block, as the kernel's own stored value. -/
module

public import proofs.«01_k».proof.Proof.Gen.PostIdeal.Frame
public import Idealize.ShloMosaic.Lib.Pipeline.Value
public import Idealize.ShloMosaic.Lib.Tactic

@[expose] public section

set_option maxRecDepth 16384

noncomputable section

namespace Cert.PostIdeal.Hand

open Cert.PostIdeal Cert.PostIdeal.Gen Idealize.ShloMosaic Idealize.ShloMosaic.TcCoe Idealize.ShloMosaic.Tactic Idealize.SL Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! The parts of the weights and of the memory blocks that are read. -/
abbrev rw0 : Rect S1x2048x2048 := Rect.unit (s := S1x2048x2048) ![0, 0, 0] S1x768x2048.size inb_S1x2048x2048_S1x768x2048_0_0_0
abbrev rw1 : Rect S1x2048x2048 := Rect.unit (s := S1x2048x2048) ![0, 768, 0] S1x512x2048.size inb_S1x2048x2048_S1x512x2048_0_768_0
abbrev rw2 : Rect S1x2048x2048 := Rect.unit (s := S1x2048x2048) ![0, 1280, 0] S1x768x2048.size inb_S1x2048x2048_S1x768x2048_0_1280_0
abbrev rm0 : Rect S1x256x512 := Rect.unit (s := S1x256x512) ![0, 0, 0] S1x256x128.size inb_S1x256x512_S1x256x128_0_0_0
abbrev rm1 : Rect S1x256x512 := Rect.unit (s := S1x256x512) ![0, 0, 128] S1x256x128.size inb_S1x256x512_S1x256x128_0_0_128
abbrev rm2 : Rect S1x256x512 := Rect.unit (s := S1x256x512) ![0, 0, 256] S1x256x128.size inb_S1x256x512_S1x256x128_0_0_256
abbrev rm3 : Rect S1x256x512 := Rect.unit (s := S1x256x512) ![0, 0, 384] S1x256x128.size inb_S1x256x512_S1x256x128_0_0_384

theorem out_A_11 (c : Dev nD) (i : grid0.Coords) (arg2 : Memref sig .tc .vmem S512x2048 .f32) (harg2 : arg2.IsWhole) (arg3 : Memref sig .tc .vmem S512x768 .bf16) (harg3 : arg3.IsWhole) (arg4 : Memref sig .tc .vmem S512x512 .bf16) (harg4 : arg4.IsWhole) (arg5 : Memref sig .tc .vmem S512x768 .bf16) (harg5 : arg5.IsWhole) (arg6 : Memref sig .tc .vmem S1x2048x2048 .bf16) (harg6 : arg6.IsWhole) (arg7 : Memref sig .tc .vmem S1x1x2048 .f32) (harg7 : arg7.IsWhole) (arg8 : Memref sig .tc .vmem S1x2048x512 .bf16) (harg8 : arg8.IsWhole) (arg9 : Memref sig .tc .vmem S1x1x128 .f32) (harg9 : arg9.IsWhole) (arg10 : Memref sig .tc .vmem S1x256x512 .f32) (harg10 : arg10.IsWhole) (arg11 : Memref sig .tc .vmem S1x256x512 .f32) (harg11 : arg11.IsWhole) (arg12 : Memref sig .tc .vmem S1x512x2048 .bf16) (harg12 : arg12.IsWhole) (arg13 : Memref sig .tc .vmem S512x2048 .f32) (harg13 : arg13.IsWhole)
    (x0 : Vec F S512x2048 .f32) (x1 : Vec F S512x768 .bf16) (x2 : Vec F S512x512 .bf16) (x3 : Vec F S512x768 .bf16) (x4 : Vec F S1x2048x2048 .bf16) (x5 : Vec F S1x1x2048 .f32) (x6 : Vec F S1x2048x512 .bf16) (x7 : Vec F S1x1x128 .f32) (x8 : Vec F S1x256x512 .f32) (x9 : Vec F S1x256x512 .f32) (x10 : Vec F S1x512x2048 .bf16) (xt0 : TbBuf0 (F := F) c tbM0_0) :
    out0_A_11 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 xt0 = k0_pay1 (k0_pay2 x0 x1 (View.ld x4 rw0) x2 (View.ld x4 rw1) x3 (View.ld x4 rw2))
      (k0_pay8 (k0_pay6 (k0_pay3 x0 x1 (View.ld x4 rw0) x2 (View.ld x4 rw1) x3 (View.ld x4 rw2)) (k0_pay4 x5) x6 x7 (View.ld x8 rm0)) (k0_pay7 (View.ld x9 rm0)))
      (k0_pay9 (k0_pay5 (k0_pay3 x0 x1 (View.ld x4 rw0) x2 (View.ld x4 rw1) x3 (View.ld x4 rw2)) (k0_pay4 x5) x6) x7 (View.ld x8 rm1) (View.ld x9 rm1))
      (k0_pay11 (k0_pay10 (k0_pay5 (k0_pay3 x0 x1 (View.ld x4 rw0) x2 (View.ld x4 rw1) x3 (View.ld x4 rw2)) (k0_pay4 x5) x6)) x7 (View.ld x8 rm2) (View.ld x9 rm2))
      (k0_pay12 (k0_pay5 (k0_pay3 x0 x1 (View.ld x4 rw0) x2 (View.ld x4 rw1) x3 (View.ld x4 rw2)) (k0_pay4 x5) x6)) (k0_pay13 x7) (k0_pay14 (k0_pay5 (k0_pay3 x0 x1 (View.ld x4 rw0) x2 (View.ld x4 rw1) x3 (View.ld x4 rw2)) (k0_pay4 x5) x6)) k0_pay15 (View.ld x8 rm3) (View.ld x9 rm3) x10 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 xt0)]
  unfold kernelRun0_A
  dsimp only
  sl_unfold_words
  rw [View.canon_unit_zero (S := S512x2048) hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x2048) hz2, View.ld_unit_zero (S := S512x768) hz2, View.ld_unit_zero (S := S512x512) hz2,
    View.ld_unit_zero (S := S1x1x2048) hz3, View.ld_unit_zero (S := S1x2048x512) hz3, View.ld_unit_zero (S := S1x1x128) hz3, View.ld_unit_zero (S := S1x512x2048) hz3]

end Cert.PostIdeal.Hand

end
-- ==== Proof.PostPure.lean ====
/- The output projection and the cross-attention as functions of coordinates. -/
module

public import proofs.«01_k».proof.Proof.MemVal

@[expose] public section

set_option maxRecDepth 16384

noncomputable section

namespace Cert.PostV

open Idealize.ShloMosaic Cert.MemVal

/-- A column's head, and its place in it. -/
abbrev hd (n : Fin 512) : Fin 4 := ⟨n.val / 128, by omega⟩
abbrev hk (n : Fin 512) : Fin 128 := ⟨n.val % 128, by omega⟩

/-- The column of a head's place. -/
abbrev hc (h : Fin 4) (k : Fin 128) : Fin 512 := ⟨128 * h.val + k.val, by omega⟩

/-- A head's columns normed and weighted. -/
def hkey (y : Fin 128 → EReal) (kg : Fin 128 → EReal) (d : Fin 128) : EReal := y d * hscale y * kg d

/-- The score of a key. -/
def score (q : Fin 128 → EReal) (k : Fin 128 → EReal) : EReal := (∑ d : Fin 128, q d * k d) * Ideal.ofBits .f32 0x3DB504F3#32

/-- The greatest of the scores. -/
def top (s : Fin 256 → EReal) : EReal := max (Ideal.ofBits .f32 0xFF800000#32) (Finset.fold max (Ideal.ofBits .f32 0xFF800000#32) s Finset.univ)

/-- The softmax of the scores. -/
def soft (s : Fin 256 → EReal) (j : Fin 256) : EReal := Ideal.div (Ideal.exp (s j - top s)) (∑ k : Fin 256, Ideal.exp (s k - top s))

/-- A head's weighted values. -/
def att (q : Fin 128 → EReal) (mk mv : Fin 256 → Fin 128 → EReal) (d : Fin 128) : EReal :=
  ∑ j : Fin 256, soft (fun j => score q (mk j)) j * mv j d

/-- The row after the output projection. -/
def x1 (x y : Fin 2048 → EReal) (w : Fin 2048 → Fin 2048 → EReal) (d : Fin 2048) : EReal := x d + ∑ e : Fin 2048, y e * w e d

/-- The cross-attention's row, of all heads. -/
def ca (x : Fin 2048 → EReal) (g : Fin 2048 → EReal) (wq : Fin 2048 → Fin 512 → EReal) (kg : Fin 128 → EReal)
    (mk mv : Fin 256 → Fin 4 → Fin 128 → EReal) (n : Fin 512) : EReal :=
  att (hkey (fun k => mw x g wq (hc (hd n) k)) kg) (fun j => mk j (hd n)) (fun j => mv j (hd n)) (hk n)

/-- The row the call leaves. -/
def post (x y : Fin 2048 → EReal) (w : Fin 2048 → Fin 2048 → EReal) (g : Fin 2048 → EReal) (wq : Fin 2048 → Fin 512 → EReal) (kg : Fin 128 → EReal)
    (mk mv : Fin 256 → Fin 4 → Fin 128 → EReal) (wo : Fin 512 → Fin 2048 → EReal) (d : Fin 2048) : EReal :=
  x1 x y w d + ∑ n : Fin 512, ca (x1 x y w) g wq kg mk mv n * wo n d

/-- A sum of 2048 terms in the three pieces. -/
theorem sum_split (f : Fin 2048 → EReal) :
    ((∑ e : Fin 768, f ⟨e.val, by omega⟩) + ∑ e : Fin 512, f ⟨768 + e.val, by omega⟩) + ∑ e : Fin 768, f ⟨1280 + e.val, by omega⟩ = ∑ e : Fin 2048, f e := by
  refine Eq.trans ?_ (Fin.sum_univ_add (a := 1280) (b := 768) f).symm
  refine congrArg₂ (· + ·) ?_ rfl
  exact (Fin.sum_univ_add (a := 768) (b := 512) (fun e : Fin 1280 => f ⟨e.val, by omega⟩)).symm

end Cert.PostV

end
-- ==== Proof.PostPay.lean ====
/- What the call `post_mix` computes of a block, element by element. -/
module

public import proofs.«01_k».proof.Proof.PostVal
public import proofs.«01_k».proof.Proof.PostPure
public import Idealize.ShloMosaic.Lib.Pointwise

@[expose] public section

set_option maxRecDepth 16384

noncomputable section

namespace Cert.PostIdeal.Hand

open Cert.PostIdeal Cert.PostIdeal.Gen Idealize.ShloMosaic Idealize.ShloMosaic.TcCoe Cert.MemVal Cert.PostV

variable {F : FTy → Type} [FloatOps F]

/-! A head's stages, and the last product. -/
noncomputable def hQ (v110 : FVec F S512x128 .f32) (v111 : Vec F S1x1x128 .f32) : FVec F S512x128 .bf16 :=
  have v112 : FVec F S1x128 .f32 := shapeCast S1x128 v111 shapeCasts_S1x1x128_S1x128
  have v113 : FVec F S512x128 .f32 := mulf v110 v110
  have v114 : FVec F S512 .f32 := multiReduction .add [1] S512 v113 0x00000000#32 reduces_S512x128_S512 (.inl rfl) rfl
  have v115 : FVec F S512x1 .f32 := shapeCast S512x1 v114 shapeCasts_S512_S512x1
  have cst_63 : F .f32 := Scalar.ofBits .f32 0x43000000#32
  have v116 : FVec F S512x1 .f32 := broadcast S512x1 cst_63
  have v117 : FVec F S512x1 .f32 := divf v115 v116
  have cst_64 : F .f32 := Scalar.ofBits .f32 0x358637BD#32
  have v118 : FVec F S512x1 .f32 := broadcast S512x1 cst_64
  have v119 : FVec F S512x1 .f32 := addf v117 v118
  have v120 : FVec F S512x1 .f32 := rsqrt v119
  have v121 : FVec F S512x128 .f32 := broadcastTo S512x128 v120 broadcasts_S512x1_S512x128
  have v122 : FVec F S512x128 .f32 := mulf v110 v121
  have v123 : FVec F S512x128 .f32 := broadcastTo S512x128 v112 broadcasts_S1x128_S512x128
  have v124 : FVec F S512x128 .f32 := mulf v122 v123
  have v125 : FVec F S512x128 .bf16 := truncf .bf16 v124 bitsLt_bf16_f32
  v125
noncomputable def hS (v125 : FVec F S512x128 .bf16) (v126 : Vec F S1x256x128 .f32) : FVec F S512x256 .f32 :=
  have v127 : FVec F S256x128 .f32 := shapeCast S256x128 v126 shapeCasts_S1x256x128_S256x128
  have v128 : FVec F S256x128 .bf16 := truncf .bf16 v127 bitsLt_bf16_f32
  have cst_67 : FVec F S512x256 .f32 := constant S512x256 .f32 0x00000000#32
  have v129 : FVec F S512x256 .f32 := matmul dot_S512x128_S256x128_S512x256_1_1_0_0_n_n none v125 v128 cst_67
  have cst_68 : F .f32 := Scalar.ofBits .f32 0x3DB504F3#32
  have v130 : FVec F S512x256 .f32 := broadcast S512x256 cst_68
  have v131 : FVec F S512x256 .f32 := mulf v129 v130
  v131
noncomputable def hD (v131 : FVec F S512x256 .f32) : FVec F S512x256 .f32 :=
  have v132 : FVec F S512 .f32 := multiReduction .maximumf [1] S512 v131 0xFF800000#32 reduces_S512x256_S512 (.inl rfl) rfl
  have v133 : FVec F S512x1 .f32 := shapeCast S512x1 v132 shapeCasts_S512_S512x1
  have v134 : FVec F S512x256 .f32 := broadcastTo S512x256 v133 broadcasts_S512x1_S512x256
  have v135 : FVec F S512x256 .f32 := subf v131 v134
  v135
noncomputable def hP (v135 : FVec F S512x256 .f32) : FVec F S512x256 .bf16 :=
  have v136 : FVec F S512x256 .f32 := exp v135
  have v137 : FVec F S512 .f32 := multiReduction .add [1] S512 v136 0x00000000#32 reduces_S512x256_S512 (.inl rfl) rfl
  have v138 : FVec F S512x1 .f32 := shapeCast S512x1 v137 shapeCasts_S512_S512x1
  have v139 : FVec F S512x256 .f32 := broadcastTo S512x256 v138 broadcasts_S512x1_S512x256
  have v140 : FVec F S512x256 .f32 := divf v136 v139
  have v141 : FVec F S512x256 .bf16 := truncf .bf16 v140 bitsLt_bf16_f32
  v141
noncomputable def hO (v141 : FVec F S512x256 .bf16) (v142 : Vec F S1x256x128 .f32) : FVec F S512x128 .f32 :=
  have v143 : FVec F S256x128 .f32 := shapeCast S256x128 v142 shapeCasts_S1x256x128_S256x128
  have v144 : FVec F S256x128 .bf16 := truncf .bf16 v143 bitsLt_bf16_f32
  have cst_74 : FVec F S512x128 .f32 := constant S512x128 .f32 0x00000000#32
  have v145 : FVec F S512x128 .f32 := matmul dot_S512x256_S256x128_S512x128_1_0_0_1_n_n none v141 v144 cst_74
  v145
noncomputable def cat (v73 v109 v145 v181 : FVec F S512x128 .f32) : FVec F S512x512 .bf16 :=
  have v182 : FVec F S512x512 .f32 := concatenate S512x512 1 [⟨S512x128, v73⟩, ⟨S512x128, v109⟩, ⟨S512x128, v145⟩, ⟨S512x128, v181⟩] concatenates_S512x128_S512x128_S512x128_S512x128_S512x512_d1
  have v183 : FVec F S512x512 .bf16 := truncf .bf16 v182 bitsLt_bf16_f32
  v183
noncomputable def fin (v19 : FVec F S512x2048 .f32) (v183 : FVec F S512x512 .bf16) (v184 : Vec F S1x512x2048 .bf16) : FVec F S512x2048 .f32 :=
  have v185 : FVec F S512x2048 .bf16 := shapeCast S512x2048 v184 shapeCasts_S1x512x2048_S512x2048
  have cst_94 : FVec F S512x2048 .f32 := constant S512x2048 .f32 0x00000000#32
  have v186 : FVec F S512x2048 .f32 := matmul dot_S512x512_S512x2048_S512x2048_1_0_0_1_n_n none v183 v185 cst_94
  have v187 : FVec F S512x2048 .f32 := addf v19 v186
  v187

theorem pay11_eq (v : FVec F S512x128 .f32) (g : Vec F S1x1x128 .f32) (k w : Vec F S1x256x128 .f32) :
    k0_pay11 v g k w = hO (hP (hD (hS (hQ v g) k))) w := rfl

/-- The columns of the first two heads. -/
noncomputable def q0 (z : FVec F S512x512 .f32) : FVec F S512x128 .f32 := extractStridedSlice S512x128 ![0, 0] z slices_S512x512_o0_0_S512x128
noncomputable def q1 (z : FVec F S512x512 .f32) : FVec F S512x128 .f32 := extractStridedSlice S512x128 ![0, 128] z slices_S512x512_o0_128_S512x128

theorem pay8_eq (a b : FVec F S512x2048 .f32) (w : Vec F S1x2048x512 .bf16) (g : Vec F S1x1x128 .f32) (k v : Vec F S1x256x128 .f32) :
    k0_pay8 (k0_pay6 a b w g k) (k0_pay7 v) = k0_pay11 (q0 (k0_pay5 a b w)) g k v := rfl
theorem pay9_eq (z : FVec F S512x512 .f32) (g : Vec F S1x1x128 .f32) (k v : Vec F S1x256x128 .f32) :
    k0_pay9 z g k v = k0_pay11 (q1 z) g k v := rfl
theorem pay1_eq (x : FVec F S512x2048 .f32) (o0 o1 o2 : FVec F S512x128 .f32) (z : FVec F S512x512 .f32) (g : Vec F S1x1x128 .f32) (k v : Vec F S1x256x128 .f32) (wo : Vec F S1x512x2048 .bf16) :
    k0_pay1 x o0 o1 o2 (k0_pay12 z) (k0_pay13 g) (k0_pay14 z) k0_pay15 k v wo = fin x (cat o0 o1 o2 (k0_pay11 (k0_pay12 z) g k v)) wo := rfl

/-! Their elements. -/
theorem hQ_apply (v : FVec Ideal S512x128 .f32) (g : Vec Ideal S1x1x128 .f32) (r : Fin 512) (d : Fin 128) :
    hQ v g (ix2 r d) = hkey (fun k => v (ix2 r k)) (fun k => g (ix3 0 0 k)) d := by
  unfold hkey hscale
  pointwise [hQ]

theorem hS_apply (q : FVec Ideal S512x128 .bf16) (k : Vec Ideal S1x256x128 .f32) (r : Fin 512) (j : Fin 256) :
    hS q k (ix2 r j) = score (fun d => q (ix2 r d)) (fun d => k (ix3 0 j d)) := by
  unfold score
  pointwise [hS]

theorem fold_max (s : Fin 256 → EReal) (b : EReal) : max b (Finset.fold max b s Finset.univ) = Finset.fold max b s Finset.univ :=
  max_eq_right (Finset.le_fold_max b |>.mpr (Or.inl le_rfl))

theorem hD_apply (s : FVec Ideal S512x256 .f32) (r : Fin 512) (j : Fin 256) :
    hD s (ix2 r j) = s (ix2 r j) - top (fun j => s (ix2 r j)) := by
  unfold top
  rw [fold_max]
  pointwise [hD]

theorem hP_apply (s : FVec Ideal S512x256 .f32) (r : Fin 512) (j : Fin 256) :
    hP s (ix2 r j) = Ideal.div (Ideal.exp (s (ix2 r j))) (∑ k : Fin 256, Ideal.exp (s (ix2 r k))) := by
  pointwise [hP]

theorem hO_apply (p : FVec Ideal S512x256 .bf16) (v : Vec Ideal S1x256x128 .f32) (r : Fin 512) (d : Fin 128) :
    hO p v (ix2 r d) = ∑ j : Fin 256, p (ix2 r j) * v (ix3 0 j d) := by
  pointwise [hO]

theorem head_apply (v : FVec Ideal S512x128 .f32) (g : Vec Ideal S1x1x128 .f32) (k w : Vec Ideal S1x256x128 .f32) (r : Fin 512) (d : Fin 128) :
    k0_pay11 v g k w (ix2 r d) = att (hkey (fun k => v (ix2 r k)) (fun k => g (ix3 0 0 k))) (fun j d => k (ix3 0 j d)) (fun j d => w (ix3 0 j d)) d := by
  rw [pay11_eq, hO_apply]
  unfold att soft
  simp only [hP_apply, hD_apply, hS_apply, hQ_apply]

theorem cat_apply (o0 o1 o2 o3 : FVec Ideal S512x128 .f32) (f : Fin 512 → EReal) (r : Fin 512) (n : Fin 512)
    (h0 : ∀ k, o0 (ix2 r k) = f (hc 0 k)) (h1 : ∀ k, o1 (ix2 r k) = f (hc 1 k)) (h2 : ∀ k, o2 (ix2 r k) = f (hc 2 k)) (h3 : ∀ k, o3 (ix2 r k) = f (hc 3 k)) :
    cat o0 o1 o2 o3 (ix2 r n) = f n := by
  have e : cat o0 o1 o2 o3 (ix2 r n) = if a : n.val < 128 then o0 (ix2 r ⟨n.val, a⟩) else if b : n.val < 256 then o1 (ix2 r ⟨n.val - 128, by omega⟩)
      else if c : n.val < 384 then o2 (ix2 r ⟨n.val - 256, by omega⟩) else o3 (ix2 r ⟨n.val - 384, by omega⟩) := by
    pointwise [cat]
    by_cases a : n.val < 128
    · rw [dif_pos a, dif_pos a]
    · rw [dif_neg a, dif_neg a]
      by_cases b : n.val < 256
      · rw [dif_pos b, dif_pos (by omega : n.val - 128 < 128)]
      · rw [dif_neg b, dif_neg (by omega : ¬ n.val - 128 < 128)]
        by_cases c : n.val < 384
        · rw [dif_pos c, dif_pos (by omega : n.val - 128 - 128 < 128)]
          exact congrArg (fun w => o2 (ix2 r w)) (Fin.ext (by show n.val - 128 - 128 = n.val - 256; omega))
        · rw [dif_neg c, dif_neg (by omega : ¬ n.val - 128 - 128 < 128)]
          exact congrArg (fun w => o3 (ix2 r w)) (Fin.ext (by show n.val - 128 - 128 - 128 = n.val - 384; omega))
  rw [e]
  split
  · rw [h0]; exact congrArg f (Fin.ext (by show 128 * 0 + n.val = n.val; omega))
  · split
    · rw [h1]; exact congrArg f (Fin.ext (by show 128 * 1 + (n.val - 128) = n.val; omega))
    · split
      · rw [h2]; exact congrArg f (Fin.ext (by show 128 * 2 + (n.val - 256) = n.val; omega))
      · rw [h3]; exact congrArg f (Fin.ext (by show 128 * 3 + (n.val - 384) = n.val; omega))

theorem fin_apply (x : FVec Ideal S512x2048 .f32) (z : FVec Ideal S512x512 .bf16) (w : Vec Ideal S1x512x2048 .bf16) (r : Fin 512) (d : Fin 2048) :
    fin x z w (ix2 r d) = x (ix2 r d) + ∑ n : Fin 512, z (ix2 r n) * w (ix3 0 n d) := by
  pointwise [fin]

theorem pay2_apply (x : Vec Ideal S512x2048 .f32) (y0 : Vec Ideal S512x768 .bf16) (w0 : Vec Ideal S1x768x2048 .bf16) (y1 : Vec Ideal S512x512 .bf16) (w1 : Vec Ideal S1x512x2048 .bf16)
    (y2 : Vec Ideal S512x768 .bf16) (w2 : Vec Ideal S1x768x2048 .bf16) (r : Fin 512) (d : Fin 2048) :
    k0_pay2 x y0 w0 y1 w1 y2 w2 (ix2 r d)
      = ((x (ix2 r d) + ∑ e : Fin 768, y0 (ix2 r e) * w0 (ix3 0 e d)) + ∑ e : Fin 512, y1 (ix2 r e) * w1 (ix3 0 e d)) + ∑ e : Fin 768, y2 (ix2 r e) * w2 (ix3 0 e d) := by
  pointwise [k0_pay2]

theorem pay5_apply (x : Vec Ideal S512x2048 .f32) (y0 : Vec Ideal S512x768 .bf16) (w0 : Vec Ideal S1x768x2048 .bf16) (y1 : Vec Ideal S512x512 .bf16) (w1 : Vec Ideal S1x512x2048 .bf16)
    (y2 : Vec Ideal S512x768 .bf16) (w2 : Vec Ideal S1x768x2048 .bf16) (g : Vec Ideal S1x1x2048 .f32) (wq : Vec Ideal S1x2048x512 .bf16) (r : Fin 512) (n : Fin 512) :
    k0_pay5 (k0_pay3 x y0 w0 y1 w1 y2 w2) (k0_pay4 g) wq (ix2 r n)
      = mw (fun e => k0_pay2 x y0 w0 y1 w1 y2 w2 (ix2 r e)) (fun e => g (ix3 0 0 e)) (fun e n => wq (ix3 0 e n)) n := by
  unfold k0_pay3
  generalize k0_pay2 x y0 w0 y1 w1 y2 w2 = z
  unfold mw mn
  pointwise [k0_pay5, k0_pay4, Cert.FfnIdeal.Gen.scale]

theorem q0_apply (z : FVec Ideal S512x512 .f32) (r : Fin 512) (k : Fin 128) : q0 z (ix2 r k) = z (ix2 r (hc 0 k)) := by
  pointwise [q0]
  exact congrArg (fun w => z (ix2 r w)) (Fin.ext (by show k.val = 128 * 0 + k.val; omega))
theorem q1_apply (z : FVec Ideal S512x512 .f32) (r : Fin 512) (k : Fin 128) : q1 z (ix2 r k) = z (ix2 r (hc 1 k)) := by
  pointwise [q1]
  exact congrArg (fun w => z (ix2 r w)) (Fin.ext (by show 128 + k.val = 128 * 1 + k.val; omega))
theorem q2_apply (z : FVec Ideal S512x512 .f32) (r : Fin 512) (k : Fin 128) : k0_pay10 z (ix2 r k) = z (ix2 r (hc 2 k)) := by
  pointwise [k0_pay10]
  exact congrArg (fun w => z (ix2 r w)) (Fin.ext (by show 256 + k.val = 128 * 2 + k.val; omega))
theorem q3_apply (z : FVec Ideal S512x512 .f32) (r : Fin 512) (k : Fin 128) : k0_pay12 z (ix2 r k) = z (ix2 r (hc 3 k)) := by
  pointwise [k0_pay12]
  exact congrArg (fun w => z (ix2 r w)) (Fin.ext (by show 384 + k.val = 128 * 3 + k.val; omega))

theorem hd_hc (h : Fin 4) (k : Fin 128) : hd (hc h k) = h := Fin.ext (by show (128 * h.val + k.val) / 128 = h.val; omega)
theorem hk_hc (h : Fin 4) (k : Fin 128) : hk (hc h k) = k := Fin.ext (by show (128 * h.val + k.val) % 128 = k.val; omega)

theorem ca_at (x : Fin 2048 → EReal) (g : Fin 2048 → EReal) (wq : Fin 2048 → Fin 512 → EReal) (kg : Fin 128 → EReal)
    (mk mv : Fin 256 → Fin 4 → Fin 128 → EReal) (h : Fin 4) (k : Fin 128) :
    ca x g wq kg mk mv (hc h k) = att (hkey (fun k => mw x g wq (hc h k)) kg) (fun j => mk j h) (fun j => mv j h) k := by
  unfold ca
  rw [hd_hc, hk_hc]

/-- A head's columns of a block. -/
theorem head_val (x : Fin 2048 → EReal) (g : Fin 2048 → EReal) (wq : Fin 2048 → Fin 512 → EReal) (kg : Fin 128 → EReal)
    (mk mv : Fin 256 → Fin 4 → Fin 128 → EReal) (h : Fin 4) (r : Fin 512) (q : FVec Ideal S512x128 .f32) (x7 : Vec Ideal S1x1x128 .f32) (K W : Vec Ideal S1x256x128 .f32)
    (hq : ∀ k, q (ix2 r k) = mw x g wq (hc h k)) (h7 : ∀ k, x7 (ix3 0 0 k) = kg k) (hK : ∀ j d, K (ix3 0 j d) = mk j h d) (hW : ∀ j d, W (ix3 0 j d) = mv j h d) (k : Fin 128) :
    k0_pay11 q x7 K W (ix2 r k) = ca x g wq kg mk mv (hc h k) := by
  rw [head_apply, ca_at]
  simp only [hq, h7, hK, hW]

theorem ld_rw0 {e : EltTy} (x : Vec Ideal S1x2048x2048 e) (a : Fin 768) (b : Fin 2048) :
    View.ld x rw0 (ix3 0 a b) = x (ix3 0 ⟨a.val, by omega⟩ b) := by
  show x _ = x _
  congr 1
  funext i
  apply Fin.ext
  match i with
  | ⟨0, _⟩ => rfl
  | ⟨1, _⟩ => show 0 + 1 * a.val = a.val; omega
  | ⟨2, _⟩ => show 0 + 1 * b.val = b.val; omega

theorem ld_rw1 {e : EltTy} (x : Vec Ideal S1x2048x2048 e) (a : Fin 512) (b : Fin 2048) :
    View.ld x rw1 (ix3 0 a b) = x (ix3 0 ⟨768 + a.val, by omega⟩ b) := by
  show x _ = x _
  congr 1
  funext i
  apply Fin.ext
  match i with
  | ⟨0, _⟩ => rfl
  | ⟨1, _⟩ => show 768 + 1 * a.val = 768 + a.val; omega
  | ⟨2, _⟩ => show 0 + 1 * b.val = b.val; omega

theorem ld_rw2 {e : EltTy} (x : Vec Ideal S1x2048x2048 e) (a : Fin 768) (b : Fin 2048) :
    View.ld x rw2 (ix3 0 a b) = x (ix3 0 ⟨1280 + a.val, by omega⟩ b) := by
  show x _ = x _
  congr 1
  funext i
  apply Fin.ext
  match i with
  | ⟨0, _⟩ => rfl
  | ⟨1, _⟩ => show 1280 + 1 * a.val = 1280 + a.val; omega
  | ⟨2, _⟩ => show 0 + 1 * b.val = b.val; omega

theorem ld_rm0 {e : EltTy} (x : Vec Ideal S1x256x512 e) (a : Fin 256) (b : Fin 128) :
    View.ld x rm0 (ix3 0 a b) = x (ix3 0 a (hc 0 b)) := by
  show x _ = x _
  congr 1
  funext i
  apply Fin.ext
  match i with
  | ⟨0, _⟩ => rfl
  | ⟨1, _⟩ => show 0 + 1 * a.val = a.val; omega
  | ⟨2, _⟩ => show 0 + 1 * b.val = 128 * 0 + b.val; omega

theorem ld_rm1 {e : EltTy} (x : Vec Ideal S1x256x512 e) (a : Fin 256) (b : Fin 128) :
    View.ld x rm1 (ix3 0 a b) = x (ix3 0 a (hc 1 b)) := by
  show x _ = x _
  congr 1
  funext i
  apply Fin.ext
  match i with
  | ⟨0, _⟩ => rfl
  | ⟨1, _⟩ => show 0 + 1 * a.val = a.val; omega
  | ⟨2, _⟩ => show 128 + 1 * b.val = 128 * 1 + b.val; omega

theorem ld_rm2 {e : EltTy} (x : Vec Ideal S1x256x512 e) (a : Fin 256) (b : Fin 128) :
    View.ld x rm2 (ix3 0 a b) = x (ix3 0 a (hc 2 b)) := by
  show x _ = x _
  congr 1
  funext i
  apply Fin.ext
  match i with
  | ⟨0, _⟩ => rfl
  | ⟨1, _⟩ => show 0 + 1 * a.val = a.val; omega
  | ⟨2, _⟩ => show 256 + 1 * b.val = 128 * 2 + b.val; omega

theorem ld_rm3 {e : EltTy} (x : Vec Ideal S1x256x512 e) (a : Fin 256) (b : Fin 128) :
    View.ld x rm3 (ix3 0 a b) = x (ix3 0 a (hc 3 b)) := by
  show x _ = x _
  congr 1
  funext i
  apply Fin.ext
  match i with
  | ⟨0, _⟩ => rfl
  | ⟨1, _⟩ => show 0 + 1 * a.val = a.val; omega
  | ⟨2, _⟩ => show 384 + 1 * b.val = 128 * 3 + b.val; omega

/-- What a point leaves, of its blocks. -/
noncomputable def bval (x0 : Vec Ideal S512x2048 .f32) (x1 : Vec Ideal S512x768 .bf16) (x2 : Vec Ideal S512x512 .bf16) (x3 : Vec Ideal S512x768 .bf16) (x4 : Vec Ideal S1x2048x2048 .bf16) (x5 : Vec Ideal S1x1x2048 .f32) (x6 : Vec Ideal S1x2048x512 .bf16) (x7 : Vec Ideal S1x1x128 .f32) (x8 x9 : Vec Ideal S1x256x512 .f32) (x10 : Vec Ideal S1x512x2048 .bf16) : FVec Ideal S512x2048 .f32 :=
  k0_pay1 (k0_pay2 x0 x1 (View.ld x4 rw0) x2 (View.ld x4 rw1) x3 (View.ld x4 rw2))
      (k0_pay8 (k0_pay6 (k0_pay3 x0 x1 (View.ld x4 rw0) x2 (View.ld x4 rw1) x3 (View.ld x4 rw2)) (k0_pay4 x5) x6 x7 (View.ld x8 rm0)) (k0_pay7 (View.ld x9 rm0)))
      (k0_pay9 (k0_pay5 (k0_pay3 x0 x1 (View.ld x4 rw0) x2 (View.ld x4 rw1) x3 (View.ld x4 rw2)) (k0_pay4 x5) x6) x7 (View.ld x8 rm1) (View.ld x9 rm1))
      (k0_pay11 (k0_pay10 (k0_pay5 (k0_pay3 x0 x1 (View.ld x4 rw0) x2 (View.ld x4 rw1) x3 (View.ld x4 rw2)) (k0_pay4 x5) x6)) x7 (View.ld x8 rm2) (View.ld x9 rm2))
      (k0_pay12 (k0_pay5 (k0_pay3 x0 x1 (View.ld x4 rw0) x2 (View.ld x4 rw1) x3 (View.ld x4 rw2)) (k0_pay4 x5) x6)) (k0_pay13 x7) (k0_pay14 (k0_pay5 (k0_pay3 x0 x1 (View.ld x4 rw0) x2 (View.ld x4 rw1) x3 (View.ld x4 rw2)) (k0_pay4 x5) x6)) k0_pay15 (View.ld x8 rm3) (View.ld x9 rm3) x10

theorem bval_apply (x0 : Vec Ideal S512x2048 .f32) (x1 : Vec Ideal S512x768 .bf16) (x2 : Vec Ideal S512x512 .bf16) (x3 : Vec Ideal S512x768 .bf16) (x4 : Vec Ideal S1x2048x2048 .bf16) (x5 : Vec Ideal S1x1x2048 .f32) (x6 : Vec Ideal S1x2048x512 .bf16) (x7 : Vec Ideal S1x1x128 .f32) (x8 x9 : Vec Ideal S1x256x512 .f32) (x10 : Vec Ideal S1x512x2048 .bf16)
    (X Y : Fin 2048 → EReal) (W : Fin 2048 → Fin 2048 → EReal) (g : Fin 2048 → EReal) (wq : Fin 2048 → Fin 512 → EReal) (kg : Fin 128 → EReal)
    (mk mv : Fin 256 → Fin 4 → Fin 128 → EReal) (wo : Fin 512 → Fin 2048 → EReal) (r : Fin 512)
    (h0 : ∀ d, x0 (ix2 r d) = X d) (h1 : ∀ e : Fin 768, x1 (ix2 r e) = Y ⟨e.val, by omega⟩) (h2 : ∀ e : Fin 512, x2 (ix2 r e) = Y ⟨768 + e.val, by omega⟩)
    (h3 : ∀ e : Fin 768, x3 (ix2 r e) = Y ⟨1280 + e.val, by omega⟩) (h4 : ∀ e d, x4 (ix3 0 e d) = W e d) (h5 : ∀ d, x5 (ix3 0 0 d) = g d)
    (h6 : ∀ e n, x6 (ix3 0 e n) = wq e n) (h7 : ∀ k, x7 (ix3 0 0 k) = kg k) (h8 : ∀ j n, x8 (ix3 0 j n) = mk j (hd n) (hk n)) (h9 : ∀ j n, x9 (ix3 0 j n) = mv j (hd n) (hk n))
    (h10 : ∀ n d, x10 (ix3 0 n d) = wo n d) (d : Fin 2048) :
    bval x0 x1 x2 x3 x4 x5 x6 x7 x8 x9 x10 (ix2 r d) = Cert.PostV.post X Y W g wq kg mk mv wo d := by
  have hX (d : Fin 2048) : (k0_pay2 x0 x1 (View.ld x4 rw0) x2 (View.ld x4 rw1) x3 (View.ld x4 rw2)) (ix2 r d) = Cert.PostV.x1 X Y W d := by
    rw [pay2_apply]
    unfold Cert.PostV.x1
    rw [← sum_split (fun e => Y e * W e d), ← add_assoc, ← add_assoc, h0]
    refine congrArg₂ (· + ·) (congrArg₂ (· + ·) (congrArg _ ?_) ?_) ?_
    · exact Finset.sum_congr rfl fun e _ => congrArg₂ (· * ·) (h1 e) ((ld_rw0 x4 e d).trans (h4 _ _))
    · exact Finset.sum_congr rfl fun e _ => congrArg₂ (· * ·) (h2 e) ((ld_rw1 x4 e d).trans (h4 _ _))
    · exact Finset.sum_congr rfl fun e _ => congrArg₂ (· * ·) (h3 e) ((ld_rw2 x4 e d).trans (h4 _ _))
  have hQ (n : Fin 512) : (k0_pay5 (k0_pay3 x0 x1 (View.ld x4 rw0) x2 (View.ld x4 rw1) x3 (View.ld x4 rw2)) (k0_pay4 x5) x6) (ix2 r n) = mw (Cert.PostV.x1 X Y W) g wq n := by
    rw [pay5_apply]
    simp only [hX, h5, h6]
  have hm (x : Vec Ideal S1x256x512 .f32) (f : Fin 256 → Fin 4 → Fin 128 → EReal) (h : ∀ j n, x (ix3 0 j n) = f j (hd n) (hk n)) (i : Fin 4) (j : Fin 256) (k : Fin 128) :
      x (ix3 0 j (hc i k)) = f j i k := by rw [h, hd_hc, hk_hc]
  unfold bval
  rw [pay8_eq, pay9_eq, pay1_eq, fin_apply, hX]
  unfold Cert.PostV.post
  refine congrArg _ (Finset.sum_congr rfl fun n _ => congrArg₂ (· * ·) ?_ (h10 n d))
  refine cat_apply _ _ _ _ (ca (Cert.PostV.x1 X Y W) g wq kg mk mv) r n ?_ ?_ ?_ ?_
  · exact head_val _ g wq kg mk mv 0 r _ _ _ _ (fun k => (q0_apply _ r k).trans (hQ _)) h7 (fun j k => (ld_rm0 x8 j k).trans (hm x8 mk h8 0 j k)) (fun j k => (ld_rm0 x9 j k).trans (hm x9 mv h9 0 j k))
  · exact head_val _ g wq kg mk mv 1 r _ _ _ _ (fun k => (q1_apply _ r k).trans (hQ _)) h7 (fun j k => (ld_rm1 x8 j k).trans (hm x8 mk h8 1 j k)) (fun j k => (ld_rm1 x9 j k).trans (hm x9 mv h9 1 j k))
  · exact head_val _ g wq kg mk mv 2 r _ _ _ _ (fun k => (q2_apply _ r k).trans (hQ _)) h7 (fun j k => (ld_rm2 x8 j k).trans (hm x8 mk h8 2 j k)) (fun j k => (ld_rm2 x9 j k).trans (hm x9 mv h9 2 j k))
  · exact head_val _ g wq kg mk mv 3 r _ _ _ _ (fun k => (q3_apply _ r k).trans (hQ _)) h7 (fun j k => (ld_rm3 x8 j k).trans (hm x8 mk h8 3 j k)) (fun j k => (ld_rm3 x9 j k).trans (hm x9 mv h9 3 j k))

end Cert.PostIdeal.Hand

end
-- ==== Proof.PostAcc.lean ====
/- What the call `post_mix` leaves in its result array. -/
module

public import proofs.«01_k».proof.Proof.PostBlk
public import proofs.«01_k».proof.Proof.PostHost
public import proofs.«01_k».proof.Proof.PostVal
public import proofs.«01_k».proof.Proof.PostPay
public import Idealize.ShloMosaic.Lib.Pipeline.ValueKit.Geometry

@[expose] public section

set_option maxRecDepth 16384

noncomputable section

namespace Cert.PostIdeal.Hand

open Cert.PostIdeal Cert.PostIdeal.Gen Idealize.ShloMosaic Idealize.ShloMosaic.TcCoe Idealize.SL.Sem Cert.PostV

variable (m : (ℓ : Loc nD τ sig) → Buf (Elt Ideal) ℓ)

/-! The arguments as functions of coordinates. -/
def ax (c : Dev nD) (b : Fin 2) (s : Fin 8192) (d : Fin 2048) : EReal := m ((c.tc : Thread nD τ).loc main_arg0) (ix3 b s d)
def ay (c : Dev nD) (b : Fin 2) (s : Fin 8192) (d : Fin 2048) : EReal := m ((c.tc : Thread nD τ).loc main_arg1) (ix3 b s d)
def aW (c : Dev nD) (l : Fin 4) (e : Fin 2048) (d : Fin 2048) : EReal := m ((c.tc : Thread nD τ).loc main_arg3) (ix3 l e d)
def ag (c : Dev nD) (l : Fin 4) (d : Fin 2048) : EReal := m ((c.tc : Thread nD τ).loc main_arg4) (ix2 l d)
def awq (c : Dev nD) (l : Fin 4) (e : Fin 2048) (n : Fin 512) : EReal := m ((c.tc : Thread nD τ).loc main_arg5) (ix3 l e n)
def akg (c : Dev nD) (l : Fin 4) (d : Fin 128) : EReal := m ((c.tc : Thread nD τ).loc main_arg6) (ix2 l d)
def amk (c : Dev nD) (l : Fin 4) (b : Fin 2) (j : Fin 256) (i : Fin 4) (d : Fin 128) : EReal := m ((c.tc : Thread nD τ).loc main_arg7) (ix5 l b j i d)
def amv (c : Dev nD) (l : Fin 4) (b : Fin 2) (j : Fin 256) (i : Fin 4) (d : Fin 128) : EReal := m ((c.tc : Thread nD τ).loc main_arg8) (ix5 l b j i d)
def awo (c : Dev nD) (l : Fin 4) (n : Fin 512) (d : Fin 2048) : EReal := m ((c.tc : Thread nD τ).loc main_arg9) (ix3 l n d)

/-- An element of the result. -/
def zAt (hl : lyr m < 4) (c : Dev nD) (R : Fin 16384) (d : Fin 2048) : EReal :=
  Cert.PostV.post (ax m c (rb R) (rs R)) (ay m c (rb R) (rs R)) (aW m c ⟨lyr m, hl⟩) (ag m c ⟨lyr m, hl⟩) (awq m c ⟨lyr m, hl⟩) (akg m c ⟨lyr m, hl⟩)
    (amk m c ⟨lyr m, hl⟩ (rb R)) (amv m c ⟨lyr m, hl⟩ (rb R)) (awo m c ⟨lyr m, hl⟩) d

/-- The memory block's layer and batch. -/
theorem mblk_ix (hO : Ok m) (hl : lyr m < 4) (t : Fin (cfgM m hO).N) (r : Fin 512) :
    (⟨(mblk m hO hl t).val / 2, by omega⟩ : Fin 4) = ⟨lyr m, hl⟩ ∧ (⟨(mblk m hO hl t).val % 2, by omega⟩ : Fin 2) = rb (row m hO t r) := by
  have ht := N_lt m hO t
  refine ⟨Fin.ext ?_, Fin.ext ?_⟩
  · show (2 * lyr m + t.val / 16) / 2 = lyr m
    omega
  · show (2 * lyr m + t.val / 16) % 2 = (512 * t.val + r.val) / 8192
    omega

theorem outs_apply (hO : Ok m) (hl : lyr m < 4) (c : Dev nD) (t : Fin (cfgM m hO).N) (r : Fin 512) (d : Fin 2048) :
    outsAt0 m hO c t (ix2 r d) = zAt m hl c (row m hO t r) d := by
  have e : outsAt0 m hO c t = bval (b0 m hO c t) (b1 m hO c t) (b2 m hO c t) (b3 m hO c t) (b4 m hO c t) (b5 m hO c t) (b6 m hO c t) (b7 m hO c t) (b8 m hO c t) (b9 m hO c t) (b10 m hO c t) := by
    unfold outsAt0 bval
    exact out_A_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (b0 m hO c t) (b1 m hO c t) (b2 m hO c t) (b3 m hO c t) (b4 m hO c t) (b5 m hO c t) (b6 m hO c t) (b7 m hO c t) (b8 m hO c t) (b9 m hO c t) (b10 m hO c t) (tbl m 0)
  rw [e]
  obtain ⟨hb, hc⟩ := mblk_ix m hO hl t r
  refine bval_apply (b0 m hO c t) (b1 m hO c t) (b2 m hO c t) (b3 m hO c t) (b4 m hO c t) (b5 m hO c t) (b6 m hO c t) (b7 m hO c t) (b8 m hO c t) (b9 m hO c t) (b10 m hO c t) _ _ _ _ _ _ _ _ _ r ?_ ?_ ?_ ?_ ?_ ?_ ?_ ?_ ?_ ?_ ?_ d
  · exact fun d => (blk0 m hO c t r d).trans (V_v2 m c _ d)
  · exact fun e => (blk1 m hO c t r e).trans (V_v3 m c _ e)
  · exact fun e => (blk2 m hO c t r e).trans (V_v4 m c _ e)
  · exact fun e => (blk3 m hO c t r e).trans (V_v5 m c _ e)
  · exact fun e d => (blk4 m hO hl c t e d).trans (V_v6 m c _ e d)
  · exact fun d => (blk5 m hO hl c t d).trans (V_v7 m c _ d)
  · exact fun e n => (blk6 m hO hl c t e n).trans (V_v8 m c _ e n)
  · exact fun d => (blk7 m hO hl c t d).trans (V_v9 m c _ d)
  · intro j n
    refine (blk8 m hO hl c t j n).trans ((V_v10 m c _ j n).trans ?_)
    rw [hb, hc]
    rfl
  · intro j n
    refine (blk9 m hO hl c t j n).trans ((V_v11 m c _ j n).trans ?_)
    rw [hb, hc]
    rfl
  · exact fun n d => (blk10 m hO hl c t n d).trans (V_v12 m c _ n d)

theorem eta512 (x : S512x2048.Idx) : x = ix2 (x 0 : Fin 512) (x 1 : Fin 2048) :=
  funext fun a => by match a with | ⟨0, _⟩ => rfl | ⟨1, _⟩ => rfl

/-- The result array. -/
def resO (hl : lyr m < 4) (c : Dev nD) : Vec Ideal S16384x2048 .f32 := fun i => zAt m hl c (i 0) (i 1)

theorem flushedO (hO : Ok m) (hl : lyr m < 4) (c : Dev nD) (t : Fin (cfgM m hO).N) (hf : ((cfgM m hO).win 11).flush t = true) :
    (dats m hO 0 c).flushed 11 t = (((cfgM m hO).win 11).blk t).view.read (Elt Ideal) (resO m hl c) := by
  show ((cfgM m hO).win 11).cut (grid0.coords t) ((dats m hO 0 c).after 11 t) = _
  rw [after0_11]
  funext y
  obtain ⟨y, rfl⟩ : ∃ z : S512x2048.Idx, z = y := ⟨y, rfl⟩
  refine Eq.trans ?_ (View.read_apply _ _).symm
  show outsAt0 m hO c t (((cfgM m hO).win 11).xinj (grid0.coords t) y) = resO m hl c _
  have e (r : Fin 512) (k : Fin 2048) := outs_apply m hO hl c t r k
  refine (congrArg _ (eta512 y)).trans ((e (y 0) (y 1)).trans ?_)
  unfold resO
  have h0 := co0 m hO t
  have hN := N_lt m hO t
  refine congrArg₂ (zAt m hl c) ?_ ?_
  · apply Fin.ext
    show 512 * t.val + (y 0).val = (BitVec.ofNat 32 (grid0.coords t 0).val).toNat * 512 + 1 * (y 0).val
    rw [h0, BitVec.toNat_ofNat]; omega
  · apply Fin.ext
    show (y 1).val = 0 * 2048 + 1 * (y 1).val
    omega

theorem final_o (hO : Ok m) (hl : lyr m < 4) (c : Dev nD) : (dats m hO 0 c).arrAt 11 (cfgM m hO).N = resO m hl c :=
  (dats m hO 0 c).arrAt_eq_of_cover 11 (resO m hl c) (flushedO m hO hl c) fun i => by
    obtain ⟨i, rfl⟩ : ∃ z : S16384x2048.Idx, z = i := ⟨i, rfl⟩
    have h0 : (i 0 : Nat) < 16384 := (i 0).isLt
    have h1 : (i 1 : Nat) < 2048 := (i 1).isLt
    have hlt : (i 0 : Nat) / 512 < (cfgM m hO).N := Nat.lt_of_lt_of_eq (by omega : _ < 32) N_0.symm
    refine ⟨⟨(i 0 : Nat) / 512, hlt⟩, flush0_11 (adm m hO) _, ?_⟩
    have hc' : (grid0.coords (⟨(i 0 : Nat) / 512, hlt⟩ : Fin (cfgM m hO).N) 0).val = (i 0 : Nat) / 512 := co0 m hO ⟨(i 0 : Nat) / 512, hlt⟩
    generalize (⟨(i 0 : Nat) / 512, hlt⟩ : Fin (cfgM m hO).N) = t at hc'
    refine (Pipeline.Window.emb_mem_blk_iff ((cfgM m hO).win 11) t i rfl).mpr ?_
    intro a
    match a with
    | ⟨0, _⟩ =>
      show (BitVec.ofNat 32 (grid0.coords t 0).val).toNat * 512 ≤ (i 0 : Nat) ∧ (i 0 : Nat) < (BitVec.ofNat 32 (grid0.coords t 0).val).toNat * 512 + 512
      rw [hc', BitVec.toNat_ofNat]; omega
    | ⟨1, _⟩ =>
      show 0 * 2048 ≤ (i 1 : Nat) ∧ (i 1 : Nat) < 0 * 2048 + 2048
      omega

end Cert.PostIdeal.Hand

end
-- ==== Proof.PostRefOps.lean ====
/- The reference of the call `post_mix`, in stretches of its operations: its run, and which buffers each stretch leaves. -/
module

public import proofs.«01_k».proof.Proof.Gen.PostRefIdeal
public import Idealize.ShloMosaic.Lib.StableHlo.Run
public import Idealize.ShloMosaic.Lib.Pipeline.Frame

@[expose] public section

noncomputable section

namespace Cert.PostRefIdeal.Stretch

open Cert.PostRefIdeal Cert.PostRefIdeal.Gen Idealize.ShloMosaic Idealize.ShloMosaic.TcCoe Idealize.SL.Sem Idealize.ShloMosaic.StableHlo

variable {F : FTy → Type} [FloatOps F]

/-- The contents of a buffer of a shape and an element type. -/
abbrev Ct (F : FTy → Type) (s : Shape) (e : EltTy) := (⟨s, e⟩ : BufTy).Contents (Elt F)

/-- Operations for the layer's output weights. -/
abbrev opsA : List (HloOp τ sig (Elt F)) :=
  [ reshape main_arg2 main_v0 (rfl : (.i32 : EltTy) = .i32) shapeCasts_S1_S_,
    nullary main_c (constantI S_ 32 0#32),
    binary main_v0 main_c main_v1 (cmpi .slt : Ct F S_ .i32 → Ct F S_ .i32 → Ct F S_ .i1),
    nullary main_c_0 (constantI S_ 32 4#32),
    binary main_v0 main_c_0 main_v2 (addi : Ct F S_ .i32 → Ct F S_ .i32 → Ct F S_ .i32),
    ternary main_v1 main_v2 main_v0 main_v3 (select : Ct F S_ .i1 → Ct F S_ .i32 → Ct F S_ .i32 → Ct F S_ .i32),
    nullary main_c_1 (constantI S_ 32 0#32),
    nullary main_c_2 (constantI S_ 32 0#32),
    unaryIndexed main_arg3 ![main_v3, main_c_1, main_c_2] ⟨S_, .i32⟩ main_v4 ((fun x i => Host.dynamicSlice S1x2048x2048 x (fun k => (i k (Shape.Idx.first h_S_)).toInt) sliceFits_S4x2048x2048_S1x2048x2048) : Ct F S4x2048x2048 .f32 → (Fin 3 → Ct F S_ .i32) → Ct F S1x2048x2048 .f32),
    reshape main_v4 main_v5 (rfl : (.f32 : EltTy) = .f32) shapeCasts_S1x2048x2048_S2048x2048 ]

/-- What they write, in order. -/
abbrev wA : List (Ref sig .tc) := [main_v0, main_c, main_v1, main_c_0, main_v2, main_v3, main_c_1, main_c_2, main_v4, main_v5]

/-- Operations for the rows after the output projection. -/
abbrev opsB : List (HloOp τ sig (Elt F)) :=
  [ binary main_arg1 main_v5 main_v6 ((fun l r => Host.dotGeneral dot_S2x8192x2048_S2048x2048_S2x8192x2048_2_0_01_1_n_n none l r) : Ct F S2x8192x2048 .f32 → Ct F S2048x2048 .f32 → Ct F S2x8192x2048 .f32),
    binary main_arg0 main_v6 main_v7 (addf : Ct F S2x8192x2048 .f32 → Ct F S2x8192x2048 .f32 → Ct F S2x8192x2048 .f32) ]

/-- What they write, in order. -/
abbrev wB : List (Ref sig .tc) := [main_v6, main_v7]

/-- Operations for the layer's norm weights. -/
abbrev opsC : List (HloOp τ sig (Elt F)) :=
  [ reshape main_arg2 main_v8 (rfl : (.i32 : EltTy) = .i32) shapeCasts_S1_S_,
    nullary main_c_3 (constantI S_ 32 0#32),
    binary main_v8 main_c_3 main_v9 (cmpi .slt : Ct F S_ .i32 → Ct F S_ .i32 → Ct F S_ .i1),
    nullary main_c_4 (constantI S_ 32 4#32),
    binary main_v8 main_c_4 main_v10 (addi : Ct F S_ .i32 → Ct F S_ .i32 → Ct F S_ .i32),
    ternary main_v9 main_v10 main_v8 main_v11 (select : Ct F S_ .i1 → Ct F S_ .i32 → Ct F S_ .i32 → Ct F S_ .i32),
    nullary main_c_5 (constantI S_ 32 0#32),
    unaryIndexed main_arg4 ![main_v11, main_c_5] ⟨S_, .i32⟩ main_v12 ((fun x i => Host.dynamicSlice S1x2048 x (fun k => (i k (Shape.Idx.first h_S_)).toInt) sliceFits_S4x2048_S1x2048) : Ct F S4x2048 .f32 → (Fin 2 → Ct F S_ .i32) → Ct F S1x2048 .f32),
    reshape main_v12 main_v13 (rfl : (.f32 : EltTy) = .f32) shapeCasts_S1x2048_S2048 ]

/-- What they write, in order. -/
abbrev wC : List (Ref sig .tc) := [main_v8, main_c_3, main_v9, main_c_4, main_v10, main_v11, main_c_5, main_v12, main_v13]

/-- Operations for the normed rows. -/
abbrev opsD : List (HloOp τ sig (Elt F)) :=
  [ binary main_v7 main_v7 main_v14 (mulf : Ct F S2x8192x2048 .f32 → Ct F S2x8192x2048 .f32 → Ct F S2x8192x2048 .f32),
    nullary main_cst (constant S_ .f32 0x00000000#32),
    binary main_v14 main_cst main_v15 ((fun x v => Host.reduceAdd x v reducesTo_S2x8192x2048_S2x8192_d2 h_S_) : Ct F S2x8192x2048 .f32 → Ct F S_ .f32 → Ct F S2x8192 .f32),
    unary main_v15 main_v16 (broadcastInDim S2x8192x1 ![0, 1] bcast_S2x8192_S2x8192x1_0_1 : Ct F S2x8192 .f32 → Ct F S2x8192x1 .f32),
    nullary main_cst_6 (constant S_ .f32 0x45000000#32),
    unary main_cst_6 main_v17 (broadcastInDim S2x8192x1 ![] bcast_S_S2x8192x1 : Ct F S_ .f32 → Ct F S2x8192x1 .f32),
    binary main_v16 main_v17 main_v18 (Host.divf : Ct F S2x8192x1 .f32 → Ct F S2x8192x1 .f32 → Ct F S2x8192x1 .f32),
    nullary main_cst_7 (constant S_ .f32 0x358637BD#32),
    unary main_cst_7 main_v19 (broadcastInDim S2x8192x1 ![] bcast_S_S2x8192x1 : Ct F S_ .f32 → Ct F S2x8192x1 .f32),
    binary main_v18 main_v19 main_v20 (addf : Ct F S2x8192x1 .f32 → Ct F S2x8192x1 .f32 → Ct F S2x8192x1 .f32),
    unary main_v20 main_v21 (Host.rsqrt : Ct F S2x8192x1 .f32 → Ct F S2x8192x1 .f32),
    unary main_v21 main_v22 (broadcastInDim S2x8192x2048 ![0, 1, 2] bcast_S2x8192x1_S2x8192x2048_0_1_2 : Ct F S2x8192x1 .f32 → Ct F S2x8192x2048 .f32),
    binary main_v7 main_v22 main_v23 (mulf : Ct F S2x8192x2048 .f32 → Ct F S2x8192x2048 .f32 → Ct F S2x8192x2048 .f32),
    unary main_v13 main_v24 (broadcastInDim S1x1x2048 ![2] bcast_S2048_S1x1x2048_2 : Ct F S2048 .f32 → Ct F S1x1x2048 .f32),
    unary main_v24 main_v25 (broadcastInDim S2x8192x2048 ![0, 1, 2] bcast_S1x1x2048_S2x8192x2048_0_1_2 : Ct F S1x1x2048 .f32 → Ct F S2x8192x2048 .f32),
    binary main_v23 main_v25 main_v26 (mulf : Ct F S2x8192x2048 .f32 → Ct F S2x8192x2048 .f32 → Ct F S2x8192x2048 .f32) ]

/-- What they write, in order. -/
abbrev wD : List (Ref sig .tc) := [main_v14, main_cst, main_v15, main_v16, main_cst_6, main_v17, main_v18, main_cst_7, main_v19, main_v20, main_v21, main_v22, main_v23, main_v24, main_v25, main_v26]

/-- Operations for the layer's keys. -/
abbrev opsE : List (HloOp τ sig (Elt F)) :=
  [ reshape main_arg2 main_v27 (rfl : (.i32 : EltTy) = .i32) shapeCasts_S1_S_,
    nullary main_c_8 (constantI S_ 32 0#32),
    binary main_v27 main_c_8 main_v28 (cmpi .slt : Ct F S_ .i32 → Ct F S_ .i32 → Ct F S_ .i1),
    nullary main_c_9 (constantI S_ 32 4#32),
    binary main_v27 main_c_9 main_v29 (addi : Ct F S_ .i32 → Ct F S_ .i32 → Ct F S_ .i32),
    ternary main_v28 main_v29 main_v27 main_v30 (select : Ct F S_ .i1 → Ct F S_ .i32 → Ct F S_ .i32 → Ct F S_ .i32),
    nullary main_c_10 (constantI S_ 32 0#32),
    nullary main_c_11 (constantI S_ 32 0#32),
    nullary main_c_12 (constantI S_ 32 0#32),
    nullary main_c_13 (constantI S_ 32 0#32),
    unaryIndexed main_arg7 ![main_v30, main_c_10, main_c_11, main_c_12, main_c_13] ⟨S_, .i32⟩ main_v31 ((fun x i => Host.dynamicSlice S1x2x256x4x128 x (fun k => (i k (Shape.Idx.first h_S_)).toInt) sliceFits_S4x2x256x4x128_S1x2x256x4x128) : Ct F S4x2x256x4x128 .f32 → (Fin 5 → Ct F S_ .i32) → Ct F S1x2x256x4x128 .f32),
    reshape main_v31 main_v32 (rfl : (.f32 : EltTy) = .f32) shapeCasts_S1x2x256x4x128_S2x256x4x128 ]

/-- What they write, in order. -/
abbrev wE : List (Ref sig .tc) := [main_v27, main_c_8, main_v28, main_c_9, main_v29, main_v30, main_c_10, main_c_11, main_c_12, main_c_13, main_v31, main_v32]

/-- Operations for the layer's values. -/
abbrev opsF : List (HloOp τ sig (Elt F)) :=
  [ reshape main_arg2 main_v33 (rfl : (.i32 : EltTy) = .i32) shapeCasts_S1_S_,
    nullary main_c_14 (constantI S_ 32 0#32),
    binary main_v33 main_c_14 main_v34 (cmpi .slt : Ct F S_ .i32 → Ct F S_ .i32 → Ct F S_ .i1),
    nullary main_c_15 (constantI S_ 32 4#32),
    binary main_v33 main_c_15 main_v35 (addi : Ct F S_ .i32 → Ct F S_ .i32 → Ct F S_ .i32),
    ternary main_v34 main_v35 main_v33 main_v36 (select : Ct F S_ .i1 → Ct F S_ .i32 → Ct F S_ .i32 → Ct F S_ .i32),
    nullary main_c_16 (constantI S_ 32 0#32),
    nullary main_c_17 (constantI S_ 32 0#32),
    nullary main_c_18 (constantI S_ 32 0#32),
    nullary main_c_19 (constantI S_ 32 0#32),
    unaryIndexed main_arg8 ![main_v36, main_c_16, main_c_17, main_c_18, main_c_19] ⟨S_, .i32⟩ main_v37 ((fun x i => Host.dynamicSlice S1x2x256x4x128 x (fun k => (i k (Shape.Idx.first h_S_)).toInt) sliceFits_S4x2x256x4x128_S1x2x256x4x128) : Ct F S4x2x256x4x128 .f32 → (Fin 5 → Ct F S_ .i32) → Ct F S1x2x256x4x128 .f32),
    reshape main_v37 main_v38 (rfl : (.f32 : EltTy) = .f32) shapeCasts_S1x2x256x4x128_S2x256x4x128 ]

/-- What they write, in order. -/
abbrev wF : List (Ref sig .tc) := [main_v33, main_c_14, main_v34, main_c_15, main_v35, main_v36, main_c_16, main_c_17, main_c_18, main_c_19, main_v37, main_v38]

/-- Operations for the layer's query weights. -/
abbrev opsG : List (HloOp τ sig (Elt F)) :=
  [ reshape main_arg2 main_v39 (rfl : (.i32 : EltTy) = .i32) shapeCasts_S1_S_,
    nullary main_c_20 (constantI S_ 32 0#32),
    binary main_v39 main_c_20 main_v40 (cmpi .slt : Ct F S_ .i32 → Ct F S_ .i32 → Ct F S_ .i1),
    nullary main_c_21 (constantI S_ 32 4#32),
    binary main_v39 main_c_21 main_v41 (addi : Ct F S_ .i32 → Ct F S_ .i32 → Ct F S_ .i32),
    ternary main_v40 main_v41 main_v39 main_v42 (select : Ct F S_ .i1 → Ct F S_ .i32 → Ct F S_ .i32 → Ct F S_ .i32),
    nullary main_c_22 (constantI S_ 32 0#32),
    nullary main_c_23 (constantI S_ 32 0#32),
    unaryIndexed main_arg5 ![main_v42, main_c_22, main_c_23] ⟨S_, .i32⟩ main_v43 ((fun x i => Host.dynamicSlice S1x2048x512 x (fun k => (i k (Shape.Idx.first h_S_)).toInt) sliceFits_S4x2048x512_S1x2048x512) : Ct F S4x2048x512 .f32 → (Fin 3 → Ct F S_ .i32) → Ct F S1x2048x512 .f32),
    reshape main_v43 main_v44 (rfl : (.f32 : EltTy) = .f32) shapeCasts_S1x2048x512_S2048x512 ]

/-- What they write, in order. -/
abbrev wG : List (Ref sig .tc) := [main_v39, main_c_20, main_v40, main_c_21, main_v41, main_v42, main_c_22, main_c_23, main_v43, main_v44]

/-- Operations for the layer's query norm. -/
abbrev opsH : List (HloOp τ sig (Elt F)) :=
  [ reshape main_arg2 main_v45 (rfl : (.i32 : EltTy) = .i32) shapeCasts_S1_S_,
    nullary main_c_24 (constantI S_ 32 0#32),
    binary main_v45 main_c_24 main_v46 (cmpi .slt : Ct F S_ .i32 → Ct F S_ .i32 → Ct F S_ .i1),
    nullary main_c_25 (constantI S_ 32 4#32),
    binary main_v45 main_c_25 main_v47 (addi : Ct F S_ .i32 → Ct F S_ .i32 → Ct F S_ .i32),
    ternary main_v46 main_v47 main_v45 main_v48 (select : Ct F S_ .i1 → Ct F S_ .i32 → Ct F S_ .i32 → Ct F S_ .i32),
    nullary main_c_26 (constantI S_ 32 0#32),
    unaryIndexed main_arg6 ![main_v48, main_c_26] ⟨S_, .i32⟩ main_v49 ((fun x i => Host.dynamicSlice S1x128 x (fun k => (i k (Shape.Idx.first h_S_)).toInt) sliceFits_S4x128_S1x128) : Ct F S4x128 .f32 → (Fin 2 → Ct F S_ .i32) → Ct F S1x128 .f32),
    reshape main_v49 main_v50 (rfl : (.f32 : EltTy) = .f32) shapeCasts_S1x128_S128 ]

/-- What they write, in order. -/
abbrev wH : List (Ref sig .tc) := [main_v45, main_c_24, main_v46, main_c_25, main_v47, main_v48, main_c_26, main_v49, main_v50]

/-- Operations for the layer's weights of the last product. -/
abbrev opsI : List (HloOp τ sig (Elt F)) :=
  [ reshape main_arg2 main_v51 (rfl : (.i32 : EltTy) = .i32) shapeCasts_S1_S_,
    nullary main_c_27 (constantI S_ 32 0#32),
    binary main_v51 main_c_27 main_v52 (cmpi .slt : Ct F S_ .i32 → Ct F S_ .i32 → Ct F S_ .i1),
    nullary main_c_28 (constantI S_ 32 4#32),
    binary main_v51 main_c_28 main_v53 (addi : Ct F S_ .i32 → Ct F S_ .i32 → Ct F S_ .i32),
    ternary main_v52 main_v53 main_v51 main_v54 (select : Ct F S_ .i1 → Ct F S_ .i32 → Ct F S_ .i32 → Ct F S_ .i32),
    nullary main_c_29 (constantI S_ 32 0#32),
    nullary main_c_30 (constantI S_ 32 0#32),
    unaryIndexed main_arg9 ![main_v54, main_c_29, main_c_30] ⟨S_, .i32⟩ main_v55 ((fun x i => Host.dynamicSlice S1x512x2048 x (fun k => (i k (Shape.Idx.first h_S_)).toInt) sliceFits_S4x512x2048_S1x512x2048) : Ct F S4x512x2048 .f32 → (Fin 3 → Ct F S_ .i32) → Ct F S1x512x2048 .f32),
    reshape main_v55 main_v56 (rfl : (.f32 : EltTy) = .f32) shapeCasts_S1x512x2048_S512x2048 ]

/-- What they write, in order. -/
abbrev wI : List (Ref sig .tc) := [main_v51, main_c_27, main_v52, main_c_28, main_v53, main_v54, main_c_29, main_c_30, main_v55, main_v56]

/-- Operations for the queries. -/
abbrev opsJ : List (HloOp τ sig (Elt F)) :=
  [ binary main_v26 main_v44 main_v57 ((fun l r => Host.dotGeneral dot_S2x8192x2048_S2048x512_S2x8192x512_2_0_01_1_n_n none l r) : Ct F S2x8192x2048 .f32 → Ct F S2048x512 .f32 → Ct F S2x8192x512 .f32) ]

/-- What they write, in order. -/
abbrev wJ : List (Ref sig .tc) := [main_v57]

/-- Operations for the normed queries. -/
abbrev opsK : List (HloOp τ sig (Elt F)) :=
  [ reshape main_v57 main_v58 (rfl : (.f32 : EltTy) = .f32) shapeCasts_S2x8192x512_S2x8192x4x128,
    binary main_v58 main_v58 main_v59 (mulf : Ct F S2x8192x4x128 .f32 → Ct F S2x8192x4x128 .f32 → Ct F S2x8192x4x128 .f32),
    nullary main_cst_31 (constant S_ .f32 0x00000000#32),
    binary main_v59 main_cst_31 main_v60 ((fun x v => Host.reduceAdd x v reducesTo_S2x8192x4x128_S2x8192x4_d3 h_S_) : Ct F S2x8192x4x128 .f32 → Ct F S_ .f32 → Ct F S2x8192x4 .f32),
    unary main_v60 main_v61 (broadcastInDim S2x8192x4x1 ![0, 1, 2] bcast_S2x8192x4_S2x8192x4x1_0_1_2 : Ct F S2x8192x4 .f32 → Ct F S2x8192x4x1 .f32),
    nullary main_cst_32 (constant S_ .f32 0x43000000#32),
    unary main_cst_32 main_v62 (broadcastInDim S2x8192x4x1 ![] bcast_S_S2x8192x4x1 : Ct F S_ .f32 → Ct F S2x8192x4x1 .f32),
    binary main_v61 main_v62 main_v63 (Host.divf : Ct F S2x8192x4x1 .f32 → Ct F S2x8192x4x1 .f32 → Ct F S2x8192x4x1 .f32),
    nullary main_cst_33 (constant S_ .f32 0x358637BD#32),
    unary main_cst_33 main_v64 (broadcastInDim S2x8192x4x1 ![] bcast_S_S2x8192x4x1 : Ct F S_ .f32 → Ct F S2x8192x4x1 .f32),
    binary main_v63 main_v64 main_v65 (addf : Ct F S2x8192x4x1 .f32 → Ct F S2x8192x4x1 .f32 → Ct F S2x8192x4x1 .f32),
    unary main_v65 main_v66 (Host.rsqrt : Ct F S2x8192x4x1 .f32 → Ct F S2x8192x4x1 .f32),
    unary main_v66 main_v67 (broadcastInDim S2x8192x4x128 ![0, 1, 2, 3] bcast_S2x8192x4x1_S2x8192x4x128_0_1_2_3 : Ct F S2x8192x4x1 .f32 → Ct F S2x8192x4x128 .f32),
    binary main_v58 main_v67 main_v68 (mulf : Ct F S2x8192x4x128 .f32 → Ct F S2x8192x4x128 .f32 → Ct F S2x8192x4x128 .f32),
    unary main_v50 main_v69 (broadcastInDim S1x1x1x128 ![3] bcast_S128_S1x1x1x128_3 : Ct F S128 .f32 → Ct F S1x1x1x128 .f32),
    unary main_v69 main_v70 (broadcastInDim S2x8192x4x128 ![0, 1, 2, 3] bcast_S1x1x1x128_S2x8192x4x128_0_1_2_3 : Ct F S1x1x1x128 .f32 → Ct F S2x8192x4x128 .f32),
    binary main_v68 main_v70 main_v71 (mulf : Ct F S2x8192x4x128 .f32 → Ct F S2x8192x4x128 .f32 → Ct F S2x8192x4x128 .f32) ]

/-- What they write, in order. -/
abbrev wK : List (Ref sig .tc) := [main_v58, main_v59, main_cst_31, main_v60, main_v61, main_cst_32, main_v62, main_v63, main_cst_33, main_v64, main_v65, main_v66, main_v67, main_v68, main_v69, main_v70, main_v71]

/-- Operations for the scores. -/
abbrev opsL : List (HloOp τ sig (Elt F)) :=
  [ binary main_v71 main_v32 main_v72 ((fun l r => Host.dotGeneral dot_S2x8192x4x128_S2x256x4x128_S2x4x8192x256_3_3_1_1_02_02 none l r) : Ct F S2x8192x4x128 .f32 → Ct F S2x256x4x128 .f32 → Ct F S2x4x8192x256 .f32),
    nullary main_cst_34 (constant S_ .f32 0x3DB504F3#32),
    unary main_cst_34 main_v73 (broadcastInDim S2x4x8192x256 ![] bcast_S_S2x4x8192x256 : Ct F S_ .f32 → Ct F S2x4x8192x256 .f32),
    binary main_v72 main_v73 main_v74 (mulf : Ct F S2x4x8192x256 .f32 → Ct F S2x4x8192x256 .f32 → Ct F S2x4x8192x256 .f32) ]

/-- What they write, in order. -/
abbrev wL : List (Ref sig .tc) := [main_v72, main_cst_34, main_v73, main_v74]

/-- Operations for the scores below the greatest. -/
abbrev opsM : List (HloOp τ sig (Elt F)) :=
  [ nullary main_cst_35 (constant S_ .f32 0xFF800000#32),
    binary main_v74 main_cst_35 main_v75 ((fun x v => Host.reduce FloatOps.maximumf x v reducesTo_S2x4x8192x256_S2x4x8192_d3 h_S_) : Ct F S2x4x8192x256 .f32 → Ct F S_ .f32 → Ct F S2x4x8192 .f32),
    nullary main_cst_36 (constant S_ .f32 0xFF800000#32),
    unary main_cst_36 main_v76 (broadcastInDim S2x4x8192 ![] bcast_S_S2x4x8192 : Ct F S_ .f32 → Ct F S2x4x8192 .f32),
    binary main_v76 main_v75 main_v77 (maximumf : Ct F S2x4x8192 .f32 → Ct F S2x4x8192 .f32 → Ct F S2x4x8192 .f32),
    unary main_v77 main_v78 (broadcastInDim S2x4x8192x1 ![0, 1, 2] bcast_S2x4x8192_S2x4x8192x1_0_1_2 : Ct F S2x4x8192 .f32 → Ct F S2x4x8192x1 .f32),
    unary main_v78 main_v79 (broadcastInDim S2x4x8192x256 ![0, 1, 2, 3] bcast_S2x4x8192x1_S2x4x8192x256_0_1_2_3 : Ct F S2x4x8192x1 .f32 → Ct F S2x4x8192x256 .f32),
    binary main_v74 main_v79 main_v80 (subf : Ct F S2x4x8192x256 .f32 → Ct F S2x4x8192x256 .f32 → Ct F S2x4x8192x256 .f32) ]

/-- What they write, in order. -/
abbrev wM : List (Ref sig .tc) := [main_cst_35, main_v75, main_cst_36, main_v76, main_v77, main_v78, main_v79, main_v80]

/-- Operations for the softmax. -/
abbrev opsN : List (HloOp τ sig (Elt F)) :=
  [ unary main_v80 main_v81 (Host.exp : Ct F S2x4x8192x256 .f32 → Ct F S2x4x8192x256 .f32),
    nullary main_cst_37 (constant S_ .f32 0x00000000#32),
    binary main_v81 main_cst_37 main_v82 ((fun x v => Host.reduceAdd x v reducesTo_S2x4x8192x256_S2x4x8192_d3 h_S_) : Ct F S2x4x8192x256 .f32 → Ct F S_ .f32 → Ct F S2x4x8192 .f32),
    unary main_v82 main_v83 (broadcastInDim S2x4x8192x1 ![0, 1, 2] bcast_S2x4x8192_S2x4x8192x1_0_1_2 : Ct F S2x4x8192 .f32 → Ct F S2x4x8192x1 .f32),
    unary main_v83 main_v84 (broadcastInDim S2x4x8192x256 ![0, 1, 2, 3] bcast_S2x4x8192x1_S2x4x8192x256_0_1_2_3 : Ct F S2x4x8192x1 .f32 → Ct F S2x4x8192x256 .f32),
    binary main_v81 main_v84 main_v85 (Host.divf : Ct F S2x4x8192x256 .f32 → Ct F S2x4x8192x256 .f32 → Ct F S2x4x8192x256 .f32) ]

/-- What they write, in order. -/
abbrev wN : List (Ref sig .tc) := [main_v81, main_cst_37, main_v82, main_v83, main_v84, main_v85]

/-- Operations for the weighted values. -/
abbrev opsO : List (HloOp τ sig (Elt F)) :=
  [ binary main_v38 main_v85 main_v86 ((fun l r => Host.dotGeneral dot_S2x256x4x128_S2x4x8192x256_S2x4x128x8192_1_3_3_2_02_01 none l r) : Ct F S2x256x4x128 .f32 → Ct F S2x4x8192x256 .f32 → Ct F S2x4x128x8192 .f32),
    unary main_v86 main_v87 ((transpose S2x8192x4x128 [0, 3, 1, 2] · transposes_S2x4x128x8192_S2x8192x4x128_0_3_1_2) : Ct F S2x4x128x8192 .f32 → Ct F S2x8192x4x128 .f32),
    reshape main_v87 main_v88 (rfl : (.f32 : EltTy) = .f32) shapeCasts_S2x8192x4x128_S2x8192x512 ]

/-- What they write, in order. -/
abbrev wO : List (Ref sig .tc) := [main_v86, main_v87, main_v88]

/-- Operations for the result. -/
abbrev opsP : List (HloOp τ sig (Elt F)) :=
  [ binary main_v88 main_v56 main_v89 ((fun l r => Host.dotGeneral dot_S2x8192x512_S512x2048_S2x8192x2048_2_0_01_1_n_n none l r) : Ct F S2x8192x512 .f32 → Ct F S512x2048 .f32 → Ct F S2x8192x2048 .f32),
    binary main_v7 main_v89 main_v90 (addf : Ct F S2x8192x2048 .f32 → Ct F S2x8192x2048 .f32 → Ct F S2x8192x2048 .f32),
    reshape main_v90 main_v91 (rfl : (.f32 : EltTy) = .f32) shapeCasts_S2x8192x2048_S16384x2048 ]

/-- What they write, in order. -/
abbrev wP : List (Ref sig .tc) := [main_v89, main_v90, main_v91]

/-- All of them. -/
abbrev ops : List (HloOp τ sig (Elt F)) := (opsA (F := F)) ++ ((opsB (F := F)) ++ ((opsC (F := F)) ++ ((opsD (F := F)) ++ ((opsE (F := F)) ++ ((opsF (F := F)) ++ ((opsG (F := F)) ++ ((opsH (F := F)) ++ ((opsI (F := F)) ++ ((opsJ (F := F)) ++ ((opsK (F := F)) ++ ((opsL (F := F)) ++ ((opsM (F := F)) ++ ((opsN (F := F)) ++ ((opsO (F := F)) ++ ((opsP (F := F)))))))))))))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., nullary_bufs_sub .., binary_bufs_sub .., nullary_bufs_sub .., binary_bufs_sub .., ternary_bufs_sub .., nullary_bufs_sub .., nullary_bufs_sub .., unaryIndexed_bufs_sub .., reshape_bufs_sub .., binary_bufs_sub .., binary_bufs_sub .., reshape_bufs_sub .., nullary_bufs_sub .., binary_bufs_sub .., nullary_bufs_sub .., binary_bufs_sub .., ternary_bufs_sub .., nullary_bufs_sub .., unaryIndexed_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., reshape_bufs_sub .., nullary_bufs_sub .., binary_bufs_sub .., nullary_bufs_sub .., binary_bufs_sub .., ternary_bufs_sub .., nullary_bufs_sub .., nullary_bufs_sub .., nullary_bufs_sub .., nullary_bufs_sub .., unaryIndexed_bufs_sub .., reshape_bufs_sub .., reshape_bufs_sub .., nullary_bufs_sub .., binary_bufs_sub .., nullary_bufs_sub .., binary_bufs_sub .., ternary_bufs_sub .., nullary_bufs_sub .., nullary_bufs_sub .., nullary_bufs_sub .., nullary_bufs_sub .., unaryIndexed_bufs_sub .., reshape_bufs_sub .., reshape_bufs_sub .., nullary_bufs_sub .., binary_bufs_sub .., nullary_bufs_sub .., binary_bufs_sub .., ternary_bufs_sub .., nullary_bufs_sub .., nullary_bufs_sub .., unaryIndexed_bufs_sub .., reshape_bufs_sub .., reshape_bufs_sub .., nullary_bufs_sub .., binary_bufs_sub .., nullary_bufs_sub .., binary_bufs_sub .., ternary_bufs_sub .., nullary_bufs_sub .., unaryIndexed_bufs_sub .., reshape_bufs_sub .., reshape_bufs_sub .., nullary_bufs_sub .., binary_bufs_sub .., nullary_bufs_sub .., binary_bufs_sub .., ternary_bufs_sub .., nullary_bufs_sub .., nullary_bufs_sub .., unaryIndexed_bufs_sub .., reshape_bufs_sub .., binary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., reshape_bufs_sub .., binary_bufs_sub .., binary_bufs_sub .., reshape_bufs_sub ..⟩

set_option maxRecDepth 8192 in
/-- The run. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ

set_option maxRecDepth 8192 in
/-- A buffer the operations do not write is unchanged. -/
theorem unwritten (V : Valuation τ sig (Elt F)) (r : Ref sig .tc) (hr : r ∉ wA ++ (wB ++ (wC ++ (wD ++ (wE ++ (wF ++ (wG ++ (wH ++ (wI ++ (wJ ++ (wK ++ (wL ++ (wM ++ (wN ++ (wO ++ (wP)))))))))))))))) :
    after ops V (Proc.devRef .tc r) = V (Proc.devRef .tc r) :=
  after_of_writes_sub ops V (forall_writes_sub_of_map rfl) hr

end Cert.PostRefIdeal.Stretch

end
-- ==== Proof.PostRefMax.lean ====
/- The scores less their greatest, in the reference of the call `post_mix`. -/
module

public import proofs.«01_k».proof.Proof.PostRefOps
public import proofs.«01_k».proof.Proof.PostPure
public import Idealize.ShloMosaic.Lib.StableHlo.ReadAt
public import Idealize.ShloMosaic.Lib.Pointwise
public import Idealize.ShloMosaic.PureOps.Ideal.Laws

@[expose] public section
noncomputable section
namespace Cert.PostRefIdeal.Stretch
open Cert.PostRefIdeal Cert.PostRefIdeal.Gen Idealize.ShloMosaic Idealize.ShloMosaic.TcCoe Idealize.SL.Sem Idealize.ShloMosaic.StableHlo Cert.MemVal Cert.PostV
variable (V : Valuation τ sig (Elt Ideal))

/-- The scores less the greatest, from the greatest. -/
def lessTop {F : FTy → Type} [FloatOps F] (x : FVec F S2x4x8192x256 .f32) (R : FVec F S2x4x8192 .f32) : FVec F S2x4x8192x256 .f32 :=
  subf x (broadcastInDim S2x4x8192x256 ![0, 1, 2, 3] bcast_S2x4x8192x1_S2x4x8192x256_0_1_2_3
    (broadcastInDim S2x4x8192x1 ![0, 1, 2] bcast_S2x4x8192_S2x4x8192x1_0_1_2
      (maximumf (broadcastInDim S2x4x8192 ![] bcast_S_S2x4x8192 (constant S_ FTy.f32 0xFF800000#32)) R)))

theorem lessTop_apply (x : FVec Ideal S2x4x8192x256 .f32) (R : FVec Ideal S2x4x8192 .f32) (b : Fin 2) (h : Fin 4) (s : Fin 8192) (j : Fin 256) :
    lessTop x R (ix4 b h s j) = x (ix4 b h s j) - max (Ideal.ofBits .f32 0xFF800000#32) (R (ix3 b h s)) := by
  unfold lessTop
  pointwise

/-- The stretch's operations, the reduction left open. -/
theorem M_gen {F : FTy → Type} [FloatOps F] (V : Valuation τ sig (Elt F)) (f : (⟨S2x4x8192x256, .f32⟩ : BufTy).Contents (Elt F) → (⟨S_, .f32⟩ : BufTy).Contents (Elt F) → (⟨S2x4x8192, .f32⟩ : BufTy).Contents (Elt F)) :
    after [ nullary main_cst_35 (constant S_ .f32 0xFF800000#32),
    binary main_v74 main_cst_35 main_v75 f,
    nullary main_cst_36 (constant S_ .f32 0xFF800000#32),
    unary main_cst_36 main_v76 (broadcastInDim S2x4x8192 ![] bcast_S_S2x4x8192 : (⟨S_, .f32⟩ : BufTy).Contents (Elt F) → (⟨S2x4x8192, .f32⟩ : BufTy).Contents (Elt F)),
    binary main_v76 main_v75 main_v77 (maximumf : (⟨S2x4x8192, .f32⟩ : BufTy).Contents (Elt F) → (⟨S2x4x8192, .f32⟩ : BufTy).Contents (Elt F) → (⟨S2x4x8192, .f32⟩ : BufTy).Contents (Elt F)),
    unary main_v77 main_v78 (broadcastInDim S2x4x8192x1 ![0, 1, 2] bcast_S2x4x8192_S2x4x8192x1_0_1_2 : (⟨S2x4x8192, .f32⟩ : BufTy).Contents (Elt F) → (⟨S2x4x8192x1, .f32⟩ : BufTy).Contents (Elt F)),
    unary main_v78 main_v79 (broadcastInDim S2x4x8192x256 ![0, 1, 2, 3] bcast_S2x4x8192x1_S2x4x8192x256_0_1_2_3 : (⟨S2x4x8192x1, .f32⟩ : BufTy).Contents (Elt F) → (⟨S2x4x8192x256, .f32⟩ : BufTy).Contents (Elt F)),
    binary main_v74 main_v79 main_v80 (subf : (⟨S2x4x8192x256, .f32⟩ : BufTy).Contents (Elt F) → (⟨S2x4x8192x256, .f32⟩ : BufTy).Contents (Elt F) → (⟨S2x4x8192x256, .f32⟩ : BufTy).Contents (Elt F)) ] V (Proc.devRef .tc main_v80)
      = lessTop (V (Proc.devRef .tc main_v74)) (f (V (Proc.devRef .tc main_v74)) (constant (F := F) S_ .f32 0xFF800000#32 : FVec F S_ .f32)) := by
  after_reads_simp
  rfl
/-- The greatest of the scores. -/
def redM {F : FTy → Type} [FloatOps F] (x : FVec F S2x4x8192x256 .f32) : FVec F S2x4x8192 .f32 :=
  Host.reduce FloatOps.maximumf x (constant S_ .f32 0xFF800000#32) reducesTo_S2x4x8192x256_S2x4x8192_d3 h_S_

theorem M_raw {F : FTy → Type} [FloatOps F] (V : Valuation τ sig (Elt F)) :
    after opsM V (Proc.devRef .tc main_v80) = lessTop (V (Proc.devRef .tc main_v74)) (redM (V (Proc.devRef .tc main_v74))) :=
  M_gen V ((fun x v => Host.reduce FloatOps.maximumf x v reducesTo_S2x4x8192x256_S2x4x8192_d3 h_S_) : (⟨S2x4x8192x256, .f32⟩ : BufTy).Contents (Elt F) → (⟨S_, .f32⟩ : BufTy).Contents (Elt F) → (⟨S2x4x8192, .f32⟩ : BufTy).Contents (Elt F))

/-- The greatest along the last axis, as a fold over its coordinate. -/
theorem red_max (x : FVec Ideal S2x4x8192x256 .f32) (c : FVec Ideal S_ .f32) (h' : S2x4x8192x256.ReducesTo [3] S2x4x8192) (hu : 0 < S_.numel)
    (b : Fin 2) (h : Fin 4) (s : Fin 8192) :
    Host.reduce FloatOps.maximumf x c h' hu (ix3 b h s) = Finset.fold max (c (Shape.Idx.first hu)) (fun k : Fin 256 => x (ix4 b h s k)) Finset.univ := by
  have hr : S2x4x8192x256.Reduces [3] S2x4x8192 := by decide
  refine (Host.reduce_eq_fold_single FloatOps.maximumf x c h' hr hu (ix3 b h s)).trans ?_
  have e (k : Fin 256) : hr.lift (ix3 b h s) k = ix4 b h s k := by
    funext a
    match a with
    | ⟨0, _⟩ => rfl
    | ⟨1, _⟩ => rfl
    | ⟨2, _⟩ => rfl
    | ⟨3, _⟩ => rfl
  refine Finset.fold_congr fun k _ => ?_
  exact congrArg x (e k)

theorem redM_apply (x : FVec Ideal S2x4x8192x256 .f32) (b : Fin 2) (h : Fin 4) (s : Fin 8192) :
    redM x (ix3 b h s) = Finset.fold max (Ideal.ofBits .f32 0xFF800000#32) (fun k : Fin 256 => x (ix4 b h s k)) Finset.univ := by
  unfold redM
  exact red_max x (constant S_ .f32 0xFF800000#32) reducesTo_S2x4x8192x256_S2x4x8192_d3 h_S_ b h s

theorem M_v80 (c : Fin 2 → Fin 4 → Fin 8192 → Fin 256 → EReal)
    (hc : ∀ b h s j, c b h s j = V (Proc.devRef .tc main_v74) (ix4 b h s j)) (b : Fin 2) (h : Fin 4) (s : Fin 8192) (j : Fin 256) :
    c b h s j - top (c b h s) = after opsM V (Proc.devRef .tc main_v80) (ix4 b h s j) := by
  symm
  have e : c b h s = fun k => (V (Proc.devRef .tc main_v74) : FVec Ideal S2x4x8192x256 .f32) (ix4 b h s k) := funext fun k => hc b h s k
  rw [M_raw V]
  generalize (V (Proc.devRef .tc main_v74) : FVec Ideal S2x4x8192x256 .f32) = x at e ⊢
  refine (lessTop_apply x (redM x) b h s j).trans ?_
  rw [redM_apply, e]
  rfl
end Cert.PostRefIdeal.Stretch
end
-- ==== Proof.PostRefVal.lean ====
/- The reference of the call `post_mix`: what each stretch of its operations leaves. -/
module

public import proofs.«01_k».proof.Proof.PostRefOps
public import proofs.«01_k».proof.Proof.PostPure
public import proofs.«01_k».proof.Proof.PostRefMax
public import Idealize.ShloMosaic.Lib.StableHlo.ReadAt
public import Idealize.ShloMosaic.Lib.Pointwise

@[expose] public section

set_option maxRecDepth 16384

noncomputable section

namespace Cert.PostRefIdeal.Stretch

open Cert.PostRefIdeal Cert.PostRefIdeal.Gen Idealize.ShloMosaic Idealize.ShloMosaic.TcCoe Idealize.SL.Sem Idealize.ShloMosaic.StableHlo Cert.MemVal Cert.PostV

variable (V : Valuation τ sig (Elt Ideal))

/-- Rows of one of the shapes. -/
abbrev Rows (n : ℕ) := Fin 2 → Fin 8192 → Fin n → EReal

theorem B_v7 (x y : Rows 2048) (w : Fin 2048 → Fin 2048 → EReal)
    (hx : ∀ b s d, x b s d = V (Proc.devRef .tc main_arg0) (ix3 b s d)) (hy : ∀ b s d, y b s d = V (Proc.devRef .tc main_arg1) (ix3 b s d))
    (hw : ∀ e d, w e d = V (Proc.devRef .tc main_v5) (ix2 e d)) (b : Fin 2) (s : Fin 8192) (d : Fin 2048) :
    x b s d + (∑ e : Fin 2048, y b s e * w e d) = after opsB V (Proc.devRef .tc main_v7) (ix3 b s d) := by
  symm
  after_reads_at
  simp only [← hx, ← hy, ← hw]

theorem D_v26 (x : Rows 2048) (g : Fin 2048 → EReal)
    (hx : ∀ b s d, x b s d = V (Proc.devRef .tc main_v7) (ix3 b s d)) (hg : ∀ d, g d = V (Proc.devRef .tc main_v13) (ix1 d))
    (b : Fin 2) (s : Fin 8192) (d : Fin 2048) :
    mn (x b s) g d = after opsD V (Proc.devRef .tc main_v26) (ix3 b s d) := by
  symm
  after_reads_at
  simp only [← hx, ← hg]
  rfl

theorem J_v57 (x : Rows 2048) (w : Fin 2048 → Fin 512 → EReal)
    (hx : ∀ b s d, x b s d = V (Proc.devRef .tc main_v26) (ix3 b s d)) (hw : ∀ e n, w e n = V (Proc.devRef .tc main_v44) (ix2 e n))
    (b : Fin 2) (s : Fin 8192) (n : Fin 512) :
    (∑ e : Fin 2048, x b s e * w e n) = after opsJ V (Proc.devRef .tc main_v57) (ix3 b s n) := by
  symm
  after_reads_at
  simp only [← hx, ← hw]

theorem K_v71 (y : Rows 512) (kg : Fin 128 → EReal)
    (hy : ∀ b s n, y b s n = V (Proc.devRef .tc main_v57) (ix3 b s n)) (hk : ∀ d, kg d = V (Proc.devRef .tc main_v50) (ix1 d))
    (b : Fin 2) (s : Fin 8192) (h : Fin 4) (d : Fin 128) :
    hkey (fun k => y b s (hc h k)) kg d = after opsK V (Proc.devRef .tc main_v71) (ix4 b s h d) := by
  symm
  after_reads_at
  simp only [hy, hk, hkey, hscale, hc, Nat.mul_comm 128]

theorem L_v74 (q : Fin 2 → Fin 8192 → Fin 4 → Fin 128 → EReal) (mk : Fin 2 → Fin 256 → Fin 4 → Fin 128 → EReal)
    (hq : ∀ b s h d, q b s h d = V (Proc.devRef .tc main_v71) (ix4 b s h d)) (hk : ∀ b j h d, mk b j h d = V (Proc.devRef .tc main_v32) (ix4 b j h d))
    (b : Fin 2) (h : Fin 4) (s : Fin 8192) (j : Fin 256) :
    score (q b s h) (fun d => mk b j h d) = after opsL V (Proc.devRef .tc main_v74) (ix4 b h s j) := by
  symm
  after_reads_at
  simp only [← hq, ← hk, score]

theorem N_v85 (c : Fin 2 → Fin 4 → Fin 8192 → Fin 256 → EReal)
    (hc : ∀ b h s j, c b h s j = V (Proc.devRef .tc main_v80) (ix4 b h s j)) (b : Fin 2) (h : Fin 4) (s : Fin 8192) (j : Fin 256) :
    Ideal.div (Ideal.exp (c b h s j)) (∑ k : Fin 256, Ideal.exp (c b h s k)) = after opsN V (Proc.devRef .tc main_v85) (ix4 b h s j) := by
  symm
  after_reads_at
  simp only [← hc]

theorem O_v88 (p : Fin 2 → Fin 4 → Fin 8192 → Fin 256 → EReal) (mv : Fin 2 → Fin 256 → Fin 4 → Fin 128 → EReal)
    (hp : ∀ b h s j, p b h s j = V (Proc.devRef .tc main_v85) (ix4 b h s j)) (hv : ∀ b j h d, mv b j h d = V (Proc.devRef .tc main_v38) (ix4 b j h d))
    (b : Fin 2) (s : Fin 8192) (n : Fin 512) :
    (∑ j : Fin 256, p b (hd n) s j * mv b j (hd n) (hk n)) = after opsO V (Proc.devRef .tc main_v88) (ix3 b s n) := by
  symm
  after_reads_at
  simp only [← hp, ← hv]
  exact Finset.sum_congr rfl fun j _ => mul_comm _ _

theorem P_v91 (x : Rows 2048) (o : Rows 512) (w : Fin 512 → Fin 2048 → EReal)
    (hx : ∀ b s d, x b s d = V (Proc.devRef .tc main_v7) (ix3 b s d)) (ho : ∀ b s n, o b s n = V (Proc.devRef .tc main_v88) (ix3 b s n))
    (hw : ∀ n d, w n d = V (Proc.devRef .tc main_v56) (ix2 n d)) (R : Fin 16384) (d : Fin 2048) :
    x ⟨R.val / 8192, by omega⟩ ⟨R.val % 8192, by omega⟩ d + (∑ n : Fin 512, o ⟨R.val / 8192, by omega⟩ ⟨R.val % 8192, by omega⟩ n * w n d)
      = after opsP V (Proc.devRef .tc main_v91) (ix2 R d) := by
  symm
  after_reads_at
  simp only [← hx, ← ho, ← hw]

end Cert.PostRefIdeal.Stretch

end
-- ==== Proof.PostRefSl.lean ====
/- The reference of the call `post_mix`: the layer slices. -/
module

public import proofs.«01_k».proof.Proof.PostRefOps
public import proofs.«01_k».proof.Proof.PostPure
public import proofs.«01_k».proof.Proof.FfnRefVal
public import Idealize.ShloMosaic.Lib.StableHlo.ReadAt
public import Idealize.ShloMosaic.Lib.Pointwise

@[expose] public section

set_option maxRecDepth 16384

noncomputable section

namespace Cert.PostRefIdeal.Stretch

open Cert.PostRefIdeal Cert.PostRefIdeal.Gen Idealize.ShloMosaic Idealize.ShloMosaic.TcCoe Idealize.SL.Sem Idealize.ShloMosaic.StableHlo Cert.MemVal Cert.PostV
open Cert.FfnRefIdeal.Stretch (start_sel)

/-- A layer's slice of a stack, the unit axis dropped. -/
theorem sl_4_2048_2048 (x : Vec Ideal S4x2048x2048 .f32) (l : Fin 4) (start : Fin 3 → Int) (h0 : start 0 = l.val) (h1 : start 1 = 0) (h2 : start 2 = 0)
    (h : S4x2048x2048.Slices (fun _ => 0) S1x2048x2048) (hc : S1x2048x2048.ShapeCasts S2048x2048) (e : Fin 2048) (d : Fin 2048) :
    shapeCast S2048x2048 (Host.dynamicSlice S1x2048x2048 x start h) hc (ix2 e d) = x (ix3 l e d) := by
  have hoff : S4x2048x2048.Slices ![l.val, 0, 0] S1x2048x2048 := ⟨rfl, fun a => by
    match a with
    | ⟨0, _⟩ => show l.val + 1 ≤ 4; omega
    | ⟨1, _⟩ => show 0 + 2048 ≤ 2048; omega
    | ⟨2, _⟩ => show 0 + 2048 ≤ 2048; omega⟩
  rw [Host.dynamicSlice_eq_extractStridedSlice S1x2048x2048 x start ![l.val, 0, 0] h hoff (fun a => by
    match a with
    | ⟨0, _⟩ => exact h0
    | ⟨1, _⟩ => exact h1
    | ⟨2, _⟩ => exact h2)]
  pointwise

/-- A layer's slice of a stack, the unit axis dropped. -/
theorem sl_4_2048 (x : Vec Ideal S4x2048 .f32) (l : Fin 4) (start : Fin 2 → Int) (h0 : start 0 = l.val) (h1 : start 1 = 0)
    (h : S4x2048.Slices (fun _ => 0) S1x2048) (hc : S1x2048.ShapeCasts S2048) (e : Fin 2048) :
    shapeCast S2048 (Host.dynamicSlice S1x2048 x start h) hc (ix1 e) = x (ix2 l e) := by
  have hoff : S4x2048.Slices ![l.val, 0] S1x2048 := ⟨rfl, fun a => by
    match a with
    | ⟨0, _⟩ => show l.val + 1 ≤ 4; omega
    | ⟨1, _⟩ => show 0 + 2048 ≤ 2048; omega⟩
  rw [Host.dynamicSlice_eq_extractStridedSlice S1x2048 x start ![l.val, 0] h hoff (fun a => by
    match a with
    | ⟨0, _⟩ => exact h0
    | ⟨1, _⟩ => exact h1)]
  pointwise

/-- A layer's slice of a stack, the unit axis dropped. -/
theorem sl_4_2_256_4_128 (x : Vec Ideal S4x2x256x4x128 .f32) (l : Fin 4) (start : Fin 5 → Int) (h0 : start 0 = l.val) (h1 : start 1 = 0) (h2 : start 2 = 0) (h3 : start 3 = 0) (h4 : start 4 = 0)
    (h : S4x2x256x4x128.Slices (fun _ => 0) S1x2x256x4x128) (hc : S1x2x256x4x128.ShapeCasts S2x256x4x128) (e : Fin 2) (d : Fin 256) (f : Fin 4) (g : Fin 128) :
    shapeCast S2x256x4x128 (Host.dynamicSlice S1x2x256x4x128 x start h) hc (ix4 e d f g) = x (ix5 l e d f g) := by
  have hoff : S4x2x256x4x128.Slices ![l.val, 0, 0, 0, 0] S1x2x256x4x128 := ⟨rfl, fun a => by
    match a with
    | ⟨0, _⟩ => show l.val + 1 ≤ 4; omega
    | ⟨1, _⟩ => show 0 + 2 ≤ 2; omega
    | ⟨2, _⟩ => show 0 + 256 ≤ 256; omega
    | ⟨3, _⟩ => show 0 + 4 ≤ 4; omega
    | ⟨4, _⟩ => show 0 + 128 ≤ 128; omega⟩
  rw [Host.dynamicSlice_eq_extractStridedSlice S1x2x256x4x128 x start ![l.val, 0, 0, 0, 0] h hoff (fun a => by
    match a with
    | ⟨0, _⟩ => exact h0
    | ⟨1, _⟩ => exact h1
    | ⟨2, _⟩ => exact h2
    | ⟨3, _⟩ => exact h3
    | ⟨4, _⟩ => exact h4)]
  pointwise

/-- A layer's slice of a stack, the unit axis dropped. -/
theorem sl_4_2048_512 (x : Vec Ideal S4x2048x512 .f32) (l : Fin 4) (start : Fin 3 → Int) (h0 : start 0 = l.val) (h1 : start 1 = 0) (h2 : start 2 = 0)
    (h : S4x2048x512.Slices (fun _ => 0) S1x2048x512) (hc : S1x2048x512.ShapeCasts S2048x512) (e : Fin 2048) (d : Fin 512) :
    shapeCast S2048x512 (Host.dynamicSlice S1x2048x512 x start h) hc (ix2 e d) = x (ix3 l e d) := by
  have hoff : S4x2048x512.Slices ![l.val, 0, 0] S1x2048x512 := ⟨rfl, fun a => by
    match a with
    | ⟨0, _⟩ => show l.val + 1 ≤ 4; omega
    | ⟨1, _⟩ => show 0 + 2048 ≤ 2048; omega
    | ⟨2, _⟩ => show 0 + 512 ≤ 512; omega⟩
  rw [Host.dynamicSlice_eq_extractStridedSlice S1x2048x512 x start ![l.val, 0, 0] h hoff (fun a => by
    match a with
    | ⟨0, _⟩ => exact h0
    | ⟨1, _⟩ => exact h1
    | ⟨2, _⟩ => exact h2)]
  pointwise

/-- A layer's slice of a stack, the unit axis dropped. -/
theorem sl_4_128 (x : Vec Ideal S4x128 .f32) (l : Fin 4) (start : Fin 2 → Int) (h0 : start 0 = l.val) (h1 : start 1 = 0)
    (h : S4x128.Slices (fun _ => 0) S1x128) (hc : S1x128.ShapeCasts S128) (e : Fin 128) :
    shapeCast S128 (Host.dynamicSlice S1x128 x start h) hc (ix1 e) = x (ix2 l e) := by
  have hoff : S4x128.Slices ![l.val, 0] S1x128 := ⟨rfl, fun a => by
    match a with
    | ⟨0, _⟩ => show l.val + 1 ≤ 4; omega
    | ⟨1, _⟩ => show 0 + 128 ≤ 128; omega⟩
  rw [Host.dynamicSlice_eq_extractStridedSlice S1x128 x start ![l.val, 0] h hoff (fun a => by
    match a with
    | ⟨0, _⟩ => exact h0
    | ⟨1, _⟩ => exact h1)]
  pointwise

/-- A layer's slice of a stack, the unit axis dropped. -/
theorem sl_4_512_2048 (x : Vec Ideal S4x512x2048 .f32) (l : Fin 4) (start : Fin 3 → Int) (h0 : start 0 = l.val) (h1 : start 1 = 0) (h2 : start 2 = 0)
    (h : S4x512x2048.Slices (fun _ => 0) S1x512x2048) (hc : S1x512x2048.ShapeCasts S512x2048) (e : Fin 512) (d : Fin 2048) :
    shapeCast S512x2048 (Host.dynamicSlice S1x512x2048 x start h) hc (ix2 e d) = x (ix3 l e d) := by
  have hoff : S4x512x2048.Slices ![l.val, 0, 0] S1x512x2048 := ⟨rfl, fun a => by
    match a with
    | ⟨0, _⟩ => show l.val + 1 ≤ 4; omega
    | ⟨1, _⟩ => show 0 + 512 ≤ 512; omega
    | ⟨2, _⟩ => show 0 + 2048 ≤ 2048; omega⟩
  rw [Host.dynamicSlice_eq_extractStridedSlice S1x512x2048 x start ![l.val, 0, 0] h hoff (fun a => by
    match a with
    | ⟨0, _⟩ => exact h0
    | ⟨1, _⟩ => exact h1
    | ⟨2, _⟩ => exact h2)]
  pointwise

variable (V : Valuation τ sig (Elt Ideal))

theorem A_v3 (l : Fin 4) (h : (V (Proc.devRef .tc main_arg2) (ix1 0)).toNat = l.val) :
    BitVec.toInt (upto opsA V 8 (Proc.devRef .tc main_v3) (Shape.Idx.first h_S_)) = l.val := by
  after_reads_simp
  exact start_sel shapeCasts_S1_S_ (V (Proc.devRef .tc main_arg2)) _ l h _

theorem A_v5 (l : Fin 4) (h : (V (Proc.devRef .tc main_arg2) (ix1 0)).toNat = l.val) (g : Fin 4 → Fin 2048 → Fin 2048 → EReal)
    (hg : ∀ l e d, g l e d = V (Proc.devRef .tc main_arg3) (ix3 l e d)) (e : Fin 2048) (d : Fin 2048) :
    g l e d = after opsA V (Proc.devRef .tc main_v5) (ix2 e d) := by
  rw [hg]
  symm
  have h3 := A_v3 V l h
  have h_c_1 : BitVec.toInt (upto opsA V 8 (Proc.devRef .tc main_c_1) (Shape.Idx.first h_S_)) = 0 := by
    after_reads_simp; rfl
  have h_c_2 : BitVec.toInt (upto opsA V 8 (Proc.devRef .tc main_c_2) (Shape.Idx.first h_S_)) = 0 := by
    after_reads_simp; rfl
  after_reads_simp
  generalize upto opsA V 8 = W at h3 h_c_1 h_c_2 ⊢
  exact sl_4_2048_2048 _ l _ h3 h_c_1 h_c_2 _ _ e d

theorem C_v11 (l : Fin 4) (h : (V (Proc.devRef .tc main_arg2) (ix1 0)).toNat = l.val) :
    BitVec.toInt (upto opsC V 7 (Proc.devRef .tc main_v11) (Shape.Idx.first h_S_)) = l.val := by
  after_reads_simp
  exact start_sel shapeCasts_S1_S_ (V (Proc.devRef .tc main_arg2)) _ l h _

theorem C_v13 (l : Fin 4) (h : (V (Proc.devRef .tc main_arg2) (ix1 0)).toNat = l.val) (g : Fin 4 → Fin 2048 → EReal)
    (hg : ∀ l e, g l e = V (Proc.devRef .tc main_arg4) (ix2 l e)) (e : Fin 2048) :
    g l e = after opsC V (Proc.devRef .tc main_v13) (ix1 e) := by
  rw [hg]
  symm
  have h3 := C_v11 V l h
  have h_c_5 : BitVec.toInt (upto opsC V 7 (Proc.devRef .tc main_c_5) (Shape.Idx.first h_S_)) = 0 := by
    after_reads_simp; rfl
  after_reads_simp
  generalize upto opsC V 7 = W at h3 h_c_5 ⊢
  exact sl_4_2048 _ l _ h3 h_c_5 _ _ e

theorem E_v30 (l : Fin 4) (h : (V (Proc.devRef .tc main_arg2) (ix1 0)).toNat = l.val) :
    BitVec.toInt (upto opsE V 10 (Proc.devRef .tc main_v30) (Shape.Idx.first h_S_)) = l.val := by
  after_reads_simp
  exact start_sel shapeCasts_S1_S_ (V (Proc.devRef .tc main_arg2)) _ l h _

theorem E_v32 (l : Fin 4) (h : (V (Proc.devRef .tc main_arg2) (ix1 0)).toNat = l.val) (g : Fin 4 → Fin 2 → Fin 256 → Fin 4 → Fin 128 → EReal)
    (hg : ∀ l e d f i, g l e d f i = V (Proc.devRef .tc main_arg7) (ix5 l e d f i)) (e : Fin 2) (d : Fin 256) (f : Fin 4) (i : Fin 128) :
    g l e d f i = after opsE V (Proc.devRef .tc main_v32) (ix4 e d f i) := by
  rw [hg]
  symm
  have h3 := E_v30 V l h
  have h_c_10 : BitVec.toInt (upto opsE V 10 (Proc.devRef .tc main_c_10) (Shape.Idx.first h_S_)) = 0 := by
    after_reads_simp; rfl
  have h_c_11 : BitVec.toInt (upto opsE V 10 (Proc.devRef .tc main_c_11) (Shape.Idx.first h_S_)) = 0 := by
    after_reads_simp; rfl
  have h_c_12 : BitVec.toInt (upto opsE V 10 (Proc.devRef .tc main_c_12) (Shape.Idx.first h_S_)) = 0 := by
    after_reads_simp; rfl
  have h_c_13 : BitVec.toInt (upto opsE V 10 (Proc.devRef .tc main_c_13) (Shape.Idx.first h_S_)) = 0 := by
    after_reads_simp; rfl
  after_reads_simp
  generalize upto opsE V 10 = W at h3 h_c_10 h_c_11 h_c_12 h_c_13 ⊢
  exact sl_4_2_256_4_128 _ l _ h3 h_c_10 h_c_11 h_c_12 h_c_13 _ _ e d f i

theorem F_v36 (l : Fin 4) (h : (V (Proc.devRef .tc main_arg2) (ix1 0)).toNat = l.val) :
    BitVec.toInt (upto opsF V 10 (Proc.devRef .tc main_v36) (Shape.Idx.first h_S_)) = l.val := by
  after_reads_simp
  exact start_sel shapeCasts_S1_S_ (V (Proc.devRef .tc main_arg2)) _ l h _

theorem F_v38 (l : Fin 4) (h : (V (Proc.devRef .tc main_arg2) (ix1 0)).toNat = l.val) (g : Fin 4 → Fin 2 → Fin 256 → Fin 4 → Fin 128 → EReal)
    (hg : ∀ l e d f i, g l e d f i = V (Proc.devRef .tc main_arg8) (ix5 l e d f i)) (e : Fin 2) (d : Fin 256) (f : Fin 4) (i : Fin 128) :
    g l e d f i = after opsF V (Proc.devRef .tc main_v38) (ix4 e d f i) := by
  rw [hg]
  symm
  have h3 := F_v36 V l h
  have h_c_16 : BitVec.toInt (upto opsF V 10 (Proc.devRef .tc main_c_16) (Shape.Idx.first h_S_)) = 0 := by
    after_reads_simp; rfl
  have h_c_17 : BitVec.toInt (upto opsF V 10 (Proc.devRef .tc main_c_17) (Shape.Idx.first h_S_)) = 0 := by
    after_reads_simp; rfl
  have h_c_18 : BitVec.toInt (upto opsF V 10 (Proc.devRef .tc main_c_18) (Shape.Idx.first h_S_)) = 0 := by
    after_reads_simp; rfl
  have h_c_19 : BitVec.toInt (upto opsF V 10 (Proc.devRef .tc main_c_19) (Shape.Idx.first h_S_)) = 0 := by
    after_reads_simp; rfl
  after_reads_simp
  generalize upto opsF V 10 = W at h3 h_c_16 h_c_17 h_c_18 h_c_19 ⊢
  exact sl_4_2_256_4_128 _ l _ h3 h_c_16 h_c_17 h_c_18 h_c_19 _ _ e d f i

theorem G_v42 (l : Fin 4) (h : (V (Proc.devRef .tc main_arg2) (ix1 0)).toNat = l.val) :
    BitVec.toInt (upto opsG V 8 (Proc.devRef .tc main_v42) (Shape.Idx.first h_S_)) = l.val := by
  after_reads_simp
  exact start_sel shapeCasts_S1_S_ (V (Proc.devRef .tc main_arg2)) _ l h _

theorem G_v44 (l : Fin 4) (h : (V (Proc.devRef .tc main_arg2) (ix1 0)).toNat = l.val) (g : Fin 4 → Fin 2048 → Fin 512 → EReal)
    (hg : ∀ l e d, g l e d = V (Proc.devRef .tc main_arg5) (ix3 l e d)) (e : Fin 2048) (d : Fin 512) :
    g l e d = after opsG V (Proc.devRef .tc main_v44) (ix2 e d) := by
  rw [hg]
  symm
  have h3 := G_v42 V l h
  have h_c_22 : BitVec.toInt (upto opsG V 8 (Proc.devRef .tc main_c_22) (Shape.Idx.first h_S_)) = 0 := by
    after_reads_simp; rfl
  have h_c_23 : BitVec.toInt (upto opsG V 8 (Proc.devRef .tc main_c_23) (Shape.Idx.first h_S_)) = 0 := by
    after_reads_simp; rfl
  after_reads_simp
  generalize upto opsG V 8 = W at h3 h_c_22 h_c_23 ⊢
  exact sl_4_2048_512 _ l _ h3 h_c_22 h_c_23 _ _ e d

theorem H_v48 (l : Fin 4) (h : (V (Proc.devRef .tc main_arg2) (ix1 0)).toNat = l.val) :
    BitVec.toInt (upto opsH V 7 (Proc.devRef .tc main_v48) (Shape.Idx.first h_S_)) = l.val := by
  after_reads_simp
  exact start_sel shapeCasts_S1_S_ (V (Proc.devRef .tc main_arg2)) _ l h _

theorem H_v50 (l : Fin 4) (h : (V (Proc.devRef .tc main_arg2) (ix1 0)).toNat = l.val) (g : Fin 4 → Fin 128 → EReal)
    (hg : ∀ l e, g l e = V (Proc.devRef .tc main_arg6) (ix2 l e)) (e : Fin 128) :
    g l e = after opsH V (Proc.devRef .tc main_v50) (ix1 e) := by
  rw [hg]
  symm
  have h3 := H_v48 V l h
  have h_c_26 : BitVec.toInt (upto opsH V 7 (Proc.devRef .tc main_c_26) (Shape.Idx.first h_S_)) = 0 := by
    after_reads_simp; rfl
  after_reads_simp
  generalize upto opsH V 7 = W at h3 h_c_26 ⊢
  exact sl_4_128 _ l _ h3 h_c_26 _ _ e

theorem I_v54 (l : Fin 4) (h : (V (Proc.devRef .tc main_arg2) (ix1 0)).toNat = l.val) :
    BitVec.toInt (upto opsI V 8 (Proc.devRef .tc main_v54) (Shape.Idx.first h_S_)) = l.val := by
  after_reads_simp
  exact start_sel shapeCasts_S1_S_ (V (Proc.devRef .tc main_arg2)) _ l h _

theorem I_v56 (l : Fin 4) (h : (V (Proc.devRef .tc main_arg2) (ix1 0)).toNat = l.val) (g : Fin 4 → Fin 512 → Fin 2048 → EReal)
    (hg : ∀ l e d, g l e d = V (Proc.devRef .tc main_arg9) (ix3 l e d)) (e : Fin 512) (d : Fin 2048) :
    g l e d = after opsI V (Proc.devRef .tc main_v56) (ix2 e d) := by
  rw [hg]
  symm
  have h3 := I_v54 V l h
  have h_c_29 : BitVec.toInt (upto opsI V 8 (Proc.devRef .tc main_c_29) (Shape.Idx.first h_S_)) = 0 := by
    after_reads_simp; rfl
  have h_c_30 : BitVec.toInt (upto opsI V 8 (Proc.devRef .tc main_c_30) (Shape.Idx.first h_S_)) = 0 := by
    after_reads_simp; rfl
  after_reads_simp
  generalize upto opsI V 8 = W at h3 h_c_29 h_c_30 ⊢
  exact sl_4_512_2048 _ l _ h3 h_c_29 h_c_30 _ _ e d

end Cert.PostRefIdeal.Stretch

end
-- ==== Proof.PostRefEnd.lean ====
/- The reference of the call `post_mix`: its result, from its arguments. -/
module

public import proofs.«01_k».proof.Proof.PostRefVal
public import proofs.«01_k».proof.Proof.PostRefSl

@[expose] public section

set_option maxRecDepth 16384

noncomputable section

namespace Cert.PostRefIdeal.Stretch

open Cert.PostRefIdeal Cert.PostRefIdeal.Gen Idealize.ShloMosaic Idealize.ShloMosaic.TcCoe Idealize.SL.Sem Idealize.ShloMosaic.StableHlo Cert.MemVal Cert.PostV

variable (V : Valuation τ sig (Elt Ideal))

theorem after_app (p q : List (HloOp τ sig (Elt Ideal))) (V : Valuation τ sig (Elt Ideal)) : after (p ++ q) V = after q (after p V) := by
  induction p generalizing V with
  | nil => rfl
  | cons op p ih => exact ih _

/-! What the buffers hold after each stretch. -/
abbrev vA : Valuation τ sig (Elt Ideal) := after opsA V
abbrev vB : Valuation τ sig (Elt Ideal) := after opsB (vA V)
abbrev vC : Valuation τ sig (Elt Ideal) := after opsC (vB V)
abbrev vD : Valuation τ sig (Elt Ideal) := after opsD (vC V)
abbrev vE : Valuation τ sig (Elt Ideal) := after opsE (vD V)
abbrev vF : Valuation τ sig (Elt Ideal) := after opsF (vE V)
abbrev vG : Valuation τ sig (Elt Ideal) := after opsG (vF V)
abbrev vH : Valuation τ sig (Elt Ideal) := after opsH (vG V)
abbrev vI : Valuation τ sig (Elt Ideal) := after opsI (vH V)
abbrev vJ : Valuation τ sig (Elt Ideal) := after opsJ (vI V)
abbrev vK : Valuation τ sig (Elt Ideal) := after opsK (vJ V)
abbrev vL : Valuation τ sig (Elt Ideal) := after opsL (vK V)
abbrev vM : Valuation τ sig (Elt Ideal) := after opsM (vL V)
abbrev vN : Valuation τ sig (Elt Ideal) := after opsN (vM V)
abbrev vO : Valuation τ sig (Elt Ideal) := after opsO (vN V)
abbrev vP : Valuation τ sig (Elt Ideal) := after opsP (vO V)

section
variable (r : Ref sig .tc)
theorem keepA (hr : r ∉ wA) : vA V (Proc.devRef .tc r) = V (Proc.devRef .tc r) := after_of_writes_sub _ _ (forall_writes_sub_of_map rfl) hr
theorem keepB (hr : r ∉ wB) : vB V (Proc.devRef .tc r) = vA V (Proc.devRef .tc r) := after_of_writes_sub _ _ (forall_writes_sub_of_map rfl) hr
theorem keepC (hr : r ∉ wC) : vC V (Proc.devRef .tc r) = vB V (Proc.devRef .tc r) := after_of_writes_sub _ _ (forall_writes_sub_of_map rfl) hr
theorem keepD (hr : r ∉ wD) : vD V (Proc.devRef .tc r) = vC V (Proc.devRef .tc r) := after_of_writes_sub _ _ (forall_writes_sub_of_map rfl) hr
theorem keepE (hr : r ∉ wE) : vE V (Proc.devRef .tc r) = vD V (Proc.devRef .tc r) := after_of_writes_sub _ _ (forall_writes_sub_of_map rfl) hr
theorem keepF (hr : r ∉ wF) : vF V (Proc.devRef .tc r) = vE V (Proc.devRef .tc r) := after_of_writes_sub _ _ (forall_writes_sub_of_map rfl) hr
theorem keepG (hr : r ∉ wG) : vG V (Proc.devRef .tc r) = vF V (Proc.devRef .tc r) := after_of_writes_sub _ _ (forall_writes_sub_of_map rfl) hr
theorem keepH (hr : r ∉ wH) : vH V (Proc.devRef .tc r) = vG V (Proc.devRef .tc r) := after_of_writes_sub _ _ (forall_writes_sub_of_map rfl) hr
theorem keepI (hr : r ∉ wI) : vI V (Proc.devRef .tc r) = vH V (Proc.devRef .tc r) := after_of_writes_sub _ _ (forall_writes_sub_of_map rfl) hr
theorem keepJ (hr : r ∉ wJ) : vJ V (Proc.devRef .tc r) = vI V (Proc.devRef .tc r) := after_of_writes_sub _ _ (forall_writes_sub_of_map rfl) hr
theorem keepK (hr : r ∉ wK) : vK V (Proc.devRef .tc r) = vJ V (Proc.devRef .tc r) := after_of_writes_sub _ _ (forall_writes_sub_of_map rfl) hr
theorem keepL (hr : r ∉ wL) : vL V (Proc.devRef .tc r) = vK V (Proc.devRef .tc r) := after_of_writes_sub _ _ (forall_writes_sub_of_map rfl) hr
theorem keepM (hr : r ∉ wM) : vM V (Proc.devRef .tc r) = vL V (Proc.devRef .tc r) := after_of_writes_sub _ _ (forall_writes_sub_of_map rfl) hr
theorem keepN (hr : r ∉ wN) : vN V (Proc.devRef .tc r) = vM V (Proc.devRef .tc r) := after_of_writes_sub _ _ (forall_writes_sub_of_map rfl) hr
theorem keepO (hr : r ∉ wO) : vO V (Proc.devRef .tc r) = vN V (Proc.devRef .tc r) := after_of_writes_sub _ _ (forall_writes_sub_of_map rfl) hr
theorem keepP (hr : r ∉ wP) : vP V (Proc.devRef .tc r) = vO V (Proc.devRef .tc r) := after_of_writes_sub _ _ (forall_writes_sub_of_map rfl) hr
end

theorem ops_after : after (ops (F := Ideal)) V = (vP V) := by
  unfold ops
  simp only [after_app]

section
variable (l : Fin 4) (h : (V (Proc.devRef .tc main_arg2) (ix1 0)).toNat = l.val)
  (x y : Rows 2048) (W : Fin 4 → Fin 2048 → Fin 2048 → EReal) (g : Fin 4 → Fin 2048 → EReal)
  (wq : Fin 4 → Fin 2048 → Fin 512 → EReal) (kg : Fin 4 → Fin 128 → EReal) (mk mv : Fin 4 → Fin 2 → Fin 256 → Fin 4 → Fin 128 → EReal)
  (wo : Fin 4 → Fin 512 → Fin 2048 → EReal)
  (hx : ∀ b s d, x b s d = V (Proc.devRef .tc main_arg0) (ix3 b s d)) (hy : ∀ b s d, y b s d = V (Proc.devRef .tc main_arg1) (ix3 b s d))
  (hW : ∀ l e d, W l e d = V (Proc.devRef .tc main_arg3) (ix3 l e d)) (hg : ∀ l d, g l d = V (Proc.devRef .tc main_arg4) (ix2 l d))
  (hwq : ∀ l e d, wq l e d = V (Proc.devRef .tc main_arg5) (ix3 l e d)) (hkg : ∀ l d, kg l d = V (Proc.devRef .tc main_arg6) (ix2 l d))
  (hmk : ∀ l b j i d, mk l b j i d = V (Proc.devRef .tc main_arg7) (ix5 l b j i d)) (hmv : ∀ l b j i d, mv l b j i d = V (Proc.devRef .tc main_arg8) (ix5 l b j i d))
  (hwo : ∀ l e d, wo l e d = V (Proc.devRef .tc main_arg9) (ix3 l e d))
include h

include hW in
theorem sA (e : Fin 2048) (d : Fin 2048) :
    W l e d = (vA V) (Proc.devRef .tc main_v5) (ix2 e d) := by
  refine A_v5 V l ?_ W ?_ e d
  · exact h
  · exact hW

include hg in
theorem sC (d : Fin 2048) :
    g l d = (vC V) (Proc.devRef .tc main_v13) (ix1 d) := by
  refine C_v13 (vB V) l ?_ g ?_ d
  · rw [keepB _ main_arg2 (by decide), keepA _ main_arg2 (by decide)]
    exact h
  · intro l d
    rw [keepB _ main_arg4 (by decide), keepA _ main_arg4 (by decide)]
    exact hg l d

include hmk in
theorem sE (b : Fin 2) (j : Fin 256) (i : Fin 4) (d : Fin 128) :
    mk l b j i d = (vE V) (Proc.devRef .tc main_v32) (ix4 b j i d) := by
  refine E_v32 (vD V) l ?_ mk ?_ b j i d
  · rw [keepD _ main_arg2 (by decide), keepC _ main_arg2 (by decide), keepB _ main_arg2 (by decide), keepA _ main_arg2 (by decide)]
    exact h
  · intro l b j i d
    rw [keepD _ main_arg7 (by decide), keepC _ main_arg7 (by decide), keepB _ main_arg7 (by decide), keepA _ main_arg7 (by decide)]
    exact hmk l b j i d

include hmv in
theorem sF (b : Fin 2) (j : Fin 256) (i : Fin 4) (d : Fin 128) :
    mv l b j i d = (vF V) (Proc.devRef .tc main_v38) (ix4 b j i d) := by
  refine F_v38 (vE V) l ?_ mv ?_ b j i d
  · rw [keepE _ main_arg2 (by decide), keepD _ main_arg2 (by decide), keepC _ main_arg2 (by decide), keepB _ main_arg2 (by decide), keepA _ main_arg2 (by decide)]
    exact h
  · intro l b j i d
    rw [keepE _ main_arg8 (by decide), keepD _ main_arg8 (by decide), keepC _ main_arg8 (by decide), keepB _ main_arg8 (by decide), keepA _ main_arg8 (by decide)]
    exact hmv l b j i d

include hwq in
theorem sG (e : Fin 2048) (d : Fin 512) :
    wq l e d = (vG V) (Proc.devRef .tc main_v44) (ix2 e d) := by
  refine G_v44 (vF V) l ?_ wq ?_ e d
  · rw [keepF _ main_arg2 (by decide), keepE _ main_arg2 (by decide), keepD _ main_arg2 (by decide), keepC _ main_arg2 (by decide), keepB _ main_arg2 (by decide), keepA _ main_arg2 (by decide)]
    exact h
  · intro l e d
    rw [keepF _ main_arg5 (by decide), keepE _ main_arg5 (by decide), keepD _ main_arg5 (by decide), keepC _ main_arg5 (by decide), keepB _ main_arg5 (by decide), keepA _ main_arg5 (by decide)]
    exact hwq l e d

include hkg in
theorem sH (d : Fin 128) :
    kg l d = (vH V) (Proc.devRef .tc main_v50) (ix1 d) := by
  refine H_v50 (vG V) l ?_ kg ?_ d
  · rw [keepG _ main_arg2 (by decide), keepF _ main_arg2 (by decide), keepE _ main_arg2 (by decide), keepD _ main_arg2 (by decide), keepC _ main_arg2 (by decide), keepB _ main_arg2 (by decide), keepA _ main_arg2 (by decide)]
    exact h
  · intro l d
    rw [keepG _ main_arg6 (by decide), keepF _ main_arg6 (by decide), keepE _ main_arg6 (by decide), keepD _ main_arg6 (by decide), keepC _ main_arg6 (by decide), keepB _ main_arg6 (by decide), keepA _ main_arg6 (by decide)]
    exact hkg l d

include hwo in
theorem sI (e : Fin 512) (d : Fin 2048) :
    wo l e d = (vI V) (Proc.devRef .tc main_v56) (ix2 e d) := by
  refine I_v56 (vH V) l ?_ wo ?_ e d
  · rw [keepH _ main_arg2 (by decide), keepG _ main_arg2 (by decide), keepF _ main_arg2 (by decide), keepE _ main_arg2 (by decide), keepD _ main_arg2 (by decide), keepC _ main_arg2 (by decide), keepB _ main_arg2 (by decide), keepA _ main_arg2 (by decide)]
    exact h
  · intro l e d
    rw [keepH _ main_arg9 (by decide), keepG _ main_arg9 (by decide), keepF _ main_arg9 (by decide), keepE _ main_arg9 (by decide), keepD _ main_arg9 (by decide), keepC _ main_arg9 (by decide), keepB _ main_arg9 (by decide), keepA _ main_arg9 (by decide)]
    exact hwo l e d

include hx hy hW in
theorem sB (b : Fin 2) (s : Fin 8192) (d : Fin 2048) :
    (x1 (x b s) (y b s) (W l)) d = (vB V) (Proc.devRef .tc main_v7) (ix3 b s d) := by
  refine B_v7 (vA V) x y (W l) ?_ ?_ ?_ b s d
  · intro b s d
    rw [keepA _ main_arg0 (by decide)]
    exact hx b s d
  · intro b s d
    rw [keepA _ main_arg1 (by decide)]
    exact hy b s d
  · intro e d
    exact sA V l h W hW e d

include hx hy hW hg in
theorem sD (b : Fin 2) (s : Fin 8192) (d : Fin 2048) :
    mn (x1 (x b s) (y b s) (W l)) (g l) d = (vD V) (Proc.devRef .tc main_v26) (ix3 b s d) := by
  refine D_v26 (vC V) (fun b s => x1 (x b s) (y b s) (W l)) (g l) ?_ ?_ b s d
  · intro b s d
    rw [keepC _ main_v7 (by decide)]
    exact sB V l h x y W hx hy hW b s d
  · intro d
    exact sC V l h g hg d

include hx hy hW hg hwq in
theorem sJ (b : Fin 2) (s : Fin 8192) (n : Fin 512) :
    mw (x1 (x b s) (y b s) (W l)) (g l) (wq l) n = (vJ V) (Proc.devRef .tc main_v57) (ix3 b s n) := by
  refine J_v57 (vI V) (fun b s d => mn (x1 (x b s) (y b s) (W l)) (g l) d) (wq l) ?_ ?_ b s n
  · intro b s d
    rw [keepI _ main_v26 (by decide), keepH _ main_v26 (by decide), keepG _ main_v26 (by decide), keepF _ main_v26 (by decide), keepE _ main_v26 (by decide)]
    exact sD V l h x y W g hx hy hW hg b s d
  · intro e n
    rw [keepI _ main_v44 (by decide), keepH _ main_v44 (by decide)]
    exact sG V l h wq hwq e n

include hx hy hW hg hwq hkg in
theorem sK (b : Fin 2) (s : Fin 8192) (i : Fin 4) (d : Fin 128) :
    hkey (fun k => mw (x1 (x b s) (y b s) (W l)) (g l) (wq l) (hc i k)) (kg l) d = (vK V) (Proc.devRef .tc main_v71) (ix4 b s i d) := by
  refine K_v71 (vJ V) (fun b s => mw (x1 (x b s) (y b s) (W l)) (g l) (wq l)) (kg l) ?_ ?_ b s i d
  · intro b s n
    exact sJ V l h x y W g wq hx hy hW hg hwq b s n
  · intro d
    rw [keepJ _ main_v50 (by decide), keepI _ main_v50 (by decide)]
    exact sH V l h kg hkg d

include hx hy hW hg hwq hkg hmk in
theorem sL (b : Fin 2) (i : Fin 4) (s : Fin 8192) (j : Fin 256) :
    (score (hkey (fun k => mw (x1 (x b s) (y b s) (W l)) (g l) (wq l) (hc i k)) (kg l)) (fun d => mk l b j i d)) = (vL V) (Proc.devRef .tc main_v74) (ix4 b i s j) := by
  refine L_v74 (vK V) (fun b s i => hkey (fun k => mw (x1 (x b s) (y b s) (W l)) (g l) (wq l) (hc i k)) (kg l)) (mk l) ?_ ?_ b i s j
  · intro b s i d
    exact sK V l h x y W g wq kg hx hy hW hg hwq hkg b s i d
  · intro b j i d
    rw [keepK _ main_v32 (by decide), keepJ _ main_v32 (by decide), keepI _ main_v32 (by decide), keepH _ main_v32 (by decide), keepG _ main_v32 (by decide), keepF _ main_v32 (by decide)]
    exact sE V l h mk hmk b j i d

include hx hy hW hg hwq hkg hmk in
theorem sM (b : Fin 2) (i : Fin 4) (s : Fin 8192) (j : Fin 256) :
    (score (hkey (fun k => mw (x1 (x b s) (y b s) (W l)) (g l) (wq l) (hc i k)) (kg l)) (fun d => mk l b j i d)) - top (fun j => score (hkey (fun k => mw (x1 (x b s) (y b s) (W l)) (g l) (wq l) (hc i k)) (kg l)) (fun d => mk l b j i d)) = (vM V) (Proc.devRef .tc main_v80) (ix4 b i s j) := by
  refine M_v80 (vL V) (fun b i s j => score (hkey (fun k => mw (x1 (x b s) (y b s) (W l)) (g l) (wq l) (hc i k)) (kg l)) (fun d => mk l b j i d)) ?_ b i s j
  · intro b i s j
    exact sL V l h x y W g wq kg mk hx hy hW hg hwq hkg hmk b i s j

include hx hy hW hg hwq hkg hmk in
theorem sN (b : Fin 2) (i : Fin 4) (s : Fin 8192) (j : Fin 256) :
    soft (fun j => score (hkey (fun k => mw (x1 (x b s) (y b s) (W l)) (g l) (wq l) (hc i k)) (kg l)) (fun d => mk l b j i d)) j = (vN V) (Proc.devRef .tc main_v85) (ix4 b i s j) := by
  refine N_v85 (vM V) (fun b i s j => (score (hkey (fun k => mw (x1 (x b s) (y b s) (W l)) (g l) (wq l) (hc i k)) (kg l)) (fun d => mk l b j i d)) - top (fun j => score (hkey (fun k => mw (x1 (x b s) (y b s) (W l)) (g l) (wq l) (hc i k)) (kg l)) (fun d => mk l b j i d))) ?_ b i s j
  · intro b i s j
    exact sM V l h x y W g wq kg mk hx hy hW hg hwq hkg hmk b i s j

include hx hy hW hg hwq hkg hmk hmv in
theorem sO (b : Fin 2) (s : Fin 8192) (n : Fin 512) :
    ca (x1 (x b s) (y b s) (W l)) (g l) (wq l) (kg l) (mk l b) (mv l b) n = (vO V) (Proc.devRef .tc main_v88) (ix3 b s n) := by
  refine O_v88 (vN V) (fun b i s j => soft (fun j => score (hkey (fun k => mw (x1 (x b s) (y b s) (W l)) (g l) (wq l) (hc i k)) (kg l)) (fun d => mk l b j i d)) j) (mv l) ?_ ?_ b s n
  · intro b i s j
    exact sN V l h x y W g wq kg mk hx hy hW hg hwq hkg hmk b i s j
  · intro b j i d
    rw [keepN _ main_v38 (by decide), keepM _ main_v38 (by decide), keepL _ main_v38 (by decide), keepK _ main_v38 (by decide), keepJ _ main_v38 (by decide), keepI _ main_v38 (by decide), keepH _ main_v38 (by decide), keepG _ main_v38 (by decide)]
    exact sF V l h mv hmv b j i d

include hx hy hW hg hwq hkg hmk hmv hwo in
theorem ref_post (R : Fin 16384) (d : Fin 2048) :
    post (x ⟨R.val / 8192, by omega⟩ ⟨R.val % 8192, by omega⟩) (y ⟨R.val / 8192, by omega⟩ ⟨R.val % 8192, by omega⟩) (W l) (g l) (wq l) (kg l) (mk l ⟨R.val / 8192, by omega⟩) (mv l ⟨R.val / 8192, by omega⟩) (wo l) d = after (ops (F := Ideal)) V (Proc.devRef .tc main_v91) (ix2 R d) := by
  rw [ops_after]
  refine P_v91 (vO V) (fun b s => x1 (x b s) (y b s) (W l)) (fun b s n => ca (x1 (x b s) (y b s) (W l)) (g l) (wq l) (kg l) (mk l b) (mv l b) n) (wo l) ?_ ?_ ?_ R d
  · intro b s d
    rw [keepO _ main_v7 (by decide), keepN _ main_v7 (by decide), keepM _ main_v7 (by decide), keepL _ main_v7 (by decide), keepK _ main_v7 (by decide), keepJ _ main_v7 (by decide), keepI _ main_v7 (by decide), keepH _ main_v7 (by decide), keepG _ main_v7 (by decide), keepF _ main_v7 (by decide), keepE _ main_v7 (by decide), keepD _ main_v7 (by decide), keepC _ main_v7 (by decide)]
    exact sB V l h x y W hx hy hW b s d
  · intro b s n
    exact sO V l h x y W g wq kg mk mv hx hy hW hg hwq hkg hmk hmv b s n
  · intro n d
    rw [keepO _ main_v56 (by decide), keepN _ main_v56 (by decide), keepM _ main_v56 (by decide), keepL _ main_v56 (by decide), keepK _ main_v56 (by decide), keepJ _ main_v56 (by decide)]
    exact sI V l h wo hwo n d
end

end Cert.PostRefIdeal.Stretch

end
-- ==== Proof.PostEq.lean ====
/- The call `post_mix` leaves what its reference leaves: the two closed forms are one. -/
module

public import proofs.«01_k».proof.Defs
public import proofs.«01_k».proof.Proof.PostAcc
public import proofs.«01_k».proof.Proof.PostRefEnd
public import proofs.«01_k».proof.Proof.PostBitsOk
public import proofs.«01_k».proof.Proof.Gen.Post.Frame

@[expose] public section

set_option maxRecDepth 16384

noncomputable section

namespace Cert.PostIdeal.Hand

open Cert.PostIdeal Cert.PostIdeal.Gen Idealize.ShloMosaic Idealize.ShloMosaic.TcCoe Idealize.SL.Sem Cert.PostRefIdeal.Stretch

variable (m : (ℓ : Loc nD τ sig) → Buf (Elt Ideal) ℓ) (ρ : Dev nD → PrngReg)

/-- The call's run, read: the result array, the arguments unchanged. -/
theorem run_value (hO : Ok m) (hl : lyr m < 4) : θ_run defs (onTc (τ := τ) (main (F := Ideal))) ⟨m, fun _ => 0, ρ⟩ (fun r => ∀ c : Dev nD,
      r.2.mem ((c.tc : Thread nD τ).loc main_v13) = resO m hl c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 11).trans (final_o m hO hl c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c)⟩) (run_main m ρ hO)

theorem etaO (x : S16384x2048.Idx) : x = ix2 (x 0 : Fin 16384) (x 1 : Fin 2048) :=
  funext fun a => by match a with | ⟨0, _⟩ => rfl | ⟨1, _⟩ => rfl

/-- The layer index is the word of the argument. -/
theorem lyr_arg : lyr m = ((m (((0 : Dev nD).tc : Thread nD τ).loc main_arg2) : IVec S1 32) (ix1 0)).toNat := by
  unfold lyr lyrW tbl
  simp only [Pipeline.Prefetch.Contents.at]
  have e := V_main_arg2 m (0 : Dev nD)
  rw [← e]
  exact congrArg (fun w : S1.Idx => ((V m 0 main_arg2 : IVec S1 32) w).toNat) (funext fun a => by match a with | ⟨0, _⟩ => rfl)

section
variable (m' : (ℓ : Loc Cert.PostRefIdeal.nD Cert.PostRefIdeal.τ Cert.PostRefIdeal.sig) → Buf (Elt Ideal) ℓ) (hl : lyr m < 4) (c : Dev nD)
    (h0 : m' ((c.tc : Thread Cert.PostRefIdeal.nD Cert.PostRefIdeal.τ).loc Cert.PostRefIdeal.main_arg0) = m ((c.tc : Thread nD τ).loc main_arg0))
    (h1 : m' ((c.tc : Thread Cert.PostRefIdeal.nD Cert.PostRefIdeal.τ).loc Cert.PostRefIdeal.main_arg1) = m ((c.tc : Thread nD τ).loc main_arg1))
    (h2 : m' ((c.tc : Thread Cert.PostRefIdeal.nD Cert.PostRefIdeal.τ).loc Cert.PostRefIdeal.main_arg2) = m ((c.tc : Thread nD τ).loc main_arg2))
    (h3 : m' ((c.tc : Thread Cert.PostRefIdeal.nD Cert.PostRefIdeal.τ).loc Cert.PostRefIdeal.main_arg3) = m ((c.tc : Thread nD τ).loc main_arg3))
    (h4 : m' ((c.tc : Thread Cert.PostRefIdeal.nD Cert.PostRefIdeal.τ).loc Cert.PostRefIdeal.main_arg4) = m ((c.tc : Thread nD τ).loc main_arg4))
    (h5 : m' ((c.tc : Thread Cert.PostRefIdeal.nD Cert.PostRefIdeal.τ).loc Cert.PostRefIdeal.main_arg5) = m ((c.tc : Thread nD τ).loc main_arg5))
    (h6 : m' ((c.tc : Thread Cert.PostRefIdeal.nD Cert.PostRefIdeal.τ).loc Cert.PostRefIdeal.main_arg6) = m ((c.tc : Thread nD τ).loc main_arg6))
    (h7 : m' ((c.tc : Thread Cert.PostRefIdeal.nD Cert.PostRefIdeal.τ).loc Cert.PostRefIdeal.main_arg7) = m ((c.tc : Thread nD τ).loc main_arg7))
    (h8 : m' ((c.tc : Thread Cert.PostRefIdeal.nD Cert.PostRefIdeal.τ).loc Cert.PostRefIdeal.main_arg8) = m ((c.tc : Thread nD τ).loc main_arg8))
    (h9 : m' ((c.tc : Thread Cert.PostRefIdeal.nD Cert.PostRefIdeal.τ).loc Cert.PostRefIdeal.main_arg9) = m ((c.tc : Thread nD τ).loc main_arg9))
include h0 h1 h2 h3 h4 h5 h6 h7 h8 h9

/-- The result arrays are one. -/
theorem ref_o : StableHlo.after (ops (F := Ideal)) (StableHlo.launchContents m' c) (Proc.devRef .tc Cert.PostRefIdeal.main_v91) = resO m hl c := by
  have hc : c = 0 := Subsingleton.elim _ _
  have hw : (m' ((c.tc : Thread Cert.PostRefIdeal.nD Cert.PostRefIdeal.τ).loc Cert.PostRefIdeal.main_arg2) (ix1 0)).toNat = lyr m := by
    rw [h2, hc]
    exact (lyr_arg m).symm
  funext i
  obtain ⟨i, rfl⟩ : ∃ z : S16384x2048.Idx, z = i := ⟨i, rfl⟩
  have e (R : Fin 16384) (d : Fin 2048) :
      StableHlo.after (ops (F := Ideal)) (StableHlo.launchContents m' c) (Proc.devRef .tc Cert.PostRefIdeal.main_v91) (ix2 R d) = zAt m hl c R d :=
    (ref_post (StableHlo.launchContents m' c) ⟨lyr m, hl⟩ hw (ax m c) (ay m c) (aW m c) (ag m c) (awq m c) (akg m c) (amk m c) (amv m c) (awo m c)
      (fun b s d => (congrFun h0 (ix3 b s d)).symm) (fun b s d => (congrFun h1 (ix3 b s d)).symm) (fun l e d => (congrFun h3 (ix3 l e d)).symm)
      (fun l d => (congrFun h4 (ix2 l d)).symm) (fun l e n => (congrFun h5 (ix3 l e n)).symm) (fun l d => (congrFun h6 (ix2 l d)).symm)
      (fun l b j i d => (congrFun h7 (ix5 l b j i d)).symm) (fun l b j i d => (congrFun h8 (ix5 l b j i d)).symm) (fun l n d => (congrFun h9 (ix3 l n d)).symm) R d).symm
  exact (congrArg _ (etaO i)).trans (e (i 0) (i 1))
end

end Cert.PostIdeal.Hand

namespace Cert.Proof

open Idealize.ShloMosaic Idealize.ShloMosaic.TcCoe Idealize.SL.Sem

/-- The frame of the call `post_mix`, idealized. -/
theorem frame_PostIdeal : Cert.quiescent_PostIdeal := fun m ρ h =>
  Cert.PostIdeal.Gen.frame m ρ (Cert.PostIdeal.Hand.ok_of_lt m (Cert.PostIdeal.Hand.lidx_lt _ _ _ _ _ _ _ _ _ _ (h 0)))

/-- The frame of the call `post_mix`. -/
theorem frame_Post : Cert.quiescent_Post := fun m ρ h =>
  Cert.Post.Gen.frame m ρ (Cert.Post.Hand.ok_of_lt m (Cert.Post.Hand.lidx_lt _ _ _ _ _ _ _ _ _ _ (h 0)))

/-- The reference's arguments end unchanged. -/
theorem post_unchanged {F : FTy → Type} [FloatOps F]
    (m : (ℓ : Loc Cert.PostRefIdeal.nD Cert.PostRefIdeal.τ Cert.PostRefIdeal.sig) → Buf (Elt F) ℓ) (c : Dev Cert.PostRefIdeal.nD) (r : Ref Cert.PostRefIdeal.sig .tc)
    (hr : r ∉ Cert.PostRefIdeal.Stretch.wA ++ (Cert.PostRefIdeal.Stretch.wB ++ (Cert.PostRefIdeal.Stretch.wC ++ (Cert.PostRefIdeal.Stretch.wD ++ (Cert.PostRefIdeal.Stretch.wE ++ (Cert.PostRefIdeal.Stretch.wF ++ (Cert.PostRefIdeal.Stretch.wG ++ (Cert.PostRefIdeal.Stretch.wH ++ (Cert.PostRefIdeal.Stretch.wI ++ (Cert.PostRefIdeal.Stretch.wJ ++ (Cert.PostRefIdeal.Stretch.wK ++ (Cert.PostRefIdeal.Stretch.wL ++ (Cert.PostRefIdeal.Stretch.wM ++ (Cert.PostRefIdeal.Stretch.wN ++ (Cert.PostRefIdeal.Stretch.wO ++ (Cert.PostRefIdeal.Stretch.wP)))))))))))))))) :
    StableHlo.after Cert.PostRefIdeal.Stretch.ops (StableHlo.launchContents m c) (Proc.devRef .tc r)
      = m ((c.tc : Thread Cert.PostRefIdeal.nD Cert.PostRefIdeal.τ).loc r) :=
  Cert.PostRefIdeal.Stretch.unwritten _ r hr

set_option maxRecDepth 8192 in
/-- The reference's frame. -/
theorem frame_PostRefIdeal : Cert.quiescent_PostRefIdeal := fun m ρ _ =>
  (θ_run Cert.PostRefIdeal.defs _ _).mono (fun r h => And.intro (fun c =>
    ⟨(h c _).trans (post_unchanged m c Cert.PostRefIdeal.main_arg0 (by decide)),
     (h c _).trans (post_unchanged m c Cert.PostRefIdeal.main_arg1 (by decide)),
     (h c _).trans (post_unchanged m c Cert.PostRefIdeal.main_arg2 (by decide)),
     (h c _).trans (post_unchanged m c Cert.PostRefIdeal.main_arg3 (by decide)),
     (h c _).trans (post_unchanged m c Cert.PostRefIdeal.main_arg4 (by decide)),
     (h c _).trans (post_unchanged m c Cert.PostRefIdeal.main_arg5 (by decide)),
     (h c _).trans (post_unchanged m c Cert.PostRefIdeal.main_arg6 (by decide)),
     (h c _).trans (post_unchanged m c Cert.PostRefIdeal.main_arg7 (by decide)),
     (h c _).trans (post_unchanged m c Cert.PostRefIdeal.main_arg8 (by decide)),
     (h c _).trans (post_unchanged m c Cert.PostRefIdeal.main_arg9 (by decide))⟩)
    (sem_eq_zero_of_no_sems (by decide) r.2)) (Cert.PostRefIdeal.Stretch.run m ρ)

set_option maxRecDepth 8192 in
/-- The value of the call `post_mix`. -/
theorem value_Post : Cert.algebraic_PostIdeal_PostRefIdeal := fun m g m' g' h hm => by
  have hlt := Cert.PostIdeal.Hand.lidx_lt _ _ _ _ _ _ _ _ _ _ (h 0)
  have hl := Cert.PostIdeal.Hand.lyr_lt m hlt
  have hO := Cert.PostIdeal.Hand.ok_of_lt m hlt
  refine ⟨Cert.PostIdeal.Hand.resO m hl, Cert.PostIdeal.Hand.run_value m g hO hl, ?_⟩
  refine (θ_run Cert.PostRefIdeal.defs _ _).mono (fun r hr c => ?_) (Cert.PostRefIdeal.Stretch.run m' g')
  obtain ⟨h0, h1, h2, h3, h4, h5, h6, h7, h8, h9⟩ := hm c
  exact ⟨(hr c _).trans (Cert.PostIdeal.Hand.ref_o m m' hl c h0 h1 h2 h3 h4 h5 h6 h7 h8 h9),
     (hr c _).trans (post_unchanged m' c Cert.PostRefIdeal.main_arg0 (by decide)),
     (hr c _).trans (post_unchanged m' c Cert.PostRefIdeal.main_arg1 (by decide)),
     (hr c _).trans (post_unchanged m' c Cert.PostRefIdeal.main_arg2 (by decide)),
     (hr c _).trans (post_unchanged m' c Cert.PostRefIdeal.main_arg3 (by decide)),
     (hr c _).trans (post_unchanged m' c Cert.PostRefIdeal.main_arg4 (by decide)),
     (hr c _).trans (post_unchanged m' c Cert.PostRefIdeal.main_arg5 (by decide)),
     (hr c _).trans (post_unchanged m' c Cert.PostRefIdeal.main_arg6 (by decide)),
     (hr c _).trans (post_unchanged m' c Cert.PostRefIdeal.main_arg7 (by decide)),
     (hr c _).trans (post_unchanged m' c Cert.PostRefIdeal.main_arg8 (by decide)),
     (hr c _).trans (post_unchanged m' c Cert.PostRefIdeal.main_arg9 (by decide))⟩

end Cert.Proof

end
-- ==== Proof.lean ====
/- The certificate's claims, each from the module that proves it. -/
module

public import proofs.«01_k».proof.Defs
public import proofs.«01_k».proof.Proof.FlashFrames
public import proofs.«01_k».proof.Proof.FfnFrames
public import proofs.«01_k».proof.Proof.FfnEq
public import proofs.«01_k».proof.Proof.InEq
public import proofs.«01_k».proof.Proof.MemEq
public import proofs.«01_k».proof.Proof.PostEq
public import proofs.«01_k».proof.Proof.Gen.Kernel
public import proofs.«01_k».proof.Proof.Gen.KernelIdeal
public import proofs.«01_k».proof.Proof.Gen.Pre_pre
public import proofs.«01_k».proof.Proof.Gen.Pre_pre_ffn
public import proofs.«01_k».proof.Proof.Gen.Ffn
public import proofs.«01_k».proof.Proof.Gen.FfnIdeal
public import proofs.«01_k».proof.Proof.Gen.FfnIdeal.Frame
public import proofs.«01_k».proof.Proof.Gen.FfnRefIdeal
public import proofs.«01_k».proof.Proof.Gen.Ffn.Frame
public import proofs.«01_k».proof.Proof.Gen.InProj
public import proofs.«01_k».proof.Proof.Gen.InProjIdeal
public import proofs.«01_k».proof.Proof.Gen.InProjRefIdeal
public import proofs.«01_k».proof.Proof.Gen.Pre_pre_in
public import proofs.«01_k».proof.Proof.Gen.MemKv
public import proofs.«01_k».proof.Proof.Gen.MemKv.Frame
public import proofs.«01_k».proof.Proof.Gen.MemKvIdeal
public import proofs.«01_k».proof.Proof.Gen.MemKvIdeal.Frame
public import proofs.«01_k».proof.Proof.Gen.MemKvIdeal.Value
public import proofs.«01_k».proof.Proof.Gen.MemKvRefIdeal
public import proofs.«01_k».proof.Proof.Gen.MemKvRefIdeal.Run
public import proofs.«01_k».proof.Proof.Gen.Post
public import proofs.«01_k».proof.Proof.Gen.Post.Frame
public import proofs.«01_k».proof.Proof.Gen.PostIdeal
public import proofs.«01_k».proof.Proof.Gen.PostIdeal.Frame
public import proofs.«01_k».proof.Proof.Gen.PostRefIdeal
public import proofs.«01_k».proof.Proof.Gen.Pre_pre_post

@[expose] public section

noncomputable section

namespace Cert.Proof

open Idealize.ShloMosaic Idealize.SL.Sem

theorem claim : Cert.Claim :=
  ⟨Cert.Kernel.Gen.facts, Cert.KernelIdeal.Gen.facts, Cert.Ffn.Gen.facts, Cert.FfnIdeal.Gen.facts, Cert.FfnRefIdeal.Gen.facts,
    Cert.InProj.Gen.facts, Cert.InProjIdeal.Gen.facts, Cert.InProjRefIdeal.Gen.facts,
    Cert.MemKv.Gen.facts, Cert.MemKvIdeal.Gen.facts, Cert.MemKvRefIdeal.Gen.facts,
    Cert.Post.Gen.facts, Cert.PostIdeal.Gen.facts, Cert.PostRefIdeal.Gen.facts,
    Cert.Pre_pre.Gen.facts, Cert.Pre_pre_ffn.Gen.facts, Cert.Pre_pre_in.Gen.facts, Cert.Pre_pre_post.Gen.facts,
    frame_Kernel, frame_KernelIdeal, frame_Ffn, frame_FfnIdeal, frame_FfnRefIdeal, frame_InProj, frame_InProjIdeal, frame_InProjRefIdeal,
    frame_MemKv, frame_MemKvIdeal, frame_MemKvRefIdeal, frame_Post, frame_PostIdeal, frame_PostRefIdeal,
    IdealRules.named_const.statement _ _ _ _ _ rfl, trivial, value_Ffn, trivial, value_InProj, trivial, value_MemKv, trivial, value_Post⟩

end Cert.Proof

end
